-- ==== Defs.lean ====
def Pre_Kernel [hPre_actions_in_range : Cert.Pre_actions_in_range.Facts] (m : (ℓ : Loc Cert.Kernel.nD Cert.Kernel.τ Cert.Kernel.sig) → Buf (Elt Bits) ℓ) : Prop :=
  ∀ c : Dev Cert.Kernel.nD,
    (Cert.Pre_actions_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_actions_in_range : Cert.Pre_actions_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_actions_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_actions_in_range [hPre_actions_in_range : Cert.Pre_actions_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_actions_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_actions_in_range : Cert.Pre_actions_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_actions_in_range : Cert.Pre_actions_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_actions_in_range [hReferenceIdeal : Cert.ReferenceIdeal.Facts] [hPre_actions_in_range : Cert.Pre_actions_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_actions_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_actions_in_range : Cert.Pre_actions_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_actions_in_range : Cert.Pre_actions_in_range.Facts),
    quiescent_Kernel (hKernel := hKernel) (hPre_actions_in_range := hPre_actions_in_range)
    ∧ quiescent_KernelIdeal (hKernelIdeal := hKernelIdeal) (hPre_actions_in_range := hPre_actions_in_range)
    ∧ quiescent_ReferenceIdeal (hReferenceIdeal := hReferenceIdeal)
    ∧ quiescent_ReferenceIdeal_pre_actions_in_range (hReferenceIdeal := hReferenceIdeal) (hPre_actions_in_range := hPre_actions_in_range)
    ∧ preserves_Kernel_KernelIdeal
    ∧ algebraic_KernelIdeal_ReferenceIdeal (hKernelIdeal := hKernelIdeal) (hReferenceIdeal := hReferenceIdeal) (hPre_actions_in_range := hPre_actions_in_range)
-- ==== Pre_actions_in_range.lean ====
abbrev S64x1000000 : Shape := ⟨2, ![64, 1000000]⟩
abbrev S64x1 : Shape := ⟨2, ![64, 1]⟩
abbrev S_ : Shape := ⟨0, ![]⟩

class Facts : Prop where
  bcast_S_S64x1 : S_.BroadcastsInDim S64x1 (![] : Fin 0 → Fin S64x1.rank)

variable [Facts]

def fn {F : FTy → Type} [FloatOps F] (main_arg0 : FVec F S64x1000000 .f32) (main_arg1 : IVec S64x1 32) : IVec S64x1 1 :=
  let main_c : IVec S_ 32 := constantI S_ 32 0#32
  let main_v0 : IVec S64x1 32 := broadcastInDim S64x1 ![] bcast_S_S64x1 main_c
  let main_v1 : IVec S64x1 1 := cmpi .sge main_arg1 main_v0
  let main_c_0 : IVec S_ 32 := constantI S_ 32 1000000#32
  let main_v2 : IVec S64x1 32 := broadcastInDim S64x1 ![] bcast_S_S64x1 main_c_0
  let main_v3 : IVec S64x1 1 := cmpi .slt main_arg1 main_v2
  let main_v4 : IVec S64x1 1 := andi main_v1 main_v3
  main_v4
-- ==== Kernel.lean ====
abbrev S64x1000000 : Shape := ⟨2, ![64, 1000000]⟩
abbrev S64x1 : Shape := ⟨2, ![64, 1]⟩
abbrev S64x32768 : Shape := ⟨2, ![64, 32768]⟩
abbrev S64 : Shape := ⟨1, ![64]⟩
abbrev S64x1024 : Shape := ⟨2, ![64, 1024]⟩
abbrev S64x17408 : Shape := ⟨2, ![64, 17408]⟩
abbrev S64x8x1024 : Shape := ⟨3, ![64, 8, 1024]⟩
abbrev S64x8x128 : Shape := ⟨3, ![64, 8, 128]⟩
abbrev S_ : Shape := ⟨0, ![]⟩
abbrev S1 : Shape := ⟨1, ![1]⟩
abbrev S1x8x1024 : Shape := ⟨3, ![1, 8, 1024]⟩
abbrev S8x1024 : Shape := ⟨2, ![8, 1024]⟩
abbrev S1x8x128 : Shape := ⟨3, ![1, 8, 128]⟩
abbrev S8x128 : Shape := ⟨2, ![8, 128]⟩
abbrev S64x1x1 : Shape := ⟨3, ![64, 1, 1]⟩
abbrev S64x8 : Shape := ⟨2, ![64, 8]⟩

abbrev nBuf : Space → Nat
  | .hbm => 8
  | .vmem => 19
  | .smem => 2
  | _ => 0

abbrev bufTy : (tb : Table) → Fin (tcTables nBuf tb) → BufTy
  | .hbm, ⟨0, _⟩ => ⟨S64x1000000, .f32⟩
  | .hbm, ⟨1, _⟩ => ⟨S64x1, .i32⟩
  | .hbm, ⟨2, _⟩ => ⟨S64x1, .f32⟩
  | .hbm, ⟨3, _⟩ => ⟨S64x1, .i32⟩
  | .hbm, ⟨4, _⟩ => ⟨S64x1, .i32⟩
  | .hbm, ⟨5, _⟩ => ⟨S64x1, .f32⟩
  | .hbm, ⟨6, _⟩ => ⟨S64x1, .f32⟩
  | .hbm, ⟨7, _⟩ => ⟨S64x1, .i32⟩
  | .local _ .vmem, ⟨0, _⟩ => ⟨S64x1, .i32⟩
  | .local _ .vmem, ⟨1, _⟩ => ⟨S64x32768, .f32⟩
  | .local _ .vmem, ⟨2, _⟩ => ⟨S64x32768, .f32⟩
  | .local _ .vmem, ⟨3, _⟩ => ⟨S64x1, .f32⟩
  | .local _ .vmem, ⟨4, _⟩ => ⟨S64x1, .i32⟩
  | .local _ .vmem, ⟨5, _⟩ => ⟨S64x1, .i32⟩
  | .local _ .vmem, ⟨6, _⟩ => ⟨S64x1, .f32⟩
  | .local _ .vmem, ⟨7, _⟩ => ⟨S64x1, .f32⟩
  | .local _ .vmem, ⟨8, _⟩ => ⟨S64x1, .f32⟩
  | .local _ .vmem, ⟨9, _⟩ => ⟨S64x1, .i32⟩
  | .local _ .vmem, ⟨10, _⟩ => ⟨S64x1, .i32⟩
  | .local _ .vmem, ⟨11, _⟩ => ⟨S64x1, .i32⟩
  | .local _ .vmem, ⟨12, _⟩ => ⟨S64x1, .f32⟩
  | .local _ .vmem, ⟨13, _⟩ => ⟨S64x1, .f32⟩
  | .local _ .vmem, ⟨14, _⟩ => ⟨S64x1, .i32⟩
  | .local _ .vmem, ⟨15, _⟩ => ⟨S64x1, .f32⟩
  | .local _ .vmem, ⟨16, _⟩ => ⟨S64x1, .i32⟩
  | .local _ .vmem, ⟨17, _⟩ => ⟨S64x8x1024, .f32⟩
  | .local _ .vmem, ⟨18, _⟩ => ⟨S64x8x128, .f32⟩
  | .local _ .smem, ⟨0, _⟩ => ⟨S64, .i32⟩
  | .local _ .smem, ⟨1, _⟩ => ⟨S64, .i32⟩
  | _, _ => ⟨S64x1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v3_0 : Ref sig .tc := ⟨.hbm, 6, rfl⟩
abbrev main_v3_1 : Ref sig .tc := ⟨.hbm, 7, rfl⟩
abbrev main_v1 : Ref sig .tc := ⟨.smem, 0, rfl⟩
abbrev main_v2 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_scratch0 : Ref sig .tc := ⟨.vmem, 17, rfl⟩
abbrev cc1_scratch1 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13

abbrev nD : Nat := 1
abbrev τ : Topo := Topo.v7x

variable {F : FTy → Type} [FloatOps F]

abbrev grid0 : Pipeline.Grid := ⟨1, ![31], ![false]⟩

def k0_cond3 (i : grid0.Coords) : BitVec 1 :=
  let arg0 : BitVec 32 := BitVec.ofNat 32 (i 0).val
  let c30_i32_2 : BitVec 32 := 30#32
  let v6 : BitVec 1 := Scalar.cmpi .eq arg0 c30_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S64x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![1], ![false]⟩

abbrev pre1 : Pipeline.Prefetch sig := ⟨2, ![main_v1.idx, main_v2.idx], fun | 0 => main_v1.names | 1 => main_v2.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (v0 : BitVec 32) : Fin 2 → Nat :=
  let c0_i32_2 : BitVec 32 := 0#32
  let c959_i32 : BitVec 32 := 959#32
  let v1 : BitVec 32 := Scalar.minsi v0 c959_i32
  let c1024_i32 : BitVec 32 := 1024#32
  let v2 : BitVec 32 := Scalar.muli v1 c1024_i32
  ![0, v2.toNat]

def k1_off2 (v6 : BitVec 32) : Fin 2 → Nat :=
  let c0_i32_7 : BitVec 32 := 0#32
  let c959_i32_3 : BitVec 32 := 959#32
  let v7 : BitVec 32 := Scalar.minsi v6 c959_i32_3
  let c1024_i32_4 : BitVec 32 := 1024#32
  let v8 : BitVec 32 := Scalar.muli v7 c1024_i32_4
  ![0, v8.toNat]

def k1_off3 (v12 : BitVec 32) : Fin 2 → Nat :=
  let c0_i32_12 : BitVec 32 := 0#32
  let c959_i32_8 : BitVec 32 := 959#32
  let v13 : BitVec 32 := Scalar.minsi v12 c959_i32_8
  let c1024_i32_9 : BitVec 32 := 1024#32
  let v14 : BitVec 32 := Scalar.muli v13 c1024_i32_9
  ![0, v14.toNat]

def k1_off4 (v18 : BitVec 32) : Fin 2 → Nat :=
  let c0_i32_17 : BitVec 32 := 0#32
  let c959_i32_13 : BitVec 32 := 959#32
  let v19 : BitVec 32 := Scalar.minsi v18 c959_i32_13
  let c1024_i32_14 : BitVec 32 := 1024#32
  let v20 : BitVec 32 := Scalar.muli v19 c1024_i32_14
  ![0, v20.toNat]

def k1_off5 (v24 : BitVec 32) : Fin 2 → Nat :=
  let c0_i32_22 : BitVec 32 := 0#32
  let c959_i32_18 : BitVec 32 := 959#32
  let v25 : BitVec 32 := Scalar.minsi v24 c959_i32_18
  let c1024_i32_19 : BitVec 32 := 1024#32
  let v26 : BitVec 32 := Scalar.muli v25 c1024_i32_19
  ![0, v26.toNat]

def k1_off6 (v30 : BitVec 32) : Fin 2 → Nat :=
  let c0_i32_27 : BitVec 32 := 0#32
  let c959_i32_23 : BitVec 32 := 959#32
  let v31 : BitVec 32 := Scalar.minsi v30 c959_i32_23
  let c1024_i32_24 : BitVec 32 := 1024#32
  let v32 : BitVec 32 := Scalar.muli v31 c1024_i32_24
  ![0, v32.toNat]

def k1_off7 (v36 : BitVec 32) : Fin 2 → Nat :=
  let c0_i32_32 : BitVec 32 := 0#32
  let c959_i32_28 : BitVec 32 := 959#32
  let v37 : BitVec 32 := Scalar.minsi v36 c959_i32_28
  let c1024_i32_29 : BitVec 32 := 1024#32
  let v38 : BitVec 32 := Scalar.muli v37 c1024_i32_29
  ![0, v38.toNat]

def k1_off8 (v42 : BitVec 32) : Fin 2 → Nat :=
  let c0_i32_37 : BitVec 32 := 0#32
  let c959_i32_33 : BitVec 32 := 959#32
  let v43 : BitVec 32 := Scalar.minsi v42 c959_i32_33
  let c1024_i32_34 : BitVec 32 := 1024#32
  let v44 : BitVec 32 := Scalar.muli v43 c1024_i32_34
  ![0, v44.toNat]

def k1_off9 (v48 : BitVec 32) : Fin 2 → Nat :=
  let c8_i32_42 : BitVec 32 := 8#32
  let c959_i32_38 : BitVec 32 := 959#32
  let v49 : BitVec 32 := Scalar.minsi v48 c959_i32_38
  let c1024_i32_39 : BitVec 32 := 1024#32
  let v50 : BitVec 32 := Scalar.muli v49 c1024_i32_39
  ![8, v50.toNat]

def k1_off10 (v54 : BitVec 32) : Fin 2 → Nat :=
  let c8_i32_47 : BitVec 32 := 8#32
  let c959_i32_43 : BitVec 32 := 959#32
  let v55 : BitVec 32 := Scalar.minsi v54 c959_i32_43
  let c1024_i32_44 : BitVec 32 := 1024#32
  let v56 : BitVec 32 := Scalar.muli v55 c1024_i32_44
  ![8, v56.toNat]

def k1_off11 (v60 : BitVec 32) : Fin 2 → Nat :=
  let c8_i32_52 : BitVec 32 := 8#32
  let c959_i32_48 : BitVec 32 := 959#32
  let v61 : BitVec 32 := Scalar.minsi v60 c959_i32_48
  let c1024_i32_49 : BitVec 32 := 1024#32
  let v62 : BitVec 32 := Scalar.muli v61 c1024_i32_49
  ![8, v62.toNat]

def k1_off12 (v66 : BitVec 32) : Fin 2 → Nat :=
  let c8_i32_57 : BitVec 32 := 8#32
  let c959_i32_53 : BitVec 32 := 959#32
  let v67 : BitVec 32 := Scalar.minsi v66 c959_i32_53
  let c1024_i32_54 : BitVec 32 := 1024#32
  let v68 : BitVec 32 := Scalar.muli v67 c1024_i32_54
  ![8, v68.toNat]

def k1_off13 (v72 : BitVec 32) : Fin 2 → Nat :=
  let c8_i32_62 : BitVec 32 := 8#32
  let c959_i32_58 : BitVec 32 := 959#32
  let v73 : BitVec 32 := Scalar.minsi v72 c959_i32_58
  let c1024_i32_59 : BitVec 32 := 1024#32
  let v74 : BitVec 32 := Scalar.muli v73 c1024_i32_59
  ![8, v74.toNat]

def k1_off14 (v78 : BitVec 32) : Fin 2 → Nat :=
  let c8_i32_67 : BitVec 32 := 8#32
  let c959_i32_63 : BitVec 32 := 959#32
  let v79 : BitVec 32 := Scalar.minsi v78 c959_i32_63
  let c1024_i32_64 : BitVec 32 := 1024#32
  let v80 : BitVec 32 := Scalar.muli v79 c1024_i32_64
  ![8, v80.toNat]

def k1_off15 (v84 : BitVec 32) : Fin 2 → Nat :=
  let c8_i32_72 : BitVec 32 := 8#32
  let c959_i32_68 : BitVec 32 := 959#32
  let v85 : BitVec 32 := Scalar.minsi v84 c959_i32_68
  let c1024_i32_69 : BitVec 32 := 1024#32
  let v86 : BitVec 32 := Scalar.muli v85 c1024_i32_69
  ![8, v86.toNat]

def k1_off16 (v90 : BitVec 32) : Fin 2 → Nat :=
  let c8_i32_77 : BitVec 32 := 8#32
  let c959_i32_73 : BitVec 32 := 959#32
  let v91 : BitVec 32 := Scalar.minsi v90 c959_i32_73
  let c1024_i32_74 : BitVec 32 := 1024#32
  let v92 : BitVec 32 := Scalar.muli v91 c1024_i32_74
  ![8, v92.toNat]

def k1_off17 (v96 : BitVec 32) : Fin 2 → Nat :=
  let c16_i32_82 : BitVec 32 := 16#32
  let c959_i32_78 : BitVec 32 := 959#32
  let v97 : BitVec 32 := Scalar.minsi v96 c959_i32_78
  let c1024_i32_79 : BitVec 32 := 1024#32
  let v98 : BitVec 32 := Scalar.muli v97 c1024_i32_79
  ![16, v98.toNat]

def k1_off18 (v102 : BitVec 32) : Fin 2 → Nat :=
  let c16_i32_87 : BitVec 32 := 16#32
  let c959_i32_83 : BitVec 32 := 959#32
  let v103 : BitVec 32 := Scalar.minsi v102 c959_i32_83
  let c1024_i32_84 : BitVec 32 := 1024#32
  let v104 : BitVec 32 := Scalar.muli v103 c1024_i32_84
  ![16, v104.toNat]

def k1_off19 (v108 : BitVec 32) : Fin 2 → Nat :=
  let c16_i32_92 : BitVec 32 := 16#32
  let c959_i32_88 : BitVec 32 := 959#32
  let v109 : BitVec 32 := Scalar.minsi v108 c959_i32_88
  let c1024_i32_89 : BitVec 32 := 1024#32
  let v110 : BitVec 32 := Scalar.muli v109 c1024_i32_89
  ![16, v110.toNat]

def k1_off20 (v114 : BitVec 32) : Fin 2 → Nat :=
  let c16_i32_97 : BitVec 32 := 16#32
  let c959_i32_93 : BitVec 32 := 959#32
  let v115 : BitVec 32 := Scalar.minsi v114 c959_i32_93
  let c1024_i32_94 : BitVec 32 := 1024#32
  let v116 : BitVec 32 := Scalar.muli v115 c1024_i32_94
  ![16, v116.toNat]

def k1_off21 (v120 : BitVec 32) : Fin 2 → Nat :=
  let c16_i32_102 : BitVec 32 := 16#32
  let c959_i32_98 : BitVec 32 := 959#32
  let v121 : BitVec 32 := Scalar.minsi v120 c959_i32_98
  let c1024_i32_99 : BitVec 32 := 1024#32
  let v122 : BitVec 32 := Scalar.muli v121 c1024_i32_99
  ![16, v122.toNat]

def k1_off22 (v126 : BitVec 32) : Fin 2 → Nat :=
  let c16_i32_107 : BitVec 32 := 16#32
  let c959_i32_103 : BitVec 32 := 959#32
  let v127 : BitVec 32 := Scalar.minsi v126 c959_i32_103
  let c1024_i32_104 : BitVec 32 := 1024#32
  let v128 : BitVec 32 := Scalar.muli v127 c1024_i32_104
  ![16, v128.toNat]

def k1_off23 (v132 : BitVec 32) : Fin 2 → Nat :=
  let c16_i32_112 : BitVec 32 := 16#32
  let c959_i32_108 : BitVec 32 := 959#32
  let v133 : BitVec 32 := Scalar.minsi v132 c959_i32_108
  let c1024_i32_109 : BitVec 32 := 1024#32
  let v134 : BitVec 32 := Scalar.muli v133 c1024_i32_109
  ![16, v134.toNat]

def k1_off24 (v138 : BitVec 32) : Fin 2 → Nat :=
  let c16_i32_117 : BitVec 32 := 16#32
  let c959_i32_113 : BitVec 32 := 959#32
  let v139 : BitVec 32 := Scalar.minsi v138 c959_i32_113
  let c1024_i32_114 : BitVec 32 := 1024#32
  let v140 : BitVec 32 := Scalar.muli v139 c1024_i32_114
  ![16, v140.toNat]

def k1_off25 (v144 : BitVec 32) : Fin 2 → Nat :=
  let c24_i32_122 : BitVec 32 := 24#32
  let c959_i32_118 : BitVec 32 := 959#32
  let v145 : BitVec 32 := Scalar.minsi v144 c959_i32_118
  let c1024_i32_119 : BitVec 32 := 1024#32
  let v146 : BitVec 32 := Scalar.muli v145 c1024_i32_119
  ![24, v146.toNat]

def k1_off26 (v150 : BitVec 32) : Fin 2 → Nat :=
  let c24_i32_127 : BitVec 32 := 24#32
  let c959_i32_123 : BitVec 32 := 959#32
  let v151 : BitVec 32 := Scalar.minsi v150 c959_i32_123
  let c1024_i32_124 : BitVec 32 := 1024#32
  let v152 : BitVec 32 := Scalar.muli v151 c1024_i32_124
  ![24, v152.toNat]

def k1_off27 (v156 : BitVec 32) : Fin 2 → Nat :=
  let c24_i32_132 : BitVec 32 := 24#32
  let c959_i32_128 : BitVec 32 := 959#32
  let v157 : BitVec 32 := Scalar.minsi v156 c959_i32_128
  let c1024_i32_129 : BitVec 32 := 1024#32
  let v158 : BitVec 32 := Scalar.muli v157 c1024_i32_129
  ![24, v158.toNat]

def k1_off28 (v162 : BitVec 32) : Fin 2 → Nat :=
  let c24_i32_137 : BitVec 32 := 24#32
  let c959_i32_133 : BitVec 32 := 959#32
  let v163 : BitVec 32 := Scalar.minsi v162 c959_i32_133
  let c1024_i32_134 : BitVec 32 := 1024#32
  let v164 : BitVec 32 := Scalar.muli v163 c1024_i32_134
  ![24, v164.toNat]

def k1_off29 (v168 : BitVec 32) : Fin 2 → Nat :=
  let c24_i32_142 : BitVec 32 := 24#32
  let c959_i32_138 : BitVec 32 := 959#32
  let v169 : BitVec 32 := Scalar.minsi v168 c959_i32_138
  let c1024_i32_139 : BitVec 32 := 1024#32
  let v170 : BitVec 32 := Scalar.muli v169 c1024_i32_139
  ![24, v170.toNat]

def k1_off30 (v174 : BitVec 32) : Fin 2 → Nat :=
  let c24_i32_147 : BitVec 32 := 24#32
  let c959_i32_143 : BitVec 32 := 959#32
  let v175 : BitVec 32 := Scalar.minsi v174 c959_i32_143
  let c1024_i32_144 : BitVec 32 := 1024#32
  let v176 : BitVec 32 := Scalar.muli v175 c1024_i32_144
  ![24, v176.toNat]

def k1_off31 (v180 : BitVec 32) : Fin 2 → Nat :=
  let c24_i32_152 : BitVec 32 := 24#32
  let c959_i32_148 : BitVec 32 := 959#32
  let v181 : BitVec 32 := Scalar.minsi v180 c959_i32_148
  let c1024_i32_149 : BitVec 32 := 1024#32
  let v182 : BitVec 32 := Scalar.muli v181 c1024_i32_149
  ![24, v182.toNat]

def k1_off32 (v186 : BitVec 32) : Fin 2 → Nat :=
  let c24_i32_157 : BitVec 32 := 24#32
  let c959_i32_153 : BitVec 32 := 959#32
  let v187 : BitVec 32 := Scalar.minsi v186 c959_i32_153
  let c1024_i32_154 : BitVec 32 := 1024#32
  let v188 : BitVec 32 := Scalar.muli v187 c1024_i32_154
  ![24, v188.toNat]

def k1_off33 (v192 : BitVec 32) : Fin 2 → Nat :=
  let c32_i32_162 : BitVec 32 := 32#32
  let c959_i32_158 : BitVec 32 := 959#32
  let v193 : BitVec 32 := Scalar.minsi v192 c959_i32_158
  let c1024_i32_159 : BitVec 32 := 1024#32
  let v194 : BitVec 32 := Scalar.muli v193 c1024_i32_159
  ![32, v194.toNat]

def k1_off34 (v198 : BitVec 32) : Fin 2 → Nat :=
  let c32_i32_167 : BitVec 32 := 32#32
  let c959_i32_163 : BitVec 32 := 959#32
  let v199 : BitVec 32 := Scalar.minsi v198 c959_i32_163
  let c1024_i32_164 : BitVec 32 := 1024#32
  let v200 : BitVec 32 := Scalar.muli v199 c1024_i32_164
  ![32, v200.toNat]

def k1_off35 (v204 : BitVec 32) : Fin 2 → Nat :=
  let c32_i32_172 : BitVec 32 := 32#32
  let c959_i32_168 : BitVec 32 := 959#32
  let v205 : BitVec 32 := Scalar.minsi v204 c959_i32_168
  let c1024_i32_169 : BitVec 32 := 1024#32
  let v206 : BitVec 32 := Scalar.muli v205 c1024_i32_169
  ![32, v206.toNat]

def k1_off36 (v210 : BitVec 32) : Fin 2 → Nat :=
  let c32_i32_177 : BitVec 32 := 32#32
  let c959_i32_173 : BitVec 32 := 959#32
  let v211 : BitVec 32 := Scalar.minsi v210 c959_i32_173
  let c1024_i32_174 : BitVec 32 := 1024#32
  let v212 : BitVec 32 := Scalar.muli v211 c1024_i32_174
  ![32, v212.toNat]

def k1_off37 (v216 : BitVec 32) : Fin 2 → Nat :=
  let c32_i32_182 : BitVec 32 := 32#32
  let c959_i32_178 : BitVec 32 := 959#32
  let v217 : BitVec 32 := Scalar.minsi v216 c959_i32_178
  let c1024_i32_179 : BitVec 32 := 1024#32
  let v218 : BitVec 32 := Scalar.muli v217 c1024_i32_179
  ![32, v218.toNat]

def k1_off38 (v222 : BitVec 32) : Fin 2 → Nat :=
  let c32_i32_187 : BitVec 32 := 32#32
  let c959_i32_183 : BitVec 32 := 959#32
  let v223 : BitVec 32 := Scalar.minsi v222 c959_i32_183
  let c1024_i32_184 : BitVec 32 := 1024#32
  let v224 : BitVec 32 := Scalar.muli v223 c1024_i32_184
  ![32, v224.toNat]

def k1_off39 (v228 : BitVec 32) : Fin 2 → Nat :=
  let c32_i32_192 : BitVec 32 := 32#32
  let c959_i32_188 : BitVec 32 := 959#32
  let v229 : BitVec 32 := Scalar.minsi v228 c959_i32_188
  let c1024_i32_189 : BitVec 32 := 1024#32
  let v230 : BitVec 32 := Scalar.muli v229 c1024_i32_189
  ![32, v230.toNat]

def k1_off40 (v234 : BitVec 32) : Fin 2 → Nat :=
  let c32_i32_197 : BitVec 32 := 32#32
  let c959_i32_193 : BitVec 32 := 959#32
  let v235 : BitVec 32 := Scalar.minsi v234 c959_i32_193
  let c1024_i32_194 : BitVec 32 := 1024#32
  let v236 : BitVec 32 := Scalar.muli v235 c1024_i32_194
  ![32, v236.toNat]

def k1_off41 (v240 : BitVec 32) : Fin 2 → Nat :=
  let c40_i32_202 : BitVec 32 := 40#32
  let c959_i32_198 : BitVec 32 := 959#32
  let v241 : BitVec 32 := Scalar.minsi v240 c959_i32_198
  let c1024_i32_199 : BitVec 32 := 1024#32
  let v242 : BitVec 32 := Scalar.muli v241 c1024_i32_199
  ![40, v242.toNat]

def k1_off42 (v246 : BitVec 32) : Fin 2 → Nat :=
  let c40_i32_207 : BitVec 32 := 40#32
  let c959_i32_203 : BitVec 32 := 959#32
  let v247 : BitVec 32 := Scalar.minsi v246 c959_i32_203
  let c1024_i32_204 : BitVec 32 := 1024#32
  let v248 : BitVec 32 := Scalar.muli v247 c1024_i32_204
  ![40, v248.toNat]

def k1_off43 (v252 : BitVec 32) : Fin 2 → Nat :=
  let c40_i32_212 : BitVec 32 := 40#32
  let c959_i32_208 : BitVec 32 := 959#32
  let v253 : BitVec 32 := Scalar.minsi v252 c959_i32_208
  let c1024_i32_209 : BitVec 32 := 1024#32
  let v254 : BitVec 32 := Scalar.muli v253 c1024_i32_209
  ![40, v254.toNat]

def k1_off44 (v258 : BitVec 32) : Fin 2 → Nat :=
  let c40_i32_217 : BitVec 32 := 40#32
  let c959_i32_213 : BitVec 32 := 959#32
  let v259 : BitVec 32 := Scalar.minsi v258 c959_i32_213
  let c1024_i32_214 : BitVec 32 := 1024#32
  let v260 : BitVec 32 := Scalar.muli v259 c1024_i32_214
  ![40, v260.toNat]

def k1_off45 (v264 : BitVec 32) : Fin 2 → Nat :=
  let c40_i32_222 : BitVec 32 := 40#32
  let c959_i32_218 : BitVec 32 := 959#32
  let v265 : BitVec 32 := Scalar.minsi v264 c959_i32_218
  let c1024_i32_219 : BitVec 32 := 1024#32
  let v266 : BitVec 32 := Scalar.muli v265 c1024_i32_219
  ![40, v266.toNat]

def k1_off46 (v270 : BitVec 32) : Fin 2 → Nat :=
  let c40_i32_227 : BitVec 32 := 40#32
  let c959_i32_223 : BitVec 32 := 959#32
  let v271 : BitVec 32 := Scalar.minsi v270 c959_i32_223
  let c1024_i32_224 : BitVec 32 := 1024#32
  let v272 : BitVec 32 := Scalar.muli v271 c1024_i32_224
  ![40, v272.toNat]

def k1_off47 (v276 : BitVec 32) : Fin 2 → Nat :=
  let c40_i32_232 : BitVec 32 := 40#32
  let c959_i32_228 : BitVec 32 := 959#32
  let v277 : BitVec 32 := Scalar.minsi v276 c959_i32_228
  let c1024_i32_229 : BitVec 32 := 1024#32
  let v278 : BitVec 32 := Scalar.muli v277 c1024_i32_229
  ![40, v278.toNat]

def k1_off48 (v282 : BitVec 32) : Fin 2 → Nat :=
  let c40_i32_237 : BitVec 32 := 40#32
  let c959_i32_233 : BitVec 32 := 959#32
  let v283 : BitVec 32 := Scalar.minsi v282 c959_i32_233
  let c1024_i32_234 : BitVec 32 := 1024#32
  let v284 : BitVec 32 := Scalar.muli v283 c1024_i32_234
  ![40, v284.toNat]

def k1_off49 (v288 : BitVec 32) : Fin 2 → Nat :=
  let c48_i32_242 : BitVec 32 := 48#32
  let c959_i32_238 : BitVec 32 := 959#32
  let v289 : BitVec 32 := Scalar.minsi v288 c959_i32_238
  let c1024_i32_239 : BitVec 32 := 1024#32
  let v290 : BitVec 32 := Scalar.muli v289 c1024_i32_239
  ![48, v290.toNat]

def k1_off50 (v294 : BitVec 32) : Fin 2 → Nat :=
  let c48_i32_247 : BitVec 32 := 48#32
  let c959_i32_243 : BitVec 32 := 959#32
  let v295 : BitVec 32 := Scalar.minsi v294 c959_i32_243
  let c1024_i32_244 : BitVec 32 := 1024#32
  let v296 : BitVec 32 := Scalar.muli v295 c1024_i32_244
  ![48, v296.toNat]

def k1_off51 (v300 : BitVec 32) : Fin 2 → Nat :=
  let c48_i32_252 : BitVec 32 := 48#32
  let c959_i32_248 : BitVec 32 := 959#32
  let v301 : BitVec 32 := Scalar.minsi v300 c959_i32_248
  let c1024_i32_249 : BitVec 32 := 1024#32
  let v302 : BitVec 32 := Scalar.muli v301 c1024_i32_249
  ![48, v302.toNat]

def k1_off52 (v306 : BitVec 32) : Fin 2 → Nat :=
  let c48_i32_257 : BitVec 32 := 48#32
  let c959_i32_253 : BitVec 32 := 959#32
  let v307 : BitVec 32 := Scalar.minsi v306 c959_i32_253
  let c1024_i32_254 : BitVec 32 := 1024#32
  let v308 : BitVec 32 := Scalar.muli v307 c1024_i32_254
  ![48, v308.toNat]

def k1_off53 (v312 : BitVec 32) : Fin 2 → Nat :=
  let c48_i32_262 : BitVec 32 := 48#32
  let c959_i32_258 : BitVec 32 := 959#32
  let v313 : BitVec 32 := Scalar.minsi v312 c959_i32_258
  let c1024_i32_259 : BitVec 32 := 1024#32
  let v314 : BitVec 32 := Scalar.muli v313 c1024_i32_259
  ![48, v314.toNat]

def k1_off54 (v318 : BitVec 32) : Fin 2 → Nat :=
  let c48_i32_267 : BitVec 32 := 48#32
  let c959_i32_263 : BitVec 32 := 959#32
  let v319 : BitVec 32 := Scalar.minsi v318 c959_i32_263
  let c1024_i32_264 : BitVec 32 := 1024#32
  let v320 : BitVec 32 := Scalar.muli v319 c1024_i32_264
  ![48, v320.toNat]

def k1_off55 (v324 : BitVec 32) : Fin 2 → Nat :=
  let c48_i32_272 : BitVec 32 := 48#32
  let c959_i32_268 : BitVec 32 := 959#32
  let v325 : BitVec 32 := Scalar.minsi v324 c959_i32_268
  let c1024_i32_269 : BitVec 32 := 1024#32
  let v326 : BitVec 32 := Scalar.muli v325 c1024_i32_269
  ![48, v326.toNat]

def k1_off56 (v330 : BitVec 32) : Fin 2 → Nat :=
  let c48_i32_277 : BitVec 32 := 48#32
  let c959_i32_273 : BitVec 32 := 959#32
  let v331 : BitVec 32 := Scalar.minsi v330 c959_i32_273
  let c1024_i32_274 : BitVec 32 := 1024#32
  let v332 : BitVec 32 := Scalar.muli v331 c1024_i32_274
  ![48, v332.toNat]

def k1_off57 (v336 : BitVec 32) : Fin 2 → Nat :=
  let c56_i32_282 : BitVec 32 := 56#32
  let c959_i32_278 : BitVec 32 := 959#32
  let v337 : BitVec 32 := Scalar.minsi v336 c959_i32_278
  let c1024_i32_279 : BitVec 32 := 1024#32
  let v338 : BitVec 32 := Scalar.muli v337 c1024_i32_279
  ![56, v338.toNat]

def k1_off58 (v342 : BitVec 32) : Fin 2 → Nat :=
  let c56_i32_287 : BitVec 32 := 56#32
  let c959_i32_283 : BitVec 32 := 959#32
  let v343 : BitVec 32 := Scalar.minsi v342 c959_i32_283
  let c1024_i32_284 : BitVec 32 := 1024#32
  let v344 : BitVec 32 := Scalar.muli v343 c1024_i32_284
  ![56, v344.toNat]

def k1_off59 (v348 : BitVec 32) : Fin 2 → Nat :=
  let c56_i32_292 : BitVec 32 := 56#32
  let c959_i32_288 : BitVec 32 := 959#32
  let v349 : BitVec 32 := Scalar.minsi v348 c959_i32_288
  let c1024_i32_289 : BitVec 32 := 1024#32
  let v350 : BitVec 32 := Scalar.muli v349 c1024_i32_289
  ![56, v350.toNat]

def k1_off60 (v354 : BitVec 32) : Fin 2 → Nat :=
  let c56_i32_297 : BitVec 32 := 56#32
  let c959_i32_293 : BitVec 32 := 959#32
  let v355 : BitVec 32 := Scalar.minsi v354 c959_i32_293
  let c1024_i32_294 : BitVec 32 := 1024#32
  let v356 : BitVec 32 := Scalar.muli v355 c1024_i32_294
  ![56, v356.toNat]

def k1_off61 (v360 : BitVec 32) : Fin 2 → Nat :=
  let c56_i32_302 : BitVec 32 := 56#32
  let c959_i32_298 : BitVec 32 := 959#32
  let v361 : BitVec 32 := Scalar.minsi v360 c959_i32_298
  let c1024_i32_299 : BitVec 32 := 1024#32
  let v362 : BitVec 32 := Scalar.muli v361 c1024_i32_299
  ![56, v362.toNat]

def k1_off62 (v366 : BitVec 32) : Fin 2 → Nat :=
  let c56_i32_307 : BitVec 32 := 56#32
  let c959_i32_303 : BitVec 32 := 959#32
  let v367 : BitVec 32 := Scalar.minsi v366 c959_i32_303
  let c1024_i32_304 : BitVec 32 := 1024#32
  let v368 : BitVec 32 := Scalar.muli v367 c1024_i32_304
  ![56, v368.toNat]

def k1_off63 (v372 : BitVec 32) : Fin 2 → Nat :=
  let c56_i32_312 : BitVec 32 := 56#32
  let c959_i32_308 : BitVec 32 := 959#32
  let v373 : BitVec 32 := Scalar.minsi v372 c959_i32_308
  let c1024_i32_309 : BitVec 32 := 1024#32
  let v374 : BitVec 32 := Scalar.muli v373 c1024_i32_309
  ![56, v374.toNat]

def k1_off64 (v378 : BitVec 32) : Fin 2 → Nat :=
  let c56_i32_317 : BitVec 32 := 56#32
  let c959_i32_313 : BitVec 32 := 959#32
  let v379 : BitVec 32 := Scalar.minsi v378 c959_i32_313
  let c1024_i32_314 : BitVec 32 := 1024#32
  let v380 : BitVec 32 := Scalar.muli v379 c1024_i32_314
  ![56, v380.toNat]

def k1_off65 (v384 : BitVec 32) : Fin 2 → Nat :=
  let c0_i32_329 : BitVec 32 := 0#32
  let c0_i32_319 : BitVec 32 := 0#32
  let v386 : BitVec 1 := Scalar.cmpi .sgt v384 c0_i32_319
  let v387 : BitVec 32 := Scalar.extui v386
  let c0_i32_320 : BitVec 32 := 0#32
  let v388 : BitVec 1 := Scalar.cmpi .slt v384 c0_i32_320
  let v389 : BitVec 32 := Scalar.extui v388
  let v390 : BitVec 32 := Scalar.subi v387 v389
  let c128_i32 : BitVec 32 := 128#32
  let c0_i32_321 : BitVec 32 := 0#32
  let v391 : BitVec 1 := Scalar.cmpi .sgt c128_i32 c0_i32_321
  let v392 : BitVec 32 := Scalar.extui v391
  let c0_i32_322 : BitVec 32 := 0#32
  let v393 : BitVec 1 := Scalar.cmpi .slt c128_i32 c0_i32_322
  let v394 : BitVec 32 := Scalar.extui v393
  let v395 : BitVec 32 := Scalar.subi v392 v394
  let v396 : BitVec 1 := Scalar.cmpi .ne v390 v395
  let v397 : BitVec 32 := Scalar.remsi v384 c128_i32
  let c0_i32_323 : BitVec 32 := 0#32
  let v398 : BitVec 1 := Scalar.cmpi .ne v397 c0_i32_323
  let v399 : BitVec 1 := Scalar.andi v396 v398
  let v385 : BitVec 32 := Scalar.divsi v384 c128_i32
  let c1_i32_324 : BitVec 32 := 1#32
  let v400 : BitVec 32 := Scalar.subi v385 c1_i32_324
  let v401 : BitVec 32 := Scalar.select v399 v400 v385
  let c128_i32_325 : BitVec 32 := 128#32
  let v402 : BitVec 32 := Scalar.muli v401 c128_i32_325
  let c982912_i32 : BitVec 32 := 982912#32
  let v403 : BitVec 32 := Scalar.minsi v402 c982912_i32
  ![0, v403.toNat]

def k1_off66 (v407 : BitVec 32) : Fin 2 → Nat :=
  let c0_i32_343 : BitVec 32 := 0#32
  let c0_i32_332 : BitVec 32 := 0#32
  let v409 : BitVec 1 := Scalar.cmpi .sgt v407 c0_i32_332
  let v410 : BitVec 32 := Scalar.extui v409
  let c0_i32_333 : BitVec 32 := 0#32
  let v411 : BitVec 1 := Scalar.cmpi .slt v407 c0_i32_333
  let v412 : BitVec 32 := Scalar.extui v411
  let v413 : BitVec 32 := Scalar.subi v410 v412
  let c128_i32_331 : BitVec 32 := 128#32
  let c0_i32_334 : BitVec 32 := 0#32
  let v414 : BitVec 1 := Scalar.cmpi .sgt c128_i32_331 c0_i32_334
  let v415 : BitVec 32 := Scalar.extui v414
  let c0_i32_335 : BitVec 32 := 0#32
  let v416 : BitVec 1 := Scalar.cmpi .slt c128_i32_331 c0_i32_335
  let v417 : BitVec 32 := Scalar.extui v416
  let v418 : BitVec 32 := Scalar.subi v415 v417
  let v419 : BitVec 1 := Scalar.cmpi .ne v413 v418
  let v420 : BitVec 32 := Scalar.remsi v407 c128_i32_331
  let c0_i32_336 : BitVec 32 := 0#32
  let v421 : BitVec 1 := Scalar.cmpi .ne v420 c0_i32_336
  let v422 : BitVec 1 := Scalar.andi v419 v421
  let v408 : BitVec 32 := Scalar.divsi v407 c128_i32_331
  let c1_i32_337 : BitVec 32 := 1#32
  let v423 : BitVec 32 := Scalar.subi v408 c1_i32_337
  let v424 : BitVec 32 := Scalar.select v422 v423 v408
  let c128_i32_338 : BitVec 32 := 128#32
  let v425 : BitVec 32 := Scalar.muli v424 c128_i32_338
  let c982912_i32_339 : BitVec 32 := 982912#32
  let v426 : BitVec 32 := Scalar.minsi v425 c982912_i32_339
  ![0, v426.toNat]

def k1_off67 (v430 : BitVec 32) : Fin 2 → Nat :=
  let c0_i32_357 : BitVec 32 := 0#32
  let c0_i32_346 : BitVec 32 := 0#32
  let v432 : BitVec 1 := Scalar.cmpi .sgt v430 c0_i32_346
  let v433 : BitVec 32 := Scalar.extui v432
  let c0_i32_347 : BitVec 32 := 0#32
  let v434 : BitVec 1 := Scalar.cmpi .slt v430 c0_i32_347
  let v435 : BitVec 32 := Scalar.extui v434
  let v436 : BitVec 32 := Scalar.subi v433 v435
  let c128_i32_345 : BitVec 32 := 128#32
  let c0_i32_348 : BitVec 32 := 0#32
  let v437 : BitVec 1 := Scalar.cmpi .sgt c128_i32_345 c0_i32_348
  let v438 : BitVec 32 := Scalar.extui v437
  let c0_i32_349 : BitVec 32 := 0#32
  let v439 : BitVec 1 := Scalar.cmpi .slt c128_i32_345 c0_i32_349
  let v440 : BitVec 32 := Scalar.extui v439
  let v441 : BitVec 32 := Scalar.subi v438 v440
  let v442 : BitVec 1 := Scalar.cmpi .ne v436 v441
  let v443 : BitVec 32 := Scalar.remsi v430 c128_i32_345
  let c0_i32_350 : BitVec 32 := 0#32
  let v444 : BitVec 1 := Scalar.cmpi .ne v443 c0_i32_350
  let v445 : BitVec 1 := Scalar.andi v442 v444
  let v431 : BitVec 32 := Scalar.divsi v430 c128_i32_345
  let c1_i32_351 : BitVec 32 := 1#32
  let v446 : BitVec 32 := Scalar.subi v431 c1_i32_351
  let v447 : BitVec 32 := Scalar.select v445 v446 v431
  let c128_i32_352 : BitVec 32 := 128#32
  let v448 : BitVec 32 := Scalar.muli v447 c128_i32_352
  let c982912_i32_353 : BitVec 32 := 982912#32
  let v449 : BitVec 32 := Scalar.minsi v448 c982912_i32_353
  ![0, v449.toNat]

def k1_off68 (v453 : BitVec 32) : Fin 2 → Nat :=
  let c0_i32_371 : BitVec 32 := 0#32
  let c0_i32_360 : BitVec 32 := 0#32
  let v455 : BitVec 1 := Scalar.cmpi .sgt v453 c0_i32_360
  let v456 : BitVec 32 := Scalar.extui v455
  let c0_i32_361 : BitVec 32 := 0#32
  let v457 : BitVec 1 := Scalar.cmpi .slt v453 c0_i32_361
  let v458 : BitVec 32 := Scalar.extui v457
  let v459 : BitVec 32 := Scalar.subi v456 v458
  let c128_i32_359 : BitVec 32 := 128#32
  let c0_i32_362 : BitVec 32 := 0#32
  let v460 : BitVec 1 := Scalar.cmpi .sgt c128_i32_359 c0_i32_362
  let v461 : BitVec 32 := Scalar.extui v460
  let c0_i32_363 : BitVec 32 := 0#32
  let v462 : BitVec 1 := Scalar.cmpi .slt c128_i32_359 c0_i32_363
  let v463 : BitVec 32 := Scalar.extui v462
  let v464 : BitVec 32 := Scalar.subi v461 v463
  let v465 : BitVec 1 := Scalar.cmpi .ne v459 v464
  let v466 : BitVec 32 := Scalar.remsi v453 c128_i32_359
  let c0_i32_364 : BitVec 32 := 0#32
  let v467 : BitVec 1 := Scalar.cmpi .ne v466 c0_i32_364
  let v468 : BitVec 1 := Scalar.andi v465 v467
  let v454 : BitVec 32 := Scalar.divsi v453 c128_i32_359
  let c1_i32_365 : BitVec 32 := 1#32
  let v469 : BitVec 32 := Scalar.subi v454 c1_i32_365
  let v470 : BitVec 32 := Scalar.select v468 v469 v454
  let c128_i32_366 : BitVec 32 := 128#32
  let v471 : BitVec 32 := Scalar.muli v470 c128_i32_366
  let c982912_i32_367 : BitVec 32 := 982912#32
  let v472 : BitVec 32 := Scalar.minsi v471 c982912_i32_367
  ![0, v472.toNat]

def k1_off69 (v476 : BitVec 32) : Fin 2 → Nat :=
  let c0_i32_385 : BitVec 32 := 0#32
  let c0_i32_374 : BitVec 32 := 0#32
  let v478 : BitVec 1 := Scalar.cmpi .sgt v476 c0_i32_374
  let v479 : BitVec 32 := Scalar.extui v478
  let c0_i32_375 : BitVec 32 := 0#32
  let v480 : BitVec 1 := Scalar.cmpi .slt v476 c0_i32_375
  let v481 : BitVec 32 := Scalar.extui v480
  let v482 : BitVec 32 := Scalar.subi v479 v481
  let c128_i32_373 : BitVec 32 := 128#32
  let c0_i32_376 : BitVec 32 := 0#32
  let v483 : BitVec 1 := Scalar.cmpi .sgt c128_i32_373 c0_i32_376
  let v484 : BitVec 32 := Scalar.extui v483
  let c0_i32_377 : BitVec 32 := 0#32
  let v485 : BitVec 1 := Scalar.cmpi .slt c128_i32_373 c0_i32_377
  let v486 : BitVec 32 := Scalar.extui v485
  let v487 : BitVec 32 := Scalar.subi v484 v486
  let v488 : BitVec 1 := Scalar.cmpi .ne v482 v487
  let v489 : BitVec 32 := Scalar.remsi v476 c128_i32_373
  let c0_i32_378 : BitVec 32 := 0#32
  let v490 : BitVec 1 := Scalar.cmpi .ne v489 c0_i32_378
  let v491 : BitVec 1 := Scalar.andi v488 v490
  let v477 : BitVec 32 := Scalar.divsi v476 c128_i32_373
  let c1_i32_379 : BitVec 32 := 1#32
  let v492 : BitVec 32 := Scalar.subi v477 c1_i32_379
  let v493 : BitVec 32 := Scalar.select v491 v492 v477
  let c128_i32_380 : BitVec 32 := 128#32
  let v494 : BitVec 32 := Scalar.muli v493 c128_i32_380
  let c982912_i32_381 : BitVec 32 := 982912#32
  let v495 : BitVec 32 := Scalar.minsi v494 c982912_i32_381
  ![0, v495.toNat]

def k1_off70 (v499 : BitVec 32) : Fin 2 → Nat :=
  let c0_i32_399 : BitVec 32 := 0#32
  let c0_i32_388 : BitVec 32 := 0#32
  let v501 : BitVec 1 := Scalar.cmpi .sgt v499 c0_i32_388
  let v502 : BitVec 32 := Scalar.extui v501
  let c0_i32_389 : BitVec 32 := 0#32
  let v503 : BitVec 1 := Scalar.cmpi .slt v499 c0_i32_389
  let v504 : BitVec 32 := Scalar.extui v503
  let v505 : BitVec 32 := Scalar.subi v502 v504
  let c128_i32_387 : BitVec 32 := 128#32
  let c0_i32_390 : BitVec 32 := 0#32
  let v506 : BitVec 1 := Scalar.cmpi .sgt c128_i32_387 c0_i32_390
  let v507 : BitVec 32 := Scalar.extui v506
  let c0_i32_391 : BitVec 32 := 0#32
  let v508 : BitVec 1 := Scalar.cmpi .slt c128_i32_387 c0_i32_391
  let v509 : BitVec 32 := Scalar.extui v508
  let v510 : BitVec 32 := Scalar.subi v507 v509
  let v511 : BitVec 1 := Scalar.cmpi .ne v505 v510
  let v512 : BitVec 32 := Scalar.remsi v499 c128_i32_387
  let c0_i32_392 : BitVec 32 := 0#32
  let v513 : BitVec 1 := Scalar.cmpi .ne v512 c0_i32_392
  let v514 : BitVec 1 := Scalar.andi v511 v513
  let v500 : BitVec 32 := Scalar.divsi v499 c128_i32_387
  let c1_i32_393 : BitVec 32 := 1#32
  let v515 : BitVec 32 := Scalar.subi v500 c1_i32_393
  let v516 : BitVec 32 := Scalar.select v514 v515 v500
  let c128_i32_394 : BitVec 32 := 128#32
  let v517 : BitVec 32 := Scalar.muli v516 c128_i32_394
  let c982912_i32_395 : BitVec 32 := 982912#32
  let v518 : BitVec 32 := Scalar.minsi v517 c982912_i32_395
  ![0, v518.toNat]

def k1_off71 (v522 : BitVec 32) : Fin 2 → Nat :=
  let c0_i32_413 : BitVec 32 := 0#32
  let c0_i32_402 : BitVec 32 := 0#32
  let v524 : BitVec 1 := Scalar.cmpi .sgt v522 c0_i32_402
  let v525 : BitVec 32 := Scalar.extui v524
  let c0_i32_403 : BitVec 32 := 0#32
  let v526 : BitVec 1 := Scalar.cmpi .slt v522 c0_i32_403
  let v527 : BitVec 32 := Scalar.extui v526
  let v528 : BitVec 32 := Scalar.subi v525 v527
  let c128_i32_401 : BitVec 32 := 128#32
  let c0_i32_404 : BitVec 32 := 0#32
  let v529 : BitVec 1 := Scalar.cmpi .sgt c128_i32_401 c0_i32_404
  let v530 : BitVec 32 := Scalar.extui v529
  let c0_i32_405 : BitVec 32 := 0#32
  let v531 : BitVec 1 := Scalar.cmpi .slt c128_i32_401 c0_i32_405
  let v532 : BitVec 32 := Scalar.extui v531
  let v533 : BitVec 32 := Scalar.subi v530 v532
  let v534 : BitVec 1 := Scalar.cmpi .ne v528 v533
  let v535 : BitVec 32 := Scalar.remsi v522 c128_i32_401
  let c0_i32_406 : BitVec 32 := 0#32
  let v536 : BitVec 1 := Scalar.cmpi .ne v535 c0_i32_406
  let v537 : BitVec 1 := Scalar.andi v534 v536
  let v523 : BitVec 32 := Scalar.divsi v522 c128_i32_401
  let c1_i32_407 : BitVec 32 := 1#32
  let v538 : BitVec 32 := Scalar.subi v523 c1_i32_407
  let v539 : BitVec 32 := Scalar.select v537 v538 v523
  let c128_i32_408 : BitVec 32 := 128#32
  let v540 : BitVec 32 := Scalar.muli v539 c128_i32_408
  let c982912_i32_409 : BitVec 32 := 982912#32
  let v541 : BitVec 32 := Scalar.minsi v540 c982912_i32_409
  ![0, v541.toNat]

def k1_off72 (v545 : BitVec 32) : Fin 2 → Nat :=
  let c0_i32_427 : BitVec 32 := 0#32
  let c0_i32_416 : BitVec 32 := 0#32
  let v547 : BitVec 1 := Scalar.cmpi .sgt v545 c0_i32_416
  let v548 : BitVec 32 := Scalar.extui v547
  let c0_i32_417 : BitVec 32 := 0#32
  let v549 : BitVec 1 := Scalar.cmpi .slt v545 c0_i32_417
  let v550 : BitVec 32 := Scalar.extui v549
  let v551 : BitVec 32 := Scalar.subi v548 v550
  let c128_i32_415 : BitVec 32 := 128#32
  let c0_i32_418 : BitVec 32 := 0#32
  let v552 : BitVec 1 := Scalar.cmpi .sgt c128_i32_415 c0_i32_418
  let v553 : BitVec 32 := Scalar.extui v552
  let c0_i32_419 : BitVec 32 := 0#32
  let v554 : BitVec 1 := Scalar.cmpi .slt c128_i32_415 c0_i32_419
  let v555 : BitVec 32 := Scalar.extui v554
  let v556 : BitVec 32 := Scalar.subi v553 v555
  let v557 : BitVec 1 := Scalar.cmpi .ne v551 v556
  let v558 : BitVec 32 := Scalar.remsi v545 c128_i32_415
  let c0_i32_420 : BitVec 32 := 0#32
  let v559 : BitVec 1 := Scalar.cmpi .ne v558 c0_i32_420
  let v560 : BitVec 1 := Scalar.andi v557 v559
  let v546 : BitVec 32 := Scalar.divsi v545 c128_i32_415
  let c1_i32_421 : BitVec 32 := 1#32
  let v561 : BitVec 32 := Scalar.subi v546 c1_i32_421
  let v562 : BitVec 32 := Scalar.select v560 v561 v546
  let c128_i32_422 : BitVec 32 := 128#32
  let v563 : BitVec 32 := Scalar.muli v562 c128_i32_422
  let c982912_i32_423 : BitVec 32 := 982912#32
  let v564 : BitVec 32 := Scalar.minsi v563 c982912_i32_423
  ![0, v564.toNat]

def k1_off73 (v568 : BitVec 32) : Fin 2 → Nat :=
  let c8_i32_441 : BitVec 32 := 8#32
  let c0_i32_430 : BitVec 32 := 0#32
  let v570 : BitVec 1 := Scalar.cmpi .sgt v568 c0_i32_430
  let v571 : BitVec 32 := Scalar.extui v570
  let c0_i32_431 : BitVec 32 := 0#32
  let v572 : BitVec 1 := Scalar.cmpi .slt v568 c0_i32_431
  let v573 : BitVec 32 := Scalar.extui v572
  let v574 : BitVec 32 := Scalar.subi v571 v573
  let c128_i32_429 : BitVec 32 := 128#32
  let c0_i32_432 : BitVec 32 := 0#32
  let v575 : BitVec 1 := Scalar.cmpi .sgt c128_i32_429 c0_i32_432
  let v576 : BitVec 32 := Scalar.extui v575
  let c0_i32_433 : BitVec 32 := 0#32
  let v577 : BitVec 1 := Scalar.cmpi .slt c128_i32_429 c0_i32_433
  let v578 : BitVec 32 := Scalar.extui v577
  let v579 : BitVec 32 := Scalar.subi v576 v578
  let v580 : BitVec 1 := Scalar.cmpi .ne v574 v579
  let v581 : BitVec 32 := Scalar.remsi v568 c128_i32_429
  let c0_i32_434 : BitVec 32 := 0#32
  let v582 : BitVec 1 := Scalar.cmpi .ne v581 c0_i32_434
  let v583 : BitVec 1 := Scalar.andi v580 v582
  let v569 : BitVec 32 := Scalar.divsi v568 c128_i32_429
  let c1_i32_435 : BitVec 32 := 1#32
  let v584 : BitVec 32 := Scalar.subi v569 c1_i32_435
  let v585 : BitVec 32 := Scalar.select v583 v584 v569
  let c128_i32_436 : BitVec 32 := 128#32
  let v586 : BitVec 32 := Scalar.muli v585 c128_i32_436
  let c982912_i32_437 : BitVec 32 := 982912#32
  let v587 : BitVec 32 := Scalar.minsi v586 c982912_i32_437
  ![8, v587.toNat]

def k1_off74 (v591 : BitVec 32) : Fin 2 → Nat :=
  let c8_i32_455 : BitVec 32 := 8#32
  let c0_i32_444 : BitVec 32 := 0#32
  let v593 : BitVec 1 := Scalar.cmpi .sgt v591 c0_i32_444
  let v594 : BitVec 32 := Scalar.extui v593
  let c0_i32_445 : BitVec 32 := 0#32
  let v595 : BitVec 1 := Scalar.cmpi .slt v591 c0_i32_445
  let v596 : BitVec 32 := Scalar.extui v595
  let v597 : BitVec 32 := Scalar.subi v594 v596
  let c128_i32_443 : BitVec 32 := 128#32
  let c0_i32_446 : BitVec 32 := 0#32
  let v598 : BitVec 1 := Scalar.cmpi .sgt c128_i32_443 c0_i32_446
  let v599 : BitVec 32 := Scalar.extui v598
  let c0_i32_447 : BitVec 32 := 0#32
  let v600 : BitVec 1 := Scalar.cmpi .slt c128_i32_443 c0_i32_447
  let v601 : BitVec 32 := Scalar.extui v600
  let v602 : BitVec 32 := Scalar.subi v599 v601
  let v603 : BitVec 1 := Scalar.cmpi .ne v597 v602
  let v604 : BitVec 32 := Scalar.remsi v591 c128_i32_443
  let c0_i32_448 : BitVec 32 := 0#32
  let v605 : BitVec 1 := Scalar.cmpi .ne v604 c0_i32_448
  let v606 : BitVec 1 := Scalar.andi v603 v605
  let v592 : BitVec 32 := Scalar.divsi v591 c128_i32_443
  let c1_i32_449 : BitVec 32 := 1#32
  let v607 : BitVec 32 := Scalar.subi v592 c1_i32_449
  let v608 : BitVec 32 := Scalar.select v606 v607 v592
  let c128_i32_450 : BitVec 32 := 128#32
  let v609 : BitVec 32 := Scalar.muli v608 c128_i32_450
  let c982912_i32_451 : BitVec 32 := 982912#32
  let v610 : BitVec 32 := Scalar.minsi v609 c982912_i32_451
  ![8, v610.toNat]

def k1_off75 (v614 : BitVec 32) : Fin 2 → Nat :=
  let c8_i32_469 : BitVec 32 := 8#32
  let c0_i32_458 : BitVec 32 := 0#32
  let v616 : BitVec 1 := Scalar.cmpi .sgt v614 c0_i32_458
  let v617 : BitVec 32 := Scalar.extui v616
  let c0_i32_459 : BitVec 32 := 0#32
  let v618 : BitVec 1 := Scalar.cmpi .slt v614 c0_i32_459
  let v619 : BitVec 32 := Scalar.extui v618
  let v620 : BitVec 32 := Scalar.subi v617 v619
  let c128_i32_457 : BitVec 32 := 128#32
  let c0_i32_460 : BitVec 32 := 0#32
  let v621 : BitVec 1 := Scalar.cmpi .sgt c128_i32_457 c0_i32_460
  let v622 : BitVec 32 := Scalar.extui v621
  let c0_i32_461 : BitVec 32 := 0#32
  let v623 : BitVec 1 := Scalar.cmpi .slt c128_i32_457 c0_i32_461
  let v624 : BitVec 32 := Scalar.extui v623
  let v625 : BitVec 32 := Scalar.subi v622 v624
  let v626 : BitVec 1 := Scalar.cmpi .ne v620 v625
  let v627 : BitVec 32 := Scalar.remsi v614 c128_i32_457
  let c0_i32_462 : BitVec 32 := 0#32
  let v628 : BitVec 1 := Scalar.cmpi .ne v627 c0_i32_462
  let v629 : BitVec 1 := Scalar.andi v626 v628
  let v615 : BitVec 32 := Scalar.divsi v614 c128_i32_457
  let c1_i32_463 : BitVec 32 := 1#32
  let v630 : BitVec 32 := Scalar.subi v615 c1_i32_463
  let v631 : BitVec 32 := Scalar.select v629 v630 v615
  let c128_i32_464 : BitVec 32 := 128#32
  let v632 : BitVec 32 := Scalar.muli v631 c128_i32_464
  let c982912_i32_465 : BitVec 32 := 982912#32
  let v633 : BitVec 32 := Scalar.minsi v632 c982912_i32_465
  ![8, v633.toNat]

def k1_off76 (v637 : BitVec 32) : Fin 2 → Nat :=
  let c8_i32_483 : BitVec 32 := 8#32
  let c0_i32_472 : BitVec 32 := 0#32
  let v639 : BitVec 1 := Scalar.cmpi .sgt v637 c0_i32_472
  let v640 : BitVec 32 := Scalar.extui v639
  let c0_i32_473 : BitVec 32 := 0#32
  let v641 : BitVec 1 := Scalar.cmpi .slt v637 c0_i32_473
  let v642 : BitVec 32 := Scalar.extui v641
  let v643 : BitVec 32 := Scalar.subi v640 v642
  let c128_i32_471 : BitVec 32 := 128#32
  let c0_i32_474 : BitVec 32 := 0#32
  let v644 : BitVec 1 := Scalar.cmpi .sgt c128_i32_471 c0_i32_474
  let v645 : BitVec 32 := Scalar.extui v644
  let c0_i32_475 : BitVec 32 := 0#32
  let v646 : BitVec 1 := Scalar.cmpi .slt c128_i32_471 c0_i32_475
  let v647 : BitVec 32 := Scalar.extui v646
  let v648 : BitVec 32 := Scalar.subi v645 v647
  let v649 : BitVec 1 := Scalar.cmpi .ne v643 v648
  let v650 : BitVec 32 := Scalar.remsi v637 c128_i32_471
  let c0_i32_476 : BitVec 32 := 0#32
  let v651 : BitVec 1 := Scalar.cmpi .ne v650 c0_i32_476
  let v652 : BitVec 1 := Scalar.andi v649 v651
  let v638 : BitVec 32 := Scalar.divsi v637 c128_i32_471
  let c1_i32_477 : BitVec 32 := 1#32
  let v653 : BitVec 32 := Scalar.subi v638 c1_i32_477
  let v654 : BitVec 32 := Scalar.select v652 v653 v638
  let c128_i32_478 : BitVec 32 := 128#32
  let v655 : BitVec 32 := Scalar.muli v654 c128_i32_478
  let c982912_i32_479 : BitVec 32 := 982912#32
  let v656 : BitVec 32 := Scalar.minsi v655 c982912_i32_479
  ![8, v656.toNat]

def k1_off77 (v660 : BitVec 32) : Fin 2 → Nat :=
  let c8_i32_497 : BitVec 32 := 8#32
  let c0_i32_486 : BitVec 32 := 0#32
  let v662 : BitVec 1 := Scalar.cmpi .sgt v660 c0_i32_486
  let v663 : BitVec 32 := Scalar.extui v662
  let c0_i32_487 : BitVec 32 := 0#32
  let v664 : BitVec 1 := Scalar.cmpi .slt v660 c0_i32_487
  let v665 : BitVec 32 := Scalar.extui v664
  let v666 : BitVec 32 := Scalar.subi v663 v665
  let c128_i32_485 : BitVec 32 := 128#32
  let c0_i32_488 : BitVec 32 := 0#32
  let v667 : BitVec 1 := Scalar.cmpi .sgt c128_i32_485 c0_i32_488
  let v668 : BitVec 32 := Scalar.extui v667
  let c0_i32_489 : BitVec 32 := 0#32
  let v669 : BitVec 1 := Scalar.cmpi .slt c128_i32_485 c0_i32_489
  let v670 : BitVec 32 := Scalar.extui v669
  let v671 : BitVec 32 := Scalar.subi v668 v670
  let v672 : BitVec 1 := Scalar.cmpi .ne v666 v671
  let v673 : BitVec 32 := Scalar.remsi v660 c128_i32_485
  let c0_i32_490 : BitVec 32 := 0#32
  let v674 : BitVec 1 := Scalar.cmpi .ne v673 c0_i32_490
  let v675 : BitVec 1 := Scalar.andi v672 v674
  let v661 : BitVec 32 := Scalar.divsi v660 c128_i32_485
  let c1_i32_491 : BitVec 32 := 1#32
  let v676 : BitVec 32 := Scalar.subi v661 c1_i32_491
  let v677 : BitVec 32 := Scalar.select v675 v676 v661
  let c128_i32_492 : BitVec 32 := 128#32
  let v678 : BitVec 32 := Scalar.muli v677 c128_i32_492
  let c982912_i32_493 : BitVec 32 := 982912#32
  let v679 : BitVec 32 := Scalar.minsi v678 c982912_i32_493
  ![8, v679.toNat]

def k1_off78 (v683 : BitVec 32) : Fin 2 → Nat :=
  let c8_i32_511 : BitVec 32 := 8#32
  let c0_i32_500 : BitVec 32 := 0#32
  let v685 : BitVec 1 := Scalar.cmpi .sgt v683 c0_i32_500
  let v686 : BitVec 32 := Scalar.extui v685
  let c0_i32_501 : BitVec 32 := 0#32
  let v687 : BitVec 1 := Scalar.cmpi .slt v683 c0_i32_501
  let v688 : BitVec 32 := Scalar.extui v687
  let v689 : BitVec 32 := Scalar.subi v686 v688
  let c128_i32_499 : BitVec 32 := 128#32
  let c0_i32_502 : BitVec 32 := 0#32
  let v690 : BitVec 1 := Scalar.cmpi .sgt c128_i32_499 c0_i32_502
  let v691 : BitVec 32 := Scalar.extui v690
  let c0_i32_503 : BitVec 32 := 0#32
  let v692 : BitVec 1 := Scalar.cmpi .slt c128_i32_499 c0_i32_503
  let v693 : BitVec 32 := Scalar.extui v692
  let v694 : BitVec 32 := Scalar.subi v691 v693
  let v695 : BitVec 1 := Scalar.cmpi .ne v689 v694
  let v696 : BitVec 32 := Scalar.remsi v683 c128_i32_499
  let c0_i32_504 : BitVec 32 := 0#32
  let v697 : BitVec 1 := Scalar.cmpi .ne v696 c0_i32_504
  let v698 : BitVec 1 := Scalar.andi v695 v697
  let v684 : BitVec 32 := Scalar.divsi v683 c128_i32_499
  let c1_i32_505 : BitVec 32 := 1#32
  let v699 : BitVec 32 := Scalar.subi v684 c1_i32_505
  let v700 : BitVec 32 := Scalar.select v698 v699 v684
  let c128_i32_506 : BitVec 32 := 128#32
  let v701 : BitVec 32 := Scalar.muli v700 c128_i32_506
  let c982912_i32_507 : BitVec 32 := 982912#32
  let v702 : BitVec 32 := Scalar.minsi v701 c982912_i32_507
  ![8, v702.toNat]

def k1_off79 (v706 : BitVec 32) : Fin 2 → Nat :=
  let c8_i32_525 : BitVec 32 := 8#32
  let c0_i32_514 : BitVec 32 := 0#32
  let v708 : BitVec 1 := Scalar.cmpi .sgt v706 c0_i32_514
  let v709 : BitVec 32 := Scalar.extui v708
  let c0_i32_515 : BitVec 32 := 0#32
  let v710 : BitVec 1 := Scalar.cmpi .slt v706 c0_i32_515
  let v711 : BitVec 32 := Scalar.extui v710
  let v712 : BitVec 32 := Scalar.subi v709 v711
  let c128_i32_513 : BitVec 32 := 128#32
  let c0_i32_516 : BitVec 32 := 0#32
  let v713 : BitVec 1 := Scalar.cmpi .sgt c128_i32_513 c0_i32_516
  let v714 : BitVec 32 := Scalar.extui v713
  let c0_i32_517 : BitVec 32 := 0#32
  let v715 : BitVec 1 := Scalar.cmpi .slt c128_i32_513 c0_i32_517
  let v716 : BitVec 32 := Scalar.extui v715
  let v717 : BitVec 32 := Scalar.subi v714 v716
  let v718 : BitVec 1 := Scalar.cmpi .ne v712 v717
  let v719 : BitVec 32 := Scalar.remsi v706 c128_i32_513
  let c0_i32_518 : BitVec 32 := 0#32
  let v720 : BitVec 1 := Scalar.cmpi .ne v719 c0_i32_518
  let v721 : BitVec 1 := Scalar.andi v718 v720
  let v707 : BitVec 32 := Scalar.divsi v706 c128_i32_513
  let c1_i32_519 : BitVec 32 := 1#32
  let v722 : BitVec 32 := Scalar.subi v707 c1_i32_519
  let v723 : BitVec 32 := Scalar.select v721 v722 v707
  let c128_i32_520 : BitVec 32 := 128#32
  let v724 : BitVec 32 := Scalar.muli v723 c128_i32_520
  let c982912_i32_521 : BitVec 32 := 982912#32
  let v725 : BitVec 32 := Scalar.minsi v724 c982912_i32_521
  ![8, v725.toNat]

def k1_off80 (v729 : BitVec 32) : Fin 2 → Nat :=
  let c8_i32_539 : BitVec 32 := 8#32
  let c0_i32_528 : BitVec 32 := 0#32
  let v731 : BitVec 1 := Scalar.cmpi .sgt v729 c0_i32_528
  let v732 : BitVec 32 := Scalar.extui v731
  let c0_i32_529 : BitVec 32 := 0#32
  let v733 : BitVec 1 := Scalar.cmpi .slt v729 c0_i32_529
  let v734 : BitVec 32 := Scalar.extui v733
  let v735 : BitVec 32 := Scalar.subi v732 v734
  let c128_i32_527 : BitVec 32 := 128#32
  let c0_i32_530 : BitVec 32 := 0#32
  let v736 : BitVec 1 := Scalar.cmpi .sgt c128_i32_527 c0_i32_530
  let v737 : BitVec 32 := Scalar.extui v736
  let c0_i32_531 : BitVec 32 := 0#32
  let v738 : BitVec 1 := Scalar.cmpi .slt c128_i32_527 c0_i32_531
  let v739 : BitVec 32 := Scalar.extui v738
  let v740 : BitVec 32 := Scalar.subi v737 v739
  let v741 : BitVec 1 := Scalar.cmpi .ne v735 v740
  let v742 : BitVec 32 := Scalar.remsi v729 c128_i32_527
  let c0_i32_532 : BitVec 32 := 0#32
  let v743 : BitVec 1 := Scalar.cmpi .ne v742 c0_i32_532
  let v744 : BitVec 1 := Scalar.andi v741 v743
  let v730 : BitVec 32 := Scalar.divsi v729 c128_i32_527
  let c1_i32_533 : BitVec 32 := 1#32
  let v745 : BitVec 32 := Scalar.subi v730 c1_i32_533
  let v746 : BitVec 32 := Scalar.select v744 v745 v730
  let c128_i32_534 : BitVec 32 := 128#32
  let v747 : BitVec 32 := Scalar.muli v746 c128_i32_534
  let c982912_i32_535 : BitVec 32 := 982912#32
  let v748 : BitVec 32 := Scalar.minsi v747 c982912_i32_535
  ![8, v748.toNat]

def k1_off81 (v752 : BitVec 32) : Fin 2 → Nat :=
  let c16_i32_553 : BitVec 32 := 16#32
  let c0_i32_542 : BitVec 32 := 0#32
  let v754 : BitVec 1 := Scalar.cmpi .sgt v752 c0_i32_542
  let v755 : BitVec 32 := Scalar.extui v754
  let c0_i32_543 : BitVec 32 := 0#32
  let v756 : BitVec 1 := Scalar.cmpi .slt v752 c0_i32_543
  let v757 : BitVec 32 := Scalar.extui v756
  let v758 : BitVec 32 := Scalar.subi v755 v757
  let c128_i32_541 : BitVec 32 := 128#32
  let c0_i32_544 : BitVec 32 := 0#32
  let v759 : BitVec 1 := Scalar.cmpi .sgt c128_i32_541 c0_i32_544
  let v760 : BitVec 32 := Scalar.extui v759
  let c0_i32_545 : BitVec 32 := 0#32
  let v761 : BitVec 1 := Scalar.cmpi .slt c128_i32_541 c0_i32_545
  let v762 : BitVec 32 := Scalar.extui v761
  let v763 : BitVec 32 := Scalar.subi v760 v762
  let v764 : BitVec 1 := Scalar.cmpi .ne v758 v763
  let v765 : BitVec 32 := Scalar.remsi v752 c128_i32_541
  let c0_i32_546 : BitVec 32 := 0#32
  let v766 : BitVec 1 := Scalar.cmpi .ne v765 c0_i32_546
  let v767 : BitVec 1 := Scalar.andi v764 v766
  let v753 : BitVec 32 := Scalar.divsi v752 c128_i32_541
  let c1_i32_547 : BitVec 32 := 1#32
  let v768 : BitVec 32 := Scalar.subi v753 c1_i32_547
  let v769 : BitVec 32 := Scalar.select v767 v768 v753
  let c128_i32_548 : BitVec 32 := 128#32
  let v770 : BitVec 32 := Scalar.muli v769 c128_i32_548
  let c982912_i32_549 : BitVec 32 := 982912#32
  let v771 : BitVec 32 := Scalar.minsi v770 c982912_i32_549
  ![16, v771.toNat]

def k1_off82 (v775 : BitVec 32) : Fin 2 → Nat :=
  let c16_i32_567 : BitVec 32 := 16#32
  let c0_i32_556 : BitVec 32 := 0#32
  let v777 : BitVec 1 := Scalar.cmpi .sgt v775 c0_i32_556
  let v778 : BitVec 32 := Scalar.extui v777
  let c0_i32_557 : BitVec 32 := 0#32
  let v779 : BitVec 1 := Scalar.cmpi .slt v775 c0_i32_557
  let v780 : BitVec 32 := Scalar.extui v779
  let v781 : BitVec 32 := Scalar.subi v778 v780
  let c128_i32_555 : BitVec 32 := 128#32
  let c0_i32_558 : BitVec 32 := 0#32
  let v782 : BitVec 1 := Scalar.cmpi .sgt c128_i32_555 c0_i32_558
  let v783 : BitVec 32 := Scalar.extui v782
  let c0_i32_559 : BitVec 32 := 0#32
  let v784 : BitVec 1 := Scalar.cmpi .slt c128_i32_555 c0_i32_559
  let v785 : BitVec 32 := Scalar.extui v784
  let v786 : BitVec 32 := Scalar.subi v783 v785
  let v787 : BitVec 1 := Scalar.cmpi .ne v781 v786
  let v788 : BitVec 32 := Scalar.remsi v775 c128_i32_555
  let c0_i32_560 : BitVec 32 := 0#32
  let v789 : BitVec 1 := Scalar.cmpi .ne v788 c0_i32_560
  let v790 : BitVec 1 := Scalar.andi v787 v789
  let v776 : BitVec 32 := Scalar.divsi v775 c128_i32_555
  let c1_i32_561 : BitVec 32 := 1#32
  let v791 : BitVec 32 := Scalar.subi v776 c1_i32_561
  let v792 : BitVec 32 := Scalar.select v790 v791 v776
  let c128_i32_562 : BitVec 32 := 128#32
  let v793 : BitVec 32 := Scalar.muli v792 c128_i32_562
  let c982912_i32_563 : BitVec 32 := 982912#32
  let v794 : BitVec 32 := Scalar.minsi v793 c982912_i32_563
  ![16, v794.toNat]

def k1_off83 (v798 : BitVec 32) : Fin 2 → Nat :=
  let c16_i32_581 : BitVec 32 := 16#32
  let c0_i32_570 : BitVec 32 := 0#32
  let v800 : BitVec 1 := Scalar.cmpi .sgt v798 c0_i32_570
  let v801 : BitVec 32 := Scalar.extui v800
  let c0_i32_571 : BitVec 32 := 0#32
  let v802 : BitVec 1 := Scalar.cmpi .slt v798 c0_i32_571
  let v803 : BitVec 32 := Scalar.extui v802
  let v804 : BitVec 32 := Scalar.subi v801 v803
  let c128_i32_569 : BitVec 32 := 128#32
  let c0_i32_572 : BitVec 32 := 0#32
  let v805 : BitVec 1 := Scalar.cmpi .sgt c128_i32_569 c0_i32_572
  let v806 : BitVec 32 := Scalar.extui v805
  let c0_i32_573 : BitVec 32 := 0#32
  let v807 : BitVec 1 := Scalar.cmpi .slt c128_i32_569 c0_i32_573
  let v808 : BitVec 32 := Scalar.extui v807
  let v809 : BitVec 32 := Scalar.subi v806 v808
  let v810 : BitVec 1 := Scalar.cmpi .ne v804 v809
  let v811 : BitVec 32 := Scalar.remsi v798 c128_i32_569
  let c0_i32_574 : BitVec 32 := 0#32
  let v812 : BitVec 1 := Scalar.cmpi .ne v811 c0_i32_574
  let v813 : BitVec 1 := Scalar.andi v810 v812
  let v799 : BitVec 32 := Scalar.divsi v798 c128_i32_569
  let c1_i32_575 : BitVec 32 := 1#32
  let v814 : BitVec 32 := Scalar.subi v799 c1_i32_575
  let v815 : BitVec 32 := Scalar.select v813 v814 v799
  let c128_i32_576 : BitVec 32 := 128#32
  let v816 : BitVec 32 := Scalar.muli v815 c128_i32_576
  let c982912_i32_577 : BitVec 32 := 982912#32
  let v817 : BitVec 32 := Scalar.minsi v816 c982912_i32_577
  ![16, v817.toNat]

def k1_off84 (v821 : BitVec 32) : Fin 2 → Nat :=
  let c16_i32_595 : BitVec 32 := 16#32
  let c0_i32_584 : BitVec 32 := 0#32
  let v823 : BitVec 1 := Scalar.cmpi .sgt v821 c0_i32_584
  let v824 : BitVec 32 := Scalar.extui v823
  let c0_i32_585 : BitVec 32 := 0#32
  let v825 : BitVec 1 := Scalar.cmpi .slt v821 c0_i32_585
  let v826 : BitVec 32 := Scalar.extui v825
  let v827 : BitVec 32 := Scalar.subi v824 v826
  let c128_i32_583 : BitVec 32 := 128#32
  let c0_i32_586 : BitVec 32 := 0#32
  let v828 : BitVec 1 := Scalar.cmpi .sgt c128_i32_583 c0_i32_586
  let v829 : BitVec 32 := Scalar.extui v828
  let c0_i32_587 : BitVec 32 := 0#32
  let v830 : BitVec 1 := Scalar.cmpi .slt c128_i32_583 c0_i32_587
  let v831 : BitVec 32 := Scalar.extui v830
  let v832 : BitVec 32 := Scalar.subi v829 v831
  let v833 : BitVec 1 := Scalar.cmpi .ne v827 v832
  let v834 : BitVec 32 := Scalar.remsi v821 c128_i32_583
  let c0_i32_588 : BitVec 32 := 0#32
  let v835 : BitVec 1 := Scalar.cmpi .ne v834 c0_i32_588
  let v836 : BitVec 1 := Scalar.andi v833 v835
  let v822 : BitVec 32 := Scalar.divsi v821 c128_i32_583
  let c1_i32_589 : BitVec 32 := 1#32
  let v837 : BitVec 32 := Scalar.subi v822 c1_i32_589
  let v838 : BitVec 32 := Scalar.select v836 v837 v822
  let c128_i32_590 : BitVec 32 := 128#32
  let v839 : BitVec 32 := Scalar.muli v838 c128_i32_590
  let c982912_i32_591 : BitVec 32 := 982912#32
  let v840 : BitVec 32 := Scalar.minsi v839 c982912_i32_591
  ![16, v840.toNat]

def k1_off85 (v844 : BitVec 32) : Fin 2 → Nat :=
  let c16_i32_609 : BitVec 32 := 16#32
  let c0_i32_598 : BitVec 32 := 0#32
  let v846 : BitVec 1 := Scalar.cmpi .sgt v844 c0_i32_598
  let v847 : BitVec 32 := Scalar.extui v846
  let c0_i32_599 : BitVec 32 := 0#32
  let v848 : BitVec 1 := Scalar.cmpi .slt v844 c0_i32_599
  let v849 : BitVec 32 := Scalar.extui v848
  let v850 : BitVec 32 := Scalar.subi v847 v849
  let c128_i32_597 : BitVec 32 := 128#32
  let c0_i32_600 : BitVec 32 := 0#32
  let v851 : BitVec 1 := Scalar.cmpi .sgt c128_i32_597 c0_i32_600
  let v852 : BitVec 32 := Scalar.extui v851
  let c0_i32_601 : BitVec 32 := 0#32
  let v853 : BitVec 1 := Scalar.cmpi .slt c128_i32_597 c0_i32_601
  let v854 : BitVec 32 := Scalar.extui v853
  let v855 : BitVec 32 := Scalar.subi v852 v854
  let v856 : BitVec 1 := Scalar.cmpi .ne v850 v855
  let v857 : BitVec 32 := Scalar.remsi v844 c128_i32_597
  let c0_i32_602 : BitVec 32 := 0#32
  let v858 : BitVec 1 := Scalar.cmpi .ne v857 c0_i32_602
  let v859 : BitVec 1 := Scalar.andi v856 v858
  let v845 : BitVec 32 := Scalar.divsi v844 c128_i32_597
  let c1_i32_603 : BitVec 32 := 1#32
  let v860 : BitVec 32 := Scalar.subi v845 c1_i32_603
  let v861 : BitVec 32 := Scalar.select v859 v860 v845
  let c128_i32_604 : BitVec 32 := 128#32
  let v862 : BitVec 32 := Scalar.muli v861 c128_i32_604
  let c982912_i32_605 : BitVec 32 := 982912#32
  let v863 : BitVec 32 := Scalar.minsi v862 c982912_i32_605
  ![16, v863.toNat]

def k1_off86 (v867 : BitVec 32) : Fin 2 → Nat :=
  let c16_i32_623 : BitVec 32 := 16#32
  let c0_i32_612 : BitVec 32 := 0#32
  let v869 : BitVec 1 := Scalar.cmpi .sgt v867 c0_i32_612
  let v870 : BitVec 32 := Scalar.extui v869
  let c0_i32_613 : BitVec 32 := 0#32
  let v871 : BitVec 1 := Scalar.cmpi .slt v867 c0_i32_613
  let v872 : BitVec 32 := Scalar.extui v871
  let v873 : BitVec 32 := Scalar.subi v870 v872
  let c128_i32_611 : BitVec 32 := 128#32
  let c0_i32_614 : BitVec 32 := 0#32
  let v874 : BitVec 1 := Scalar.cmpi .sgt c128_i32_611 c0_i32_614
  let v875 : BitVec 32 := Scalar.extui v874
  let c0_i32_615 : BitVec 32 := 0#32
  let v876 : BitVec 1 := Scalar.cmpi .slt c128_i32_611 c0_i32_615
  let v877 : BitVec 32 := Scalar.extui v876
  let v878 : BitVec 32 := Scalar.subi v875 v877
  let v879 : BitVec 1 := Scalar.cmpi .ne v873 v878
  let v880 : BitVec 32 := Scalar.remsi v867 c128_i32_611
  let c0_i32_616 : BitVec 32 := 0#32
  let v881 : BitVec 1 := Scalar.cmpi .ne v880 c0_i32_616
  let v882 : BitVec 1 := Scalar.andi v879 v881
  let v868 : BitVec 32 := Scalar.divsi v867 c128_i32_611
  let c1_i32_617 : BitVec 32 := 1#32
  let v883 : BitVec 32 := Scalar.subi v868 c1_i32_617
  let v884 : BitVec 32 := Scalar.select v882 v883 v868
  let c128_i32_618 : BitVec 32 := 128#32
  let v885 : BitVec 32 := Scalar.muli v884 c128_i32_618
  let c982912_i32_619 : BitVec 32 := 982912#32
  let v886 : BitVec 32 := Scalar.minsi v885 c982912_i32_619
  ![16, v886.toNat]

def k1_off87 (v890 : BitVec 32) : Fin 2 → Nat :=
  let c16_i32_637 : BitVec 32 := 16#32
  let c0_i32_626 : BitVec 32 := 0#32
  let v892 : BitVec 1 := Scalar.cmpi .sgt v890 c0_i32_626
  let v893 : BitVec 32 := Scalar.extui v892
  let c0_i32_627 : BitVec 32 := 0#32
  let v894 : BitVec 1 := Scalar.cmpi .slt v890 c0_i32_627
  let v895 : BitVec 32 := Scalar.extui v894
  let v896 : BitVec 32 := Scalar.subi v893 v895
  let c128_i32_625 : BitVec 32 := 128#32
  let c0_i32_628 : BitVec 32 := 0#32
  let v897 : BitVec 1 := Scalar.cmpi .sgt c128_i32_625 c0_i32_628
  let v898 : BitVec 32 := Scalar.extui v897
  let c0_i32_629 : BitVec 32 := 0#32
  let v899 : BitVec 1 := Scalar.cmpi .slt c128_i32_625 c0_i32_629
  let v900 : BitVec 32 := Scalar.extui v899
  let v901 : BitVec 32 := Scalar.subi v898 v900
  let v902 : BitVec 1 := Scalar.cmpi .ne v896 v901
  let v903 : BitVec 32 := Scalar.remsi v890 c128_i32_625
  let c0_i32_630 : BitVec 32 := 0#32
  let v904 : BitVec 1 := Scalar.cmpi .ne v903 c0_i32_630
  let v905 : BitVec 1 := Scalar.andi v902 v904
  let v891 : BitVec 32 := Scalar.divsi v890 c128_i32_625
  let c1_i32_631 : BitVec 32 := 1#32
  let v906 : BitVec 32 := Scalar.subi v891 c1_i32_631
  let v907 : BitVec 32 := Scalar.select v905 v906 v891
  let c128_i32_632 : BitVec 32 := 128#32
  let v908 : BitVec 32 := Scalar.muli v907 c128_i32_632
  let c982912_i32_633 : BitVec 32 := 982912#32
  let v909 : BitVec 32 := Scalar.minsi v908 c982912_i32_633
  ![16, v909.toNat]

def k1_off88 (v913 : BitVec 32) : Fin 2 → Nat :=
  let c16_i32_651 : BitVec 32 := 16#32
  let c0_i32_640 : BitVec 32 := 0#32
  let v915 : BitVec 1 := Scalar.cmpi .sgt v913 c0_i32_640
  let v916 : BitVec 32 := Scalar.extui v915
  let c0_i32_641 : BitVec 32 := 0#32
  let v917 : BitVec 1 := Scalar.cmpi .slt v913 c0_i32_641
  let v918 : BitVec 32 := Scalar.extui v917
  let v919 : BitVec 32 := Scalar.subi v916 v918
  let c128_i32_639 : BitVec 32 := 128#32
  let c0_i32_642 : BitVec 32 := 0#32
  let v920 : BitVec 1 := Scalar.cmpi .sgt c128_i32_639 c0_i32_642
  let v921 : BitVec 32 := Scalar.extui v920
  let c0_i32_643 : BitVec 32 := 0#32
  let v922 : BitVec 1 := Scalar.cmpi .slt c128_i32_639 c0_i32_643
  let v923 : BitVec 32 := Scalar.extui v922
  let v924 : BitVec 32 := Scalar.subi v921 v923
  let v925 : BitVec 1 := Scalar.cmpi .ne v919 v924
  let v926 : BitVec 32 := Scalar.remsi v913 c128_i32_639
  let c0_i32_644 : BitVec 32 := 0#32
  let v927 : BitVec 1 := Scalar.cmpi .ne v926 c0_i32_644
  let v928 : BitVec 1 := Scalar.andi v925 v927
  let v914 : BitVec 32 := Scalar.divsi v913 c128_i32_639
  let c1_i32_645 : BitVec 32 := 1#32
  let v929 : BitVec 32 := Scalar.subi v914 c1_i32_645
  let v930 : BitVec 32 := Scalar.select v928 v929 v914
  let c128_i32_646 : BitVec 32 := 128#32
  let v931 : BitVec 32 := Scalar.muli v930 c128_i32_646
  let c982912_i32_647 : BitVec 32 := 982912#32
  let v932 : BitVec 32 := Scalar.minsi v931 c982912_i32_647
  ![16, v932.toNat]

def k1_off89 (v936 : BitVec 32) : Fin 2 → Nat :=
  let c24_i32_665 : BitVec 32 := 24#32
  let c0_i32_654 : BitVec 32 := 0#32
  let v938 : BitVec 1 := Scalar.cmpi .sgt v936 c0_i32_654
  let v939 : BitVec 32 := Scalar.extui v938
  let c0_i32_655 : BitVec 32 := 0#32
  let v940 : BitVec 1 := Scalar.cmpi .slt v936 c0_i32_655
  let v941 : BitVec 32 := Scalar.extui v940
  let v942 : BitVec 32 := Scalar.subi v939 v941
  let c128_i32_653 : BitVec 32 := 128#32
  let c0_i32_656 : BitVec 32 := 0#32
  let v943 : BitVec 1 := Scalar.cmpi .sgt c128_i32_653 c0_i32_656
  let v944 : BitVec 32 := Scalar.extui v943
  let c0_i32_657 : BitVec 32 := 0#32
  let v945 : BitVec 1 := Scalar.cmpi .slt c128_i32_653 c0_i32_657
  let v946 : BitVec 32 := Scalar.extui v945
  let v947 : BitVec 32 := Scalar.subi v944 v946
  let v948 : BitVec 1 := Scalar.cmpi .ne v942 v947
  let v949 : BitVec 32 := Scalar.remsi v936 c128_i32_653
  let c0_i32_658 : BitVec 32 := 0#32
  let v950 : BitVec 1 := Scalar.cmpi .ne v949 c0_i32_658
  let v951 : BitVec 1 := Scalar.andi v948 v950
  let v937 : BitVec 32 := Scalar.divsi v936 c128_i32_653
  let c1_i32_659 : BitVec 32 := 1#32
  let v952 : BitVec 32 := Scalar.subi v937 c1_i32_659
  let v953 : BitVec 32 := Scalar.select v951 v952 v937
  let c128_i32_660 : BitVec 32 := 128#32
  let v954 : BitVec 32 := Scalar.muli v953 c128_i32_660
  let c982912_i32_661 : BitVec 32 := 982912#32
  let v955 : BitVec 32 := Scalar.minsi v954 c982912_i32_661
  ![24, v955.toNat]

def k1_off90 (v959 : BitVec 32) : Fin 2 → Nat :=
  let c24_i32_679 : BitVec 32 := 24#32
  let c0_i32_668 : BitVec 32 := 0#32
  let v961 : BitVec 1 := Scalar.cmpi .sgt v959 c0_i32_668
  let v962 : BitVec 32 := Scalar.extui v961
  let c0_i32_669 : BitVec 32 := 0#32
  let v963 : BitVec 1 := Scalar.cmpi .slt v959 c0_i32_669
  let v964 : BitVec 32 := Scalar.extui v963
  let v965 : BitVec 32 := Scalar.subi v962 v964
  let c128_i32_667 : BitVec 32 := 128#32
  let c0_i32_670 : BitVec 32 := 0#32
  let v966 : BitVec 1 := Scalar.cmpi .sgt c128_i32_667 c0_i32_670
  let v967 : BitVec 32 := Scalar.extui v966
  let c0_i32_671 : BitVec 32 := 0#32
  let v968 : BitVec 1 := Scalar.cmpi .slt c128_i32_667 c0_i32_671
  let v969 : BitVec 32 := Scalar.extui v968
  let v970 : BitVec 32 := Scalar.subi v967 v969
  let v971 : BitVec 1 := Scalar.cmpi .ne v965 v970
  let v972 : BitVec 32 := Scalar.remsi v959 c128_i32_667
  let c0_i32_672 : BitVec 32 := 0#32
  let v973 : BitVec 1 := Scalar.cmpi .ne v972 c0_i32_672
  let v974 : BitVec 1 := Scalar.andi v971 v973
  let v960 : BitVec 32 := Scalar.divsi v959 c128_i32_667
  let c1_i32_673 : BitVec 32 := 1#32
  let v975 : BitVec 32 := Scalar.subi v960 c1_i32_673
  let v976 : BitVec 32 := Scalar.select v974 v975 v960
  let c128_i32_674 : BitVec 32 := 128#32
  let v977 : BitVec 32 := Scalar.muli v976 c128_i32_674
  let c982912_i32_675 : BitVec 32 := 982912#32
  let v978 : BitVec 32 := Scalar.minsi v977 c982912_i32_675
  ![24, v978.toNat]

def k1_off91 (v982 : BitVec 32) : Fin 2 → Nat :=
  let c24_i32_693 : BitVec 32 := 24#32
  let c0_i32_682 : BitVec 32 := 0#32
  let v984 : BitVec 1 := Scalar.cmpi .sgt v982 c0_i32_682
  let v985 : BitVec 32 := Scalar.extui v984
  let c0_i32_683 : BitVec 32 := 0#32
  let v986 : BitVec 1 := Scalar.cmpi .slt v982 c0_i32_683
  let v987 : BitVec 32 := Scalar.extui v986
  let v988 : BitVec 32 := Scalar.subi v985 v987
  let c128_i32_681 : BitVec 32 := 128#32
  let c0_i32_684 : BitVec 32 := 0#32
  let v989 : BitVec 1 := Scalar.cmpi .sgt c128_i32_681 c0_i32_684
  let v990 : BitVec 32 := Scalar.extui v989
  let c0_i32_685 : BitVec 32 := 0#32
  let v991 : BitVec 1 := Scalar.cmpi .slt c128_i32_681 c0_i32_685
  let v992 : BitVec 32 := Scalar.extui v991
  let v993 : BitVec 32 := Scalar.subi v990 v992
  let v994 : BitVec 1 := Scalar.cmpi .ne v988 v993
  let v995 : BitVec 32 := Scalar.remsi v982 c128_i32_681
  let c0_i32_686 : BitVec 32 := 0#32
  let v996 : BitVec 1 := Scalar.cmpi .ne v995 c0_i32_686
  let v997 : BitVec 1 := Scalar.andi v994 v996
  let v983 : BitVec 32 := Scalar.divsi v982 c128_i32_681
  let c1_i32_687 : BitVec 32 := 1#32
  let v998 : BitVec 32 := Scalar.subi v983 c1_i32_687
  let v999 : BitVec 32 := Scalar.select v997 v998 v983
  let c128_i32_688 : BitVec 32 := 128#32
  let v1000 : BitVec 32 := Scalar.muli v999 c128_i32_688
  let c982912_i32_689 : BitVec 32 := 982912#32
  let v1001 : BitVec 32 := Scalar.minsi v1000 c982912_i32_689
  ![24, v1001.toNat]

def k1_off92 (v1005 : BitVec 32) : Fin 2 → Nat :=
  let c24_i32_707 : BitVec 32 := 24#32
  let c0_i32_696 : BitVec 32 := 0#32
  let v1007 : BitVec 1 := Scalar.cmpi .sgt v1005 c0_i32_696
  let v1008 : BitVec 32 := Scalar.extui v1007
  let c0_i32_697 : BitVec 32 := 0#32
  let v1009 : BitVec 1 := Scalar.cmpi .slt v1005 c0_i32_697
  let v1010 : BitVec 32 := Scalar.extui v1009
  let v1011 : BitVec 32 := Scalar.subi v1008 v1010
  let c128_i32_695 : BitVec 32 := 128#32
  let c0_i32_698 : BitVec 32 := 0#32
  let v1012 : BitVec 1 := Scalar.cmpi .sgt c128_i32_695 c0_i32_698
  let v1013 : BitVec 32 := Scalar.extui v1012
  let c0_i32_699 : BitVec 32 := 0#32
  let v1014 : BitVec 1 := Scalar.cmpi .slt c128_i32_695 c0_i32_699
  let v1015 : BitVec 32 := Scalar.extui v1014
  let v1016 : BitVec 32 := Scalar.subi v1013 v1015
  let v1017 : BitVec 1 := Scalar.cmpi .ne v1011 v1016
  let v1018 : BitVec 32 := Scalar.remsi v1005 c128_i32_695
  let c0_i32_700 : BitVec 32 := 0#32
  let v1019 : BitVec 1 := Scalar.cmpi .ne v1018 c0_i32_700
  let v1020 : BitVec 1 := Scalar.andi v1017 v1019
  let v1006 : BitVec 32 := Scalar.divsi v1005 c128_i32_695
  let c1_i32_701 : BitVec 32 := 1#32
  let v1021 : BitVec 32 := Scalar.subi v1006 c1_i32_701
  let v1022 : BitVec 32 := Scalar.select v1020 v1021 v1006
  let c128_i32_702 : BitVec 32 := 128#32
  let v1023 : BitVec 32 := Scalar.muli v1022 c128_i32_702
  let c982912_i32_703 : BitVec 32 := 982912#32
  let v1024 : BitVec 32 := Scalar.minsi v1023 c982912_i32_703
  ![24, v1024.toNat]

def k1_off93 (v1028 : BitVec 32) : Fin 2 → Nat :=
  let c24_i32_721 : BitVec 32 := 24#32
  let c0_i32_710 : BitVec 32 := 0#32
  let v1030 : BitVec 1 := Scalar.cmpi .sgt v1028 c0_i32_710
  let v1031 : BitVec 32 := Scalar.extui v1030
  let c0_i32_711 : BitVec 32 := 0#32
  let v1032 : BitVec 1 := Scalar.cmpi .slt v1028 c0_i32_711
  let v1033 : BitVec 32 := Scalar.extui v1032
  let v1034 : BitVec 32 := Scalar.subi v1031 v1033
  let c128_i32_709 : BitVec 32 := 128#32
  let c0_i32_712 : BitVec 32 := 0#32
  let v1035 : BitVec 1 := Scalar.cmpi .sgt c128_i32_709 c0_i32_712
  let v1036 : BitVec 32 := Scalar.extui v1035
  let c0_i32_713 : BitVec 32 := 0#32
  let v1037 : BitVec 1 := Scalar.cmpi .slt c128_i32_709 c0_i32_713
  let v1038 : BitVec 32 := Scalar.extui v1037
  let v1039 : BitVec 32 := Scalar.subi v1036 v1038
  let v1040 : BitVec 1 := Scalar.cmpi .ne v1034 v1039
  let v1041 : BitVec 32 := Scalar.remsi v1028 c128_i32_709
  let c0_i32_714 : BitVec 32 := 0#32
  let v1042 : BitVec 1 := Scalar.cmpi .ne v1041 c0_i32_714
  let v1043 : BitVec 1 := Scalar.andi v1040 v1042
  let v1029 : BitVec 32 := Scalar.divsi v1028 c128_i32_709
  let c1_i32_715 : BitVec 32 := 1#32
  let v1044 : BitVec 32 := Scalar.subi v1029 c1_i32_715
  let v1045 : BitVec 32 := Scalar.select v1043 v1044 v1029
  let c128_i32_716 : BitVec 32 := 128#32
  let v1046 : BitVec 32 := Scalar.muli v1045 c128_i32_716
  let c982912_i32_717 : BitVec 32 := 982912#32
  let v1047 : BitVec 32 := Scalar.minsi v1046 c982912_i32_717
  ![24, v1047.toNat]

def k1_off94 (v1051 : BitVec 32) : Fin 2 → Nat :=
  let c24_i32_735 : BitVec 32 := 24#32
  let c0_i32_724 : BitVec 32 := 0#32
  let v1053 : BitVec 1 := Scalar.cmpi .sgt v1051 c0_i32_724
  let v1054 : BitVec 32 := Scalar.extui v1053
  let c0_i32_725 : BitVec 32 := 0#32
  let v1055 : BitVec 1 := Scalar.cmpi .slt v1051 c0_i32_725
  let v1056 : BitVec 32 := Scalar.extui v1055
  let v1057 : BitVec 32 := Scalar.subi v1054 v1056
  let c128_i32_723 : BitVec 32 := 128#32
  let c0_i32_726 : BitVec 32 := 0#32
  let v1058 : BitVec 1 := Scalar.cmpi .sgt c128_i32_723 c0_i32_726
  let v1059 : BitVec 32 := Scalar.extui v1058
  let c0_i32_727 : BitVec 32 := 0#32
  let v1060 : BitVec 1 := Scalar.cmpi .slt c128_i32_723 c0_i32_727
  let v1061 : BitVec 32 := Scalar.extui v1060
  let v1062 : BitVec 32 := Scalar.subi v1059 v1061
  let v1063 : BitVec 1 := Scalar.cmpi .ne v1057 v1062
  let v1064 : BitVec 32 := Scalar.remsi v1051 c128_i32_723
  let c0_i32_728 : BitVec 32 := 0#32
  let v1065 : BitVec 1 := Scalar.cmpi .ne v1064 c0_i32_728
  let v1066 : BitVec 1 := Scalar.andi v1063 v1065
  let v1052 : BitVec 32 := Scalar.divsi v1051 c128_i32_723
  let c1_i32_729 : BitVec 32 := 1#32
  let v1067 : BitVec 32 := Scalar.subi v1052 c1_i32_729
  let v1068 : BitVec 32 := Scalar.select v1066 v1067 v1052
  let c128_i32_730 : BitVec 32 := 128#32
  let v1069 : BitVec 32 := Scalar.muli v1068 c128_i32_730
  let c982912_i32_731 : BitVec 32 := 982912#32
  let v1070 : BitVec 32 := Scalar.minsi v1069 c982912_i32_731
  ![24, v1070.toNat]

def k1_off95 (v1074 : BitVec 32) : Fin 2 → Nat :=
  let c24_i32_749 : BitVec 32 := 24#32
  let c0_i32_738 : BitVec 32 := 0#32
  let v1076 : BitVec 1 := Scalar.cmpi .sgt v1074 c0_i32_738
  let v1077 : BitVec 32 := Scalar.extui v1076
  let c0_i32_739 : BitVec 32 := 0#32
  let v1078 : BitVec 1 := Scalar.cmpi .slt v1074 c0_i32_739
  let v1079 : BitVec 32 := Scalar.extui v1078
  let v1080 : BitVec 32 := Scalar.subi v1077 v1079
  let c128_i32_737 : BitVec 32 := 128#32
  let c0_i32_740 : BitVec 32 := 0#32
  let v1081 : BitVec 1 := Scalar.cmpi .sgt c128_i32_737 c0_i32_740
  let v1082 : BitVec 32 := Scalar.extui v1081
  let c0_i32_741 : BitVec 32 := 0#32
  let v1083 : BitVec 1 := Scalar.cmpi .slt c128_i32_737 c0_i32_741
  let v1084 : BitVec 32 := Scalar.extui v1083
  let v1085 : BitVec 32 := Scalar.subi v1082 v1084
  let v1086 : BitVec 1 := Scalar.cmpi .ne v1080 v1085
  let v1087 : BitVec 32 := Scalar.remsi v1074 c128_i32_737
  let c0_i32_742 : BitVec 32 := 0#32
  let v1088 : BitVec 1 := Scalar.cmpi .ne v1087 c0_i32_742
  let v1089 : BitVec 1 := Scalar.andi v1086 v1088
  let v1075 : BitVec 32 := Scalar.divsi v1074 c128_i32_737
  let c1_i32_743 : BitVec 32 := 1#32
  let v1090 : BitVec 32 := Scalar.subi v1075 c1_i32_743
  let v1091 : BitVec 32 := Scalar.select v1089 v1090 v1075
  let c128_i32_744 : BitVec 32 := 128#32
  let v1092 : BitVec 32 := Scalar.muli v1091 c128_i32_744
  let c982912_i32_745 : BitVec 32 := 982912#32
  let v1093 : BitVec 32 := Scalar.minsi v1092 c982912_i32_745
  ![24, v1093.toNat]

def k1_off96 (v1097 : BitVec 32) : Fin 2 → Nat :=
  let c24_i32_763 : BitVec 32 := 24#32
  let c0_i32_752 : BitVec 32 := 0#32
  let v1099 : BitVec 1 := Scalar.cmpi .sgt v1097 c0_i32_752
  let v1100 : BitVec 32 := Scalar.extui v1099
  let c0_i32_753 : BitVec 32 := 0#32
  let v1101 : BitVec 1 := Scalar.cmpi .slt v1097 c0_i32_753
  let v1102 : BitVec 32 := Scalar.extui v1101
  let v1103 : BitVec 32 := Scalar.subi v1100 v1102
  let c128_i32_751 : BitVec 32 := 128#32
  let c0_i32_754 : BitVec 32 := 0#32
  let v1104 : BitVec 1 := Scalar.cmpi .sgt c128_i32_751 c0_i32_754
  let v1105 : BitVec 32 := Scalar.extui v1104
  let c0_i32_755 : BitVec 32 := 0#32
  let v1106 : BitVec 1 := Scalar.cmpi .slt c128_i32_751 c0_i32_755
  let v1107 : BitVec 32 := Scalar.extui v1106
  let v1108 : BitVec 32 := Scalar.subi v1105 v1107
  let v1109 : BitVec 1 := Scalar.cmpi .ne v1103 v1108
  let v1110 : BitVec 32 := Scalar.remsi v1097 c128_i32_751
  let c0_i32_756 : BitVec 32 := 0#32
  let v1111 : BitVec 1 := Scalar.cmpi .ne v1110 c0_i32_756
  let v1112 : BitVec 1 := Scalar.andi v1109 v1111
  let v1098 : BitVec 32 := Scalar.divsi v1097 c128_i32_751
  let c1_i32_757 : BitVec 32 := 1#32
  let v1113 : BitVec 32 := Scalar.subi v1098 c1_i32_757
  let v1114 : BitVec 32 := Scalar.select v1112 v1113 v1098
  let c128_i32_758 : BitVec 32 := 128#32
  let v1115 : BitVec 32 := Scalar.muli v1114 c128_i32_758
  let c982912_i32_759 : BitVec 32 := 982912#32
  let v1116 : BitVec 32 := Scalar.minsi v1115 c982912_i32_759
  ![24, v1116.toNat]

def k1_off97 (v1120 : BitVec 32) : Fin 2 → Nat :=
  let c32_i32_777 : BitVec 32 := 32#32
  let c0_i32_766 : BitVec 32 := 0#32
  let v1122 : BitVec 1 := Scalar.cmpi .sgt v1120 c0_i32_766
  let v1123 : BitVec 32 := Scalar.extui v1122
  let c0_i32_767 : BitVec 32 := 0#32
  let v1124 : BitVec 1 := Scalar.cmpi .slt v1120 c0_i32_767
  let v1125 : BitVec 32 := Scalar.extui v1124
  let v1126 : BitVec 32 := Scalar.subi v1123 v1125
  let c128_i32_765 : BitVec 32 := 128#32
  let c0_i32_768 : BitVec 32 := 0#32
  let v1127 : BitVec 1 := Scalar.cmpi .sgt c128_i32_765 c0_i32_768
  let v1128 : BitVec 32 := Scalar.extui v1127
  let c0_i32_769 : BitVec 32 := 0#32
  let v1129 : BitVec 1 := Scalar.cmpi .slt c128_i32_765 c0_i32_769
  let v1130 : BitVec 32 := Scalar.extui v1129
  let v1131 : BitVec 32 := Scalar.subi v1128 v1130
  let v1132 : BitVec 1 := Scalar.cmpi .ne v1126 v1131
  let v1133 : BitVec 32 := Scalar.remsi v1120 c128_i32_765
  let c0_i32_770 : BitVec 32 := 0#32
  let v1134 : BitVec 1 := Scalar.cmpi .ne v1133 c0_i32_770
  let v1135 : BitVec 1 := Scalar.andi v1132 v1134
  let v1121 : BitVec 32 := Scalar.divsi v1120 c128_i32_765
  let c1_i32_771 : BitVec 32 := 1#32
  let v1136 : BitVec 32 := Scalar.subi v1121 c1_i32_771
  let v1137 : BitVec 32 := Scalar.select v1135 v1136 v1121
  let c128_i32_772 : BitVec 32 := 128#32
  let v1138 : BitVec 32 := Scalar.muli v1137 c128_i32_772
  let c982912_i32_773 : BitVec 32 := 982912#32
  let v1139 : BitVec 32 := Scalar.minsi v1138 c982912_i32_773
  ![32, v1139.toNat]

def k1_off98 (v1143 : BitVec 32) : Fin 2 → Nat :=
  let c32_i32_791 : BitVec 32 := 32#32
  let c0_i32_780 : BitVec 32 := 0#32
  let v1145 : BitVec 1 := Scalar.cmpi .sgt v1143 c0_i32_780
  let v1146 : BitVec 32 := Scalar.extui v1145
  let c0_i32_781 : BitVec 32 := 0#32
  let v1147 : BitVec 1 := Scalar.cmpi .slt v1143 c0_i32_781
  let v1148 : BitVec 32 := Scalar.extui v1147
  let v1149 : BitVec 32 := Scalar.subi v1146 v1148
  let c128_i32_779 : BitVec 32 := 128#32
  let c0_i32_782 : BitVec 32 := 0#32
  let v1150 : BitVec 1 := Scalar.cmpi .sgt c128_i32_779 c0_i32_782
  let v1151 : BitVec 32 := Scalar.extui v1150
  let c0_i32_783 : BitVec 32 := 0#32
  let v1152 : BitVec 1 := Scalar.cmpi .slt c128_i32_779 c0_i32_783
  let v1153 : BitVec 32 := Scalar.extui v1152
  let v1154 : BitVec 32 := Scalar.subi v1151 v1153
  let v1155 : BitVec 1 := Scalar.cmpi .ne v1149 v1154
  let v1156 : BitVec 32 := Scalar.remsi v1143 c128_i32_779
  let c0_i32_784 : BitVec 32 := 0#32
  let v1157 : BitVec 1 := Scalar.cmpi .ne v1156 c0_i32_784
  let v1158 : BitVec 1 := Scalar.andi v1155 v1157
  let v1144 : BitVec 32 := Scalar.divsi v1143 c128_i32_779
  let c1_i32_785 : BitVec 32 := 1#32
  let v1159 : BitVec 32 := Scalar.subi v1144 c1_i32_785
  let v1160 : BitVec 32 := Scalar.select v1158 v1159 v1144
  let c128_i32_786 : BitVec 32 := 128#32
  let v1161 : BitVec 32 := Scalar.muli v1160 c128_i32_786
  let c982912_i32_787 : BitVec 32 := 982912#32
  let v1162 : BitVec 32 := Scalar.minsi v1161 c982912_i32_787
  ![32, v1162.toNat]

def k1_off99 (v1166 : BitVec 32) : Fin 2 → Nat :=
  let c32_i32_805 : BitVec 32 := 32#32
  let c0_i32_794 : BitVec 32 := 0#32
  let v1168 : BitVec 1 := Scalar.cmpi .sgt v1166 c0_i32_794
  let v1169 : BitVec 32 := Scalar.extui v1168
  let c0_i32_795 : BitVec 32 := 0#32
  let v1170 : BitVec 1 := Scalar.cmpi .slt v1166 c0_i32_795
  let v1171 : BitVec 32 := Scalar.extui v1170
  let v1172 : BitVec 32 := Scalar.subi v1169 v1171
  let c128_i32_793 : BitVec 32 := 128#32
  let c0_i32_796 : BitVec 32 := 0#32
  let v1173 : BitVec 1 := Scalar.cmpi .sgt c128_i32_793 c0_i32_796
  let v1174 : BitVec 32 := Scalar.extui v1173
  let c0_i32_797 : BitVec 32 := 0#32
  let v1175 : BitVec 1 := Scalar.cmpi .slt c128_i32_793 c0_i32_797
  let v1176 : BitVec 32 := Scalar.extui v1175
  let v1177 : BitVec 32 := Scalar.subi v1174 v1176
  let v1178 : BitVec 1 := Scalar.cmpi .ne v1172 v1177
  let v1179 : BitVec 32 := Scalar.remsi v1166 c128_i32_793
  let c0_i32_798 : BitVec 32 := 0#32
  let v1180 : BitVec 1 := Scalar.cmpi .ne v1179 c0_i32_798
  let v1181 : BitVec 1 := Scalar.andi v1178 v1180
  let v1167 : BitVec 32 := Scalar.divsi v1166 c128_i32_793
  let c1_i32_799 : BitVec 32 := 1#32
  let v1182 : BitVec 32 := Scalar.subi v1167 c1_i32_799
  let v1183 : BitVec 32 := Scalar.select v1181 v1182 v1167
  let c128_i32_800 : BitVec 32 := 128#32
  let v1184 : BitVec 32 := Scalar.muli v1183 c128_i32_800
  let c982912_i32_801 : BitVec 32 := 982912#32
  let v1185 : BitVec 32 := Scalar.minsi v1184 c982912_i32_801
  ![32, v1185.toNat]

def k1_off100 (v1189 : BitVec 32) : Fin 2 → Nat :=
  let c32_i32_819 : BitVec 32 := 32#32
  let c0_i32_808 : BitVec 32 := 0#32
  let v1191 : BitVec 1 := Scalar.cmpi .sgt v1189 c0_i32_808
  let v1192 : BitVec 32 := Scalar.extui v1191
  let c0_i32_809 : BitVec 32 := 0#32
  let v1193 : BitVec 1 := Scalar.cmpi .slt v1189 c0_i32_809
  let v1194 : BitVec 32 := Scalar.extui v1193
  let v1195 : BitVec 32 := Scalar.subi v1192 v1194
  let c128_i32_807 : BitVec 32 := 128#32
  let c0_i32_810 : BitVec 32 := 0#32
  let v1196 : BitVec 1 := Scalar.cmpi .sgt c128_i32_807 c0_i32_810
  let v1197 : BitVec 32 := Scalar.extui v1196
  let c0_i32_811 : BitVec 32 := 0#32
  let v1198 : BitVec 1 := Scalar.cmpi .slt c128_i32_807 c0_i32_811
  let v1199 : BitVec 32 := Scalar.extui v1198
  let v1200 : BitVec 32 := Scalar.subi v1197 v1199
  let v1201 : BitVec 1 := Scalar.cmpi .ne v1195 v1200
  let v1202 : BitVec 32 := Scalar.remsi v1189 c128_i32_807
  let c0_i32_812 : BitVec 32 := 0#32
  let v1203 : BitVec 1 := Scalar.cmpi .ne v1202 c0_i32_812
  let v1204 : BitVec 1 := Scalar.andi v1201 v1203
  let v1190 : BitVec 32 := Scalar.divsi v1189 c128_i32_807
  let c1_i32_813 : BitVec 32 := 1#32
  let v1205 : BitVec 32 := Scalar.subi v1190 c1_i32_813
  let v1206 : BitVec 32 := Scalar.select v1204 v1205 v1190
  let c128_i32_814 : BitVec 32 := 128#32
  let v1207 : BitVec 32 := Scalar.muli v1206 c128_i32_814
  let c982912_i32_815 : BitVec 32 := 982912#32
  let v1208 : BitVec 32 := Scalar.minsi v1207 c982912_i32_815
  ![32, v1208.toNat]

def k1_off101 (v1212 : BitVec 32) : Fin 2 → Nat :=
  let c32_i32_833 : BitVec 32 := 32#32
  let c0_i32_822 : BitVec 32 := 0#32
  let v1214 : BitVec 1 := Scalar.cmpi .sgt v1212 c0_i32_822
  let v1215 : BitVec 32 := Scalar.extui v1214
  let c0_i32_823 : BitVec 32 := 0#32
  let v1216 : BitVec 1 := Scalar.cmpi .slt v1212 c0_i32_823
  let v1217 : BitVec 32 := Scalar.extui v1216
  let v1218 : BitVec 32 := Scalar.subi v1215 v1217
  let c128_i32_821 : BitVec 32 := 128#32
  let c0_i32_824 : BitVec 32 := 0#32
  let v1219 : BitVec 1 := Scalar.cmpi .sgt c128_i32_821 c0_i32_824
  let v1220 : BitVec 32 := Scalar.extui v1219
  let c0_i32_825 : BitVec 32 := 0#32
  let v1221 : BitVec 1 := Scalar.cmpi .slt c128_i32_821 c0_i32_825
  let v1222 : BitVec 32 := Scalar.extui v1221
  let v1223 : BitVec 32 := Scalar.subi v1220 v1222
  let v1224 : BitVec 1 := Scalar.cmpi .ne v1218 v1223
  let v1225 : BitVec 32 := Scalar.remsi v1212 c128_i32_821
  let c0_i32_826 : BitVec 32 := 0#32
  let v1226 : BitVec 1 := Scalar.cmpi .ne v1225 c0_i32_826
  let v1227 : BitVec 1 := Scalar.andi v1224 v1226
  let v1213 : BitVec 32 := Scalar.divsi v1212 c128_i32_821
  let c1_i32_827 : BitVec 32 := 1#32
  let v1228 : BitVec 32 := Scalar.subi v1213 c1_i32_827
  let v1229 : BitVec 32 := Scalar.select v1227 v1228 v1213
  let c128_i32_828 : BitVec 32 := 128#32
  let v1230 : BitVec 32 := Scalar.muli v1229 c128_i32_828
  let c982912_i32_829 : BitVec 32 := 982912#32
  let v1231 : BitVec 32 := Scalar.minsi v1230 c982912_i32_829
  ![32, v1231.toNat]

def k1_off102 (v1235 : BitVec 32) : Fin 2 → Nat :=
  let c32_i32_847 : BitVec 32 := 32#32
  let c0_i32_836 : BitVec 32 := 0#32
  let v1237 : BitVec 1 := Scalar.cmpi .sgt v1235 c0_i32_836
  let v1238 : BitVec 32 := Scalar.extui v1237
  let c0_i32_837 : BitVec 32 := 0#32
  let v1239 : BitVec 1 := Scalar.cmpi .slt v1235 c0_i32_837
  let v1240 : BitVec 32 := Scalar.extui v1239
  let v1241 : BitVec 32 := Scalar.subi v1238 v1240
  let c128_i32_835 : BitVec 32 := 128#32
  let c0_i32_838 : BitVec 32 := 0#32
  let v1242 : BitVec 1 := Scalar.cmpi .sgt c128_i32_835 c0_i32_838
  let v1243 : BitVec 32 := Scalar.extui v1242
  let c0_i32_839 : BitVec 32 := 0#32
  let v1244 : BitVec 1 := Scalar.cmpi .slt c128_i32_835 c0_i32_839
  let v1245 : BitVec 32 := Scalar.extui v1244
  let v1246 : BitVec 32 := Scalar.subi v1243 v1245
  let v1247 : BitVec 1 := Scalar.cmpi .ne v1241 v1246
  let v1248 : BitVec 32 := Scalar.remsi v1235 c128_i32_835
  let c0_i32_840 : BitVec 32 := 0#32
  let v1249 : BitVec 1 := Scalar.cmpi .ne v1248 c0_i32_840
  let v1250 : BitVec 1 := Scalar.andi v1247 v1249
  let v1236 : BitVec 32 := Scalar.divsi v1235 c128_i32_835
  let c1_i32_841 : BitVec 32 := 1#32
  let v1251 : BitVec 32 := Scalar.subi v1236 c1_i32_841
  let v1252 : BitVec 32 := Scalar.select v1250 v1251 v1236
  let c128_i32_842 : BitVec 32 := 128#32
  let v1253 : BitVec 32 := Scalar.muli v1252 c128_i32_842
  let c982912_i32_843 : BitVec 32 := 982912#32
  let v1254 : BitVec 32 := Scalar.minsi v1253 c982912_i32_843
  ![32, v1254.toNat]

def k1_off103 (v1258 : BitVec 32) : Fin 2 → Nat :=
  let c32_i32_861 : BitVec 32 := 32#32
  let c0_i32_850 : BitVec 32 := 0#32
  let v1260 : BitVec 1 := Scalar.cmpi .sgt v1258 c0_i32_850
  let v1261 : BitVec 32 := Scalar.extui v1260
  let c0_i32_851 : BitVec 32 := 0#32
  let v1262 : BitVec 1 := Scalar.cmpi .slt v1258 c0_i32_851
  let v1263 : BitVec 32 := Scalar.extui v1262
  let v1264 : BitVec 32 := Scalar.subi v1261 v1263
  let c128_i32_849 : BitVec 32 := 128#32
  let c0_i32_852 : BitVec 32 := 0#32
  let v1265 : BitVec 1 := Scalar.cmpi .sgt c128_i32_849 c0_i32_852
  let v1266 : BitVec 32 := Scalar.extui v1265
  let c0_i32_853 : BitVec 32 := 0#32
  let v1267 : BitVec 1 := Scalar.cmpi .slt c128_i32_849 c0_i32_853
  let v1268 : BitVec 32 := Scalar.extui v1267
  let v1269 : BitVec 32 := Scalar.subi v1266 v1268
  let v1270 : BitVec 1 := Scalar.cmpi .ne v1264 v1269
  let v1271 : BitVec 32 := Scalar.remsi v1258 c128_i32_849
  let c0_i32_854 : BitVec 32 := 0#32
  let v1272 : BitVec 1 := Scalar.cmpi .ne v1271 c0_i32_854
  let v1273 : BitVec 1 := Scalar.andi v1270 v1272
  let v1259 : BitVec 32 := Scalar.divsi v1258 c128_i32_849
  let c1_i32_855 : BitVec 32 := 1#32
  let v1274 : BitVec 32 := Scalar.subi v1259 c1_i32_855
  let v1275 : BitVec 32 := Scalar.select v1273 v1274 v1259
  let c128_i32_856 : BitVec 32 := 128#32
  let v1276 : BitVec 32 := Scalar.muli v1275 c128_i32_856
  let c982912_i32_857 : BitVec 32 := 982912#32
  let v1277 : BitVec 32 := Scalar.minsi v1276 c982912_i32_857
  ![32, v1277.toNat]

def k1_off104 (v1281 : BitVec 32) : Fin 2 → Nat :=
  let c32_i32_875 : BitVec 32 := 32#32
  let c0_i32_864 : BitVec 32 := 0#32
  let v1283 : BitVec 1 := Scalar.cmpi .sgt v1281 c0_i32_864
  let v1284 : BitVec 32 := Scalar.extui v1283
  let c0_i32_865 : BitVec 32 := 0#32
  let v1285 : BitVec 1 := Scalar.cmpi .slt v1281 c0_i32_865
  let v1286 : BitVec 32 := Scalar.extui v1285
  let v1287 : BitVec 32 := Scalar.subi v1284 v1286
  let c128_i32_863 : BitVec 32 := 128#32
  let c0_i32_866 : BitVec 32 := 0#32
  let v1288 : BitVec 1 := Scalar.cmpi .sgt c128_i32_863 c0_i32_866
  let v1289 : BitVec 32 := Scalar.extui v1288
  let c0_i32_867 : BitVec 32 := 0#32
  let v1290 : BitVec 1 := Scalar.cmpi .slt c128_i32_863 c0_i32_867
  let v1291 : BitVec 32 := Scalar.extui v1290
  let v1292 : BitVec 32 := Scalar.subi v1289 v1291
  let v1293 : BitVec 1 := Scalar.cmpi .ne v1287 v1292
  let v1294 : BitVec 32 := Scalar.remsi v1281 c128_i32_863
  let c0_i32_868 : BitVec 32 := 0#32
  let v1295 : BitVec 1 := Scalar.cmpi .ne v1294 c0_i32_868
  let v1296 : BitVec 1 := Scalar.andi v1293 v1295
  let v1282 : BitVec 32 := Scalar.divsi v1281 c128_i32_863
  let c1_i32_869 : BitVec 32 := 1#32
  let v1297 : BitVec 32 := Scalar.subi v1282 c1_i32_869
  let v1298 : BitVec 32 := Scalar.select v1296 v1297 v1282
  let c128_i32_870 : BitVec 32 := 128#32
  let v1299 : BitVec 32 := Scalar.muli v1298 c128_i32_870
  let c982912_i32_871 : BitVec 32 := 982912#32
  let v1300 : BitVec 32 := Scalar.minsi v1299 c982912_i32_871
  ![32, v1300.toNat]

def k1_off105 (v1304 : BitVec 32) : Fin 2 → Nat :=
  let c40_i32_889 : BitVec 32 := 40#32
  let c0_i32_878 : BitVec 32 := 0#32
  let v1306 : BitVec 1 := Scalar.cmpi .sgt v1304 c0_i32_878
  let v1307 : BitVec 32 := Scalar.extui v1306
  let c0_i32_879 : BitVec 32 := 0#32
  let v1308 : BitVec 1 := Scalar.cmpi .slt v1304 c0_i32_879
  let v1309 : BitVec 32 := Scalar.extui v1308
  let v1310 : BitVec 32 := Scalar.subi v1307 v1309
  let c128_i32_877 : BitVec 32 := 128#32
  let c0_i32_880 : BitVec 32 := 0#32
  let v1311 : BitVec 1 := Scalar.cmpi .sgt c128_i32_877 c0_i32_880
  let v1312 : BitVec 32 := Scalar.extui v1311
  let c0_i32_881 : BitVec 32 := 0#32
  let v1313 : BitVec 1 := Scalar.cmpi .slt c128_i32_877 c0_i32_881
  let v1314 : BitVec 32 := Scalar.extui v1313
  let v1315 : BitVec 32 := Scalar.subi v1312 v1314
  let v1316 : BitVec 1 := Scalar.cmpi .ne v1310 v1315
  let v1317 : BitVec 32 := Scalar.remsi v1304 c128_i32_877
  let c0_i32_882 : BitVec 32 := 0#32
  let v1318 : BitVec 1 := Scalar.cmpi .ne v1317 c0_i32_882
  let v1319 : BitVec 1 := Scalar.andi v1316 v1318
  let v1305 : BitVec 32 := Scalar.divsi v1304 c128_i32_877
  let c1_i32_883 : BitVec 32 := 1#32
  let v1320 : BitVec 32 := Scalar.subi v1305 c1_i32_883
  let v1321 : BitVec 32 := Scalar.select v1319 v1320 v1305
  let c128_i32_884 : BitVec 32 := 128#32
  let v1322 : BitVec 32 := Scalar.muli v1321 c128_i32_884
  let c982912_i32_885 : BitVec 32 := 982912#32
  let v1323 : BitVec 32 := Scalar.minsi v1322 c982912_i32_885
  ![40, v1323.toNat]

def k1_off106 (v1327 : BitVec 32) : Fin 2 → Nat :=
  let c40_i32_903 : BitVec 32 := 40#32
  let c0_i32_892 : BitVec 32 := 0#32
  let v1329 : BitVec 1 := Scalar.cmpi .sgt v1327 c0_i32_892
  let v1330 : BitVec 32 := Scalar.extui v1329
  let c0_i32_893 : BitVec 32 := 0#32
  let v1331 : BitVec 1 := Scalar.cmpi .slt v1327 c0_i32_893
  let v1332 : BitVec 32 := Scalar.extui v1331
  let v1333 : BitVec 32 := Scalar.subi v1330 v1332
  let c128_i32_891 : BitVec 32 := 128#32
  let c0_i32_894 : BitVec 32 := 0#32
  let v1334 : BitVec 1 := Scalar.cmpi .sgt c128_i32_891 c0_i32_894
  let v1335 : BitVec 32 := Scalar.extui v1334
  let c0_i32_895 : BitVec 32 := 0#32
  let v1336 : BitVec 1 := Scalar.cmpi .slt c128_i32_891 c0_i32_895
  let v1337 : BitVec 32 := Scalar.extui v1336
  let v1338 : BitVec 32 := Scalar.subi v1335 v1337
  let v1339 : BitVec 1 := Scalar.cmpi .ne v1333 v1338
  let v1340 : BitVec 32 := Scalar.remsi v1327 c128_i32_891
  let c0_i32_896 : BitVec 32 := 0#32
  let v1341 : BitVec 1 := Scalar.cmpi .ne v1340 c0_i32_896
  let v1342 : BitVec 1 := Scalar.andi v1339 v1341
  let v1328 : BitVec 32 := Scalar.divsi v1327 c128_i32_891
  let c1_i32_897 : BitVec 32 := 1#32
  let v1343 : BitVec 32 := Scalar.subi v1328 c1_i32_897
  let v1344 : BitVec 32 := Scalar.select v1342 v1343 v1328
  let c128_i32_898 : BitVec 32 := 128#32
  let v1345 : BitVec 32 := Scalar.muli v1344 c128_i32_898
  let c982912_i32_899 : BitVec 32 := 982912#32
  let v1346 : BitVec 32 := Scalar.minsi v1345 c982912_i32_899
  ![40, v1346.toNat]

def k1_off107 (v1350 : BitVec 32) : Fin 2 → Nat :=
  let c40_i32_917 : BitVec 32 := 40#32
  let c0_i32_906 : BitVec 32 := 0#32
  let v1352 : BitVec 1 := Scalar.cmpi .sgt v1350 c0_i32_906
  let v1353 : BitVec 32 := Scalar.extui v1352
  let c0_i32_907 : BitVec 32 := 0#32
  let v1354 : BitVec 1 := Scalar.cmpi .slt v1350 c0_i32_907
  let v1355 : BitVec 32 := Scalar.extui v1354
  let v1356 : BitVec 32 := Scalar.subi v1353 v1355
  let c128_i32_905 : BitVec 32 := 128#32
  let c0_i32_908 : BitVec 32 := 0#32
  let v1357 : BitVec 1 := Scalar.cmpi .sgt c128_i32_905 c0_i32_908
  let v1358 : BitVec 32 := Scalar.extui v1357
  let c0_i32_909 : BitVec 32 := 0#32
  let v1359 : BitVec 1 := Scalar.cmpi .slt c128_i32_905 c0_i32_909
  let v1360 : BitVec 32 := Scalar.extui v1359
  let v1361 : BitVec 32 := Scalar.subi v1358 v1360
  let v1362 : BitVec 1 := Scalar.cmpi .ne v1356 v1361
  let v1363 : BitVec 32 := Scalar.remsi v1350 c128_i32_905
  let c0_i32_910 : BitVec 32 := 0#32
  let v1364 : BitVec 1 := Scalar.cmpi .ne v1363 c0_i32_910
  let v1365 : BitVec 1 := Scalar.andi v1362 v1364
  let v1351 : BitVec 32 := Scalar.divsi v1350 c128_i32_905
  let c1_i32_911 : BitVec 32 := 1#32
  let v1366 : BitVec 32 := Scalar.subi v1351 c1_i32_911
  let v1367 : BitVec 32 := Scalar.select v1365 v1366 v1351
  let c128_i32_912 : BitVec 32 := 128#32
  let v1368 : BitVec 32 := Scalar.muli v1367 c128_i32_912
  let c982912_i32_913 : BitVec 32 := 982912#32
  let v1369 : BitVec 32 := Scalar.minsi v1368 c982912_i32_913
  ![40, v1369.toNat]

def k1_off108 (v1373 : BitVec 32) : Fin 2 → Nat :=
  let c40_i32_931 : BitVec 32 := 40#32
  let c0_i32_920 : BitVec 32 := 0#32
  let v1375 : BitVec 1 := Scalar.cmpi .sgt v1373 c0_i32_920
  let v1376 : BitVec 32 := Scalar.extui v1375
  let c0_i32_921 : BitVec 32 := 0#32
  let v1377 : BitVec 1 := Scalar.cmpi .slt v1373 c0_i32_921
  let v1378 : BitVec 32 := Scalar.extui v1377
  let v1379 : BitVec 32 := Scalar.subi v1376 v1378
  let c128_i32_919 : BitVec 32 := 128#32
  let c0_i32_922 : BitVec 32 := 0#32
  let v1380 : BitVec 1 := Scalar.cmpi .sgt c128_i32_919 c0_i32_922
  let v1381 : BitVec 32 := Scalar.extui v1380
  let c0_i32_923 : BitVec 32 := 0#32
  let v1382 : BitVec 1 := Scalar.cmpi .slt c128_i32_919 c0_i32_923
  let v1383 : BitVec 32 := Scalar.extui v1382
  let v1384 : BitVec 32 := Scalar.subi v1381 v1383
  let v1385 : BitVec 1 := Scalar.cmpi .ne v1379 v1384
  let v1386 : BitVec 32 := Scalar.remsi v1373 c128_i32_919
  let c0_i32_924 : BitVec 32 := 0#32
  let v1387 : BitVec 1 := Scalar.cmpi .ne v1386 c0_i32_924
  let v1388 : BitVec 1 := Scalar.andi v1385 v1387
  let v1374 : BitVec 32 := Scalar.divsi v1373 c128_i32_919
  let c1_i32_925 : BitVec 32 := 1#32
  let v1389 : BitVec 32 := Scalar.subi v1374 c1_i32_925
  let v1390 : BitVec 32 := Scalar.select v1388 v1389 v1374
  let c128_i32_926 : BitVec 32 := 128#32
  let v1391 : BitVec 32 := Scalar.muli v1390 c128_i32_926
  let c982912_i32_927 : BitVec 32 := 982912#32
  let v1392 : BitVec 32 := Scalar.minsi v1391 c982912_i32_927
  ![40, v1392.toNat]

def k1_off109 (v1396 : BitVec 32) : Fin 2 → Nat :=
  let c40_i32_945 : BitVec 32 := 40#32
  let c0_i32_934 : BitVec 32 := 0#32
  let v1398 : BitVec 1 := Scalar.cmpi .sgt v1396 c0_i32_934
  let v1399 : BitVec 32 := Scalar.extui v1398
  let c0_i32_935 : BitVec 32 := 0#32
  let v1400 : BitVec 1 := Scalar.cmpi .slt v1396 c0_i32_935
  let v1401 : BitVec 32 := Scalar.extui v1400
  let v1402 : BitVec 32 := Scalar.subi v1399 v1401
  let c128_i32_933 : BitVec 32 := 128#32
  let c0_i32_936 : BitVec 32 := 0#32
  let v1403 : BitVec 1 := Scalar.cmpi .sgt c128_i32_933 c0_i32_936
  let v1404 : BitVec 32 := Scalar.extui v1403
  let c0_i32_937 : BitVec 32 := 0#32
  let v1405 : BitVec 1 := Scalar.cmpi .slt c128_i32_933 c0_i32_937
  let v1406 : BitVec 32 := Scalar.extui v1405
  let v1407 : BitVec 32 := Scalar.subi v1404 v1406
  let v1408 : BitVec 1 := Scalar.cmpi .ne v1402 v1407
  let v1409 : BitVec 32 := Scalar.remsi v1396 c128_i32_933
  let c0_i32_938 : BitVec 32 := 0#32
  let v1410 : BitVec 1 := Scalar.cmpi .ne v1409 c0_i32_938
  let v1411 : BitVec 1 := Scalar.andi v1408 v1410
  let v1397 : BitVec 32 := Scalar.divsi v1396 c128_i32_933
  let c1_i32_939 : BitVec 32 := 1#32
  let v1412 : BitVec 32 := Scalar.subi v1397 c1_i32_939
  let v1413 : BitVec 32 := Scalar.select v1411 v1412 v1397
  let c128_i32_940 : BitVec 32 := 128#32
  let v1414 : BitVec 32 := Scalar.muli v1413 c128_i32_940
  let c982912_i32_941 : BitVec 32 := 982912#32
  let v1415 : BitVec 32 := Scalar.minsi v1414 c982912_i32_941
  ![40, v1415.toNat]

def k1_off110 (v1419 : BitVec 32) : Fin 2 → Nat :=
  let c40_i32_959 : BitVec 32 := 40#32
  let c0_i32_948 : BitVec 32 := 0#32
  let v1421 : BitVec 1 := Scalar.cmpi .sgt v1419 c0_i32_948
  let v1422 : BitVec 32 := Scalar.extui v1421
  let c0_i32_949 : BitVec 32 := 0#32
  let v1423 : BitVec 1 := Scalar.cmpi .slt v1419 c0_i32_949
  let v1424 : BitVec 32 := Scalar.extui v1423
  let v1425 : BitVec 32 := Scalar.subi v1422 v1424
  let c128_i32_947 : BitVec 32 := 128#32
  let c0_i32_950 : BitVec 32 := 0#32
  let v1426 : BitVec 1 := Scalar.cmpi .sgt c128_i32_947 c0_i32_950
  let v1427 : BitVec 32 := Scalar.extui v1426
  let c0_i32_951 : BitVec 32 := 0#32
  let v1428 : BitVec 1 := Scalar.cmpi .slt c128_i32_947 c0_i32_951
  let v1429 : BitVec 32 := Scalar.extui v1428
  let v1430 : BitVec 32 := Scalar.subi v1427 v1429
  let v1431 : BitVec 1 := Scalar.cmpi .ne v1425 v1430
  let v1432 : BitVec 32 := Scalar.remsi v1419 c128_i32_947
  let c0_i32_952 : BitVec 32 := 0#32
  let v1433 : BitVec 1 := Scalar.cmpi .ne v1432 c0_i32_952
  let v1434 : BitVec 1 := Scalar.andi v1431 v1433
  let v1420 : BitVec 32 := Scalar.divsi v1419 c128_i32_947
  let c1_i32_953 : BitVec 32 := 1#32
  let v1435 : BitVec 32 := Scalar.subi v1420 c1_i32_953
  let v1436 : BitVec 32 := Scalar.select v1434 v1435 v1420
  let c128_i32_954 : BitVec 32 := 128#32
  let v1437 : BitVec 32 := Scalar.muli v1436 c128_i32_954
  let c982912_i32_955 : BitVec 32 := 982912#32
  let v1438 : BitVec 32 := Scalar.minsi v1437 c982912_i32_955
  ![40, v1438.toNat]

def k1_off111 (v1442 : BitVec 32) : Fin 2 → Nat :=
  let c40_i32_973 : BitVec 32 := 40#32
  let c0_i32_962 : BitVec 32 := 0#32
  let v1444 : BitVec 1 := Scalar.cmpi .sgt v1442 c0_i32_962
  let v1445 : BitVec 32 := Scalar.extui v1444
  let c0_i32_963 : BitVec 32 := 0#32
  let v1446 : BitVec 1 := Scalar.cmpi .slt v1442 c0_i32_963
  let v1447 : BitVec 32 := Scalar.extui v1446
  let v1448 : BitVec 32 := Scalar.subi v1445 v1447
  let c128_i32_961 : BitVec 32 := 128#32
  let c0_i32_964 : BitVec 32 := 0#32
  let v1449 : BitVec 1 := Scalar.cmpi .sgt c128_i32_961 c0_i32_964
  let v1450 : BitVec 32 := Scalar.extui v1449
  let c0_i32_965 : BitVec 32 := 0#32
  let v1451 : BitVec 1 := Scalar.cmpi .slt c128_i32_961 c0_i32_965
  let v1452 : BitVec 32 := Scalar.extui v1451
  let v1453 : BitVec 32 := Scalar.subi v1450 v1452
  let v1454 : BitVec 1 := Scalar.cmpi .ne v1448 v1453
  let v1455 : BitVec 32 := Scalar.remsi v1442 c128_i32_961
  let c0_i32_966 : BitVec 32 := 0#32
  let v1456 : BitVec 1 := Scalar.cmpi .ne v1455 c0_i32_966
  let v1457 : BitVec 1 := Scalar.andi v1454 v1456
  let v1443 : BitVec 32 := Scalar.divsi v1442 c128_i32_961
  let c1_i32_967 : BitVec 32 := 1#32
  let v1458 : BitVec 32 := Scalar.subi v1443 c1_i32_967
  let v1459 : BitVec 32 := Scalar.select v1457 v1458 v1443
  let c128_i32_968 : BitVec 32 := 128#32
  let v1460 : BitVec 32 := Scalar.muli v1459 c128_i32_968
  let c982912_i32_969 : BitVec 32 := 982912#32
  let v1461 : BitVec 32 := Scalar.minsi v1460 c982912_i32_969
  ![40, v1461.toNat]

def k1_off112 (v1465 : BitVec 32) : Fin 2 → Nat :=
  let c40_i32_987 : BitVec 32 := 40#32
  let c0_i32_976 : BitVec 32 := 0#32
  let v1467 : BitVec 1 := Scalar.cmpi .sgt v1465 c0_i32_976
  let v1468 : BitVec 32 := Scalar.extui v1467
  let c0_i32_977 : BitVec 32 := 0#32
  let v1469 : BitVec 1 := Scalar.cmpi .slt v1465 c0_i32_977
  let v1470 : BitVec 32 := Scalar.extui v1469
  let v1471 : BitVec 32 := Scalar.subi v1468 v1470
  let c128_i32_975 : BitVec 32 := 128#32
  let c0_i32_978 : BitVec 32 := 0#32
  let v1472 : BitVec 1 := Scalar.cmpi .sgt c128_i32_975 c0_i32_978
  let v1473 : BitVec 32 := Scalar.extui v1472
  let c0_i32_979 : BitVec 32 := 0#32
  let v1474 : BitVec 1 := Scalar.cmpi .slt c128_i32_975 c0_i32_979
  let v1475 : BitVec 32 := Scalar.extui v1474
  let v1476 : BitVec 32 := Scalar.subi v1473 v1475
  let v1477 : BitVec 1 := Scalar.cmpi .ne v1471 v1476
  let v1478 : BitVec 32 := Scalar.remsi v1465 c128_i32_975
  let c0_i32_980 : BitVec 32 := 0#32
  let v1479 : BitVec 1 := Scalar.cmpi .ne v1478 c0_i32_980
  let v1480 : BitVec 1 := Scalar.andi v1477 v1479
  let v1466 : BitVec 32 := Scalar.divsi v1465 c128_i32_975
  let c1_i32_981 : BitVec 32 := 1#32
  let v1481 : BitVec 32 := Scalar.subi v1466 c1_i32_981
  let v1482 : BitVec 32 := Scalar.select v1480 v1481 v1466
  let c128_i32_982 : BitVec 32 := 128#32
  let v1483 : BitVec 32 := Scalar.muli v1482 c128_i32_982
  let c982912_i32_983 : BitVec 32 := 982912#32
  let v1484 : BitVec 32 := Scalar.minsi v1483 c982912_i32_983
  ![40, v1484.toNat]

def k1_off113 (v1488 : BitVec 32) : Fin 2 → Nat :=
  let c48_i32_1001 : BitVec 32 := 48#32
  let c0_i32_990 : BitVec 32 := 0#32
  let v1490 : BitVec 1 := Scalar.cmpi .sgt v1488 c0_i32_990
  let v1491 : BitVec 32 := Scalar.extui v1490
  let c0_i32_991 : BitVec 32 := 0#32
  let v1492 : BitVec 1 := Scalar.cmpi .slt v1488 c0_i32_991
  let v1493 : BitVec 32 := Scalar.extui v1492
  let v1494 : BitVec 32 := Scalar.subi v1491 v1493
  let c128_i32_989 : BitVec 32 := 128#32
  let c0_i32_992 : BitVec 32 := 0#32
  let v1495 : BitVec 1 := Scalar.cmpi .sgt c128_i32_989 c0_i32_992
  let v1496 : BitVec 32 := Scalar.extui v1495
  let c0_i32_993 : BitVec 32 := 0#32
  let v1497 : BitVec 1 := Scalar.cmpi .slt c128_i32_989 c0_i32_993
  let v1498 : BitVec 32 := Scalar.extui v1497
  let v1499 : BitVec 32 := Scalar.subi v1496 v1498
  let v1500 : BitVec 1 := Scalar.cmpi .ne v1494 v1499
  let v1501 : BitVec 32 := Scalar.remsi v1488 c128_i32_989
  let c0_i32_994 : BitVec 32 := 0#32
  let v1502 : BitVec 1 := Scalar.cmpi .ne v1501 c0_i32_994
  let v1503 : BitVec 1 := Scalar.andi v1500 v1502
  let v1489 : BitVec 32 := Scalar.divsi v1488 c128_i32_989
  let c1_i32_995 : BitVec 32 := 1#32
  let v1504 : BitVec 32 := Scalar.subi v1489 c1_i32_995
  let v1505 : BitVec 32 := Scalar.select v1503 v1504 v1489
  let c128_i32_996 : BitVec 32 := 128#32
  let v1506 : BitVec 32 := Scalar.muli v1505 c128_i32_996
  let c982912_i32_997 : BitVec 32 := 982912#32
  let v1507 : BitVec 32 := Scalar.minsi v1506 c982912_i32_997
  ![48, v1507.toNat]

def k1_off114 (v1511 : BitVec 32) : Fin 2 → Nat :=
  let c48_i32_1015 : BitVec 32 := 48#32
  let c0_i32_1004 : BitVec 32 := 0#32
  let v1513 : BitVec 1 := Scalar.cmpi .sgt v1511 c0_i32_1004
  let v1514 : BitVec 32 := Scalar.extui v1513
  let c0_i32_1005 : BitVec 32 := 0#32
  let v1515 : BitVec 1 := Scalar.cmpi .slt v1511 c0_i32_1005
  let v1516 : BitVec 32 := Scalar.extui v1515
  let v1517 : BitVec 32 := Scalar.subi v1514 v1516
  let c128_i32_1003 : BitVec 32 := 128#32
  let c0_i32_1006 : BitVec 32 := 0#32
  let v1518 : BitVec 1 := Scalar.cmpi .sgt c128_i32_1003 c0_i32_1006
  let v1519 : BitVec 32 := Scalar.extui v1518
  let c0_i32_1007 : BitVec 32 := 0#32
  let v1520 : BitVec 1 := Scalar.cmpi .slt c128_i32_1003 c0_i32_1007
  let v1521 : BitVec 32 := Scalar.extui v1520
  let v1522 : BitVec 32 := Scalar.subi v1519 v1521
  let v1523 : BitVec 1 := Scalar.cmpi .ne v1517 v1522
  let v1524 : BitVec 32 := Scalar.remsi v1511 c128_i32_1003
  let c0_i32_1008 : BitVec 32 := 0#32
  let v1525 : BitVec 1 := Scalar.cmpi .ne v1524 c0_i32_1008
  let v1526 : BitVec 1 := Scalar.andi v1523 v1525
  let v1512 : BitVec 32 := Scalar.divsi v1511 c128_i32_1003
  let c1_i32_1009 : BitVec 32 := 1#32
  let v1527 : BitVec 32 := Scalar.subi v1512 c1_i32_1009
  let v1528 : BitVec 32 := Scalar.select v1526 v1527 v1512
  let c128_i32_1010 : BitVec 32 := 128#32
  let v1529 : BitVec 32 := Scalar.muli v1528 c128_i32_1010
  let c982912_i32_1011 : BitVec 32 := 982912#32
  let v1530 : BitVec 32 := Scalar.minsi v1529 c982912_i32_1011
  ![48, v1530.toNat]

def k1_off115 (v1534 : BitVec 32) : Fin 2 → Nat :=
  let c48_i32_1029 : BitVec 32 := 48#32
  let c0_i32_1018 : BitVec 32 := 0#32
  let v1536 : BitVec 1 := Scalar.cmpi .sgt v1534 c0_i32_1018
  let v1537 : BitVec 32 := Scalar.extui v1536
  let c0_i32_1019 : BitVec 32 := 0#32
  let v1538 : BitVec 1 := Scalar.cmpi .slt v1534 c0_i32_1019
  let v1539 : BitVec 32 := Scalar.extui v1538
  let v1540 : BitVec 32 := Scalar.subi v1537 v1539
  let c128_i32_1017 : BitVec 32 := 128#32
  let c0_i32_1020 : BitVec 32 := 0#32
  let v1541 : BitVec 1 := Scalar.cmpi .sgt c128_i32_1017 c0_i32_1020
  let v1542 : BitVec 32 := Scalar.extui v1541
  let c0_i32_1021 : BitVec 32 := 0#32
  let v1543 : BitVec 1 := Scalar.cmpi .slt c128_i32_1017 c0_i32_1021
  let v1544 : BitVec 32 := Scalar.extui v1543
  let v1545 : BitVec 32 := Scalar.subi v1542 v1544
  let v1546 : BitVec 1 := Scalar.cmpi .ne v1540 v1545
  let v1547 : BitVec 32 := Scalar.remsi v1534 c128_i32_1017
  let c0_i32_1022 : BitVec 32 := 0#32
  let v1548 : BitVec 1 := Scalar.cmpi .ne v1547 c0_i32_1022
  let v1549 : BitVec 1 := Scalar.andi v1546 v1548
  let v1535 : BitVec 32 := Scalar.divsi v1534 c128_i32_1017
  let c1_i32_1023 : BitVec 32 := 1#32
  let v1550 : BitVec 32 := Scalar.subi v1535 c1_i32_1023
  let v1551 : BitVec 32 := Scalar.select v1549 v1550 v1535
  let c128_i32_1024 : BitVec 32 := 128#32
  let v1552 : BitVec 32 := Scalar.muli v1551 c128_i32_1024
  let c982912_i32_1025 : BitVec 32 := 982912#32
  let v1553 : BitVec 32 := Scalar.minsi v1552 c982912_i32_1025
  ![48, v1553.toNat]

def k1_off116 (v1557 : BitVec 32) : Fin 2 → Nat :=
  let c48_i32_1043 : BitVec 32 := 48#32
  let c0_i32_1032 : BitVec 32 := 0#32
  let v1559 : BitVec 1 := Scalar.cmpi .sgt v1557 c0_i32_1032
  let v1560 : BitVec 32 := Scalar.extui v1559
  let c0_i32_1033 : BitVec 32 := 0#32
  let v1561 : BitVec 1 := Scalar.cmpi .slt v1557 c0_i32_1033
  let v1562 : BitVec 32 := Scalar.extui v1561
  let v1563 : BitVec 32 := Scalar.subi v1560 v1562
  let c128_i32_1031 : BitVec 32 := 128#32
  let c0_i32_1034 : BitVec 32 := 0#32
  let v1564 : BitVec 1 := Scalar.cmpi .sgt c128_i32_1031 c0_i32_1034
  let v1565 : BitVec 32 := Scalar.extui v1564
  let c0_i32_1035 : BitVec 32 := 0#32
  let v1566 : BitVec 1 := Scalar.cmpi .slt c128_i32_1031 c0_i32_1035
  let v1567 : BitVec 32 := Scalar.extui v1566
  let v1568 : BitVec 32 := Scalar.subi v1565 v1567
  let v1569 : BitVec 1 := Scalar.cmpi .ne v1563 v1568
  let v1570 : BitVec 32 := Scalar.remsi v1557 c128_i32_1031
  let c0_i32_1036 : BitVec 32 := 0#32
  let v1571 : BitVec 1 := Scalar.cmpi .ne v1570 c0_i32_1036
  let v1572 : BitVec 1 := Scalar.andi v1569 v1571
  let v1558 : BitVec 32 := Scalar.divsi v1557 c128_i32_1031
  let c1_i32_1037 : BitVec 32 := 1#32
  let v1573 : BitVec 32 := Scalar.subi v1558 c1_i32_1037
  let v1574 : BitVec 32 := Scalar.select v1572 v1573 v1558
  let c128_i32_1038 : BitVec 32 := 128#32
  let v1575 : BitVec 32 := Scalar.muli v1574 c128_i32_1038
  let c982912_i32_1039 : BitVec 32 := 982912#32
  let v1576 : BitVec 32 := Scalar.minsi v1575 c982912_i32_1039
  ![48, v1576.toNat]

def k1_off117 (v1580 : BitVec 32) : Fin 2 → Nat :=
  let c48_i32_1057 : BitVec 32 := 48#32
  let c0_i32_1046 : BitVec 32 := 0#32
  let v1582 : BitVec 1 := Scalar.cmpi .sgt v1580 c0_i32_1046
  let v1583 : BitVec 32 := Scalar.extui v1582
  let c0_i32_1047 : BitVec 32 := 0#32
  let v1584 : BitVec 1 := Scalar.cmpi .slt v1580 c0_i32_1047
  let v1585 : BitVec 32 := Scalar.extui v1584
  let v1586 : BitVec 32 := Scalar.subi v1583 v1585
  let c128_i32_1045 : BitVec 32 := 128#32
  let c0_i32_1048 : BitVec 32 := 0#32
  let v1587 : BitVec 1 := Scalar.cmpi .sgt c128_i32_1045 c0_i32_1048
  let v1588 : BitVec 32 := Scalar.extui v1587
  let c0_i32_1049 : BitVec 32 := 0#32
  let v1589 : BitVec 1 := Scalar.cmpi .slt c128_i32_1045 c0_i32_1049
  let v1590 : BitVec 32 := Scalar.extui v1589
  let v1591 : BitVec 32 := Scalar.subi v1588 v1590
  let v1592 : BitVec 1 := Scalar.cmpi .ne v1586 v1591
  let v1593 : BitVec 32 := Scalar.remsi v1580 c128_i32_1045
  let c0_i32_1050 : BitVec 32 := 0#32
  let v1594 : BitVec 1 := Scalar.cmpi .ne v1593 c0_i32_1050
  let v1595 : BitVec 1 := Scalar.andi v1592 v1594
  let v1581 : BitVec 32 := Scalar.divsi v1580 c128_i32_1045
  let c1_i32_1051 : BitVec 32 := 1#32
  let v1596 : BitVec 32 := Scalar.subi v1581 c1_i32_1051
  let v1597 : BitVec 32 := Scalar.select v1595 v1596 v1581
  let c128_i32_1052 : BitVec 32 := 128#32
  let v1598 : BitVec 32 := Scalar.muli v1597 c128_i32_1052
  let c982912_i32_1053 : BitVec 32 := 982912#32
  let v1599 : BitVec 32 := Scalar.minsi v1598 c982912_i32_1053
  ![48, v1599.toNat]

def k1_off118 (v1603 : BitVec 32) : Fin 2 → Nat :=
  let c48_i32_1071 : BitVec 32 := 48#32
  let c0_i32_1060 : BitVec 32 := 0#32
  let v1605 : BitVec 1 := Scalar.cmpi .sgt v1603 c0_i32_1060
  let v1606 : BitVec 32 := Scalar.extui v1605
  let c0_i32_1061 : BitVec 32 := 0#32
  let v1607 : BitVec 1 := Scalar.cmpi .slt v1603 c0_i32_1061
  let v1608 : BitVec 32 := Scalar.extui v1607
  let v1609 : BitVec 32 := Scalar.subi v1606 v1608
  let c128_i32_1059 : BitVec 32 := 128#32
  let c0_i32_1062 : BitVec 32 := 0#32
  let v1610 : BitVec 1 := Scalar.cmpi .sgt c128_i32_1059 c0_i32_1062
  let v1611 : BitVec 32 := Scalar.extui v1610
  let c0_i32_1063 : BitVec 32 := 0#32
  let v1612 : BitVec 1 := Scalar.cmpi .slt c128_i32_1059 c0_i32_1063
  let v1613 : BitVec 32 := Scalar.extui v1612
  let v1614 : BitVec 32 := Scalar.subi v1611 v1613
  let v1615 : BitVec 1 := Scalar.cmpi .ne v1609 v1614
  let v1616 : BitVec 32 := Scalar.remsi v1603 c128_i32_1059
  let c0_i32_1064 : BitVec 32 := 0#32
  let v1617 : BitVec 1 := Scalar.cmpi .ne v1616 c0_i32_1064
  let v1618 : BitVec 1 := Scalar.andi v1615 v1617
  let v1604 : BitVec 32 := Scalar.divsi v1603 c128_i32_1059
  let c1_i32_1065 : BitVec 32 := 1#32
  let v1619 : BitVec 32 := Scalar.subi v1604 c1_i32_1065
  let v1620 : BitVec 32 := Scalar.select v1618 v1619 v1604
  let c128_i32_1066 : BitVec 32 := 128#32
  let v1621 : BitVec 32 := Scalar.muli v1620 c128_i32_1066
  let c982912_i32_1067 : BitVec 32 := 982912#32
  let v1622 : BitVec 32 := Scalar.minsi v1621 c982912_i32_1067
  ![48, v1622.toNat]

def k1_off119 (v1626 : BitVec 32) : Fin 2 → Nat :=
  let c48_i32_1085 : BitVec 32 := 48#32
  let c0_i32_1074 : BitVec 32 := 0#32
  let v1628 : BitVec 1 := Scalar.cmpi .sgt v1626 c0_i32_1074
  let v1629 : BitVec 32 := Scalar.extui v1628
  let c0_i32_1075 : BitVec 32 := 0#32
  let v1630 : BitVec 1 := Scalar.cmpi .slt v1626 c0_i32_1075
  let v1631 : BitVec 32 := Scalar.extui v1630
  let v1632 : BitVec 32 := Scalar.subi v1629 v1631
  let c128_i32_1073 : BitVec 32 := 128#32
  let c0_i32_1076 : BitVec 32 := 0#32
  let v1633 : BitVec 1 := Scalar.cmpi .sgt c128_i32_1073 c0_i32_1076
  let v1634 : BitVec 32 := Scalar.extui v1633
  let c0_i32_1077 : BitVec 32 := 0#32
  let v1635 : BitVec 1 := Scalar.cmpi .slt c128_i32_1073 c0_i32_1077
  let v1636 : BitVec 32 := Scalar.extui v1635
  let v1637 : BitVec 32 := Scalar.subi v1634 v1636
  let v1638 : BitVec 1 := Scalar.cmpi .ne v1632 v1637
  let v1639 : BitVec 32 := Scalar.remsi v1626 c128_i32_1073
  let c0_i32_1078 : BitVec 32 := 0#32
  let v1640 : BitVec 1 := Scalar.cmpi .ne v1639 c0_i32_1078
  let v1641 : BitVec 1 := Scalar.andi v1638 v1640
  let v1627 : BitVec 32 := Scalar.divsi v1626 c128_i32_1073
  let c1_i32_1079 : BitVec 32 := 1#32
  let v1642 : BitVec 32 := Scalar.subi v1627 c1_i32_1079
  let v1643 : BitVec 32 := Scalar.select v1641 v1642 v1627
  let c128_i32_1080 : BitVec 32 := 128#32
  let v1644 : BitVec 32 := Scalar.muli v1643 c128_i32_1080
  let c982912_i32_1081 : BitVec 32 := 982912#32
  let v1645 : BitVec 32 := Scalar.minsi v1644 c982912_i32_1081
  ![48, v1645.toNat]

def k1_off120 (v1649 : BitVec 32) : Fin 2 → Nat :=
  let c48_i32_1099 : BitVec 32 := 48#32
  let c0_i32_1088 : BitVec 32 := 0#32
  let v1651 : BitVec 1 := Scalar.cmpi .sgt v1649 c0_i32_1088
  let v1652 : BitVec 32 := Scalar.extui v1651
  let c0_i32_1089 : BitVec 32 := 0#32
  let v1653 : BitVec 1 := Scalar.cmpi .slt v1649 c0_i32_1089
  let v1654 : BitVec 32 := Scalar.extui v1653
  let v1655 : BitVec 32 := Scalar.subi v1652 v1654
  let c128_i32_1087 : BitVec 32 := 128#32
  let c0_i32_1090 : BitVec 32 := 0#32
  let v1656 : BitVec 1 := Scalar.cmpi .sgt c128_i32_1087 c0_i32_1090
  let v1657 : BitVec 32 := Scalar.extui v1656
  let c0_i32_1091 : BitVec 32 := 0#32
  let v1658 : BitVec 1 := Scalar.cmpi .slt c128_i32_1087 c0_i32_1091
  let v1659 : BitVec 32 := Scalar.extui v1658
  let v1660 : BitVec 32 := Scalar.subi v1657 v1659
  let v1661 : BitVec 1 := Scalar.cmpi .ne v1655 v1660
  let v1662 : BitVec 32 := Scalar.remsi v1649 c128_i32_1087
  let c0_i32_1092 : BitVec 32 := 0#32
  let v1663 : BitVec 1 := Scalar.cmpi .ne v1662 c0_i32_1092
  let v1664 : BitVec 1 := Scalar.andi v1661 v1663
  let v1650 : BitVec 32 := Scalar.divsi v1649 c128_i32_1087
  let c1_i32_1093 : BitVec 32 := 1#32
  let v1665 : BitVec 32 := Scalar.subi v1650 c1_i32_1093
  let v1666 : BitVec 32 := Scalar.select v1664 v1665 v1650
  let c128_i32_1094 : BitVec 32 := 128#32
  let v1667 : BitVec 32 := Scalar.muli v1666 c128_i32_1094
  let c982912_i32_1095 : BitVec 32 := 982912#32
  let v1668 : BitVec 32 := Scalar.minsi v1667 c982912_i32_1095
  ![48, v1668.toNat]

def k1_off121 (v1672 : BitVec 32) : Fin 2 → Nat :=
  let c56_i32_1113 : BitVec 32 := 56#32
  let c0_i32_1102 : BitVec 32 := 0#32
  let v1674 : BitVec 1 := Scalar.cmpi .sgt v1672 c0_i32_1102
  let v1675 : BitVec 32 := Scalar.extui v1674
  let c0_i32_1103 : BitVec 32 := 0#32
  let v1676 : BitVec 1 := Scalar.cmpi .slt v1672 c0_i32_1103
  let v1677 : BitVec 32 := Scalar.extui v1676
  let v1678 : BitVec 32 := Scalar.subi v1675 v1677
  let c128_i32_1101 : BitVec 32 := 128#32
  let c0_i32_1104 : BitVec 32 := 0#32
  let v1679 : BitVec 1 := Scalar.cmpi .sgt c128_i32_1101 c0_i32_1104
  let v1680 : BitVec 32 := Scalar.extui v1679
  let c0_i32_1105 : BitVec 32 := 0#32
  let v1681 : BitVec 1 := Scalar.cmpi .slt c128_i32_1101 c0_i32_1105
  let v1682 : BitVec 32 := Scalar.extui v1681
  let v1683 : BitVec 32 := Scalar.subi v1680 v1682
  let v1684 : BitVec 1 := Scalar.cmpi .ne v1678 v1683
  let v1685 : BitVec 32 := Scalar.remsi v1672 c128_i32_1101
  let c0_i32_1106 : BitVec 32 := 0#32
  let v1686 : BitVec 1 := Scalar.cmpi .ne v1685 c0_i32_1106
  let v1687 : BitVec 1 := Scalar.andi v1684 v1686
  let v1673 : BitVec 32 := Scalar.divsi v1672 c128_i32_1101
  let c1_i32_1107 : BitVec 32 := 1#32
  let v1688 : BitVec 32 := Scalar.subi v1673 c1_i32_1107
  let v1689 : BitVec 32 := Scalar.select v1687 v1688 v1673
  let c128_i32_1108 : BitVec 32 := 128#32
  let v1690 : BitVec 32 := Scalar.muli v1689 c128_i32_1108
  let c982912_i32_1109 : BitVec 32 := 982912#32
  let v1691 : BitVec 32 := Scalar.minsi v1690 c982912_i32_1109
  ![56, v1691.toNat]

def k1_off122 (v1695 : BitVec 32) : Fin 2 → Nat :=
  let c56_i32_1127 : BitVec 32 := 56#32
  let c0_i32_1116 : BitVec 32 := 0#32
  let v1697 : BitVec 1 := Scalar.cmpi .sgt v1695 c0_i32_1116
  let v1698 : BitVec 32 := Scalar.extui v1697
  let c0_i32_1117 : BitVec 32 := 0#32
  let v1699 : BitVec 1 := Scalar.cmpi .slt v1695 c0_i32_1117
  let v1700 : BitVec 32 := Scalar.extui v1699
  let v1701 : BitVec 32 := Scalar.subi v1698 v1700
  let c128_i32_1115 : BitVec 32 := 128#32
  let c0_i32_1118 : BitVec 32 := 0#32
  let v1702 : BitVec 1 := Scalar.cmpi .sgt c128_i32_1115 c0_i32_1118
  let v1703 : BitVec 32 := Scalar.extui v1702
  let c0_i32_1119 : BitVec 32 := 0#32
  let v1704 : BitVec 1 := Scalar.cmpi .slt c128_i32_1115 c0_i32_1119
  let v1705 : BitVec 32 := Scalar.extui v1704
  let v1706 : BitVec 32 := Scalar.subi v1703 v1705
  let v1707 : BitVec 1 := Scalar.cmpi .ne v1701 v1706
  let v1708 : BitVec 32 := Scalar.remsi v1695 c128_i32_1115
  let c0_i32_1120 : BitVec 32 := 0#32
  let v1709 : BitVec 1 := Scalar.cmpi .ne v1708 c0_i32_1120
  let v1710 : BitVec 1 := Scalar.andi v1707 v1709
  let v1696 : BitVec 32 := Scalar.divsi v1695 c128_i32_1115
  let c1_i32_1121 : BitVec 32 := 1#32
  let v1711 : BitVec 32 := Scalar.subi v1696 c1_i32_1121
  let v1712 : BitVec 32 := Scalar.select v1710 v1711 v1696
  let c128_i32_1122 : BitVec 32 := 128#32
  let v1713 : BitVec 32 := Scalar.muli v1712 c128_i32_1122
  let c982912_i32_1123 : BitVec 32 := 982912#32
  let v1714 : BitVec 32 := Scalar.minsi v1713 c982912_i32_1123
  ![56, v1714.toNat]

def k1_off123 (v1718 : BitVec 32) : Fin 2 → Nat :=
  let c56_i32_1141 : BitVec 32 := 56#32
  let c0_i32_1130 : BitVec 32 := 0#32
  let v1720 : BitVec 1 := Scalar.cmpi .sgt v1718 c0_i32_1130
  let v1721 : BitVec 32 := Scalar.extui v1720
  let c0_i32_1131 : BitVec 32 := 0#32
  let v1722 : BitVec 1 := Scalar.cmpi .slt v1718 c0_i32_1131
  let v1723 : BitVec 32 := Scalar.extui v1722
  let v1724 : BitVec 32 := Scalar.subi v1721 v1723
  let c128_i32_1129 : BitVec 32 := 128#32
  let c0_i32_1132 : BitVec 32 := 0#32
  let v1725 : BitVec 1 := Scalar.cmpi .sgt c128_i32_1129 c0_i32_1132
  let v1726 : BitVec 32 := Scalar.extui v1725
  let c0_i32_1133 : BitVec 32 := 0#32
  let v1727 : BitVec 1 := Scalar.cmpi .slt c128_i32_1129 c0_i32_1133
  let v1728 : BitVec 32 := Scalar.extui v1727
  let v1729 : BitVec 32 := Scalar.subi v1726 v1728
  let v1730 : BitVec 1 := Scalar.cmpi .ne v1724 v1729
  let v1731 : BitVec 32 := Scalar.remsi v1718 c128_i32_1129
  let c0_i32_1134 : BitVec 32 := 0#32
  let v1732 : BitVec 1 := Scalar.cmpi .ne v1731 c0_i32_1134
  let v1733 : BitVec 1 := Scalar.andi v1730 v1732
  let v1719 : BitVec 32 := Scalar.divsi v1718 c128_i32_1129
  let c1_i32_1135 : BitVec 32 := 1#32
  let v1734 : BitVec 32 := Scalar.subi v1719 c1_i32_1135
  let v1735 : BitVec 32 := Scalar.select v1733 v1734 v1719
  let c128_i32_1136 : BitVec 32 := 128#32
  let v1736 : BitVec 32 := Scalar.muli v1735 c128_i32_1136
  let c982912_i32_1137 : BitVec 32 := 982912#32
  let v1737 : BitVec 32 := Scalar.minsi v1736 c982912_i32_1137
  ![56, v1737.toNat]

def k1_off124 (v1741 : BitVec 32) : Fin 2 → Nat :=
  let c56_i32_1155 : BitVec 32 := 56#32
  let c0_i32_1144 : BitVec 32 := 0#32
  let v1743 : BitVec 1 := Scalar.cmpi .sgt v1741 c0_i32_1144
  let v1744 : BitVec 32 := Scalar.extui v1743
  let c0_i32_1145 : BitVec 32 := 0#32
  let v1745 : BitVec 1 := Scalar.cmpi .slt v1741 c0_i32_1145
  let v1746 : BitVec 32 := Scalar.extui v1745
  let v1747 : BitVec 32 := Scalar.subi v1744 v1746
  let c128_i32_1143 : BitVec 32 := 128#32
  let c0_i32_1146 : BitVec 32 := 0#32
  let v1748 : BitVec 1 := Scalar.cmpi .sgt c128_i32_1143 c0_i32_1146
  let v1749 : BitVec 32 := Scalar.extui v1748
  let c0_i32_1147 : BitVec 32 := 0#32
  let v1750 : BitVec 1 := Scalar.cmpi .slt c128_i32_1143 c0_i32_1147
  let v1751 : BitVec 32 := Scalar.extui v1750
  let v1752 : BitVec 32 := Scalar.subi v1749 v1751
  let v1753 : BitVec 1 := Scalar.cmpi .ne v1747 v1752
  let v1754 : BitVec 32 := Scalar.remsi v1741 c128_i32_1143
  let c0_i32_1148 : BitVec 32 := 0#32
  let v1755 : BitVec 1 := Scalar.cmpi .ne v1754 c0_i32_1148
  let v1756 : BitVec 1 := Scalar.andi v1753 v1755
  let v1742 : BitVec 32 := Scalar.divsi v1741 c128_i32_1143
  let c1_i32_1149 : BitVec 32 := 1#32
  let v1757 : BitVec 32 := Scalar.subi v1742 c1_i32_1149
  let v1758 : BitVec 32 := Scalar.select v1756 v1757 v1742
  let c128_i32_1150 : BitVec 32 := 128#32
  let v1759 : BitVec 32 := Scalar.muli v1758 c128_i32_1150
  let c982912_i32_1151 : BitVec 32 := 982912#32
  let v1760 : BitVec 32 := Scalar.minsi v1759 c982912_i32_1151
  ![56, v1760.toNat]

def k1_off125 (v1764 : BitVec 32) : Fin 2 → Nat :=
  let c56_i32_1169 : BitVec 32 := 56#32
  let c0_i32_1158 : BitVec 32 := 0#32
  let v1766 : BitVec 1 := Scalar.cmpi .sgt v1764 c0_i32_1158
  let v1767 : BitVec 32 := Scalar.extui v1766
  let c0_i32_1159 : BitVec 32 := 0#32
  let v1768 : BitVec 1 := Scalar.cmpi .slt v1764 c0_i32_1159
  let v1769 : BitVec 32 := Scalar.extui v1768
  let v1770 : BitVec 32 := Scalar.subi v1767 v1769
  let c128_i32_1157 : BitVec 32 := 128#32
  let c0_i32_1160 : BitVec 32 := 0#32
  let v1771 : BitVec 1 := Scalar.cmpi .sgt c128_i32_1157 c0_i32_1160
  let v1772 : BitVec 32 := Scalar.extui v1771
  let c0_i32_1161 : BitVec 32 := 0#32
  let v1773 : BitVec 1 := Scalar.cmpi .slt c128_i32_1157 c0_i32_1161
  let v1774 : BitVec 32 := Scalar.extui v1773
  let v1775 : BitVec 32 := Scalar.subi v1772 v1774
  let v1776 : BitVec 1 := Scalar.cmpi .ne v1770 v1775
  let v1777 : BitVec 32 := Scalar.remsi v1764 c128_i32_1157
  let c0_i32_1162 : BitVec 32 := 0#32
  let v1778 : BitVec 1 := Scalar.cmpi .ne v1777 c0_i32_1162
  let v1779 : BitVec 1 := Scalar.andi v1776 v1778
  let v1765 : BitVec 32 := Scalar.divsi v1764 c128_i32_1157
  let c1_i32_1163 : BitVec 32 := 1#32
  let v1780 : BitVec 32 := Scalar.subi v1765 c1_i32_1163
  let v1781 : BitVec 32 := Scalar.select v1779 v1780 v1765
  let c128_i32_1164 : BitVec 32 := 128#32
  let v1782 : BitVec 32 := Scalar.muli v1781 c128_i32_1164
  let c982912_i32_1165 : BitVec 32 := 982912#32
  let v1783 : BitVec 32 := Scalar.minsi v1782 c982912_i32_1165
  ![56, v1783.toNat]

def k1_off126 (v1787 : BitVec 32) : Fin 2 → Nat :=
  let c56_i32_1183 : BitVec 32 := 56#32
  let c0_i32_1172 : BitVec 32 := 0#32
  let v1789 : BitVec 1 := Scalar.cmpi .sgt v1787 c0_i32_1172
  let v1790 : BitVec 32 := Scalar.extui v1789
  let c0_i32_1173 : BitVec 32 := 0#32
  let v1791 : BitVec 1 := Scalar.cmpi .slt v1787 c0_i32_1173
  let v1792 : BitVec 32 := Scalar.extui v1791
  let v1793 : BitVec 32 := Scalar.subi v1790 v1792
  let c128_i32_1171 : BitVec 32 := 128#32
  let c0_i32_1174 : BitVec 32 := 0#32
  let v1794 : BitVec 1 := Scalar.cmpi .sgt c128_i32_1171 c0_i32_1174
  let v1795 : BitVec 32 := Scalar.extui v1794
  let c0_i32_1175 : BitVec 32 := 0#32
  let v1796 : BitVec 1 := Scalar.cmpi .slt c128_i32_1171 c0_i32_1175
  let v1797 : BitVec 32 := Scalar.extui v1796
  let v1798 : BitVec 32 := Scalar.subi v1795 v1797
  let v1799 : BitVec 1 := Scalar.cmpi .ne v1793 v1798
  let v1800 : BitVec 32 := Scalar.remsi v1787 c128_i32_1171
  let c0_i32_1176 : BitVec 32 := 0#32
  let v1801 : BitVec 1 := Scalar.cmpi .ne v1800 c0_i32_1176
  let v1802 : BitVec 1 := Scalar.andi v1799 v1801
  let v1788 : BitVec 32 := Scalar.divsi v1787 c128_i32_1171
  let c1_i32_1177 : BitVec 32 := 1#32
  let v1803 : BitVec 32 := Scalar.subi v1788 c1_i32_1177
  let v1804 : BitVec 32 := Scalar.select v1802 v1803 v1788
  let c128_i32_1178 : BitVec 32 := 128#32
  let v1805 : BitVec 32 := Scalar.muli v1804 c128_i32_1178
  let c982912_i32_1179 : BitVec 32 := 982912#32
  let v1806 : BitVec 32 := Scalar.minsi v1805 c982912_i32_1179
  ![56, v1806.toNat]

def k1_off127 (v1810 : BitVec 32) : Fin 2 → Nat :=
  let c56_i32_1197 : BitVec 32 := 56#32
  let c0_i32_1186 : BitVec 32 := 0#32
  let v1812 : BitVec 1 := Scalar.cmpi .sgt v1810 c0_i32_1186
  let v1813 : BitVec 32 := Scalar.extui v1812
  let c0_i32_1187 : BitVec 32 := 0#32
  let v1814 : BitVec 1 := Scalar.cmpi .slt v1810 c0_i32_1187
  let v1815 : BitVec 32 := Scalar.extui v1814
  let v1816 : BitVec 32 := Scalar.subi v1813 v1815
  let c128_i32_1185 : BitVec 32 := 128#32
  let c0_i32_1188 : BitVec 32 := 0#32
  let v1817 : BitVec 1 := Scalar.cmpi .sgt c128_i32_1185 c0_i32_1188
  let v1818 : BitVec 32 := Scalar.extui v1817
  let c0_i32_1189 : BitVec 32 := 0#32
  let v1819 : BitVec 1 := Scalar.cmpi .slt c128_i32_1185 c0_i32_1189
  let v1820 : BitVec 32 := Scalar.extui v1819
  let v1821 : BitVec 32 := Scalar.subi v1818 v1820
  let v1822 : BitVec 1 := Scalar.cmpi .ne v1816 v1821
  let v1823 : BitVec 32 := Scalar.remsi v1810 c128_i32_1185
  let c0_i32_1190 : BitVec 32 := 0#32
  let v1824 : BitVec 1 := Scalar.cmpi .ne v1823 c0_i32_1190
  let v1825 : BitVec 1 := Scalar.andi v1822 v1824
  let v1811 : BitVec 32 := Scalar.divsi v1810 c128_i32_1185
  let c1_i32_1191 : BitVec 32 := 1#32
  let v1826 : BitVec 32 := Scalar.subi v1811 c1_i32_1191
  let v1827 : BitVec 32 := Scalar.select v1825 v1826 v1811
  let c128_i32_1192 : BitVec 32 := 128#32
  let v1828 : BitVec 32 := Scalar.muli v1827 c128_i32_1192
  let c982912_i32_1193 : BitVec 32 := 982912#32
  let v1829 : BitVec 32 := Scalar.minsi v1828 c982912_i32_1193
  ![56, v1829.toNat]

def k1_off128 (v1833 : BitVec 32) : Fin 2 → Nat :=
  let c56_i32_1211 : BitVec 32 := 56#32
  let c0_i32_1200 : BitVec 32 := 0#32
  let v1835 : BitVec 1 := Scalar.cmpi .sgt v1833 c0_i32_1200
  let v1836 : BitVec 32 := Scalar.extui v1835
  let c0_i32_1201 : BitVec 32 := 0#32
  let v1837 : BitVec 1 := Scalar.cmpi .slt v1833 c0_i32_1201
  let v1838 : BitVec 32 := Scalar.extui v1837
  let v1839 : BitVec 32 := Scalar.subi v1836 v1838
  let c128_i32_1199 : BitVec 32 := 128#32
  let c0_i32_1202 : BitVec 32 := 0#32
  let v1840 : BitVec 1 := Scalar.cmpi .sgt c128_i32_1199 c0_i32_1202
  let v1841 : BitVec 32 := Scalar.extui v1840
  let c0_i32_1203 : BitVec 32 := 0#32
  let v1842 : BitVec 1 := Scalar.cmpi .slt c128_i32_1199 c0_i32_1203
  let v1843 : BitVec 32 := Scalar.extui v1842
  let v1844 : BitVec 32 := Scalar.subi v1841 v1843
  let v1845 : BitVec 1 := Scalar.cmpi .ne v1839 v1844
  let v1846 : BitVec 32 := Scalar.remsi v1833 c128_i32_1199
  let c0_i32_1204 : BitVec 32 := 0#32
  let v1847 : BitVec 1 := Scalar.cmpi .ne v1846 c0_i32_1204
  let v1848 : BitVec 1 := Scalar.andi v1845 v1847
  let v1834 : BitVec 32 := Scalar.divsi v1833 c128_i32_1199
  let c1_i32_1205 : BitVec 32 := 1#32
  let v1849 : BitVec 32 := Scalar.subi v1834 c1_i32_1205
  let v1850 : BitVec 32 := Scalar.select v1848 v1849 v1834
  let c128_i32_1206 : BitVec 32 := 128#32
  let v1851 : BitVec 32 := Scalar.muli v1850 c128_i32_1206
  let c982912_i32_1207 : BitVec 32 := 982912#32
  let v1852 : BitVec 32 := Scalar.minsi v1851 c982912_i32_1207
  ![56, v1852.toNat]

def k1_chk128 (v1833 : BitVec 32) : Prop :=
  (∀ a, (k1_off128 v1833) a + S8x128.size a ≤ S64x1000000.size a)
theorem k1_off128_inb : ∀ (v1833 : BitVec 32) (k1_hw128 : k1_chk128 v1833), ∀ a, (k1_off128 v1833) a + S8x128.size a ≤ S64x1000000.size a := fun v1833 k1_hw128 => k1_hw128

def k1_off129 (v0 : BitVec 32) : Fin 2 → Nat :=
  let c0_i32_1215 : BitVec 32 := 0#32
  let c959_i32 : BitVec 32 := 959#32
  let v1 : BitVec 32 := Scalar.minsi v0 c959_i32
  let c1024_i32 : BitVec 32 := 1024#32
  let v2 : BitVec 32 := Scalar.muli v1 c1024_i32
  ![0, v2.toNat]

def k1_chk1 (v0 : BitVec 32) : Prop :=
  (∀ a, (k1_off1 v0) a + S8x1024.size a ≤ S64x1000000.size a) ∧
  (∀ a, (k1_off129 v0) a + S8x1024.size a ≤ S64x1000000.size a)
theorem k1_off1_inb : ∀ (v0 : BitVec 32) (k1_hw1 : k1_chk1 v0), ∀ a, (k1_off1 v0) a + S8x1024.size a ≤ S64x1000000.size a := fun v0 k1_hw1 => k1_hw1.1
theorem k1_off129_inb : ∀ (v0 : BitVec 32) (k1_hw1 : k1_chk1 v0), ∀ a, (k1_off129 v0) a + S8x1024.size a ≤ S64x1000000.size a := fun v0 k1_hw1 => k1_hw1.2

def k1_off130 (v6 : BitVec 32) : Fin 2 → Nat :=
  let c0_i32_1219 : BitVec 32 := 0#32
  let c959_i32_3 : BitVec 32 := 959#32
  let v7 : BitVec 32 := Scalar.minsi v6 c959_i32_3
  let c1024_i32_4 : BitVec 32 := 1024#32
  let v8 : BitVec 32 := Scalar.muli v7 c1024_i32_4
  ![0, v8.toNat]

def k1_chk2 (v6 : BitVec 32) : Prop :=
  (∀ a, (k1_off2 v6) a + S8x1024.size a ≤ S64x1000000.size a) ∧
  (∀ a, (k1_off130 v6) a + S8x1024.size a ≤ S64x1000000.size a)
theorem k1_off2_inb : ∀ (v6 : BitVec 32) (k1_hw2 : k1_chk2 v6), ∀ a, (k1_off2 v6) a + S8x1024.size a ≤ S64x1000000.size a := fun v6 k1_hw2 => k1_hw2.1
theorem k1_off130_inb : ∀ (v6 : BitVec 32) (k1_hw2 : k1_chk2 v6), ∀ a, (k1_off130 v6) a + S8x1024.size a ≤ S64x1000000.size a := fun v6 k1_hw2 => k1_hw2.2

def k1_off131 (v12 : BitVec 32) : Fin 2 → Nat :=
  let c0_i32_1223 : BitVec 32 := 0#32
  let c959_i32_8 : BitVec 32 := 959#32
  let v13 : BitVec 32 := Scalar.minsi v12 c959_i32_8
  let c1024_i32_9 : BitVec 32 := 1024#32
  let v14 : BitVec 32 := Scalar.muli v13 c1024_i32_9
  ![0, v14.toNat]

def k1_chk3 (v12 : BitVec 32) : Prop :=
  (∀ a, (k1_off3 v12) a + S8x1024.size a ≤ S64x1000000.size a) ∧
  (∀ a, (k1_off131 v12) a + S8x1024.size a ≤ S64x1000000.size a)
theorem k1_off3_inb : ∀ (v12 : BitVec 32) (k1_hw3 : k1_chk3 v12), ∀ a, (k1_off3 v12) a + S8x1024.size a ≤ S64x1000000.size a := fun v12 k1_hw3 => k1_hw3.1
theorem k1_off131_inb : ∀ (v12 : BitVec 32) (k1_hw3 : k1_chk3 v12), ∀ a, (k1_off131 v12) a + S8x1024.size a ≤ S64x1000000.size a := fun v12 k1_hw3 => k1_hw3.2

def k1_off132 (v18 : BitVec 32) : Fin 2 → Nat :=
  let c0_i32_1227 : BitVec 32 := 0#32
  let c959_i32_13 : BitVec 32 := 959#32
  let v19 : BitVec 32 := Scalar.minsi v18 c959_i32_13
  let c1024_i32_14 : BitVec 32 := 1024#32
  let v20 : BitVec 32 := Scalar.muli v19 c1024_i32_14
  ![0, v20.toNat]

def k1_chk4 (v18 : BitVec 32) : Prop :=
  (∀ a, (k1_off4 v18) a + S8x1024.size a ≤ S64x1000000.size a) ∧
  (∀ a, (k1_off132 v18) a + S8x1024.size a ≤ S64x1000000.size a)
theorem k1_off4_inb : ∀ (v18 : BitVec 32) (k1_hw4 : k1_chk4 v18), ∀ a, (k1_off4 v18) a + S8x1024.size a ≤ S64x1000000.size a := fun v18 k1_hw4 => k1_hw4.1
theorem k1_off132_inb : ∀ (v18 : BitVec 32) (k1_hw4 : k1_chk4 v18), ∀ a, (k1_off132 v18) a + S8x1024.size a ≤ S64x1000000.size a := fun v18 k1_hw4 => k1_hw4.2

def k1_off133 (v24 : BitVec 32) : Fin 2 → Nat :=
  let c0_i32_1231 : BitVec 32 := 0#32
  let c959_i32_18 : BitVec 32 := 959#32
  let v25 : BitVec 32 := Scalar.minsi v24 c959_i32_18
  let c1024_i32_19 : BitVec 32 := 1024#32
  let v26 : BitVec 32 := Scalar.muli v25 c1024_i32_19
  ![0, v26.toNat]

def k1_chk5 (v24 : BitVec 32) : Prop :=
  (∀ a, (k1_off5 v24) a + S8x1024.size a ≤ S64x1000000.size a) ∧
  (∀ a, (k1_off133 v24) a + S8x1024.size a ≤ S64x1000000.size a)
theorem k1_off5_inb : ∀ (v24 : BitVec 32) (k1_hw5 : k1_chk5 v24), ∀ a, (k1_off5 v24) a + S8x1024.size a ≤ S64x1000000.size a := fun v24 k1_hw5 => k1_hw5.1
theorem k1_off133_inb : ∀ (v24 : BitVec 32) (k1_hw5 : k1_chk5 v24), ∀ a, (k1_off133 v24) a + S8x1024.size a ≤ S64x1000000.size a := fun v24 k1_hw5 => k1_hw5.2

def k1_off134 (v30 : BitVec 32) : Fin 2 → Nat :=
  let c0_i32_1235 : BitVec 32 := 0#32
  let c959_i32_23 : BitVec 32 := 959#32
  let v31 : BitVec 32 := Scalar.minsi v30 c959_i32_23
  let c1024_i32_24 : BitVec 32 := 1024#32
  let v32 : BitVec 32 := Scalar.muli v31 c1024_i32_24
  ![0, v32.toNat]

def k1_chk6 (v30 : BitVec 32) : Prop :=
  (∀ a, (k1_off6 v30) a + S8x1024.size a ≤ S64x1000000.size a) ∧
  (∀ a, (k1_off134 v30) a + S8x1024.size a ≤ S64x1000000.size a)
theorem k1_off6_inb : ∀ (v30 : BitVec 32) (k1_hw6 : k1_chk6 v30), ∀ a, (k1_off6 v30) a + S8x1024.size a ≤ S64x1000000.size a := fun v30 k1_hw6 => k1_hw6.1
theorem k1_off134_inb : ∀ (v30 : BitVec 32) (k1_hw6 : k1_chk6 v30), ∀ a, (k1_off134 v30) a + S8x1024.size a ≤ S64x1000000.size a := fun v30 k1_hw6 => k1_hw6.2

def k1_off135 (v36 : BitVec 32) : Fin 2 → Nat :=
  let c0_i32_1239 : BitVec 32 := 0#32
  let c959_i32_28 : BitVec 32 := 959#32
  let v37 : BitVec 32 := Scalar.minsi v36 c959_i32_28
  let c1024_i32_29 : BitVec 32 := 1024#32
  let v38 : BitVec 32 := Scalar.muli v37 c1024_i32_29
  ![0, v38.toNat]

def k1_chk7 (v36 : BitVec 32) : Prop :=
  (∀ a, (k1_off7 v36) a + S8x1024.size a ≤ S64x1000000.size a) ∧
  (∀ a, (k1_off135 v36) a + S8x1024.size a ≤ S64x1000000.size a)
theorem k1_off7_inb : ∀ (v36 : BitVec 32) (k1_hw7 : k1_chk7 v36), ∀ a, (k1_off7 v36) a + S8x1024.size a ≤ S64x1000000.size a := fun v36 k1_hw7 => k1_hw7.1
theorem k1_off135_inb : ∀ (v36 : BitVec 32) (k1_hw7 : k1_chk7 v36), ∀ a, (k1_off135 v36) a + S8x1024.size a ≤ S64x1000000.size a := fun v36 k1_hw7 => k1_hw7.2

def k1_off136 (v42 : BitVec 32) : Fin 2 → Nat :=
  let c0_i32_1243 : BitVec 32 := 0#32
  let c959_i32_33 : BitVec 32 := 959#32
  let v43 : BitVec 32 := Scalar.minsi v42 c959_i32_33
  let c1024_i32_34 : BitVec 32 := 1024#32
  let v44 : BitVec 32 := Scalar.muli v43 c1024_i32_34
  ![0, v44.toNat]

def k1_chk8 (v42 : BitVec 32) : Prop :=
  (∀ a, (k1_off8 v42) a + S8x1024.size a ≤ S64x1000000.size a) ∧
  (∀ a, (k1_off136 v42) a + S8x1024.size a ≤ S64x1000000.size a)
theorem k1_off8_inb : ∀ (v42 : BitVec 32) (k1_hw8 : k1_chk8 v42), ∀ a, (k1_off8 v42) a + S8x1024.size a ≤ S64x1000000.size a := fun v42 k1_hw8 => k1_hw8.1
theorem k1_off136_inb : ∀ (v42 : BitVec 32) (k1_hw8 : k1_chk8 v42), ∀ a, (k1_off136 v42) a + S8x1024.size a ≤ S64x1000000.size a := fun v42 k1_hw8 => k1_hw8.2

def k1_off137 (v48 : BitVec 32) : Fin 2 → Nat :=
  let c8_i32_1247 : BitVec 32 := 8#32
  let c959_i32_38 : BitVec 32 := 959#32
  let v49 : BitVec 32 := Scalar.minsi v48 c959_i32_38
  let c1024_i32_39 : BitVec 32 := 1024#32
  let v50 : BitVec 32 := Scalar.muli v49 c1024_i32_39
  ![8, v50.toNat]

def k1_chk9 (v48 : BitVec 32) : Prop :=
  (∀ a, (k1_off9 v48) a + S8x1024.size a ≤ S64x1000000.size a) ∧
  (∀ a, (k1_off137 v48) a + S8x1024.size a ≤ S64x1000000.size a)
theorem k1_off9_inb : ∀ (v48 : BitVec 32) (k1_hw9 : k1_chk9 v48), ∀ a, (k1_off9 v48) a + S8x1024.size a ≤ S64x1000000.size a := fun v48 k1_hw9 => k1_hw9.1
theorem k1_off137_inb : ∀ (v48 : BitVec 32) (k1_hw9 : k1_chk9 v48), ∀ a, (k1_off137 v48) a + S8x1024.size a ≤ S64x1000000.size a := fun v48 k1_hw9 => k1_hw9.2

def k1_off138 (v54 : BitVec 32) : Fin 2 → Nat :=
  let c8_i32_1251 : BitVec 32 := 8#32
  let c959_i32_43 : BitVec 32 := 959#32
  let v55 : BitVec 32 := Scalar.minsi v54 c959_i32_43
  let c1024_i32_44 : BitVec 32 := 1024#32
  let v56 : BitVec 32 := Scalar.muli v55 c1024_i32_44
  ![8, v56.toNat]

def k1_chk10 (v54 : BitVec 32) : Prop :=
  (∀ a, (k1_off10 v54) a + S8x1024.size a ≤ S64x1000000.size a) ∧
  (∀ a, (k1_off138 v54) a + S8x1024.size a ≤ S64x1000000.size a)
theorem k1_off10_inb : ∀ (v54 : BitVec 32) (k1_hw10 : k1_chk10 v54), ∀ a, (k1_off10 v54) a + S8x1024.size a ≤ S64x1000000.size a := fun v54 k1_hw10 => k1_hw10.1
theorem k1_off138_inb : ∀ (v54 : BitVec 32) (k1_hw10 : k1_chk10 v54), ∀ a, (k1_off138 v54) a + S8x1024.size a ≤ S64x1000000.size a := fun v54 k1_hw10 => k1_hw10.2

def k1_off139 (v60 : BitVec 32) : Fin 2 → Nat :=
  let c8_i32_1255 : BitVec 32 := 8#32
  let c959_i32_48 : BitVec 32 := 959#32
  let v61 : BitVec 32 := Scalar.minsi v60 c959_i32_48
  let c1024_i32_49 : BitVec 32 := 1024#32
  let v62 : BitVec 32 := Scalar.muli v61 c1024_i32_49
  ![8, v62.toNat]

def k1_chk11 (v60 : BitVec 32) : Prop :=
  (∀ a, (k1_off11 v60) a + S8x1024.size a ≤ S64x1000000.size a) ∧
  (∀ a, (k1_off139 v60) a + S8x1024.size a ≤ S64x1000000.size a)
theorem k1_off11_inb : ∀ (v60 : BitVec 32) (k1_hw11 : k1_chk11 v60), ∀ a, (k1_off11 v60) a + S8x1024.size a ≤ S64x1000000.size a := fun v60 k1_hw11 => k1_hw11.1
theorem k1_off139_inb : ∀ (v60 : BitVec 32) (k1_hw11 : k1_chk11 v60), ∀ a, (k1_off139 v60) a + S8x1024.size a ≤ S64x1000000.size a := fun v60 k1_hw11 => k1_hw11.2

def k1_off140 (v66 : BitVec 32) : Fin 2 → Nat :=
  let c8_i32_1259 : BitVec 32 := 8#32
  let c959_i32_53 : BitVec 32 := 959#32
  let v67 : BitVec 32 := Scalar.minsi v66 c959_i32_53
  let c1024_i32_54 : BitVec 32 := 1024#32
  let v68 : BitVec 32 := Scalar.muli v67 c1024_i32_54
  ![8, v68.toNat]

def k1_chk12 (v66 : BitVec 32) : Prop :=
  (∀ a, (k1_off12 v66) a + S8x1024.size a ≤ S64x1000000.size a) ∧
  (∀ a, (k1_off140 v66) a + S8x1024.size a ≤ S64x1000000.size a)
theorem k1_off12_inb : ∀ (v66 : BitVec 32) (k1_hw12 : k1_chk12 v66), ∀ a, (k1_off12 v66) a + S8x1024.size a ≤ S64x1000000.size a := fun v66 k1_hw12 => k1_hw12.1
theorem k1_off140_inb : ∀ (v66 : BitVec 32) (k1_hw12 : k1_chk12 v66), ∀ a, (k1_off140 v66) a + S8x1024.size a ≤ S64x1000000.size a := fun v66 k1_hw12 => k1_hw12.2

def k1_off141 (v72 : BitVec 32) : Fin 2 → Nat :=
  let c8_i32_1263 : BitVec 32 := 8#32
  let c959_i32_58 : BitVec 32 := 959#32
  let v73 : BitVec 32 := Scalar.minsi v72 c959_i32_58
  let c1024_i32_59 : BitVec 32 := 1024#32
  let v74 : BitVec 32 := Scalar.muli v73 c1024_i32_59
  ![8, v74.toNat]

def k1_chk13 (v72 : BitVec 32) : Prop :=
  (∀ a, (k1_off13 v72) a + S8x1024.size a ≤ S64x1000000.size a) ∧
  (∀ a, (k1_off141 v72) a + S8x1024.size a ≤ S64x1000000.size a)
theorem k1_off13_inb : ∀ (v72 : BitVec 32) (k1_hw13 : k1_chk13 v72), ∀ a, (k1_off13 v72) a + S8x1024.size a ≤ S64x1000000.size a := fun v72 k1_hw13 => k1_hw13.1
theorem k1_off141_inb : ∀ (v72 : BitVec 32) (k1_hw13 : k1_chk13 v72), ∀ a, (k1_off141 v72) a + S8x1024.size a ≤ S64x1000000.size a := fun v72 k1_hw13 => k1_hw13.2

def k1_off142 (v78 : BitVec 32) : Fin 2 → Nat :=
  let c8_i32_1267 : BitVec 32 := 8#32
  let c959_i32_63 : BitVec 32 := 959#32
  let v79 : BitVec 32 := Scalar.minsi v78 c959_i32_63
  let c1024_i32_64 : BitVec 32 := 1024#32
  let v80 : BitVec 32 := Scalar.muli v79 c1024_i32_64
  ![8, v80.toNat]

def k1_chk14 (v78 : BitVec 32) : Prop :=
  (∀ a, (k1_off14 v78) a + S8x1024.size a ≤ S64x1000000.size a) ∧
  (∀ a, (k1_off142 v78) a + S8x1024.size a ≤ S64x1000000.size a)
theorem k1_off14_inb : ∀ (v78 : BitVec 32) (k1_hw14 : k1_chk14 v78), ∀ a, (k1_off14 v78) a + S8x1024.size a ≤ S64x1000000.size a := fun v78 k1_hw14 => k1_hw14.1
theorem k1_off142_inb : ∀ (v78 : BitVec 32) (k1_hw14 : k1_chk14 v78), ∀ a, (k1_off142 v78) a + S8x1024.size a ≤ S64x1000000.size a := fun v78 k1_hw14 => k1_hw14.2

def k1_off143 (v84 : BitVec 32) : Fin 2 → Nat :=
  let c8_i32_1271 : BitVec 32 := 8#32
  let c959_i32_68 : BitVec 32 := 959#32
  let v85 : BitVec 32 := Scalar.minsi v84 c959_i32_68
  let c1024_i32_69 : BitVec 32 := 1024#32
  let v86 : BitVec 32 := Scalar.muli v85 c1024_i32_69
  ![8, v86.toNat]

def k1_chk15 (v84 : BitVec 32) : Prop :=
  (∀ a, (k1_off15 v84) a + S8x1024.size a ≤ S64x1000000.size a) ∧
  (∀ a, (k1_off143 v84) a + S8x1024.size a ≤ S64x1000000.size a)
theorem k1_off15_inb : ∀ (v84 : BitVec 32) (k1_hw15 : k1_chk15 v84), ∀ a, (k1_off15 v84) a + S8x1024.size a ≤ S64x1000000.size a := fun v84 k1_hw15 => k1_hw15.1
theorem k1_off143_inb : ∀ (v84 : BitVec 32) (k1_hw15 : k1_chk15 v84), ∀ a, (k1_off143 v84) a + S8x1024.size a ≤ S64x1000000.size a := fun v84 k1_hw15 => k1_hw15.2

def k1_off144 (v90 : BitVec 32) : Fin 2 → Nat :=
  let c8_i32_1275 : BitVec 32 := 8#32
  let c959_i32_73 : BitVec 32 := 959#32
  let v91 : BitVec 32 := Scalar.minsi v90 c959_i32_73
  let c1024_i32_74 : BitVec 32 := 1024#32
  let v92 : BitVec 32 := Scalar.muli v91 c1024_i32_74
  ![8, v92.toNat]

def k1_chk16 (v90 : BitVec 32) : Prop :=
  (∀ a, (k1_off16 v90) a + S8x1024.size a ≤ S64x1000000.size a) ∧
  (∀ a, (k1_off144 v90) a + S8x1024.size a ≤ S64x1000000.size a)
theorem k1_off16_inb : ∀ (v90 : BitVec 32) (k1_hw16 : k1_chk16 v90), ∀ a, (k1_off16 v90) a + S8x1024.size a ≤ S64x1000000.size a := fun v90 k1_hw16 => k1_hw16.1
theorem k1_off144_inb : ∀ (v90 : BitVec 32) (k1_hw16 : k1_chk16 v90), ∀ a, (k1_off144 v90) a + S8x1024.size a ≤ S64x1000000.size a := fun v90 k1_hw16 => k1_hw16.2

def k1_off145 (v96 : BitVec 32) : Fin 2 → Nat :=
  let c16_i32_1279 : BitVec 32 := 16#32
  let c959_i32_78 : BitVec 32 := 959#32
  let v97 : BitVec 32 := Scalar.minsi v96 c959_i32_78
  let c1024_i32_79 : BitVec 32 := 1024#32
  let v98 : BitVec 32 := Scalar.muli v97 c1024_i32_79
  ![16, v98.toNat]

def k1_chk17 (v96 : BitVec 32) : Prop :=
  (∀ a, (k1_off17 v96) a + S8x1024.size a ≤ S64x1000000.size a) ∧
  (∀ a, (k1_off145 v96) a + S8x1024.size a ≤ S64x1000000.size a)
theorem k1_off17_inb : ∀ (v96 : BitVec 32) (k1_hw17 : k1_chk17 v96), ∀ a, (k1_off17 v96) a + S8x1024.size a ≤ S64x1000000.size a := fun v96 k1_hw17 => k1_hw17.1
theorem k1_off145_inb : ∀ (v96 : BitVec 32) (k1_hw17 : k1_chk17 v96), ∀ a, (k1_off145 v96) a + S8x1024.size a ≤ S64x1000000.size a := fun v96 k1_hw17 => k1_hw17.2

def k1_off146 (v102 : BitVec 32) : Fin 2 → Nat :=
  let c16_i32_1283 : BitVec 32 := 16#32
  let c959_i32_83 : BitVec 32 := 959#32
  let v103 : BitVec 32 := Scalar.minsi v102 c959_i32_83
  let c1024_i32_84 : BitVec 32 := 1024#32
  let v104 : BitVec 32 := Scalar.muli v103 c1024_i32_84
  ![16, v104.toNat]

def k1_chk18 (v102 : BitVec 32) : Prop :=
  (∀ a, (k1_off18 v102) a + S8x1024.size a ≤ S64x1000000.size a) ∧
  (∀ a, (k1_off146 v102) a + S8x1024.size a ≤ S64x1000000.size a)
theorem k1_off18_inb : ∀ (v102 : BitVec 32) (k1_hw18 : k1_chk18 v102), ∀ a, (k1_off18 v102) a + S8x1024.size a ≤ S64x1000000.size a := fun v102 k1_hw18 => k1_hw18.1
theorem k1_off146_inb : ∀ (v102 : BitVec 32) (k1_hw18 : k1_chk18 v102), ∀ a, (k1_off146 v102) a + S8x1024.size a ≤ S64x1000000.size a := fun v102 k1_hw18 => k1_hw18.2

def k1_off147 (v108 : BitVec 32) : Fin 2 → Nat :=
  let c16_i32_1287 : BitVec 32 := 16#32
  let c959_i32_88 : BitVec 32 := 959#32
  let v109 : BitVec 32 := Scalar.minsi v108 c959_i32_88
  let c1024_i32_89 : BitVec 32 := 1024#32
  let v110 : BitVec 32 := Scalar.muli v109 c1024_i32_89
  ![16, v110.toNat]

def k1_chk19 (v108 : BitVec 32) : Prop :=
  (∀ a, (k1_off19 v108) a + S8x1024.size a ≤ S64x1000000.size a) ∧
  (∀ a, (k1_off147 v108) a + S8x1024.size a ≤ S64x1000000.size a)
theorem k1_off19_inb : ∀ (v108 : BitVec 32) (k1_hw19 : k1_chk19 v108), ∀ a, (k1_off19 v108) a + S8x1024.size a ≤ S64x1000000.size a := fun v108 k1_hw19 => k1_hw19.1
theorem k1_off147_inb : ∀ (v108 : BitVec 32) (k1_hw19 : k1_chk19 v108), ∀ a, (k1_off147 v108) a + S8x1024.size a ≤ S64x1000000.size a := fun v108 k1_hw19 => k1_hw19.2

def k1_off148 (v114 : BitVec 32) : Fin 2 → Nat :=
  let c16_i32_1291 : BitVec 32 := 16#32
  let c959_i32_93 : BitVec 32 := 959#32
  let v115 : BitVec 32 := Scalar.minsi v114 c959_i32_93
  let c1024_i32_94 : BitVec 32 := 1024#32
  let v116 : BitVec 32 := Scalar.muli v115 c1024_i32_94
  ![16, v116.toNat]

def k1_chk20 (v114 : BitVec 32) : Prop :=
  (∀ a, (k1_off20 v114) a + S8x1024.size a ≤ S64x1000000.size a) ∧
  (∀ a, (k1_off148 v114) a + S8x1024.size a ≤ S64x1000000.size a)
theorem k1_off20_inb : ∀ (v114 : BitVec 32) (k1_hw20 : k1_chk20 v114), ∀ a, (k1_off20 v114) a + S8x1024.size a ≤ S64x1000000.size a := fun v114 k1_hw20 => k1_hw20.1
theorem k1_off148_inb : ∀ (v114 : BitVec 32) (k1_hw20 : k1_chk20 v114), ∀ a, (k1_off148 v114) a + S8x1024.size a ≤ S64x1000000.size a := fun v114 k1_hw20 => k1_hw20.2

def k1_off149 (v120 : BitVec 32) : Fin 2 → Nat :=
  let c16_i32_1295 : BitVec 32 := 16#32
  let c959_i32_98 : BitVec 32 := 959#32
  let v121 : BitVec 32 := Scalar.minsi v120 c959_i32_98
  let c1024_i32_99 : BitVec 32 := 1024#32
  let v122 : BitVec 32 := Scalar.muli v121 c1024_i32_99
  ![16, v122.toNat]

def k1_chk21 (v120 : BitVec 32) : Prop :=
  (∀ a, (k1_off21 v120) a + S8x1024.size a ≤ S64x1000000.size a) ∧
  (∀ a, (k1_off149 v120) a + S8x1024.size a ≤ S64x1000000.size a)
theorem k1_off21_inb : ∀ (v120 : BitVec 32) (k1_hw21 : k1_chk21 v120), ∀ a, (k1_off21 v120) a + S8x1024.size a ≤ S64x1000000.size a := fun v120 k1_hw21 => k1_hw21.1
theorem k1_off149_inb : ∀ (v120 : BitVec 32) (k1_hw21 : k1_chk21 v120), ∀ a, (k1_off149 v120) a + S8x1024.size a ≤ S64x1000000.size a := fun v120 k1_hw21 => k1_hw21.2

def k1_off150 (v126 : BitVec 32) : Fin 2 → Nat :=
  let c16_i32_1299 : BitVec 32 := 16#32
  let c959_i32_103 : BitVec 32 := 959#32
  let v127 : BitVec 32 := Scalar.minsi v126 c959_i32_103
  let c1024_i32_104 : BitVec 32 := 1024#32
  let v128 : BitVec 32 := Scalar.muli v127 c1024_i32_104
  ![16, v128.toNat]

def k1_chk22 (v126 : BitVec 32) : Prop :=
  (∀ a, (k1_off22 v126) a + S8x1024.size a ≤ S64x1000000.size a) ∧
  (∀ a, (k1_off150 v126) a + S8x1024.size a ≤ S64x1000000.size a)
theorem k1_off22_inb : ∀ (v126 : BitVec 32) (k1_hw22 : k1_chk22 v126), ∀ a, (k1_off22 v126) a + S8x1024.size a ≤ S64x1000000.size a := fun v126 k1_hw22 => k1_hw22.1
theorem k1_off150_inb : ∀ (v126 : BitVec 32) (k1_hw22 : k1_chk22 v126), ∀ a, (k1_off150 v126) a + S8x1024.size a ≤ S64x1000000.size a := fun v126 k1_hw22 => k1_hw22.2

def k1_off151 (v132 : BitVec 32) : Fin 2 → Nat :=
  let c16_i32_1303 : BitVec 32 := 16#32
  let c959_i32_108 : BitVec 32 := 959#32
  let v133 : BitVec 32 := Scalar.minsi v132 c959_i32_108
  let c1024_i32_109 : BitVec 32 := 1024#32
  let v134 : BitVec 32 := Scalar.muli v133 c1024_i32_109
  ![16, v134.toNat]

def k1_chk23 (v132 : BitVec 32) : Prop :=
  (∀ a, (k1_off23 v132) a + S8x1024.size a ≤ S64x1000000.size a) ∧
  (∀ a, (k1_off151 v132) a + S8x1024.size a ≤ S64x1000000.size a)
theorem k1_off23_inb : ∀ (v132 : BitVec 32) (k1_hw23 : k1_chk23 v132), ∀ a, (k1_off23 v132) a + S8x1024.size a ≤ S64x1000000.size a := fun v132 k1_hw23 => k1_hw23.1
theorem k1_off151_inb : ∀ (v132 : BitVec 32) (k1_hw23 : k1_chk23 v132), ∀ a, (k1_off151 v132) a + S8x1024.size a ≤ S64x1000000.size a := fun v132 k1_hw23 => k1_hw23.2

def k1_off152 (v138 : BitVec 32) : Fin 2 → Nat :=
  let c16_i32_1307 : BitVec 32 := 16#32
  let c959_i32_113 : BitVec 32 := 959#32
  let v139 : BitVec 32 := Scalar.minsi v138 c959_i32_113
  let c1024_i32_114 : BitVec 32 := 1024#32
  let v140 : BitVec 32 := Scalar.muli v139 c1024_i32_114
  ![16, v140.toNat]

def k1_chk24 (v138 : BitVec 32) : Prop :=
  (∀ a, (k1_off24 v138) a + S8x1024.size a ≤ S64x1000000.size a) ∧
  (∀ a, (k1_off152 v138) a + S8x1024.size a ≤ S64x1000000.size a)
theorem k1_off24_inb : ∀ (v138 : BitVec 32) (k1_hw24 : k1_chk24 v138), ∀ a, (k1_off24 v138) a + S8x1024.size a ≤ S64x1000000.size a := fun v138 k1_hw24 => k1_hw24.1
theorem k1_off152_inb : ∀ (v138 : BitVec 32) (k1_hw24 : k1_chk24 v138), ∀ a, (k1_off152 v138) a + S8x1024.size a ≤ S64x1000000.size a := fun v138 k1_hw24 => k1_hw24.2

def k1_off153 (v144 : BitVec 32) : Fin 2 → Nat :=
  let c24_i32_1311 : BitVec 32 := 24#32
  let c959_i32_118 : BitVec 32 := 959#32
  let v145 : BitVec 32 := Scalar.minsi v144 c959_i32_118
  let c1024_i32_119 : BitVec 32 := 1024#32
  let v146 : BitVec 32 := Scalar.muli v145 c1024_i32_119
  ![24, v146.toNat]

def k1_chk25 (v144 : BitVec 32) : Prop :=
  (∀ a, (k1_off25 v144) a + S8x1024.size a ≤ S64x1000000.size a) ∧
  (∀ a, (k1_off153 v144) a + S8x1024.size a ≤ S64x1000000.size a)
theorem k1_off25_inb : ∀ (v144 : BitVec 32) (k1_hw25 : k1_chk25 v144), ∀ a, (k1_off25 v144) a + S8x1024.size a ≤ S64x1000000.size a := fun v144 k1_hw25 => k1_hw25.1
theorem k1_off153_inb : ∀ (v144 : BitVec 32) (k1_hw25 : k1_chk25 v144), ∀ a, (k1_off153 v144) a + S8x1024.size a ≤ S64x1000000.size a := fun v144 k1_hw25 => k1_hw25.2

def k1_off154 (v150 : BitVec 32) : Fin 2 → Nat :=
  let c24_i32_1315 : BitVec 32 := 24#32
  let c959_i32_123 : BitVec 32 := 959#32
  let v151 : BitVec 32 := Scalar.minsi v150 c959_i32_123
  let c1024_i32_124 : BitVec 32 := 1024#32
  let v152 : BitVec 32 := Scalar.muli v151 c1024_i32_124
  ![24, v152.toNat]

def k1_chk26 (v150 : BitVec 32) : Prop :=
  (∀ a, (k1_off26 v150) a + S8x1024.size a ≤ S64x1000000.size a) ∧
  (∀ a, (k1_off154 v150) a + S8x1024.size a ≤ S64x1000000.size a)
theorem k1_off26_inb : ∀ (v150 : BitVec 32) (k1_hw26 : k1_chk26 v150), ∀ a, (k1_off26 v150) a + S8x1024.size a ≤ S64x1000000.size a := fun v150 k1_hw26 => k1_hw26.1
theorem k1_off154_inb : ∀ (v150 : BitVec 32) (k1_hw26 : k1_chk26 v150), ∀ a, (k1_off154 v150) a + S8x1024.size a ≤ S64x1000000.size a := fun v150 k1_hw26 => k1_hw26.2

def k1_off155 (v156 : BitVec 32) : Fin 2 → Nat :=
  let c24_i32_1319 : BitVec 32 := 24#32
  let c959_i32_128 : BitVec 32 := 959#32
  let v157 : BitVec 32 := Scalar.minsi v156 c959_i32_128
  let c1024_i32_129 : BitVec 32 := 1024#32
  let v158 : BitVec 32 := Scalar.muli v157 c1024_i32_129
  ![24, v158.toNat]

def k1_chk27 (v156 : BitVec 32) : Prop :=
  (∀ a, (k1_off27 v156) a + S8x1024.size a ≤ S64x1000000.size a) ∧
  (∀ a, (k1_off155 v156) a + S8x1024.size a ≤ S64x1000000.size a)
theorem k1_off27_inb : ∀ (v156 : BitVec 32) (k1_hw27 : k1_chk27 v156), ∀ a, (k1_off27 v156) a + S8x1024.size a ≤ S64x1000000.size a := fun v156 k1_hw27 => k1_hw27.1
theorem k1_off155_inb : ∀ (v156 : BitVec 32) (k1_hw27 : k1_chk27 v156), ∀ a, (k1_off155 v156) a + S8x1024.size a ≤ S64x1000000.size a := fun v156 k1_hw27 => k1_hw27.2

def k1_off156 (v162 : BitVec 32) : Fin 2 → Nat :=
  let c24_i32_1323 : BitVec 32 := 24#32
  let c959_i32_133 : BitVec 32 := 959#32
  let v163 : BitVec 32 := Scalar.minsi v162 c959_i32_133
  let c1024_i32_134 : BitVec 32 := 1024#32
  let v164 : BitVec 32 := Scalar.muli v163 c1024_i32_134
  ![24, v164.toNat]

def k1_chk28 (v162 : BitVec 32) : Prop :=
  (∀ a, (k1_off28 v162) a + S8x1024.size a ≤ S64x1000000.size a) ∧
  (∀ a, (k1_off156 v162) a + S8x1024.size a ≤ S64x1000000.size a)
theorem k1_off28_inb : ∀ (v162 : BitVec 32) (k1_hw28 : k1_chk28 v162), ∀ a, (k1_off28 v162) a + S8x1024.size a ≤ S64x1000000.size a := fun v162 k1_hw28 => k1_hw28.1
theorem k1_off156_inb : ∀ (v162 : BitVec 32) (k1_hw28 : k1_chk28 v162), ∀ a, (k1_off156 v162) a + S8x1024.size a ≤ S64x1000000.size a := fun v162 k1_hw28 => k1_hw28.2

def k1_off157 (v168 : BitVec 32) : Fin 2 → Nat :=
  let c24_i32_1327 : BitVec 32 := 24#32
  let c959_i32_138 : BitVec 32 := 959#32
  let v169 : BitVec 32 := Scalar.minsi v168 c959_i32_138
  let c1024_i32_139 : BitVec 32 := 1024#32
  let v170 : BitVec 32 := Scalar.muli v169 c1024_i32_139
  ![24, v170.toNat]

def k1_chk29 (v168 : BitVec 32) : Prop :=
  (∀ a, (k1_off29 v168) a + S8x1024.size a ≤ S64x1000000.size a) ∧
  (∀ a, (k1_off157 v168) a + S8x1024.size a ≤ S64x1000000.size a)
theorem k1_off29_inb : ∀ (v168 : BitVec 32) (k1_hw29 : k1_chk29 v168), ∀ a, (k1_off29 v168) a + S8x1024.size a ≤ S64x1000000.size a := fun v168 k1_hw29 => k1_hw29.1
theorem k1_off157_inb : ∀ (v168 : BitVec 32) (k1_hw29 : k1_chk29 v168), ∀ a, (k1_off157 v168) a + S8x1024.size a ≤ S64x1000000.size a := fun v168 k1_hw29 => k1_hw29.2

def k1_off158 (v174 : BitVec 32) : Fin 2 → Nat :=
  let c24_i32_1331 : BitVec 32 := 24#32
  let c959_i32_143 : BitVec 32 := 959#32
  let v175 : BitVec 32 := Scalar.minsi v174 c959_i32_143
  let c1024_i32_144 : BitVec 32 := 1024#32
  let v176 : BitVec 32 := Scalar.muli v175 c1024_i32_144
  ![24, v176.toNat]

def k1_chk30 (v174 : BitVec 32) : Prop :=
  (∀ a, (k1_off30 v174) a + S8x1024.size a ≤ S64x1000000.size a) ∧
  (∀ a, (k1_off158 v174) a + S8x1024.size a ≤ S64x1000000.size a)
theorem k1_off30_inb : ∀ (v174 : BitVec 32) (k1_hw30 : k1_chk30 v174), ∀ a, (k1_off30 v174) a + S8x1024.size a ≤ S64x1000000.size a := fun v174 k1_hw30 => k1_hw30.1
theorem k1_off158_inb : ∀ (v174 : BitVec 32) (k1_hw30 : k1_chk30 v174), ∀ a, (k1_off158 v174) a + S8x1024.size a ≤ S64x1000000.size a := fun v174 k1_hw30 => k1_hw30.2

def k1_off159 (v180 : BitVec 32) : Fin 2 → Nat :=
  let c24_i32_1335 : BitVec 32 := 24#32
  let c959_i32_148 : BitVec 32 := 959#32
  let v181 : BitVec 32 := Scalar.minsi v180 c959_i32_148
  let c1024_i32_149 : BitVec 32 := 1024#32
  let v182 : BitVec 32 := Scalar.muli v181 c1024_i32_149
  ![24, v182.toNat]

def k1_chk31 (v180 : BitVec 32) : Prop :=
  (∀ a, (k1_off31 v180) a + S8x1024.size a ≤ S64x1000000.size a) ∧
  (∀ a, (k1_off159 v180) a + S8x1024.size a ≤ S64x1000000.size a)
theorem k1_off31_inb : ∀ (v180 : BitVec 32) (k1_hw31 : k1_chk31 v180), ∀ a, (k1_off31 v180) a + S8x1024.size a ≤ S64x1000000.size a := fun v180 k1_hw31 => k1_hw31.1
theorem k1_off159_inb : ∀ (v180 : BitVec 32) (k1_hw31 : k1_chk31 v180), ∀ a, (k1_off159 v180) a + S8x1024.size a ≤ S64x1000000.size a := fun v180 k1_hw31 => k1_hw31.2

def k1_off160 (v186 : BitVec 32) : Fin 2 → Nat :=
  let c24_i32_1339 : BitVec 32 := 24#32
  let c959_i32_153 : BitVec 32 := 959#32
  let v187 : BitVec 32 := Scalar.minsi v186 c959_i32_153
  let c1024_i32_154 : BitVec 32 := 1024#32
  let v188 : BitVec 32 := Scalar.muli v187 c1024_i32_154
  ![24, v188.toNat]

def k1_chk32 (v186 : BitVec 32) : Prop :=
  (∀ a, (k1_off32 v186) a + S8x1024.size a ≤ S64x1000000.size a) ∧
  (∀ a, (k1_off160 v186) a + S8x1024.size a ≤ S64x1000000.size a)
theorem k1_off32_inb : ∀ (v186 : BitVec 32) (k1_hw32 : k1_chk32 v186), ∀ a, (k1_off32 v186) a + S8x1024.size a ≤ S64x1000000.size a := fun v186 k1_hw32 => k1_hw32.1
theorem k1_off160_inb : ∀ (v186 : BitVec 32) (k1_hw32 : k1_chk32 v186), ∀ a, (k1_off160 v186) a + S8x1024.size a ≤ S64x1000000.size a := fun v186 k1_hw32 => k1_hw32.2

def k1_off161 (v192 : BitVec 32) : Fin 2 → Nat :=
  let c32_i32_1343 : BitVec 32 := 32#32
  let c959_i32_158 : BitVec 32 := 959#32
  let v193 : BitVec 32 := Scalar.minsi v192 c959_i32_158
  let c1024_i32_159 : BitVec 32 := 1024#32
  let v194 : BitVec 32 := Scalar.muli v193 c1024_i32_159
  ![32, v194.toNat]

def k1_chk33 (v192 : BitVec 32) : Prop :=
  (∀ a, (k1_off33 v192) a + S8x1024.size a ≤ S64x1000000.size a) ∧
  (∀ a, (k1_off161 v192) a + S8x1024.size a ≤ S64x1000000.size a)
theorem k1_off33_inb : ∀ (v192 : BitVec 32) (k1_hw33 : k1_chk33 v192), ∀ a, (k1_off33 v192) a + S8x1024.size a ≤ S64x1000000.size a := fun v192 k1_hw33 => k1_hw33.1
theorem k1_off161_inb : ∀ (v192 : BitVec 32) (k1_hw33 : k1_chk33 v192), ∀ a, (k1_off161 v192) a + S8x1024.size a ≤ S64x1000000.size a := fun v192 k1_hw33 => k1_hw33.2

def k1_off162 (v198 : BitVec 32) : Fin 2 → Nat :=
  let c32_i32_1347 : BitVec 32 := 32#32
  let c959_i32_163 : BitVec 32 := 959#32
  let v199 : BitVec 32 := Scalar.minsi v198 c959_i32_163
  let c1024_i32_164 : BitVec 32 := 1024#32
  let v200 : BitVec 32 := Scalar.muli v199 c1024_i32_164
  ![32, v200.toNat]

def k1_chk34 (v198 : BitVec 32) : Prop :=
  (∀ a, (k1_off34 v198) a + S8x1024.size a ≤ S64x1000000.size a) ∧
  (∀ a, (k1_off162 v198) a + S8x1024.size a ≤ S64x1000000.size a)
theorem k1_off34_inb : ∀ (v198 : BitVec 32) (k1_hw34 : k1_chk34 v198), ∀ a, (k1_off34 v198) a + S8x1024.size a ≤ S64x1000000.size a := fun v198 k1_hw34 => k1_hw34.1
theorem k1_off162_inb : ∀ (v198 : BitVec 32) (k1_hw34 : k1_chk34 v198), ∀ a, (k1_off162 v198) a + S8x1024.size a ≤ S64x1000000.size a := fun v198 k1_hw34 => k1_hw34.2

def k1_off163 (v204 : BitVec 32) : Fin 2 → Nat :=
  let c32_i32_1351 : BitVec 32 := 32#32
  let c959_i32_168 : BitVec 32 := 959#32
  let v205 : BitVec 32 := Scalar.minsi v204 c959_i32_168
  let c1024_i32_169 : BitVec 32 := 1024#32
  let v206 : BitVec 32 := Scalar.muli v205 c1024_i32_169
  ![32, v206.toNat]

def k1_chk35 (v204 : BitVec 32) : Prop :=
  (∀ a, (k1_off35 v204) a + S8x1024.size a ≤ S64x1000000.size a) ∧
  (∀ a, (k1_off163 v204) a + S8x1024.size a ≤ S64x1000000.size a)
theorem k1_off35_inb : ∀ (v204 : BitVec 32) (k1_hw35 : k1_chk35 v204), ∀ a, (k1_off35 v204) a + S8x1024.size a ≤ S64x1000000.size a := fun v204 k1_hw35 => k1_hw35.1
theorem k1_off163_inb : ∀ (v204 : BitVec 32) (k1_hw35 : k1_chk35 v204), ∀ a, (k1_off163 v204) a + S8x1024.size a ≤ S64x1000000.size a := fun v204 k1_hw35 => k1_hw35.2

def k1_off164 (v210 : BitVec 32) : Fin 2 → Nat :=
  let c32_i32_1355 : BitVec 32 := 32#32
  let c959_i32_173 : BitVec 32 := 959#32
  let v211 : BitVec 32 := Scalar.minsi v210 c959_i32_173
  let c1024_i32_174 : BitVec 32 := 1024#32
  let v212 : BitVec 32 := Scalar.muli v211 c1024_i32_174
  ![32, v212.toNat]

def k1_chk36 (v210 : BitVec 32) : Prop :=
  (∀ a, (k1_off36 v210) a + S8x1024.size a ≤ S64x1000000.size a) ∧
  (∀ a, (k1_off164 v210) a + S8x1024.size a ≤ S64x1000000.size a)
theorem k1_off36_inb : ∀ (v210 : BitVec 32) (k1_hw36 : k1_chk36 v210), ∀ a, (k1_off36 v210) a + S8x1024.size a ≤ S64x1000000.size a := fun v210 k1_hw36 => k1_hw36.1
theorem k1_off164_inb : ∀ (v210 : BitVec 32) (k1_hw36 : k1_chk36 v210), ∀ a, (k1_off164 v210) a + S8x1024.size a ≤ S64x1000000.size a := fun v210 k1_hw36 => k1_hw36.2

def k1_off165 (v216 : BitVec 32) : Fin 2 → Nat :=
  let c32_i32_1359 : BitVec 32 := 32#32
  let c959_i32_178 : BitVec 32 := 959#32
  let v217 : BitVec 32 := Scalar.minsi v216 c959_i32_178
  let c1024_i32_179 : BitVec 32 := 1024#32
  let v218 : BitVec 32 := Scalar.muli v217 c1024_i32_179
  ![32, v218.toNat]

def k1_chk37 (v216 : BitVec 32) : Prop :=
  (∀ a, (k1_off37 v216) a + S8x1024.size a ≤ S64x1000000.size a) ∧
  (∀ a, (k1_off165 v216) a + S8x1024.size a ≤ S64x1000000.size a)
theorem k1_off37_inb : ∀ (v216 : BitVec 32) (k1_hw37 : k1_chk37 v216), ∀ a, (k1_off37 v216) a + S8x1024.size a ≤ S64x1000000.size a := fun v216 k1_hw37 => k1_hw37.1
theorem k1_off165_inb : ∀ (v216 : BitVec 32) (k1_hw37 : k1_chk37 v216), ∀ a, (k1_off165 v216) a + S8x1024.size a ≤ S64x1000000.size a := fun v216 k1_hw37 => k1_hw37.2

def k1_off166 (v222 : BitVec 32) : Fin 2 → Nat :=
  let c32_i32_1363 : BitVec 32 := 32#32
  let c959_i32_183 : BitVec 32 := 959#32
  let v223 : BitVec 32 := Scalar.minsi v222 c959_i32_183
  let c1024_i32_184 : BitVec 32 := 1024#32
  let v224 : BitVec 32 := Scalar.muli v223 c1024_i32_184
  ![32, v224.toNat]

def k1_chk38 (v222 : BitVec 32) : Prop :=
  (∀ a, (k1_off38 v222) a + S8x1024.size a ≤ S64x1000000.size a) ∧
  (∀ a, (k1_off166 v222) a + S8x1024.size a ≤ S64x1000000.size a)
theorem k1_off38_inb : ∀ (v222 : BitVec 32) (k1_hw38 : k1_chk38 v222), ∀ a, (k1_off38 v222) a + S8x1024.size a ≤ S64x1000000.size a := fun v222 k1_hw38 => k1_hw38.1
theorem k1_off166_inb : ∀ (v222 : BitVec 32) (k1_hw38 : k1_chk38 v222), ∀ a, (k1_off166 v222) a + S8x1024.size a ≤ S64x1000000.size a := fun v222 k1_hw38 => k1_hw38.2

def k1_off167 (v228 : BitVec 32) : Fin 2 → Nat :=
  let c32_i32_1367 : BitVec 32 := 32#32
  let c959_i32_188 : BitVec 32 := 959#32
  let v229 : BitVec 32 := Scalar.minsi v228 c959_i32_188
  let c1024_i32_189 : BitVec 32 := 1024#32
  let v230 : BitVec 32 := Scalar.muli v229 c1024_i32_189
  ![32, v230.toNat]

def k1_chk39 (v228 : BitVec 32) : Prop :=
  (∀ a, (k1_off39 v228) a + S8x1024.size a ≤ S64x1000000.size a) ∧
  (∀ a, (k1_off167 v228) a + S8x1024.size a ≤ S64x1000000.size a)
theorem k1_off39_inb : ∀ (v228 : BitVec 32) (k1_hw39 : k1_chk39 v228), ∀ a, (k1_off39 v228) a + S8x1024.size a ≤ S64x1000000.size a := fun v228 k1_hw39 => k1_hw39.1
theorem k1_off167_inb : ∀ (v228 : BitVec 32) (k1_hw39 : k1_chk39 v228), ∀ a, (k1_off167 v228) a + S8x1024.size a ≤ S64x1000000.size a := fun v228 k1_hw39 => k1_hw39.2

def k1_off168 (v234 : BitVec 32) : Fin 2 → Nat :=
  let c32_i32_1371 : BitVec 32 := 32#32
  let c959_i32_193 : BitVec 32 := 959#32
  let v235 : BitVec 32 := Scalar.minsi v234 c959_i32_193
  let c1024_i32_194 : BitVec 32 := 1024#32
  let v236 : BitVec 32 := Scalar.muli v235 c1024_i32_194
  ![32, v236.toNat]

def k1_chk40 (v234 : BitVec 32) : Prop :=
  (∀ a, (k1_off40 v234) a + S8x1024.size a ≤ S64x1000000.size a) ∧
  (∀ a, (k1_off168 v234) a + S8x1024.size a ≤ S64x1000000.size a)
theorem k1_off40_inb : ∀ (v234 : BitVec 32) (k1_hw40 : k1_chk40 v234), ∀ a, (k1_off40 v234) a + S8x1024.size a ≤ S64x1000000.size a := fun v234 k1_hw40 => k1_hw40.1
theorem k1_off168_inb : ∀ (v234 : BitVec 32) (k1_hw40 : k1_chk40 v234), ∀ a, (k1_off168 v234) a + S8x1024.size a ≤ S64x1000000.size a := fun v234 k1_hw40 => k1_hw40.2

def k1_off169 (v240 : BitVec 32) : Fin 2 → Nat :=
  let c40_i32_1375 : BitVec 32 := 40#32
  let c959_i32_198 : BitVec 32 := 959#32
  let v241 : BitVec 32 := Scalar.minsi v240 c959_i32_198
  let c1024_i32_199 : BitVec 32 := 1024#32
  let v242 : BitVec 32 := Scalar.muli v241 c1024_i32_199
  ![40, v242.toNat]

def k1_chk41 (v240 : BitVec 32) : Prop :=
  (∀ a, (k1_off41 v240) a + S8x1024.size a ≤ S64x1000000.size a) ∧
  (∀ a, (k1_off169 v240) a + S8x1024.size a ≤ S64x1000000.size a)
theorem k1_off41_inb : ∀ (v240 : BitVec 32) (k1_hw41 : k1_chk41 v240), ∀ a, (k1_off41 v240) a + S8x1024.size a ≤ S64x1000000.size a := fun v240 k1_hw41 => k1_hw41.1
theorem k1_off169_inb : ∀ (v240 : BitVec 32) (k1_hw41 : k1_chk41 v240), ∀ a, (k1_off169 v240) a + S8x1024.size a ≤ S64x1000000.size a := fun v240 k1_hw41 => k1_hw41.2

def k1_off170 (v246 : BitVec 32) : Fin 2 → Nat :=
  let c40_i32_1379 : BitVec 32 := 40#32
  let c959_i32_203 : BitVec 32 := 959#32
  let v247 : BitVec 32 := Scalar.minsi v246 c959_i32_203
  let c1024_i32_204 : BitVec 32 := 1024#32
  let v248 : BitVec 32 := Scalar.muli v247 c1024_i32_204
  ![40, v248.toNat]

def k1_chk42 (v246 : BitVec 32) : Prop :=
  (∀ a, (k1_off42 v246) a + S8x1024.size a ≤ S64x1000000.size a) ∧
  (∀ a, (k1_off170 v246) a + S8x1024.size a ≤ S64x1000000.size a)
theorem k1_off42_inb : ∀ (v246 : BitVec 32) (k1_hw42 : k1_chk42 v246), ∀ a, (k1_off42 v246) a + S8x1024.size a ≤ S64x1000000.size a := fun v246 k1_hw42 => k1_hw42.1
theorem k1_off170_inb : ∀ (v246 : BitVec 32) (k1_hw42 : k1_chk42 v246), ∀ a, (k1_off170 v246) a + S8x1024.size a ≤ S64x1000000.size a := fun v246 k1_hw42 => k1_hw42.2

def k1_off171 (v252 : BitVec 32) : Fin 2 → Nat :=
  let c40_i32_1383 : BitVec 32 := 40#32
  let c959_i32_208 : BitVec 32 := 959#32
  let v253 : BitVec 32 := Scalar.minsi v252 c959_i32_208
  let c1024_i32_209 : BitVec 32 := 1024#32
  let v254 : BitVec 32 := Scalar.muli v253 c1024_i32_209
  ![40, v254.toNat]

def k1_chk43 (v252 : BitVec 32) : Prop :=
  (∀ a, (k1_off43 v252) a + S8x1024.size a ≤ S64x1000000.size a) ∧
  (∀ a, (k1_off171 v252) a + S8x1024.size a ≤ S64x1000000.size a)
theorem k1_off43_inb : ∀ (v252 : BitVec 32) (k1_hw43 : k1_chk43 v252), ∀ a, (k1_off43 v252) a + S8x1024.size a ≤ S64x1000000.size a := fun v252 k1_hw43 => k1_hw43.1
theorem k1_off171_inb : ∀ (v252 : BitVec 32) (k1_hw43 : k1_chk43 v252), ∀ a, (k1_off171 v252) a + S8x1024.size a ≤ S64x1000000.size a := fun v252 k1_hw43 => k1_hw43.2

def k1_off172 (v258 : BitVec 32) : Fin 2 → Nat :=
  let c40_i32_1387 : BitVec 32 := 40#32
  let c959_i32_213 : BitVec 32 := 959#32
  let v259 : BitVec 32 := Scalar.minsi v258 c959_i32_213
  let c1024_i32_214 : BitVec 32 := 1024#32
  let v260 : BitVec 32 := Scalar.muli v259 c1024_i32_214
  ![40, v260.toNat]

def k1_chk44 (v258 : BitVec 32) : Prop :=
  (∀ a, (k1_off44 v258) a + S8x1024.size a ≤ S64x1000000.size a) ∧
  (∀ a, (k1_off172 v258) a + S8x1024.size a ≤ S64x1000000.size a)
theorem k1_off44_inb : ∀ (v258 : BitVec 32) (k1_hw44 : k1_chk44 v258), ∀ a, (k1_off44 v258) a + S8x1024.size a ≤ S64x1000000.size a := fun v258 k1_hw44 => k1_hw44.1
theorem k1_off172_inb : ∀ (v258 : BitVec 32) (k1_hw44 : k1_chk44 v258), ∀ a, (k1_off172 v258) a + S8x1024.size a ≤ S64x1000000.size a := fun v258 k1_hw44 => k1_hw44.2

def k1_off173 (v264 : BitVec 32) : Fin 2 → Nat :=
  let c40_i32_1391 : BitVec 32 := 40#32
  let c959_i32_218 : BitVec 32 := 959#32
  let v265 : BitVec 32 := Scalar.minsi v264 c959_i32_218
  let c1024_i32_219 : BitVec 32 := 1024#32
  let v266 : BitVec 32 := Scalar.muli v265 c1024_i32_219
  ![40, v266.toNat]

def k1_chk45 (v264 : BitVec 32) : Prop :=
  (∀ a, (k1_off45 v264) a + S8x1024.size a ≤ S64x1000000.size a) ∧
  (∀ a, (k1_off173 v264) a + S8x1024.size a ≤ S64x1000000.size a)
theorem k1_off45_inb : ∀ (v264 : BitVec 32) (k1_hw45 : k1_chk45 v264), ∀ a, (k1_off45 v264) a + S8x1024.size a ≤ S64x1000000.size a := fun v264 k1_hw45 => k1_hw45.1
theorem k1_off173_inb : ∀ (v264 : BitVec 32) (k1_hw45 : k1_chk45 v264), ∀ a, (k1_off173 v264) a + S8x1024.size a ≤ S64x1000000.size a := fun v264 k1_hw45 => k1_hw45.2

def k1_off174 (v270 : BitVec 32) : Fin 2 → Nat :=
  let c40_i32_1395 : BitVec 32 := 40#32
  let c959_i32_223 : BitVec 32 := 959#32
  let v271 : BitVec 32 := Scalar.minsi v270 c959_i32_223
  let c1024_i32_224 : BitVec 32 := 1024#32
  let v272 : BitVec 32 := Scalar.muli v271 c1024_i32_224
  ![40, v272.toNat]

def k1_chk46 (v270 : BitVec 32) : Prop :=
  (∀ a, (k1_off46 v270) a + S8x1024.size a ≤ S64x1000000.size a) ∧
  (∀ a, (k1_off174 v270) a + S8x1024.size a ≤ S64x1000000.size a)
theorem k1_off46_inb : ∀ (v270 : BitVec 32) (k1_hw46 : k1_chk46 v270), ∀ a, (k1_off46 v270) a + S8x1024.size a ≤ S64x1000000.size a := fun v270 k1_hw46 => k1_hw46.1
theorem k1_off174_inb : ∀ (v270 : BitVec 32) (k1_hw46 : k1_chk46 v270), ∀ a, (k1_off174 v270) a + S8x1024.size a ≤ S64x1000000.size a := fun v270 k1_hw46 => k1_hw46.2

def k1_off175 (v276 : BitVec 32) : Fin 2 → Nat :=
  let c40_i32_1399 : BitVec 32 := 40#32
  let c959_i32_228 : BitVec 32 := 959#32
  let v277 : BitVec 32 := Scalar.minsi v276 c959_i32_228
  let c1024_i32_229 : BitVec 32 := 1024#32
  let v278 : BitVec 32 := Scalar.muli v277 c1024_i32_229
  ![40, v278.toNat]

def k1_chk47 (v276 : BitVec 32) : Prop :=
  (∀ a, (k1_off47 v276) a + S8x1024.size a ≤ S64x1000000.size a) ∧
  (∀ a, (k1_off175 v276) a + S8x1024.size a ≤ S64x1000000.size a)
theorem k1_off47_inb : ∀ (v276 : BitVec 32) (k1_hw47 : k1_chk47 v276), ∀ a, (k1_off47 v276) a + S8x1024.size a ≤ S64x1000000.size a := fun v276 k1_hw47 => k1_hw47.1
theorem k1_off175_inb : ∀ (v276 : BitVec 32) (k1_hw47 : k1_chk47 v276), ∀ a, (k1_off175 v276) a + S8x1024.size a ≤ S64x1000000.size a := fun v276 k1_hw47 => k1_hw47.2

def k1_off176 (v282 : BitVec 32) : Fin 2 → Nat :=
  let c40_i32_1403 : BitVec 32 := 40#32
  let c959_i32_233 : BitVec 32 := 959#32
  let v283 : BitVec 32 := Scalar.minsi v282 c959_i32_233
  let c1024_i32_234 : BitVec 32 := 1024#32
  let v284 : BitVec 32 := Scalar.muli v283 c1024_i32_234
  ![40, v284.toNat]

def k1_chk48 (v282 : BitVec 32) : Prop :=
  (∀ a, (k1_off48 v282) a + S8x1024.size a ≤ S64x1000000.size a) ∧
  (∀ a, (k1_off176 v282) a + S8x1024.size a ≤ S64x1000000.size a)
theorem k1_off48_inb : ∀ (v282 : BitVec 32) (k1_hw48 : k1_chk48 v282), ∀ a, (k1_off48 v282) a + S8x1024.size a ≤ S64x1000000.size a := fun v282 k1_hw48 => k1_hw48.1
theorem k1_off176_inb : ∀ (v282 : BitVec 32) (k1_hw48 : k1_chk48 v282), ∀ a, (k1_off176 v282) a + S8x1024.size a ≤ S64x1000000.size a := fun v282 k1_hw48 => k1_hw48.2

def k1_off177 (v288 : BitVec 32) : Fin 2 → Nat :=
  let c48_i32_1407 : BitVec 32 := 48#32
  let c959_i32_238 : BitVec 32 := 959#32
  let v289 : BitVec 32 := Scalar.minsi v288 c959_i32_238
  let c1024_i32_239 : BitVec 32 := 1024#32
  let v290 : BitVec 32 := Scalar.muli v289 c1024_i32_239
  ![48, v290.toNat]

def k1_chk49 (v288 : BitVec 32) : Prop :=
  (∀ a, (k1_off49 v288) a + S8x1024.size a ≤ S64x1000000.size a) ∧
  (∀ a, (k1_off177 v288) a + S8x1024.size a ≤ S64x1000000.size a)
theorem k1_off49_inb : ∀ (v288 : BitVec 32) (k1_hw49 : k1_chk49 v288), ∀ a, (k1_off49 v288) a + S8x1024.size a ≤ S64x1000000.size a := fun v288 k1_hw49 => k1_hw49.1
theorem k1_off177_inb : ∀ (v288 : BitVec 32) (k1_hw49 : k1_chk49 v288), ∀ a, (k1_off177 v288) a + S8x1024.size a ≤ S64x1000000.size a := fun v288 k1_hw49 => k1_hw49.2

def k1_off178 (v294 : BitVec 32) : Fin 2 → Nat :=
  let c48_i32_1411 : BitVec 32 := 48#32
  let c959_i32_243 : BitVec 32 := 959#32
  let v295 : BitVec 32 := Scalar.minsi v294 c959_i32_243
  let c1024_i32_244 : BitVec 32 := 1024#32
  let v296 : BitVec 32 := Scalar.muli v295 c1024_i32_244
  ![48, v296.toNat]

def k1_chk50 (v294 : BitVec 32) : Prop :=
  (∀ a, (k1_off50 v294) a + S8x1024.size a ≤ S64x1000000.size a) ∧
  (∀ a, (k1_off178 v294) a + S8x1024.size a ≤ S64x1000000.size a)
theorem k1_off50_inb : ∀ (v294 : BitVec 32) (k1_hw50 : k1_chk50 v294), ∀ a, (k1_off50 v294) a + S8x1024.size a ≤ S64x1000000.size a := fun v294 k1_hw50 => k1_hw50.1
theorem k1_off178_inb : ∀ (v294 : BitVec 32) (k1_hw50 : k1_chk50 v294), ∀ a, (k1_off178 v294) a + S8x1024.size a ≤ S64x1000000.size a := fun v294 k1_hw50 => k1_hw50.2

def k1_off179 (v300 : BitVec 32) : Fin 2 → Nat :=
  let c48_i32_1415 : BitVec 32 := 48#32
  let c959_i32_248 : BitVec 32 := 959#32
  let v301 : BitVec 32 := Scalar.minsi v300 c959_i32_248
  let c1024_i32_249 : BitVec 32 := 1024#32
  let v302 : BitVec 32 := Scalar.muli v301 c1024_i32_249
  ![48, v302.toNat]

def k1_chk51 (v300 : BitVec 32) : Prop :=
  (∀ a, (k1_off51 v300) a + S8x1024.size a ≤ S64x1000000.size a) ∧
  (∀ a, (k1_off179 v300) a + S8x1024.size a ≤ S64x1000000.size a)
theorem k1_off51_inb : ∀ (v300 : BitVec 32) (k1_hw51 : k1_chk51 v300), ∀ a, (k1_off51 v300) a + S8x1024.size a ≤ S64x1000000.size a := fun v300 k1_hw51 => k1_hw51.1
theorem k1_off179_inb : ∀ (v300 : BitVec 32) (k1_hw51 : k1_chk51 v300), ∀ a, (k1_off179 v300) a + S8x1024.size a ≤ S64x1000000.size a := fun v300 k1_hw51 => k1_hw51.2

def k1_off180 (v306 : BitVec 32) : Fin 2 → Nat :=
  let c48_i32_1419 : BitVec 32 := 48#32
  let c959_i32_253 : BitVec 32 := 959#32
  let v307 : BitVec 32 := Scalar.minsi v306 c959_i32_253
  let c1024_i32_254 : BitVec 32 := 1024#32
  let v308 : BitVec 32 := Scalar.muli v307 c1024_i32_254
  ![48, v308.toNat]

def k1_chk52 (v306 : BitVec 32) : Prop :=
  (∀ a, (k1_off52 v306) a + S8x1024.size a ≤ S64x1000000.size a) ∧
  (∀ a, (k1_off180 v306) a + S8x1024.size a ≤ S64x1000000.size a)
theorem k1_off52_inb : ∀ (v306 : BitVec 32) (k1_hw52 : k1_chk52 v306), ∀ a, (k1_off52 v306) a + S8x1024.size a ≤ S64x1000000.size a := fun v306 k1_hw52 => k1_hw52.1
theorem k1_off180_inb : ∀ (v306 : BitVec 32) (k1_hw52 : k1_chk52 v306), ∀ a, (k1_off180 v306) a + S8x1024.size a ≤ S64x1000000.size a := fun v306 k1_hw52 => k1_hw52.2

def k1_off181 (v312 : BitVec 32) : Fin 2 → Nat :=
  let c48_i32_1423 : BitVec 32 := 48#32
  let c959_i32_258 : BitVec 32 := 959#32
  let v313 : BitVec 32 := Scalar.minsi v312 c959_i32_258
  let c1024_i32_259 : BitVec 32 := 1024#32
  let v314 : BitVec 32 := Scalar.muli v313 c1024_i32_259
  ![48, v314.toNat]

def k1_chk53 (v312 : BitVec 32) : Prop :=
  (∀ a, (k1_off53 v312) a + S8x1024.size a ≤ S64x1000000.size a) ∧
  (∀ a, (k1_off181 v312) a + S8x1024.size a ≤ S64x1000000.size a)
theorem k1_off53_inb : ∀ (v312 : BitVec 32) (k1_hw53 : k1_chk53 v312), ∀ a, (k1_off53 v312) a + S8x1024.size a ≤ S64x1000000.size a := fun v312 k1_hw53 => k1_hw53.1
theorem k1_off181_inb : ∀ (v312 : BitVec 32) (k1_hw53 : k1_chk53 v312), ∀ a, (k1_off181 v312) a + S8x1024.size a ≤ S64x1000000.size a := fun v312 k1_hw53 => k1_hw53.2

def k1_off182 (v318 : BitVec 32) : Fin 2 → Nat :=
  let c48_i32_1427 : BitVec 32 := 48#32
  let c959_i32_263 : BitVec 32 := 959#32
  let v319 : BitVec 32 := Scalar.minsi v318 c959_i32_263
  let c1024_i32_264 : BitVec 32 := 1024#32
  let v320 : BitVec 32 := Scalar.muli v319 c1024_i32_264
  ![48, v320.toNat]

def k1_chk54 (v318 : BitVec 32) : Prop :=
  (∀ a, (k1_off54 v318) a + S8x1024.size a ≤ S64x1000000.size a) ∧
  (∀ a, (k1_off182 v318) a + S8x1024.size a ≤ S64x1000000.size a)
theorem k1_off54_inb : ∀ (v318 : BitVec 32) (k1_hw54 : k1_chk54 v318), ∀ a, (k1_off54 v318) a + S8x1024.size a ≤ S64x1000000.size a := fun v318 k1_hw54 => k1_hw54.1
theorem k1_off182_inb : ∀ (v318 : BitVec 32) (k1_hw54 : k1_chk54 v318), ∀ a, (k1_off182 v318) a + S8x1024.size a ≤ S64x1000000.size a := fun v318 k1_hw54 => k1_hw54.2

def k1_off183 (v324 : BitVec 32) : Fin 2 → Nat :=
  let c48_i32_1431 : BitVec 32 := 48#32
  let c959_i32_268 : BitVec 32 := 959#32
  let v325 : BitVec 32 := Scalar.minsi v324 c959_i32_268
  let c1024_i32_269 : BitVec 32 := 1024#32
  let v326 : BitVec 32 := Scalar.muli v325 c1024_i32_269
  ![48, v326.toNat]

def k1_chk55 (v324 : BitVec 32) : Prop :=
  (∀ a, (k1_off55 v324) a + S8x1024.size a ≤ S64x1000000.size a) ∧
  (∀ a, (k1_off183 v324) a + S8x1024.size a ≤ S64x1000000.size a)
theorem k1_off55_inb : ∀ (v324 : BitVec 32) (k1_hw55 : k1_chk55 v324), ∀ a, (k1_off55 v324) a + S8x1024.size a ≤ S64x1000000.size a := fun v324 k1_hw55 => k1_hw55.1
theorem k1_off183_inb : ∀ (v324 : BitVec 32) (k1_hw55 : k1_chk55 v324), ∀ a, (k1_off183 v324) a + S8x1024.size a ≤ S64x1000000.size a := fun v324 k1_hw55 => k1_hw55.2

def k1_off184 (v330 : BitVec 32) : Fin 2 → Nat :=
  let c48_i32_1435 : BitVec 32 := 48#32
  let c959_i32_273 : BitVec 32 := 959#32
  let v331 : BitVec 32 := Scalar.minsi v330 c959_i32_273
  let c1024_i32_274 : BitVec 32 := 1024#32
  let v332 : BitVec 32 := Scalar.muli v331 c1024_i32_274
  ![48, v332.toNat]

def k1_chk56 (v330 : BitVec 32) : Prop :=
  (∀ a, (k1_off56 v330) a + S8x1024.size a ≤ S64x1000000.size a) ∧
  (∀ a, (k1_off184 v330) a + S8x1024.size a ≤ S64x1000000.size a)
theorem k1_off56_inb : ∀ (v330 : BitVec 32) (k1_hw56 : k1_chk56 v330), ∀ a, (k1_off56 v330) a + S8x1024.size a ≤ S64x1000000.size a := fun v330 k1_hw56 => k1_hw56.1
theorem k1_off184_inb : ∀ (v330 : BitVec 32) (k1_hw56 : k1_chk56 v330), ∀ a, (k1_off184 v330) a + S8x1024.size a ≤ S64x1000000.size a := fun v330 k1_hw56 => k1_hw56.2

def k1_off185 (v336 : BitVec 32) : Fin 2 → Nat :=
  let c56_i32_1439 : BitVec 32 := 56#32
  let c959_i32_278 : BitVec 32 := 959#32
  let v337 : BitVec 32 := Scalar.minsi v336 c959_i32_278
  let c1024_i32_279 : BitVec 32 := 1024#32
  let v338 : BitVec 32 := Scalar.muli v337 c1024_i32_279
  ![56, v338.toNat]

def k1_chk57 (v336 : BitVec 32) : Prop :=
  (∀ a, (k1_off57 v336) a + S8x1024.size a ≤ S64x1000000.size a) ∧
  (∀ a, (k1_off185 v336) a + S8x1024.size a ≤ S64x1000000.size a)
theorem k1_off57_inb : ∀ (v336 : BitVec 32) (k1_hw57 : k1_chk57 v336), ∀ a, (k1_off57 v336) a + S8x1024.size a ≤ S64x1000000.size a := fun v336 k1_hw57 => k1_hw57.1
theorem k1_off185_inb : ∀ (v336 : BitVec 32) (k1_hw57 : k1_chk57 v336), ∀ a, (k1_off185 v336) a + S8x1024.size a ≤ S64x1000000.size a := fun v336 k1_hw57 => k1_hw57.2

def k1_off186 (v342 : BitVec 32) : Fin 2 → Nat :=
  let c56_i32_1443 : BitVec 32 := 56#32
  let c959_i32_283 : BitVec 32 := 959#32
  let v343 : BitVec 32 := Scalar.minsi v342 c959_i32_283
  let c1024_i32_284 : BitVec 32 := 1024#32
  let v344 : BitVec 32 := Scalar.muli v343 c1024_i32_284
  ![56, v344.toNat]

def k1_chk58 (v342 : BitVec 32) : Prop :=
  (∀ a, (k1_off58 v342) a + S8x1024.size a ≤ S64x1000000.size a) ∧
  (∀ a, (k1_off186 v342) a + S8x1024.size a ≤ S64x1000000.size a)
theorem k1_off58_inb : ∀ (v342 : BitVec 32) (k1_hw58 : k1_chk58 v342), ∀ a, (k1_off58 v342) a + S8x1024.size a ≤ S64x1000000.size a := fun v342 k1_hw58 => k1_hw58.1
theorem k1_off186_inb : ∀ (v342 : BitVec 32) (k1_hw58 : k1_chk58 v342), ∀ a, (k1_off186 v342) a + S8x1024.size a ≤ S64x1000000.size a := fun v342 k1_hw58 => k1_hw58.2

def k1_off187 (v348 : BitVec 32) : Fin 2 → Nat :=
  let c56_i32_1447 : BitVec 32 := 56#32
  let c959_i32_288 : BitVec 32 := 959#32
  let v349 : BitVec 32 := Scalar.minsi v348 c959_i32_288
  let c1024_i32_289 : BitVec 32 := 1024#32
  let v350 : BitVec 32 := Scalar.muli v349 c1024_i32_289
  ![56, v350.toNat]

def k1_chk59 (v348 : BitVec 32) : Prop :=
  (∀ a, (k1_off59 v348) a + S8x1024.size a ≤ S64x1000000.size a) ∧
  (∀ a, (k1_off187 v348) a + S8x1024.size a ≤ S64x1000000.size a)
theorem k1_off59_inb : ∀ (v348 : BitVec 32) (k1_hw59 : k1_chk59 v348), ∀ a, (k1_off59 v348) a + S8x1024.size a ≤ S64x1000000.size a := fun v348 k1_hw59 => k1_hw59.1
theorem k1_off187_inb : ∀ (v348 : BitVec 32) (k1_hw59 : k1_chk59 v348), ∀ a, (k1_off187 v348) a + S8x1024.size a ≤ S64x1000000.size a := fun v348 k1_hw59 => k1_hw59.2

def k1_off188 (v354 : BitVec 32) : Fin 2 → Nat :=
  let c56_i32_1451 : BitVec 32 := 56#32
  let c959_i32_293 : BitVec 32 := 959#32
  let v355 : BitVec 32 := Scalar.minsi v354 c959_i32_293
  let c1024_i32_294 : BitVec 32 := 1024#32
  let v356 : BitVec 32 := Scalar.muli v355 c1024_i32_294
  ![56, v356.toNat]

def k1_chk60 (v354 : BitVec 32) : Prop :=
  (∀ a, (k1_off60 v354) a + S8x1024.size a ≤ S64x1000000.size a) ∧
  (∀ a, (k1_off188 v354) a + S8x1024.size a ≤ S64x1000000.size a)
theorem k1_off60_inb : ∀ (v354 : BitVec 32) (k1_hw60 : k1_chk60 v354), ∀ a, (k1_off60 v354) a + S8x1024.size a ≤ S64x1000000.size a := fun v354 k1_hw60 => k1_hw60.1
theorem k1_off188_inb : ∀ (v354 : BitVec 32) (k1_hw60 : k1_chk60 v354), ∀ a, (k1_off188 v354) a + S8x1024.size a ≤ S64x1000000.size a := fun v354 k1_hw60 => k1_hw60.2

def k1_off189 (v360 : BitVec 32) : Fin 2 → Nat :=
  let c56_i32_1455 : BitVec 32 := 56#32
  let c959_i32_298 : BitVec 32 := 959#32
  let v361 : BitVec 32 := Scalar.minsi v360 c959_i32_298
  let c1024_i32_299 : BitVec 32 := 1024#32
  let v362 : BitVec 32 := Scalar.muli v361 c1024_i32_299
  ![56, v362.toNat]

def k1_chk61 (v360 : BitVec 32) : Prop :=
  (∀ a, (k1_off61 v360) a + S8x1024.size a ≤ S64x1000000.size a) ∧
  (∀ a, (k1_off189 v360) a + S8x1024.size a ≤ S64x1000000.size a)
theorem k1_off61_inb : ∀ (v360 : BitVec 32) (k1_hw61 : k1_chk61 v360), ∀ a, (k1_off61 v360) a + S8x1024.size a ≤ S64x1000000.size a := fun v360 k1_hw61 => k1_hw61.1
theorem k1_off189_inb : ∀ (v360 : BitVec 32) (k1_hw61 : k1_chk61 v360), ∀ a, (k1_off189 v360) a + S8x1024.size a ≤ S64x1000000.size a := fun v360 k1_hw61 => k1_hw61.2

def k1_off190 (v366 : BitVec 32) : Fin 2 → Nat :=
  let c56_i32_1459 : BitVec 32 := 56#32
  let c959_i32_303 : BitVec 32 := 959#32
  let v367 : BitVec 32 := Scalar.minsi v366 c959_i32_303
  let c1024_i32_304 : BitVec 32 := 1024#32
  let v368 : BitVec 32 := Scalar.muli v367 c1024_i32_304
  ![56, v368.toNat]

def k1_chk62 (v366 : BitVec 32) : Prop :=
  (∀ a, (k1_off62 v366) a + S8x1024.size a ≤ S64x1000000.size a) ∧
  (∀ a, (k1_off190 v366) a + S8x1024.size a ≤ S64x1000000.size a)
theorem k1_off62_inb : ∀ (v366 : BitVec 32) (k1_hw62 : k1_chk62 v366), ∀ a, (k1_off62 v366) a + S8x1024.size a ≤ S64x1000000.size a := fun v366 k1_hw62 => k1_hw62.1
theorem k1_off190_inb : ∀ (v366 : BitVec 32) (k1_hw62 : k1_chk62 v366), ∀ a, (k1_off190 v366) a + S8x1024.size a ≤ S64x1000000.size a := fun v366 k1_hw62 => k1_hw62.2

def k1_off191 (v372 : BitVec 32) : Fin 2 → Nat :=
  let c56_i32_1463 : BitVec 32 := 56#32
  let c959_i32_308 : BitVec 32 := 959#32
  let v373 : BitVec 32 := Scalar.minsi v372 c959_i32_308
  let c1024_i32_309 : BitVec 32 := 1024#32
  let v374 : BitVec 32 := Scalar.muli v373 c1024_i32_309
  ![56, v374.toNat]

def k1_chk63 (v372 : BitVec 32) : Prop :=
  (∀ a, (k1_off63 v372) a + S8x1024.size a ≤ S64x1000000.size a) ∧
  (∀ a, (k1_off191 v372) a + S8x1024.size a ≤ S64x1000000.size a)
theorem k1_off63_inb : ∀ (v372 : BitVec 32) (k1_hw63 : k1_chk63 v372), ∀ a, (k1_off63 v372) a + S8x1024.size a ≤ S64x1000000.size a := fun v372 k1_hw63 => k1_hw63.1
theorem k1_off191_inb : ∀ (v372 : BitVec 32) (k1_hw63 : k1_chk63 v372), ∀ a, (k1_off191 v372) a + S8x1024.size a ≤ S64x1000000.size a := fun v372 k1_hw63 => k1_hw63.2

def k1_off192 (v378 : BitVec 32) : Fin 2 → Nat :=
  let c56_i32_1467 : BitVec 32 := 56#32
  let c959_i32_313 : BitVec 32 := 959#32
  let v379 : BitVec 32 := Scalar.minsi v378 c959_i32_313
  let c1024_i32_314 : BitVec 32 := 1024#32
  let v380 : BitVec 32 := Scalar.muli v379 c1024_i32_314
  ![56, v380.toNat]

def k1_chk64 (v378 : BitVec 32) : Prop :=
  (∀ a, (k1_off64 v378) a + S8x1024.size a ≤ S64x1000000.size a) ∧
  (∀ a, (k1_off192 v378) a + S8x1024.size a ≤ S64x1000000.size a)
theorem k1_off64_inb : ∀ (v378 : BitVec 32) (k1_hw64 : k1_chk64 v378), ∀ a, (k1_off64 v378) a + S8x1024.size a ≤ S64x1000000.size a := fun v378 k1_hw64 => k1_hw64.1
theorem k1_off192_inb : ∀ (v378 : BitVec 32) (k1_hw64 : k1_chk64 v378), ∀ a, (k1_off192 v378) a + S8x1024.size a ≤ S64x1000000.size a := fun v378 k1_hw64 => k1_hw64.2

def k1_off193 (v384 : BitVec 32) : Fin 2 → Nat :=
  let c0_i32_1491 : BitVec 32 := 0#32
  let c0_i32_319 : BitVec 32 := 0#32
  let v386 : BitVec 1 := Scalar.cmpi .sgt v384 c0_i32_319
  let v387 : BitVec 32 := Scalar.extui v386
  let c0_i32_320 : BitVec 32 := 0#32
  let v388 : BitVec 1 := Scalar.cmpi .slt v384 c0_i32_320
  let v389 : BitVec 32 := Scalar.extui v388
  let v390 : BitVec 32 := Scalar.subi v387 v389
  let c128_i32 : BitVec 32 := 128#32
  let c0_i32_321 : BitVec 32 := 0#32
  let v391 : BitVec 1 := Scalar.cmpi .sgt c128_i32 c0_i32_321
  let v392 : BitVec 32 := Scalar.extui v391
  let c0_i32_322 : BitVec 32 := 0#32
  let v393 : BitVec 1 := Scalar.cmpi .slt c128_i32 c0_i32_322
  let v394 : BitVec 32 := Scalar.extui v393
  let v395 : BitVec 32 := Scalar.subi v392 v394
  let v396 : BitVec 1 := Scalar.cmpi .ne v390 v395
  let v397 : BitVec 32 := Scalar.remsi v384 c128_i32
  let c0_i32_323 : BitVec 32 := 0#32
  let v398 : BitVec 1 := Scalar.cmpi .ne v397 c0_i32_323
  let v399 : BitVec 1 := Scalar.andi v396 v398
  let v385 : BitVec 32 := Scalar.divsi v384 c128_i32
  let c1_i32_324 : BitVec 32 := 1#32
  let v400 : BitVec 32 := Scalar.subi v385 c1_i32_324
  let v401 : BitVec 32 := Scalar.select v399 v400 v385
  let c128_i32_325 : BitVec 32 := 128#32
  let v402 : BitVec 32 := Scalar.muli v401 c128_i32_325
  let c982912_i32 : BitVec 32 := 982912#32
  let v403 : BitVec 32 := Scalar.minsi v402 c982912_i32
  ![0, v403.toNat]

def k1_chk65 (v384 : BitVec 32) : Prop :=
  (∀ a, (k1_off65 v384) a + S8x128.size a ≤ S64x1000000.size a) ∧
  (∀ a, (k1_off193 v384) a + S8x128.size a ≤ S64x1000000.size a)
theorem k1_off65_inb : ∀ (v384 : BitVec 32) (k1_hw65 : k1_chk65 v384), ∀ a, (k1_off65 v384) a + S8x128.size a ≤ S64x1000000.size a := fun v384 k1_hw65 => k1_hw65.1
theorem k1_off193_inb : ∀ (v384 : BitVec 32) (k1_hw65 : k1_chk65 v384), ∀ a, (k1_off193 v384) a + S8x128.size a ≤ S64x1000000.size a := fun v384 k1_hw65 => k1_hw65.2

def k1_off194 (v407 : BitVec 32) : Fin 2 → Nat :=
  let c0_i32_1495 : BitVec 32 := 0#32
  let c0_i32_332 : BitVec 32 := 0#32
  let v409 : BitVec 1 := Scalar.cmpi .sgt v407 c0_i32_332
  let v410 : BitVec 32 := Scalar.extui v409
  let c0_i32_333 : BitVec 32 := 0#32
  let v411 : BitVec 1 := Scalar.cmpi .slt v407 c0_i32_333
  let v412 : BitVec 32 := Scalar.extui v411
  let v413 : BitVec 32 := Scalar.subi v410 v412
  let c128_i32_331 : BitVec 32 := 128#32
  let c0_i32_334 : BitVec 32 := 0#32
  let v414 : BitVec 1 := Scalar.cmpi .sgt c128_i32_331 c0_i32_334
  let v415 : BitVec 32 := Scalar.extui v414
  let c0_i32_335 : BitVec 32 := 0#32
  let v416 : BitVec 1 := Scalar.cmpi .slt c128_i32_331 c0_i32_335
  let v417 : BitVec 32 := Scalar.extui v416
  let v418 : BitVec 32 := Scalar.subi v415 v417
  let v419 : BitVec 1 := Scalar.cmpi .ne v413 v418
  let v420 : BitVec 32 := Scalar.remsi v407 c128_i32_331
  let c0_i32_336 : BitVec 32 := 0#32
  let v421 : BitVec 1 := Scalar.cmpi .ne v420 c0_i32_336
  let v422 : BitVec 1 := Scalar.andi v419 v421
  let v408 : BitVec 32 := Scalar.divsi v407 c128_i32_331
  let c1_i32_337 : BitVec 32 := 1#32
  let v423 : BitVec 32 := Scalar.subi v408 c1_i32_337
  let v424 : BitVec 32 := Scalar.select v422 v423 v408
  let c128_i32_338 : BitVec 32 := 128#32
  let v425 : BitVec 32 := Scalar.muli v424 c128_i32_338
  let c982912_i32_339 : BitVec 32 := 982912#32
  let v426 : BitVec 32 := Scalar.minsi v425 c982912_i32_339
  ![0, v426.toNat]

def k1_chk66 (v407 : BitVec 32) : Prop :=
  (∀ a, (k1_off66 v407) a + S8x128.size a ≤ S64x1000000.size a) ∧
  (∀ a, (k1_off194 v407) a + S8x128.size a ≤ S64x1000000.size a)
theorem k1_off66_inb : ∀ (v407 : BitVec 32) (k1_hw66 : k1_chk66 v407), ∀ a, (k1_off66 v407) a + S8x128.size a ≤ S64x1000000.size a := fun v407 k1_hw66 => k1_hw66.1
theorem k1_off194_inb : ∀ (v407 : BitVec 32) (k1_hw66 : k1_chk66 v407), ∀ a, (k1_off194 v407) a + S8x128.size a ≤ S64x1000000.size a := fun v407 k1_hw66 => k1_hw66.2

def k1_off195 (v430 : BitVec 32) : Fin 2 → Nat :=
  let c0_i32_1499 : BitVec 32 := 0#32
  let c0_i32_346 : BitVec 32 := 0#32
  let v432 : BitVec 1 := Scalar.cmpi .sgt v430 c0_i32_346
  let v433 : BitVec 32 := Scalar.extui v432
  let c0_i32_347 : BitVec 32 := 0#32
  let v434 : BitVec 1 := Scalar.cmpi .slt v430 c0_i32_347
  let v435 : BitVec 32 := Scalar.extui v434
  let v436 : BitVec 32 := Scalar.subi v433 v435
  let c128_i32_345 : BitVec 32 := 128#32
  let c0_i32_348 : BitVec 32 := 0#32
  let v437 : BitVec 1 := Scalar.cmpi .sgt c128_i32_345 c0_i32_348
  let v438 : BitVec 32 := Scalar.extui v437
  let c0_i32_349 : BitVec 32 := 0#32
  let v439 : BitVec 1 := Scalar.cmpi .slt c128_i32_345 c0_i32_349
  let v440 : BitVec 32 := Scalar.extui v439
  let v441 : BitVec 32 := Scalar.subi v438 v440
  let v442 : BitVec 1 := Scalar.cmpi .ne v436 v441
  let v443 : BitVec 32 := Scalar.remsi v430 c128_i32_345
  let c0_i32_350 : BitVec 32 := 0#32
  let v444 : BitVec 1 := Scalar.cmpi .ne v443 c0_i32_350
  let v445 : BitVec 1 := Scalar.andi v442 v444
  let v431 : BitVec 32 := Scalar.divsi v430 c128_i32_345
  let c1_i32_351 : BitVec 32 := 1#32
  let v446 : BitVec 32 := Scalar.subi v431 c1_i32_351
  let v447 : BitVec 32 := Scalar.select v445 v446 v431
  let c128_i32_352 : BitVec 32 := 128#32
  let v448 : BitVec 32 := Scalar.muli v447 c128_i32_352
  let c982912_i32_353 : BitVec 32 := 982912#32
  let v449 : BitVec 32 := Scalar.minsi v448 c982912_i32_353
  ![0, v449.toNat]

def k1_chk67 (v430 : BitVec 32) : Prop :=
  (∀ a, (k1_off67 v430) a + S8x128.size a ≤ S64x1000000.size a) ∧
  (∀ a, (k1_off195 v430) a + S8x128.size a ≤ S64x1000000.size a)
theorem k1_off67_inb : ∀ (v430 : BitVec 32) (k1_hw67 : k1_chk67 v430), ∀ a, (k1_off67 v430) a + S8x128.size a ≤ S64x1000000.size a := fun v430 k1_hw67 => k1_hw67.1
theorem k1_off195_inb : ∀ (v430 : BitVec 32) (k1_hw67 : k1_chk67 v430), ∀ a, (k1_off195 v430) a + S8x128.size a ≤ S64x1000000.size a := fun v430 k1_hw67 => k1_hw67.2

def k1_off196 (v453 : BitVec 32) : Fin 2 → Nat :=
  let c0_i32_1503 : BitVec 32 := 0#32
  let c0_i32_360 : BitVec 32 := 0#32
  let v455 : BitVec 1 := Scalar.cmpi .sgt v453 c0_i32_360
  let v456 : BitVec 32 := Scalar.extui v455
  let c0_i32_361 : BitVec 32 := 0#32
  let v457 : BitVec 1 := Scalar.cmpi .slt v453 c0_i32_361
  let v458 : BitVec 32 := Scalar.extui v457
  let v459 : BitVec 32 := Scalar.subi v456 v458
  let c128_i32_359 : BitVec 32 := 128#32
  let c0_i32_362 : BitVec 32 := 0#32
  let v460 : BitVec 1 := Scalar.cmpi .sgt c128_i32_359 c0_i32_362
  let v461 : BitVec 32 := Scalar.extui v460
  let c0_i32_363 : BitVec 32 := 0#32
  let v462 : BitVec 1 := Scalar.cmpi .slt c128_i32_359 c0_i32_363
  let v463 : BitVec 32 := Scalar.extui v462
  let v464 : BitVec 32 := Scalar.subi v461 v463
  let v465 : BitVec 1 := Scalar.cmpi .ne v459 v464
  let v466 : BitVec 32 := Scalar.remsi v453 c128_i32_359
  let c0_i32_364 : BitVec 32 := 0#32
  let v467 : BitVec 1 := Scalar.cmpi .ne v466 c0_i32_364
  let v468 : BitVec 1 := Scalar.andi v465 v467
  let v454 : BitVec 32 := Scalar.divsi v453 c128_i32_359
  let c1_i32_365 : BitVec 32 := 1#32
  let v469 : BitVec 32 := Scalar.subi v454 c1_i32_365
  let v470 : BitVec 32 := Scalar.select v468 v469 v454
  let c128_i32_366 : BitVec 32 := 128#32
  let v471 : BitVec 32 := Scalar.muli v470 c128_i32_366
  let c982912_i32_367 : BitVec 32 := 982912#32
  let v472 : BitVec 32 := Scalar.minsi v471 c982912_i32_367
  ![0, v472.toNat]

def k1_chk68 (v453 : BitVec 32) : Prop :=
  (∀ a, (k1_off68 v453) a + S8x128.size a ≤ S64x1000000.size a) ∧
  (∀ a, (k1_off196 v453) a + S8x128.size a ≤ S64x1000000.size a)
theorem k1_off68_inb : ∀ (v453 : BitVec 32) (k1_hw68 : k1_chk68 v453), ∀ a, (k1_off68 v453) a + S8x128.size a ≤ S64x1000000.size a := fun v453 k1_hw68 => k1_hw68.1
theorem k1_off196_inb : ∀ (v453 : BitVec 32) (k1_hw68 : k1_chk68 v453), ∀ a, (k1_off196 v453) a + S8x128.size a ≤ S64x1000000.size a := fun v453 k1_hw68 => k1_hw68.2

def k1_off197 (v476 : BitVec 32) : Fin 2 → Nat :=
  let c0_i32_1507 : BitVec 32 := 0#32
  let c0_i32_374 : BitVec 32 := 0#32
  let v478 : BitVec 1 := Scalar.cmpi .sgt v476 c0_i32_374
  let v479 : BitVec 32 := Scalar.extui v478
  let c0_i32_375 : BitVec 32 := 0#32
  let v480 : BitVec 1 := Scalar.cmpi .slt v476 c0_i32_375
  let v481 : BitVec 32 := Scalar.extui v480
  let v482 : BitVec 32 := Scalar.subi v479 v481
  let c128_i32_373 : BitVec 32 := 128#32
  let c0_i32_376 : BitVec 32 := 0#32
  let v483 : BitVec 1 := Scalar.cmpi .sgt c128_i32_373 c0_i32_376
  let v484 : BitVec 32 := Scalar.extui v483
  let c0_i32_377 : BitVec 32 := 0#32
  let v485 : BitVec 1 := Scalar.cmpi .slt c128_i32_373 c0_i32_377
  let v486 : BitVec 32 := Scalar.extui v485
  let v487 : BitVec 32 := Scalar.subi v484 v486
  let v488 : BitVec 1 := Scalar.cmpi .ne v482 v487
  let v489 : BitVec 32 := Scalar.remsi v476 c128_i32_373
  let c0_i32_378 : BitVec 32 := 0#32
  let v490 : BitVec 1 := Scalar.cmpi .ne v489 c0_i32_378
  let v491 : BitVec 1 := Scalar.andi v488 v490
  let v477 : BitVec 32 := Scalar.divsi v476 c128_i32_373
  let c1_i32_379 : BitVec 32 := 1#32
  let v492 : BitVec 32 := Scalar.subi v477 c1_i32_379
  let v493 : BitVec 32 := Scalar.select v491 v492 v477
  let c128_i32_380 : BitVec 32 := 128#32
  let v494 : BitVec 32 := Scalar.muli v493 c128_i32_380
  let c982912_i32_381 : BitVec 32 := 982912#32
  let v495 : BitVec 32 := Scalar.minsi v494 c982912_i32_381
  ![0, v495.toNat]

def k1_chk69 (v476 : BitVec 32) : Prop :=
  (∀ a, (k1_off69 v476) a + S8x128.size a ≤ S64x1000000.size a) ∧
  (∀ a, (k1_off197 v476) a + S8x128.size a ≤ S64x1000000.size a)
theorem k1_off69_inb : ∀ (v476 : BitVec 32) (k1_hw69 : k1_chk69 v476), ∀ a, (k1_off69 v476) a + S8x128.size a ≤ S64x1000000.size a := fun v476 k1_hw69 => k1_hw69.1
theorem k1_off197_inb : ∀ (v476 : BitVec 32) (k1_hw69 : k1_chk69 v476), ∀ a, (k1_off197 v476) a + S8x128.size a ≤ S64x1000000.size a := fun v476 k1_hw69 => k1_hw69.2

def k1_off198 (v499 : BitVec 32) : Fin 2 → Nat :=
  let c0_i32_1511 : BitVec 32 := 0#32
  let c0_i32_388 : BitVec 32 := 0#32
  let v501 : BitVec 1 := Scalar.cmpi .sgt v499 c0_i32_388
  let v502 : BitVec 32 := Scalar.extui v501
  let c0_i32_389 : BitVec 32 := 0#32
  let v503 : BitVec 1 := Scalar.cmpi .slt v499 c0_i32_389
  let v504 : BitVec 32 := Scalar.extui v503
  let v505 : BitVec 32 := Scalar.subi v502 v504
  let c128_i32_387 : BitVec 32 := 128#32
  let c0_i32_390 : BitVec 32 := 0#32
  let v506 : BitVec 1 := Scalar.cmpi .sgt c128_i32_387 c0_i32_390
  let v507 : BitVec 32 := Scalar.extui v506
  let c0_i32_391 : BitVec 32 := 0#32
  let v508 : BitVec 1 := Scalar.cmpi .slt c128_i32_387 c0_i32_391
  let v509 : BitVec 32 := Scalar.extui v508
  let v510 : BitVec 32 := Scalar.subi v507 v509
  let v511 : BitVec 1 := Scalar.cmpi .ne v505 v510
  let v512 : BitVec 32 := Scalar.remsi v499 c128_i32_387
  let c0_i32_392 : BitVec 32 := 0#32
  let v513 : BitVec 1 := Scalar.cmpi .ne v512 c0_i32_392
  let v514 : BitVec 1 := Scalar.andi v511 v513
  let v500 : BitVec 32 := Scalar.divsi v499 c128_i32_387
  let c1_i32_393 : BitVec 32 := 1#32
  let v515 : BitVec 32 := Scalar.subi v500 c1_i32_393
  let v516 : BitVec 32 := Scalar.select v514 v515 v500
  let c128_i32_394 : BitVec 32 := 128#32
  let v517 : BitVec 32 := Scalar.muli v516 c128_i32_394
  let c982912_i32_395 : BitVec 32 := 982912#32
  let v518 : BitVec 32 := Scalar.minsi v517 c982912_i32_395
  ![0, v518.toNat]

def k1_chk70 (v499 : BitVec 32) : Prop :=
  (∀ a, (k1_off70 v499) a + S8x128.size a ≤ S64x1000000.size a) ∧
  (∀ a, (k1_off198 v499) a + S8x128.size a ≤ S64x1000000.size a)
theorem k1_off70_inb : ∀ (v499 : BitVec 32) (k1_hw70 : k1_chk70 v499), ∀ a, (k1_off70 v499) a + S8x128.size a ≤ S64x1000000.size a := fun v499 k1_hw70 => k1_hw70.1
theorem k1_off198_inb : ∀ (v499 : BitVec 32) (k1_hw70 : k1_chk70 v499), ∀ a, (k1_off198 v499) a + S8x128.size a ≤ S64x1000000.size a := fun v499 k1_hw70 => k1_hw70.2

def k1_off199 (v522 : BitVec 32) : Fin 2 → Nat :=
  let c0_i32_1515 : BitVec 32 := 0#32
  let c0_i32_402 : BitVec 32 := 0#32
  let v524 : BitVec 1 := Scalar.cmpi .sgt v522 c0_i32_402
  let v525 : BitVec 32 := Scalar.extui v524
  let c0_i32_403 : BitVec 32 := 0#32
  let v526 : BitVec 1 := Scalar.cmpi .slt v522 c0_i32_403
  let v527 : BitVec 32 := Scalar.extui v526
  let v528 : BitVec 32 := Scalar.subi v525 v527
  let c128_i32_401 : BitVec 32 := 128#32
  let c0_i32_404 : BitVec 32 := 0#32
  let v529 : BitVec 1 := Scalar.cmpi .sgt c128_i32_401 c0_i32_404
  let v530 : BitVec 32 := Scalar.extui v529
  let c0_i32_405 : BitVec 32 := 0#32
  let v531 : BitVec 1 := Scalar.cmpi .slt c128_i32_401 c0_i32_405
  let v532 : BitVec 32 := Scalar.extui v531
  let v533 : BitVec 32 := Scalar.subi v530 v532
  let v534 : BitVec 1 := Scalar.cmpi .ne v528 v533
  let v535 : BitVec 32 := Scalar.remsi v522 c128_i32_401
  let c0_i32_406 : BitVec 32 := 0#32
  let v536 : BitVec 1 := Scalar.cmpi .ne v535 c0_i32_406
  let v537 : BitVec 1 := Scalar.andi v534 v536
  let v523 : BitVec 32 := Scalar.divsi v522 c128_i32_401
  let c1_i32_407 : BitVec 32 := 1#32
  let v538 : BitVec 32 := Scalar.subi v523 c1_i32_407
  let v539 : BitVec 32 := Scalar.select v537 v538 v523
  let c128_i32_408 : BitVec 32 := 128#32
  let v540 : BitVec 32 := Scalar.muli v539 c128_i32_408
  let c982912_i32_409 : BitVec 32 := 982912#32
  let v541 : BitVec 32 := Scalar.minsi v540 c982912_i32_409
  ![0, v541.toNat]

def k1_chk71 (v522 : BitVec 32) : Prop :=
  (∀ a, (k1_off71 v522) a + S8x128.size a ≤ S64x1000000.size a) ∧
  (∀ a, (k1_off199 v522) a + S8x128.size a ≤ S64x1000000.size a)
theorem k1_off71_inb : ∀ (v522 : BitVec 32) (k1_hw71 : k1_chk71 v522), ∀ a, (k1_off71 v522) a + S8x128.size a ≤ S64x1000000.size a := fun v522 k1_hw71 => k1_hw71.1
theorem k1_off199_inb : ∀ (v522 : BitVec 32) (k1_hw71 : k1_chk71 v522), ∀ a, (k1_off199 v522) a + S8x128.size a ≤ S64x1000000.size a := fun v522 k1_hw71 => k1_hw71.2

def k1_off200 (v545 : BitVec 32) : Fin 2 → Nat :=
  let c0_i32_1519 : BitVec 32 := 0#32
  let c0_i32_416 : BitVec 32 := 0#32
  let v547 : BitVec 1 := Scalar.cmpi .sgt v545 c0_i32_416
  let v548 : BitVec 32 := Scalar.extui v547
  let c0_i32_417 : BitVec 32 := 0#32
  let v549 : BitVec 1 := Scalar.cmpi .slt v545 c0_i32_417
  let v550 : BitVec 32 := Scalar.extui v549
  let v551 : BitVec 32 := Scalar.subi v548 v550
  let c128_i32_415 : BitVec 32 := 128#32
  let c0_i32_418 : BitVec 32 := 0#32
  let v552 : BitVec 1 := Scalar.cmpi .sgt c128_i32_415 c0_i32_418
  let v553 : BitVec 32 := Scalar.extui v552
  let c0_i32_419 : BitVec 32 := 0#32
  let v554 : BitVec 1 := Scalar.cmpi .slt c128_i32_415 c0_i32_419
  let v555 : BitVec 32 := Scalar.extui v554
  let v556 : BitVec 32 := Scalar.subi v553 v555
  let v557 : BitVec 1 := Scalar.cmpi .ne v551 v556
  let v558 : BitVec 32 := Scalar.remsi v545 c128_i32_415
  let c0_i32_420 : BitVec 32 := 0#32
  let v559 : BitVec 1 := Scalar.cmpi .ne v558 c0_i32_420
  let v560 : BitVec 1 := Scalar.andi v557 v559
  let v546 : BitVec 32 := Scalar.divsi v545 c128_i32_415
  let c1_i32_421 : BitVec 32 := 1#32
  let v561 : BitVec 32 := Scalar.subi v546 c1_i32_421
  let v562 : BitVec 32 := Scalar.select v560 v561 v546
  let c128_i32_422 : BitVec 32 := 128#32
  let v563 : BitVec 32 := Scalar.muli v562 c128_i32_422
  let c982912_i32_423 : BitVec 32 := 982912#32
  let v564 : BitVec 32 := Scalar.minsi v563 c982912_i32_423
  ![0, v564.toNat]

def k1_chk72 (v545 : BitVec 32) : Prop :=
  (∀ a, (k1_off72 v545) a + S8x128.size a ≤ S64x1000000.size a) ∧
  (∀ a, (k1_off200 v545) a + S8x128.size a ≤ S64x1000000.size a)
theorem k1_off72_inb : ∀ (v545 : BitVec 32) (k1_hw72 : k1_chk72 v545), ∀ a, (k1_off72 v545) a + S8x128.size a ≤ S64x1000000.size a := fun v545 k1_hw72 => k1_hw72.1
theorem k1_off200_inb : ∀ (v545 : BitVec 32) (k1_hw72 : k1_chk72 v545), ∀ a, (k1_off200 v545) a + S8x128.size a ≤ S64x1000000.size a := fun v545 k1_hw72 => k1_hw72.2

def k1_off201 (v568 : BitVec 32) : Fin 2 → Nat :=
  let c8_i32_1523 : BitVec 32 := 8#32
  let c0_i32_430 : BitVec 32 := 0#32
  let v570 : BitVec 1 := Scalar.cmpi .sgt v568 c0_i32_430
  let v571 : BitVec 32 := Scalar.extui v570
  let c0_i32_431 : BitVec 32 := 0#32
  let v572 : BitVec 1 := Scalar.cmpi .slt v568 c0_i32_431
  let v573 : BitVec 32 := Scalar.extui v572
  let v574 : BitVec 32 := Scalar.subi v571 v573
  let c128_i32_429 : BitVec 32 := 128#32
  let c0_i32_432 : BitVec 32 := 0#32
  let v575 : BitVec 1 := Scalar.cmpi .sgt c128_i32_429 c0_i32_432
  let v576 : BitVec 32 := Scalar.extui v575
  let c0_i32_433 : BitVec 32 := 0#32
  let v577 : BitVec 1 := Scalar.cmpi .slt c128_i32_429 c0_i32_433
  let v578 : BitVec 32 := Scalar.extui v577
  let v579 : BitVec 32 := Scalar.subi v576 v578
  let v580 : BitVec 1 := Scalar.cmpi .ne v574 v579
  let v581 : BitVec 32 := Scalar.remsi v568 c128_i32_429
  let c0_i32_434 : BitVec 32 := 0#32
  let v582 : BitVec 1 := Scalar.cmpi .ne v581 c0_i32_434
  let v583 : BitVec 1 := Scalar.andi v580 v582
  let v569 : BitVec 32 := Scalar.divsi v568 c128_i32_429
  let c1_i32_435 : BitVec 32 := 1#32
  let v584 : BitVec 32 := Scalar.subi v569 c1_i32_435
  let v585 : BitVec 32 := Scalar.select v583 v584 v569
  let c128_i32_436 : BitVec 32 := 128#32
  let v586 : BitVec 32 := Scalar.muli v585 c128_i32_436
  let c982912_i32_437 : BitVec 32 := 982912#32
  let v587 : BitVec 32 := Scalar.minsi v586 c982912_i32_437
  ![8, v587.toNat]

def k1_chk73 (v568 : BitVec 32) : Prop :=
  (∀ a, (k1_off73 v568) a + S8x128.size a ≤ S64x1000000.size a) ∧
  (∀ a, (k1_off201 v568) a + S8x128.size a ≤ S64x1000000.size a)
theorem k1_off73_inb : ∀ (v568 : BitVec 32) (k1_hw73 : k1_chk73 v568), ∀ a, (k1_off73 v568) a + S8x128.size a ≤ S64x1000000.size a := fun v568 k1_hw73 => k1_hw73.1
theorem k1_off201_inb : ∀ (v568 : BitVec 32) (k1_hw73 : k1_chk73 v568), ∀ a, (k1_off201 v568) a + S8x128.size a ≤ S64x1000000.size a := fun v568 k1_hw73 => k1_hw73.2

def k1_off202 (v591 : BitVec 32) : Fin 2 → Nat :=
  let c8_i32_1527 : BitVec 32 := 8#32
  let c0_i32_444 : BitVec 32 := 0#32
  let v593 : BitVec 1 := Scalar.cmpi .sgt v591 c0_i32_444
  let v594 : BitVec 32 := Scalar.extui v593
  let c0_i32_445 : BitVec 32 := 0#32
  let v595 : BitVec 1 := Scalar.cmpi .slt v591 c0_i32_445
  let v596 : BitVec 32 := Scalar.extui v595
  let v597 : BitVec 32 := Scalar.subi v594 v596
  let c128_i32_443 : BitVec 32 := 128#32
  let c0_i32_446 : BitVec 32 := 0#32
  let v598 : BitVec 1 := Scalar.cmpi .sgt c128_i32_443 c0_i32_446
  let v599 : BitVec 32 := Scalar.extui v598
  let c0_i32_447 : BitVec 32 := 0#32
  let v600 : BitVec 1 := Scalar.cmpi .slt c128_i32_443 c0_i32_447
  let v601 : BitVec 32 := Scalar.extui v600
  let v602 : BitVec 32 := Scalar.subi v599 v601
  let v603 : BitVec 1 := Scalar.cmpi .ne v597 v602
  let v604 : BitVec 32 := Scalar.remsi v591 c128_i32_443
  let c0_i32_448 : BitVec 32 := 0#32
  let v605 : BitVec 1 := Scalar.cmpi .ne v604 c0_i32_448
  let v606 : BitVec 1 := Scalar.andi v603 v605
  let v592 : BitVec 32 := Scalar.divsi v591 c128_i32_443
  let c1_i32_449 : BitVec 32 := 1#32
  let v607 : BitVec 32 := Scalar.subi v592 c1_i32_449
  let v608 : BitVec 32 := Scalar.select v606 v607 v592
  let c128_i32_450 : BitVec 32 := 128#32
  let v609 : BitVec 32 := Scalar.muli v608 c128_i32_450
  let c982912_i32_451 : BitVec 32 := 982912#32
  let v610 : BitVec 32 := Scalar.minsi v609 c982912_i32_451
  ![8, v610.toNat]

def k1_chk74 (v591 : BitVec 32) : Prop :=
  (∀ a, (k1_off74 v591) a + S8x128.size a ≤ S64x1000000.size a) ∧
  (∀ a, (k1_off202 v591) a + S8x128.size a ≤ S64x1000000.size a)
theorem k1_off74_inb : ∀ (v591 : BitVec 32) (k1_hw74 : k1_chk74 v591), ∀ a, (k1_off74 v591) a + S8x128.size a ≤ S64x1000000.size a := fun v591 k1_hw74 => k1_hw74.1
theorem k1_off202_inb : ∀ (v591 : BitVec 32) (k1_hw74 : k1_chk74 v591), ∀ a, (k1_off202 v591) a + S8x128.size a ≤ S64x1000000.size a := fun v591 k1_hw74 => k1_hw74.2

def k1_off203 (v614 : BitVec 32) : Fin 2 → Nat :=
  let c8_i32_1531 : BitVec 32 := 8#32
  let c0_i32_458 : BitVec 32 := 0#32
  let v616 : BitVec 1 := Scalar.cmpi .sgt v614 c0_i32_458
  let v617 : BitVec 32 := Scalar.extui v616
  let c0_i32_459 : BitVec 32 := 0#32
  let v618 : BitVec 1 := Scalar.cmpi .slt v614 c0_i32_459
  let v619 : BitVec 32 := Scalar.extui v618
  let v620 : BitVec 32 := Scalar.subi v617 v619
  let c128_i32_457 : BitVec 32 := 128#32
  let c0_i32_460 : BitVec 32 := 0#32
  let v621 : BitVec 1 := Scalar.cmpi .sgt c128_i32_457 c0_i32_460
  let v622 : BitVec 32 := Scalar.extui v621
  let c0_i32_461 : BitVec 32 := 0#32
  let v623 : BitVec 1 := Scalar.cmpi .slt c128_i32_457 c0_i32_461
  let v624 : BitVec 32 := Scalar.extui v623
  let v625 : BitVec 32 := Scalar.subi v622 v624
  let v626 : BitVec 1 := Scalar.cmpi .ne v620 v625
  let v627 : BitVec 32 := Scalar.remsi v614 c128_i32_457
  let c0_i32_462 : BitVec 32 := 0#32
  let v628 : BitVec 1 := Scalar.cmpi .ne v627 c0_i32_462
  let v629 : BitVec 1 := Scalar.andi v626 v628
  let v615 : BitVec 32 := Scalar.divsi v614 c128_i32_457
  let c1_i32_463 : BitVec 32 := 1#32
  let v630 : BitVec 32 := Scalar.subi v615 c1_i32_463
  let v631 : BitVec 32 := Scalar.select v629 v630 v615
  let c128_i32_464 : BitVec 32 := 128#32
  let v632 : BitVec 32 := Scalar.muli v631 c128_i32_464
  let c982912_i32_465 : BitVec 32 := 982912#32
  let v633 : BitVec 32 := Scalar.minsi v632 c982912_i32_465
  ![8, v633.toNat]

def k1_chk75 (v614 : BitVec 32) : Prop :=
  (∀ a, (k1_off75 v614) a + S8x128.size a ≤ S64x1000000.size a) ∧
  (∀ a, (k1_off203 v614) a + S8x128.size a ≤ S64x1000000.size a)
theorem k1_off75_inb : ∀ (v614 : BitVec 32) (k1_hw75 : k1_chk75 v614), ∀ a, (k1_off75 v614) a + S8x128.size a ≤ S64x1000000.size a := fun v614 k1_hw75 => k1_hw75.1
theorem k1_off203_inb : ∀ (v614 : BitVec 32) (k1_hw75 : k1_chk75 v614), ∀ a, (k1_off203 v614) a + S8x128.size a ≤ S64x1000000.size a := fun v614 k1_hw75 => k1_hw75.2

def k1_off204 (v637 : BitVec 32) : Fin 2 → Nat :=
  let c8_i32_1535 : BitVec 32 := 8#32
  let c0_i32_472 : BitVec 32 := 0#32
  let v639 : BitVec 1 := Scalar.cmpi .sgt v637 c0_i32_472
  let v640 : BitVec 32 := Scalar.extui v639
  let c0_i32_473 : BitVec 32 := 0#32
  let v641 : BitVec 1 := Scalar.cmpi .slt v637 c0_i32_473
  let v642 : BitVec 32 := Scalar.extui v641
  let v643 : BitVec 32 := Scalar.subi v640 v642
  let c128_i32_471 : BitVec 32 := 128#32
  let c0_i32_474 : BitVec 32 := 0#32
  let v644 : BitVec 1 := Scalar.cmpi .sgt c128_i32_471 c0_i32_474
  let v645 : BitVec 32 := Scalar.extui v644
  let c0_i32_475 : BitVec 32 := 0#32
  let v646 : BitVec 1 := Scalar.cmpi .slt c128_i32_471 c0_i32_475
  let v647 : BitVec 32 := Scalar.extui v646
  let v648 : BitVec 32 := Scalar.subi v645 v647
  let v649 : BitVec 1 := Scalar.cmpi .ne v643 v648
  let v650 : BitVec 32 := Scalar.remsi v637 c128_i32_471
  let c0_i32_476 : BitVec 32 := 0#32
  let v651 : BitVec 1 := Scalar.cmpi .ne v650 c0_i32_476
  let v652 : BitVec 1 := Scalar.andi v649 v651
  let v638 : BitVec 32 := Scalar.divsi v637 c128_i32_471
  let c1_i32_477 : BitVec 32 := 1#32
  let v653 : BitVec 32 := Scalar.subi v638 c1_i32_477
  let v654 : BitVec 32 := Scalar.select v652 v653 v638
  let c128_i32_478 : BitVec 32 := 128#32
  let v655 : BitVec 32 := Scalar.muli v654 c128_i32_478
  let c982912_i32_479 : BitVec 32 := 982912#32
  let v656 : BitVec 32 := Scalar.minsi v655 c982912_i32_479
  ![8, v656.toNat]

def k1_chk76 (v637 : BitVec 32) : Prop :=
  (∀ a, (k1_off76 v637) a + S8x128.size a ≤ S64x1000000.size a) ∧
  (∀ a, (k1_off204 v637) a + S8x128.size a ≤ S64x1000000.size a)
theorem k1_off76_inb : ∀ (v637 : BitVec 32) (k1_hw76 : k1_chk76 v637), ∀ a, (k1_off76 v637) a + S8x128.size a ≤ S64x1000000.size a := fun v637 k1_hw76 => k1_hw76.1
theorem k1_off204_inb : ∀ (v637 : BitVec 32) (k1_hw76 : k1_chk76 v637), ∀ a, (k1_off204 v637) a + S8x128.size a ≤ S64x1000000.size a := fun v637 k1_hw76 => k1_hw76.2

def k1_off205 (v660 : BitVec 32) : Fin 2 → Nat :=
  let c8_i32_1539 : BitVec 32 := 8#32
  let c0_i32_486 : BitVec 32 := 0#32
  let v662 : BitVec 1 := Scalar.cmpi .sgt v660 c0_i32_486
  let v663 : BitVec 32 := Scalar.extui v662
  let c0_i32_487 : BitVec 32 := 0#32
  let v664 : BitVec 1 := Scalar.cmpi .slt v660 c0_i32_487
  let v665 : BitVec 32 := Scalar.extui v664
  let v666 : BitVec 32 := Scalar.subi v663 v665
  let c128_i32_485 : BitVec 32 := 128#32
  let c0_i32_488 : BitVec 32 := 0#32
  let v667 : BitVec 1 := Scalar.cmpi .sgt c128_i32_485 c0_i32_488
  let v668 : BitVec 32 := Scalar.extui v667
  let c0_i32_489 : BitVec 32 := 0#32
  let v669 : BitVec 1 := Scalar.cmpi .slt c128_i32_485 c0_i32_489
  let v670 : BitVec 32 := Scalar.extui v669
  let v671 : BitVec 32 := Scalar.subi v668 v670
  let v672 : BitVec 1 := Scalar.cmpi .ne v666 v671
  let v673 : BitVec 32 := Scalar.remsi v660 c128_i32_485
  let c0_i32_490 : BitVec 32 := 0#32
  let v674 : BitVec 1 := Scalar.cmpi .ne v673 c0_i32_490
  let v675 : BitVec 1 := Scalar.andi v672 v674
  let v661 : BitVec 32 := Scalar.divsi v660 c128_i32_485
  let c1_i32_491 : BitVec 32 := 1#32
  let v676 : BitVec 32 := Scalar.subi v661 c1_i32_491
  let v677 : BitVec 32 := Scalar.select v675 v676 v661
  let c128_i32_492 : BitVec 32 := 128#32
  let v678 : BitVec 32 := Scalar.muli v677 c128_i32_492
  let c982912_i32_493 : BitVec 32 := 982912#32
  let v679 : BitVec 32 := Scalar.minsi v678 c982912_i32_493
  ![8, v679.toNat]

def k1_chk77 (v660 : BitVec 32) : Prop :=
  (∀ a, (k1_off77 v660) a + S8x128.size a ≤ S64x1000000.size a) ∧
  (∀ a, (k1_off205 v660) a + S8x128.size a ≤ S64x1000000.size a)
theorem k1_off77_inb : ∀ (v660 : BitVec 32) (k1_hw77 : k1_chk77 v660), ∀ a, (k1_off77 v660) a + S8x128.size a ≤ S64x1000000.size a := fun v660 k1_hw77 => k1_hw77.1
theorem k1_off205_inb : ∀ (v660 : BitVec 32) (k1_hw77 : k1_chk77 v660), ∀ a, (k1_off205 v660) a + S8x128.size a ≤ S64x1000000.size a := fun v660 k1_hw77 => k1_hw77.2

def k1_off206 (v683 : BitVec 32) : Fin 2 → Nat :=
  let c8_i32_1543 : BitVec 32 := 8#32
  let c0_i32_500 : BitVec 32 := 0#32
  let v685 : BitVec 1 := Scalar.cmpi .sgt v683 c0_i32_500
  let v686 : BitVec 32 := Scalar.extui v685
  let c0_i32_501 : BitVec 32 := 0#32
  let v687 : BitVec 1 := Scalar.cmpi .slt v683 c0_i32_501
  let v688 : BitVec 32 := Scalar.extui v687
  let v689 : BitVec 32 := Scalar.subi v686 v688
  let c128_i32_499 : BitVec 32 := 128#32
  let c0_i32_502 : BitVec 32 := 0#32
  let v690 : BitVec 1 := Scalar.cmpi .sgt c128_i32_499 c0_i32_502
  let v691 : BitVec 32 := Scalar.extui v690
  let c0_i32_503 : BitVec 32 := 0#32
  let v692 : BitVec 1 := Scalar.cmpi .slt c128_i32_499 c0_i32_503
  let v693 : BitVec 32 := Scalar.extui v692
  let v694 : BitVec 32 := Scalar.subi v691 v693
  let v695 : BitVec 1 := Scalar.cmpi .ne v689 v694
  let v696 : BitVec 32 := Scalar.remsi v683 c128_i32_499
  let c0_i32_504 : BitVec 32 := 0#32
  let v697 : BitVec 1 := Scalar.cmpi .ne v696 c0_i32_504
  let v698 : BitVec 1 := Scalar.andi v695 v697
  let v684 : BitVec 32 := Scalar.divsi v683 c128_i32_499
  let c1_i32_505 : BitVec 32 := 1#32
  let v699 : BitVec 32 := Scalar.subi v684 c1_i32_505
  let v700 : BitVec 32 := Scalar.select v698 v699 v684
  let c128_i32_506 : BitVec 32 := 128#32
  let v701 : BitVec 32 := Scalar.muli v700 c128_i32_506
  let c982912_i32_507 : BitVec 32 := 982912#32
  let v702 : BitVec 32 := Scalar.minsi v701 c982912_i32_507
  ![8, v702.toNat]

def k1_chk78 (v683 : BitVec 32) : Prop :=
  (∀ a, (k1_off78 v683) a + S8x128.size a ≤ S64x1000000.size a) ∧
  (∀ a, (k1_off206 v683) a + S8x128.size a ≤ S64x1000000.size a)
theorem k1_off78_inb : ∀ (v683 : BitVec 32) (k1_hw78 : k1_chk78 v683), ∀ a, (k1_off78 v683) a + S8x128.size a ≤ S64x1000000.size a := fun v683 k1_hw78 => k1_hw78.1
theorem k1_off206_inb : ∀ (v683 : BitVec 32) (k1_hw78 : k1_chk78 v683), ∀ a, (k1_off206 v683) a + S8x128.size a ≤ S64x1000000.size a := fun v683 k1_hw78 => k1_hw78.2

def k1_off207 (v706 : BitVec 32) : Fin 2 → Nat :=
  let c8_i32_1547 : BitVec 32 := 8#32
  let c0_i32_514 : BitVec 32 := 0#32
  let v708 : BitVec 1 := Scalar.cmpi .sgt v706 c0_i32_514
  let v709 : BitVec 32 := Scalar.extui v708
  let c0_i32_515 : BitVec 32 := 0#32
  let v710 : BitVec 1 := Scalar.cmpi .slt v706 c0_i32_515
  let v711 : BitVec 32 := Scalar.extui v710
  let v712 : BitVec 32 := Scalar.subi v709 v711
  let c128_i32_513 : BitVec 32 := 128#32
  let c0_i32_516 : BitVec 32 := 0#32
  let v713 : BitVec 1 := Scalar.cmpi .sgt c128_i32_513 c0_i32_516
  let v714 : BitVec 32 := Scalar.extui v713
  let c0_i32_517 : BitVec 32 := 0#32
  let v715 : BitVec 1 := Scalar.cmpi .slt c128_i32_513 c0_i32_517
  let v716 : BitVec 32 := Scalar.extui v715
  let v717 : BitVec 32 := Scalar.subi v714 v716
  let v718 : BitVec 1 := Scalar.cmpi .ne v712 v717
  let v719 : BitVec 32 := Scalar.remsi v706 c128_i32_513
  let c0_i32_518 : BitVec 32 := 0#32
  let v720 : BitVec 1 := Scalar.cmpi .ne v719 c0_i32_518
  let v721 : BitVec 1 := Scalar.andi v718 v720
  let v707 : BitVec 32 := Scalar.divsi v706 c128_i32_513
  let c1_i32_519 : BitVec 32 := 1#32
  let v722 : BitVec 32 := Scalar.subi v707 c1_i32_519
  let v723 : BitVec 32 := Scalar.select v721 v722 v707
  let c128_i32_520 : BitVec 32 := 128#32
  let v724 : BitVec 32 := Scalar.muli v723 c128_i32_520
  let c982912_i32_521 : BitVec 32 := 982912#32
  let v725 : BitVec 32 := Scalar.minsi v724 c982912_i32_521
  ![8, v725.toNat]

def k1_chk79 (v706 : BitVec 32) : Prop :=
  (∀ a, (k1_off79 v706) a + S8x128.size a ≤ S64x1000000.size a) ∧
  (∀ a, (k1_off207 v706) a + S8x128.size a ≤ S64x1000000.size a)
theorem k1_off79_inb : ∀ (v706 : BitVec 32) (k1_hw79 : k1_chk79 v706), ∀ a, (k1_off79 v706) a + S8x128.size a ≤ S64x1000000.size a := fun v706 k1_hw79 => k1_hw79.1
theorem k1_off207_inb : ∀ (v706 : BitVec 32) (k1_hw79 : k1_chk79 v706), ∀ a, (k1_off207 v706) a + S8x128.size a ≤ S64x1000000.size a := fun v706 k1_hw79 => k1_hw79.2

def k1_off208 (v729 : BitVec 32) : Fin 2 → Nat :=
  let c8_i32_1551 : BitVec 32 := 8#32
  let c0_i32_528 : BitVec 32 := 0#32
  let v731 : BitVec 1 := Scalar.cmpi .sgt v729 c0_i32_528
  let v732 : BitVec 32 := Scalar.extui v731
  let c0_i32_529 : BitVec 32 := 0#32
  let v733 : BitVec 1 := Scalar.cmpi .slt v729 c0_i32_529
  let v734 : BitVec 32 := Scalar.extui v733
  let v735 : BitVec 32 := Scalar.subi v732 v734
  let c128_i32_527 : BitVec 32 := 128#32
  let c0_i32_530 : BitVec 32 := 0#32
  let v736 : BitVec 1 := Scalar.cmpi .sgt c128_i32_527 c0_i32_530
  let v737 : BitVec 32 := Scalar.extui v736
  let c0_i32_531 : BitVec 32 := 0#32
  let v738 : BitVec 1 := Scalar.cmpi .slt c128_i32_527 c0_i32_531
  let v739 : BitVec 32 := Scalar.extui v738
  let v740 : BitVec 32 := Scalar.subi v737 v739
  let v741 : BitVec 1 := Scalar.cmpi .ne v735 v740
  let v742 : BitVec 32 := Scalar.remsi v729 c128_i32_527
  let c0_i32_532 : BitVec 32 := 0#32
  let v743 : BitVec 1 := Scalar.cmpi .ne v742 c0_i32_532
  let v744 : BitVec 1 := Scalar.andi v741 v743
  let v730 : BitVec 32 := Scalar.divsi v729 c128_i32_527
  let c1_i32_533 : BitVec 32 := 1#32
  let v745 : BitVec 32 := Scalar.subi v730 c1_i32_533
  let v746 : BitVec 32 := Scalar.select v744 v745 v730
  let c128_i32_534 : BitVec 32 := 128#32
  let v747 : BitVec 32 := Scalar.muli v746 c128_i32_534
  let c982912_i32_535 : BitVec 32 := 982912#32
  let v748 : BitVec 32 := Scalar.minsi v747 c982912_i32_535
  ![8, v748.toNat]

def k1_chk80 (v729 : BitVec 32) : Prop :=
  (∀ a, (k1_off80 v729) a + S8x128.size a ≤ S64x1000000.size a) ∧
  (∀ a, (k1_off208 v729) a + S8x128.size a ≤ S64x1000000.size a)
theorem k1_off80_inb : ∀ (v729 : BitVec 32) (k1_hw80 : k1_chk80 v729), ∀ a, (k1_off80 v729) a + S8x128.size a ≤ S64x1000000.size a := fun v729 k1_hw80 => k1_hw80.1
theorem k1_off208_inb : ∀ (v729 : BitVec 32) (k1_hw80 : k1_chk80 v729), ∀ a, (k1_off208 v729) a + S8x128.size a ≤ S64x1000000.size a := fun v729 k1_hw80 => k1_hw80.2

def k1_off209 (v752 : BitVec 32) : Fin 2 → Nat :=
  let c16_i32_1555 : BitVec 32 := 16#32
  let c0_i32_542 : BitVec 32 := 0#32
  let v754 : BitVec 1 := Scalar.cmpi .sgt v752 c0_i32_542
  let v755 : BitVec 32 := Scalar.extui v754
  let c0_i32_543 : BitVec 32 := 0#32
  let v756 : BitVec 1 := Scalar.cmpi .slt v752 c0_i32_543
  let v757 : BitVec 32 := Scalar.extui v756
  let v758 : BitVec 32 := Scalar.subi v755 v757
  let c128_i32_541 : BitVec 32 := 128#32
  let c0_i32_544 : BitVec 32 := 0#32
  let v759 : BitVec 1 := Scalar.cmpi .sgt c128_i32_541 c0_i32_544
  let v760 : BitVec 32 := Scalar.extui v759
  let c0_i32_545 : BitVec 32 := 0#32
  let v761 : BitVec 1 := Scalar.cmpi .slt c128_i32_541 c0_i32_545
  let v762 : BitVec 32 := Scalar.extui v761
  let v763 : BitVec 32 := Scalar.subi v760 v762
  let v764 : BitVec 1 := Scalar.cmpi .ne v758 v763
  let v765 : BitVec 32 := Scalar.remsi v752 c128_i32_541
  let c0_i32_546 : BitVec 32 := 0#32
  let v766 : BitVec 1 := Scalar.cmpi .ne v765 c0_i32_546
  let v767 : BitVec 1 := Scalar.andi v764 v766
  let v753 : BitVec 32 := Scalar.divsi v752 c128_i32_541
  let c1_i32_547 : BitVec 32 := 1#32
  let v768 : BitVec 32 := Scalar.subi v753 c1_i32_547
  let v769 : BitVec 32 := Scalar.select v767 v768 v753
  let c128_i32_548 : BitVec 32 := 128#32
  let v770 : BitVec 32 := Scalar.muli v769 c128_i32_548
  let c982912_i32_549 : BitVec 32 := 982912#32
  let v771 : BitVec 32 := Scalar.minsi v770 c982912_i32_549
  ![16, v771.toNat]

def k1_chk81 (v752 : BitVec 32) : Prop :=
  (∀ a, (k1_off81 v752) a + S8x128.size a ≤ S64x1000000.size a) ∧
  (∀ a, (k1_off209 v752) a + S8x128.size a ≤ S64x1000000.size a)
theorem k1_off81_inb : ∀ (v752 : BitVec 32) (k1_hw81 : k1_chk81 v752), ∀ a, (k1_off81 v752) a + S8x128.size a ≤ S64x1000000.size a := fun v752 k1_hw81 => k1_hw81.1
theorem k1_off209_inb : ∀ (v752 : BitVec 32) (k1_hw81 : k1_chk81 v752), ∀ a, (k1_off209 v752) a + S8x128.size a ≤ S64x1000000.size a := fun v752 k1_hw81 => k1_hw81.2

def k1_off210 (v775 : BitVec 32) : Fin 2 → Nat :=
  let c16_i32_1559 : BitVec 32 := 16#32
  let c0_i32_556 : BitVec 32 := 0#32
  let v777 : BitVec 1 := Scalar.cmpi .sgt v775 c0_i32_556
  let v778 : BitVec 32 := Scalar.extui v777
  let c0_i32_557 : BitVec 32 := 0#32
  let v779 : BitVec 1 := Scalar.cmpi .slt v775 c0_i32_557
  let v780 : BitVec 32 := Scalar.extui v779
  let v781 : BitVec 32 := Scalar.subi v778 v780
  let c128_i32_555 : BitVec 32 := 128#32
  let c0_i32_558 : BitVec 32 := 0#32
  let v782 : BitVec 1 := Scalar.cmpi .sgt c128_i32_555 c0_i32_558
  let v783 : BitVec 32 := Scalar.extui v782
  let c0_i32_559 : BitVec 32 := 0#32
  let v784 : BitVec 1 := Scalar.cmpi .slt c128_i32_555 c0_i32_559
  let v785 : BitVec 32 := Scalar.extui v784
  let v786 : BitVec 32 := Scalar.subi v783 v785
  let v787 : BitVec 1 := Scalar.cmpi .ne v781 v786
  let v788 : BitVec 32 := Scalar.remsi v775 c128_i32_555
  let c0_i32_560 : BitVec 32 := 0#32
  let v789 : BitVec 1 := Scalar.cmpi .ne v788 c0_i32_560
  let v790 : BitVec 1 := Scalar.andi v787 v789
  let v776 : BitVec 32 := Scalar.divsi v775 c128_i32_555
  let c1_i32_561 : BitVec 32 := 1#32
  let v791 : BitVec 32 := Scalar.subi v776 c1_i32_561
  let v792 : BitVec 32 := Scalar.select v790 v791 v776
  let c128_i32_562 : BitVec 32 := 128#32
  let v793 : BitVec 32 := Scalar.muli v792 c128_i32_562
  let c982912_i32_563 : BitVec 32 := 982912#32
  let v794 : BitVec 32 := Scalar.minsi v793 c982912_i32_563
  ![16, v794.toNat]

def k1_chk82 (v775 : BitVec 32) : Prop :=
  (∀ a, (k1_off82 v775) a + S8x128.size a ≤ S64x1000000.size a) ∧
  (∀ a, (k1_off210 v775) a + S8x128.size a ≤ S64x1000000.size a)
theorem k1_off82_inb : ∀ (v775 : BitVec 32) (k1_hw82 : k1_chk82 v775), ∀ a, (k1_off82 v775) a + S8x128.size a ≤ S64x1000000.size a := fun v775 k1_hw82 => k1_hw82.1
theorem k1_off210_inb : ∀ (v775 : BitVec 32) (k1_hw82 : k1_chk82 v775), ∀ a, (k1_off210 v775) a + S8x128.size a ≤ S64x1000000.size a := fun v775 k1_hw82 => k1_hw82.2

def k1_off211 (v798 : BitVec 32) : Fin 2 → Nat :=
  let c16_i32_1563 : BitVec 32 := 16#32
  let c0_i32_570 : BitVec 32 := 0#32
  let v800 : BitVec 1 := Scalar.cmpi .sgt v798 c0_i32_570
  let v801 : BitVec 32 := Scalar.extui v800
  let c0_i32_571 : BitVec 32 := 0#32
  let v802 : BitVec 1 := Scalar.cmpi .slt v798 c0_i32_571
  let v803 : BitVec 32 := Scalar.extui v802
  let v804 : BitVec 32 := Scalar.subi v801 v803
  let c128_i32_569 : BitVec 32 := 128#32
  let c0_i32_572 : BitVec 32 := 0#32
  let v805 : BitVec 1 := Scalar.cmpi .sgt c128_i32_569 c0_i32_572
  let v806 : BitVec 32 := Scalar.extui v805
  let c0_i32_573 : BitVec 32 := 0#32
  let v807 : BitVec 1 := Scalar.cmpi .slt c128_i32_569 c0_i32_573
  let v808 : BitVec 32 := Scalar.extui v807
  let v809 : BitVec 32 := Scalar.subi v806 v808
  let v810 : BitVec 1 := Scalar.cmpi .ne v804 v809
  let v811 : BitVec 32 := Scalar.remsi v798 c128_i32_569
  let c0_i32_574 : BitVec 32 := 0#32
  let v812 : BitVec 1 := Scalar.cmpi .ne v811 c0_i32_574
  let v813 : BitVec 1 := Scalar.andi v810 v812
  let v799 : BitVec 32 := Scalar.divsi v798 c128_i32_569
  let c1_i32_575 : BitVec 32 := 1#32
  let v814 : BitVec 32 := Scalar.subi v799 c1_i32_575
  let v815 : BitVec 32 := Scalar.select v813 v814 v799
  let c128_i32_576 : BitVec 32 := 128#32
  let v816 : BitVec 32 := Scalar.muli v815 c128_i32_576
  let c982912_i32_577 : BitVec 32 := 982912#32
  let v817 : BitVec 32 := Scalar.minsi v816 c982912_i32_577
  ![16, v817.toNat]

def k1_chk83 (v798 : BitVec 32) : Prop :=
  (∀ a, (k1_off83 v798) a + S8x128.size a ≤ S64x1000000.size a) ∧
  (∀ a, (k1_off211 v798) a + S8x128.size a ≤ S64x1000000.size a)
theorem k1_off83_inb : ∀ (v798 : BitVec 32) (k1_hw83 : k1_chk83 v798), ∀ a, (k1_off83 v798) a + S8x128.size a ≤ S64x1000000.size a := fun v798 k1_hw83 => k1_hw83.1
theorem k1_off211_inb : ∀ (v798 : BitVec 32) (k1_hw83 : k1_chk83 v798), ∀ a, (k1_off211 v798) a + S8x128.size a ≤ S64x1000000.size a := fun v798 k1_hw83 => k1_hw83.2

def k1_off212 (v821 : BitVec 32) : Fin 2 → Nat :=
  let c16_i32_1567 : BitVec 32 := 16#32
  let c0_i32_584 : BitVec 32 := 0#32
  let v823 : BitVec 1 := Scalar.cmpi .sgt v821 c0_i32_584
  let v824 : BitVec 32 := Scalar.extui v823
  let c0_i32_585 : BitVec 32 := 0#32
  let v825 : BitVec 1 := Scalar.cmpi .slt v821 c0_i32_585
  let v826 : BitVec 32 := Scalar.extui v825
  let v827 : BitVec 32 := Scalar.subi v824 v826
  let c128_i32_583 : BitVec 32 := 128#32
  let c0_i32_586 : BitVec 32 := 0#32
  let v828 : BitVec 1 := Scalar.cmpi .sgt c128_i32_583 c0_i32_586
  let v829 : BitVec 32 := Scalar.extui v828
  let c0_i32_587 : BitVec 32 := 0#32
  let v830 : BitVec 1 := Scalar.cmpi .slt c128_i32_583 c0_i32_587
  let v831 : BitVec 32 := Scalar.extui v830
  let v832 : BitVec 32 := Scalar.subi v829 v831
  let v833 : BitVec 1 := Scalar.cmpi .ne v827 v832
  let v834 : BitVec 32 := Scalar.remsi v821 c128_i32_583
  let c0_i32_588 : BitVec 32 := 0#32
  let v835 : BitVec 1 := Scalar.cmpi .ne v834 c0_i32_588
  let v836 : BitVec 1 := Scalar.andi v833 v835
  let v822 : BitVec 32 := Scalar.divsi v821 c128_i32_583
  let c1_i32_589 : BitVec 32 := 1#32
  let v837 : BitVec 32 := Scalar.subi v822 c1_i32_589
  let v838 : BitVec 32 := Scalar.select v836 v837 v822
  let c128_i32_590 : BitVec 32 := 128#32
  let v839 : BitVec 32 := Scalar.muli v838 c128_i32_590
  let c982912_i32_591 : BitVec 32 := 982912#32
  let v840 : BitVec 32 := Scalar.minsi v839 c982912_i32_591
  ![16, v840.toNat]

def k1_chk84 (v821 : BitVec 32) : Prop :=
  (∀ a, (k1_off84 v821) a + S8x128.size a ≤ S64x1000000.size a) ∧
  (∀ a, (k1_off212 v821) a + S8x128.size a ≤ S64x1000000.size a)
theorem k1_off84_inb : ∀ (v821 : BitVec 32) (k1_hw84 : k1_chk84 v821), ∀ a, (k1_off84 v821) a + S8x128.size a ≤ S64x1000000.size a := fun v821 k1_hw84 => k1_hw84.1
theorem k1_off212_inb : ∀ (v821 : BitVec 32) (k1_hw84 : k1_chk84 v821), ∀ a, (k1_off212 v821) a + S8x128.size a ≤ S64x1000000.size a := fun v821 k1_hw84 => k1_hw84.2

def k1_off213 (v844 : BitVec 32) : Fin 2 → Nat :=
  let c16_i32_1571 : BitVec 32 := 16#32
  let c0_i32_598 : BitVec 32 := 0#32
  let v846 : BitVec 1 := Scalar.cmpi .sgt v844 c0_i32_598
  let v847 : BitVec 32 := Scalar.extui v846
  let c0_i32_599 : BitVec 32 := 0#32
  let v848 : BitVec 1 := Scalar.cmpi .slt v844 c0_i32_599
  let v849 : BitVec 32 := Scalar.extui v848
  let v850 : BitVec 32 := Scalar.subi v847 v849
  let c128_i32_597 : BitVec 32 := 128#32
  let c0_i32_600 : BitVec 32 := 0#32
  let v851 : BitVec 1 := Scalar.cmpi .sgt c128_i32_597 c0_i32_600
  let v852 : BitVec 32 := Scalar.extui v851
  let c0_i32_601 : BitVec 32 := 0#32
  let v853 : BitVec 1 := Scalar.cmpi .slt c128_i32_597 c0_i32_601
  let v854 : BitVec 32 := Scalar.extui v853
  let v855 : BitVec 32 := Scalar.subi v852 v854
  let v856 : BitVec 1 := Scalar.cmpi .ne v850 v855
  let v857 : BitVec 32 := Scalar.remsi v844 c128_i32_597
  let c0_i32_602 : BitVec 32 := 0#32
  let v858 : BitVec 1 := Scalar.cmpi .ne v857 c0_i32_602
  let v859 : BitVec 1 := Scalar.andi v856 v858
  let v845 : BitVec 32 := Scalar.divsi v844 c128_i32_597
  let c1_i32_603 : BitVec 32 := 1#32
  let v860 : BitVec 32 := Scalar.subi v845 c1_i32_603
  let v861 : BitVec 32 := Scalar.select v859 v860 v845
  let c128_i32_604 : BitVec 32 := 128#32
  let v862 : BitVec 32 := Scalar.muli v861 c128_i32_604
  let c982912_i32_605 : BitVec 32 := 982912#32
  let v863 : BitVec 32 := Scalar.minsi v862 c982912_i32_605
  ![16, v863.toNat]

def k1_chk85 (v844 : BitVec 32) : Prop :=
  (∀ a, (k1_off85 v844) a + S8x128.size a ≤ S64x1000000.size a) ∧
  (∀ a, (k1_off213 v844) a + S8x128.size a ≤ S64x1000000.size a)
theorem k1_off85_inb : ∀ (v844 : BitVec 32) (k1_hw85 : k1_chk85 v844), ∀ a, (k1_off85 v844) a + S8x128.size a ≤ S64x1000000.size a := fun v844 k1_hw85 => k1_hw85.1
theorem k1_off213_inb : ∀ (v844 : BitVec 32) (k1_hw85 : k1_chk85 v844), ∀ a, (k1_off213 v844) a + S8x128.size a ≤ S64x1000000.size a := fun v844 k1_hw85 => k1_hw85.2

def k1_off214 (v867 : BitVec 32) : Fin 2 → Nat :=
  let c16_i32_1575 : BitVec 32 := 16#32
  let c0_i32_612 : BitVec 32 := 0#32
  let v869 : BitVec 1 := Scalar.cmpi .sgt v867 c0_i32_612
  let v870 : BitVec 32 := Scalar.extui v869
  let c0_i32_613 : BitVec 32 := 0#32
  let v871 : BitVec 1 := Scalar.cmpi .slt v867 c0_i32_613
  let v872 : BitVec 32 := Scalar.extui v871
  let v873 : BitVec 32 := Scalar.subi v870 v872
  let c128_i32_611 : BitVec 32 := 128#32
  let c0_i32_614 : BitVec 32 := 0#32
  let v874 : BitVec 1 := Scalar.cmpi .sgt c128_i32_611 c0_i32_614
  let v875 : BitVec 32 := Scalar.extui v874
  let c0_i32_615 : BitVec 32 := 0#32
  let v876 : BitVec 1 := Scalar.cmpi .slt c128_i32_611 c0_i32_615
  let v877 : BitVec 32 := Scalar.extui v876
  let v878 : BitVec 32 := Scalar.subi v875 v877
  let v879 : BitVec 1 := Scalar.cmpi .ne v873 v878
  let v880 : BitVec 32 := Scalar.remsi v867 c128_i32_611
  let c0_i32_616 : BitVec 32 := 0#32
  let v881 : BitVec 1 := Scalar.cmpi .ne v880 c0_i32_616
  let v882 : BitVec 1 := Scalar.andi v879 v881
  let v868 : BitVec 32 := Scalar.divsi v867 c128_i32_611
  let c1_i32_617 : BitVec 32 := 1#32
  let v883 : BitVec 32 := Scalar.subi v868 c1_i32_617
  let v884 : BitVec 32 := Scalar.select v882 v883 v868
  let c128_i32_618 : BitVec 32 := 128#32
  let v885 : BitVec 32 := Scalar.muli v884 c128_i32_618
  let c982912_i32_619 : BitVec 32 := 982912#32
  let v886 : BitVec 32 := Scalar.minsi v885 c982912_i32_619
  ![16, v886.toNat]

def k1_chk86 (v867 : BitVec 32) : Prop :=
  (∀ a, (k1_off86 v867) a + S8x128.size a ≤ S64x1000000.size a) ∧
  (∀ a, (k1_off214 v867) a + S8x128.size a ≤ S64x1000000.size a)
theorem k1_off86_inb : ∀ (v867 : BitVec 32) (k1_hw86 : k1_chk86 v867), ∀ a, (k1_off86 v867) a + S8x128.size a ≤ S64x1000000.size a := fun v867 k1_hw86 => k1_hw86.1
theorem k1_off214_inb : ∀ (v867 : BitVec 32) (k1_hw86 : k1_chk86 v867), ∀ a, (k1_off214 v867) a + S8x128.size a ≤ S64x1000000.size a := fun v867 k1_hw86 => k1_hw86.2

def k1_off215 (v890 : BitVec 32) : Fin 2 → Nat :=
  let c16_i32_1579 : BitVec 32 := 16#32
  let c0_i32_626 : BitVec 32 := 0#32
  let v892 : BitVec 1 := Scalar.cmpi .sgt v890 c0_i32_626
  let v893 : BitVec 32 := Scalar.extui v892
  let c0_i32_627 : BitVec 32 := 0#32
  let v894 : BitVec 1 := Scalar.cmpi .slt v890 c0_i32_627
  let v895 : BitVec 32 := Scalar.extui v894
  let v896 : BitVec 32 := Scalar.subi v893 v895
  let c128_i32_625 : BitVec 32 := 128#32
  let c0_i32_628 : BitVec 32 := 0#32
  let v897 : BitVec 1 := Scalar.cmpi .sgt c128_i32_625 c0_i32_628
  let v898 : BitVec 32 := Scalar.extui v897
  let c0_i32_629 : BitVec 32 := 0#32
  let v899 : BitVec 1 := Scalar.cmpi .slt c128_i32_625 c0_i32_629
  let v900 : BitVec 32 := Scalar.extui v899
  let v901 : BitVec 32 := Scalar.subi v898 v900
  let v902 : BitVec 1 := Scalar.cmpi .ne v896 v901
  let v903 : BitVec 32 := Scalar.remsi v890 c128_i32_625
  let c0_i32_630 : BitVec 32 := 0#32
  let v904 : BitVec 1 := Scalar.cmpi .ne v903 c0_i32_630
  let v905 : BitVec 1 := Scalar.andi v902 v904
  let v891 : BitVec 32 := Scalar.divsi v890 c128_i32_625
  let c1_i32_631 : BitVec 32 := 1#32
  let v906 : BitVec 32 := Scalar.subi v891 c1_i32_631
  let v907 : BitVec 32 := Scalar.select v905 v906 v891
  let c128_i32_632 : BitVec 32 := 128#32
  let v908 : BitVec 32 := Scalar.muli v907 c128_i32_632
  let c982912_i32_633 : BitVec 32 := 982912#32
  let v909 : BitVec 32 := Scalar.minsi v908 c982912_i32_633
  ![16, v909.toNat]

def k1_chk87 (v890 : BitVec 32) : Prop :=
  (∀ a, (k1_off87 v890) a + S8x128.size a ≤ S64x1000000.size a) ∧
  (∀ a, (k1_off215 v890) a + S8x128.size a ≤ S64x1000000.size a)
theorem k1_off87_inb : ∀ (v890 : BitVec 32) (k1_hw87 : k1_chk87 v890), ∀ a, (k1_off87 v890) a + S8x128.size a ≤ S64x1000000.size a := fun v890 k1_hw87 => k1_hw87.1
theorem k1_off215_inb : ∀ (v890 : BitVec 32) (k1_hw87 : k1_chk87 v890), ∀ a, (k1_off215 v890) a + S8x128.size a ≤ S64x1000000.size a := fun v890 k1_hw87 => k1_hw87.2

def k1_off216 (v913 : BitVec 32) : Fin 2 → Nat :=
  let c16_i32_1583 : BitVec 32 := 16#32
  let c0_i32_640 : BitVec 32 := 0#32
  let v915 : BitVec 1 := Scalar.cmpi .sgt v913 c0_i32_640
  let v916 : BitVec 32 := Scalar.extui v915
  let c0_i32_641 : BitVec 32 := 0#32
  let v917 : BitVec 1 := Scalar.cmpi .slt v913 c0_i32_641
  let v918 : BitVec 32 := Scalar.extui v917
  let v919 : BitVec 32 := Scalar.subi v916 v918
  let c128_i32_639 : BitVec 32 := 128#32
  let c0_i32_642 : BitVec 32 := 0#32
  let v920 : BitVec 1 := Scalar.cmpi .sgt c128_i32_639 c0_i32_642
  let v921 : BitVec 32 := Scalar.extui v920
  let c0_i32_643 : BitVec 32 := 0#32
  let v922 : BitVec 1 := Scalar.cmpi .slt c128_i32_639 c0_i32_643
  let v923 : BitVec 32 := Scalar.extui v922
  let v924 : BitVec 32 := Scalar.subi v921 v923
  let v925 : BitVec 1 := Scalar.cmpi .ne v919 v924
  let v926 : BitVec 32 := Scalar.remsi v913 c128_i32_639
  let c0_i32_644 : BitVec 32 := 0#32
  let v927 : BitVec 1 := Scalar.cmpi .ne v926 c0_i32_644
  let v928 : BitVec 1 := Scalar.andi v925 v927
  let v914 : BitVec 32 := Scalar.divsi v913 c128_i32_639
  let c1_i32_645 : BitVec 32 := 1#32
  let v929 : BitVec 32 := Scalar.subi v914 c1_i32_645
  let v930 : BitVec 32 := Scalar.select v928 v929 v914
  let c128_i32_646 : BitVec 32 := 128#32
  let v931 : BitVec 32 := Scalar.muli v930 c128_i32_646
  let c982912_i32_647 : BitVec 32 := 982912#32
  let v932 : BitVec 32 := Scalar.minsi v931 c982912_i32_647
  ![16, v932.toNat]

def k1_chk88 (v913 : BitVec 32) : Prop :=
  (∀ a, (k1_off88 v913) a + S8x128.size a ≤ S64x1000000.size a) ∧
  (∀ a, (k1_off216 v913) a + S8x128.size a ≤ S64x1000000.size a)
theorem k1_off88_inb : ∀ (v913 : BitVec 32) (k1_hw88 : k1_chk88 v913), ∀ a, (k1_off88 v913) a + S8x128.size a ≤ S64x1000000.size a := fun v913 k1_hw88 => k1_hw88.1
theorem k1_off216_inb : ∀ (v913 : BitVec 32) (k1_hw88 : k1_chk88 v913), ∀ a, (k1_off216 v913) a + S8x128.size a ≤ S64x1000000.size a := fun v913 k1_hw88 => k1_hw88.2

def k1_off217 (v936 : BitVec 32) : Fin 2 → Nat :=
  let c24_i32_1587 : BitVec 32 := 24#32
  let c0_i32_654 : BitVec 32 := 0#32
  let v938 : BitVec 1 := Scalar.cmpi .sgt v936 c0_i32_654
  let v939 : BitVec 32 := Scalar.extui v938
  let c0_i32_655 : BitVec 32 := 0#32
  let v940 : BitVec 1 := Scalar.cmpi .slt v936 c0_i32_655
  let v941 : BitVec 32 := Scalar.extui v940
  let v942 : BitVec 32 := Scalar.subi v939 v941
  let c128_i32_653 : BitVec 32 := 128#32
  let c0_i32_656 : BitVec 32 := 0#32
  let v943 : BitVec 1 := Scalar.cmpi .sgt c128_i32_653 c0_i32_656
  let v944 : BitVec 32 := Scalar.extui v943
  let c0_i32_657 : BitVec 32 := 0#32
  let v945 : BitVec 1 := Scalar.cmpi .slt c128_i32_653 c0_i32_657
  let v946 : BitVec 32 := Scalar.extui v945
  let v947 : BitVec 32 := Scalar.subi v944 v946
  let v948 : BitVec 1 := Scalar.cmpi .ne v942 v947
  let v949 : BitVec 32 := Scalar.remsi v936 c128_i32_653
  let c0_i32_658 : BitVec 32 := 0#32
  let v950 : BitVec 1 := Scalar.cmpi .ne v949 c0_i32_658
  let v951 : BitVec 1 := Scalar.andi v948 v950
  let v937 : BitVec 32 := Scalar.divsi v936 c128_i32_653
  let c1_i32_659 : BitVec 32 := 1#32
  let v952 : BitVec 32 := Scalar.subi v937 c1_i32_659
  let v953 : BitVec 32 := Scalar.select v951 v952 v937
  let c128_i32_660 : BitVec 32 := 128#32
  let v954 : BitVec 32 := Scalar.muli v953 c128_i32_660
  let c982912_i32_661 : BitVec 32 := 982912#32
  let v955 : BitVec 32 := Scalar.minsi v954 c982912_i32_661
  ![24, v955.toNat]

def k1_chk89 (v936 : BitVec 32) : Prop :=
  (∀ a, (k1_off89 v936) a + S8x128.size a ≤ S64x1000000.size a) ∧
  (∀ a, (k1_off217 v936) a + S8x128.size a ≤ S64x1000000.size a)
theorem k1_off89_inb : ∀ (v936 : BitVec 32) (k1_hw89 : k1_chk89 v936), ∀ a, (k1_off89 v936) a + S8x128.size a ≤ S64x1000000.size a := fun v936 k1_hw89 => k1_hw89.1
theorem k1_off217_inb : ∀ (v936 : BitVec 32) (k1_hw89 : k1_chk89 v936), ∀ a, (k1_off217 v936) a + S8x128.size a ≤ S64x1000000.size a := fun v936 k1_hw89 => k1_hw89.2

def k1_off218 (v959 : BitVec 32) : Fin 2 → Nat :=
  let c24_i32_1591 : BitVec 32 := 24#32
  let c0_i32_668 : BitVec 32 := 0#32
  let v961 : BitVec 1 := Scalar.cmpi .sgt v959 c0_i32_668
  let v962 : BitVec 32 := Scalar.extui v961
  let c0_i32_669 : BitVec 32 := 0#32
  let v963 : BitVec 1 := Scalar.cmpi .slt v959 c0_i32_669
  let v964 : BitVec 32 := Scalar.extui v963
  let v965 : BitVec 32 := Scalar.subi v962 v964
  let c128_i32_667 : BitVec 32 := 128#32
  let c0_i32_670 : BitVec 32 := 0#32
  let v966 : BitVec 1 := Scalar.cmpi .sgt c128_i32_667 c0_i32_670
  let v967 : BitVec 32 := Scalar.extui v966
  let c0_i32_671 : BitVec 32 := 0#32
  let v968 : BitVec 1 := Scalar.cmpi .slt c128_i32_667 c0_i32_671
  let v969 : BitVec 32 := Scalar.extui v968
  let v970 : BitVec 32 := Scalar.subi v967 v969
  let v971 : BitVec 1 := Scalar.cmpi .ne v965 v970
  let v972 : BitVec 32 := Scalar.remsi v959 c128_i32_667
  let c0_i32_672 : BitVec 32 := 0#32
  let v973 : BitVec 1 := Scalar.cmpi .ne v972 c0_i32_672
  let v974 : BitVec 1 := Scalar.andi v971 v973
  let v960 : BitVec 32 := Scalar.divsi v959 c128_i32_667
  let c1_i32_673 : BitVec 32 := 1#32
  let v975 : BitVec 32 := Scalar.subi v960 c1_i32_673
  let v976 : BitVec 32 := Scalar.select v974 v975 v960
  let c128_i32_674 : BitVec 32 := 128#32
  let v977 : BitVec 32 := Scalar.muli v976 c128_i32_674
  let c982912_i32_675 : BitVec 32 := 982912#32
  let v978 : BitVec 32 := Scalar.minsi v977 c982912_i32_675
  ![24, v978.toNat]

def k1_chk90 (v959 : BitVec 32) : Prop :=
  (∀ a, (k1_off90 v959) a + S8x128.size a ≤ S64x1000000.size a) ∧
  (∀ a, (k1_off218 v959) a + S8x128.size a ≤ S64x1000000.size a)
theorem k1_off90_inb : ∀ (v959 : BitVec 32) (k1_hw90 : k1_chk90 v959), ∀ a, (k1_off90 v959) a + S8x128.size a ≤ S64x1000000.size a := fun v959 k1_hw90 => k1_hw90.1
theorem k1_off218_inb : ∀ (v959 : BitVec 32) (k1_hw90 : k1_chk90 v959), ∀ a, (k1_off218 v959) a + S8x128.size a ≤ S64x1000000.size a := fun v959 k1_hw90 => k1_hw90.2

def k1_off219 (v982 : BitVec 32) : Fin 2 → Nat :=
  let c24_i32_1595 : BitVec 32 := 24#32
  let c0_i32_682 : BitVec 32 := 0#32
  let v984 : BitVec 1 := Scalar.cmpi .sgt v982 c0_i32_682
  let v985 : BitVec 32 := Scalar.extui v984
  let c0_i32_683 : BitVec 32 := 0#32
  let v986 : BitVec 1 := Scalar.cmpi .slt v982 c0_i32_683
  let v987 : BitVec 32 := Scalar.extui v986
  let v988 : BitVec 32 := Scalar.subi v985 v987
  let c128_i32_681 : BitVec 32 := 128#32
  let c0_i32_684 : BitVec 32 := 0#32
  let v989 : BitVec 1 := Scalar.cmpi .sgt c128_i32_681 c0_i32_684
  let v990 : BitVec 32 := Scalar.extui v989
  let c0_i32_685 : BitVec 32 := 0#32
  let v991 : BitVec 1 := Scalar.cmpi .slt c128_i32_681 c0_i32_685
  let v992 : BitVec 32 := Scalar.extui v991
  let v993 : BitVec 32 := Scalar.subi v990 v992
  let v994 : BitVec 1 := Scalar.cmpi .ne v988 v993
  let v995 : BitVec 32 := Scalar.remsi v982 c128_i32_681
  let c0_i32_686 : BitVec 32 := 0#32
  let v996 : BitVec 1 := Scalar.cmpi .ne v995 c0_i32_686
  let v997 : BitVec 1 := Scalar.andi v994 v996
  let v983 : BitVec 32 := Scalar.divsi v982 c128_i32_681
  let c1_i32_687 : BitVec 32 := 1#32
  let v998 : BitVec 32 := Scalar.subi v983 c1_i32_687
  let v999 : BitVec 32 := Scalar.select v997 v998 v983
  let c128_i32_688 : BitVec 32 := 128#32
  let v1000 : BitVec 32 := Scalar.muli v999 c128_i32_688
  let c982912_i32_689 : BitVec 32 := 982912#32
  let v1001 : BitVec 32 := Scalar.minsi v1000 c982912_i32_689
  ![24, v1001.toNat]

def k1_chk91 (v982 : BitVec 32) : Prop :=
  (∀ a, (k1_off91 v982) a + S8x128.size a ≤ S64x1000000.size a) ∧
  (∀ a, (k1_off219 v982) a + S8x128.size a ≤ S64x1000000.size a)
theorem k1_off91_inb : ∀ (v982 : BitVec 32) (k1_hw91 : k1_chk91 v982), ∀ a, (k1_off91 v982) a + S8x128.size a ≤ S64x1000000.size a := fun v982 k1_hw91 => k1_hw91.1
theorem k1_off219_inb : ∀ (v982 : BitVec 32) (k1_hw91 : k1_chk91 v982), ∀ a, (k1_off219 v982) a + S8x128.size a ≤ S64x1000000.size a := fun v982 k1_hw91 => k1_hw91.2

def k1_off220 (v1005 : BitVec 32) : Fin 2 → Nat :=
  let c24_i32_1599 : BitVec 32 := 24#32
  let c0_i32_696 : BitVec 32 := 0#32
  let v1007 : BitVec 1 := Scalar.cmpi .sgt v1005 c0_i32_696
  let v1008 : BitVec 32 := Scalar.extui v1007
  let c0_i32_697 : BitVec 32 := 0#32
  let v1009 : BitVec 1 := Scalar.cmpi .slt v1005 c0_i32_697
  let v1010 : BitVec 32 := Scalar.extui v1009
  let v1011 : BitVec 32 := Scalar.subi v1008 v1010
  let c128_i32_695 : BitVec 32 := 128#32
  let c0_i32_698 : BitVec 32 := 0#32
  let v1012 : BitVec 1 := Scalar.cmpi .sgt c128_i32_695 c0_i32_698
  let v1013 : BitVec 32 := Scalar.extui v1012
  let c0_i32_699 : BitVec 32 := 0#32
  let v1014 : BitVec 1 := Scalar.cmpi .slt c128_i32_695 c0_i32_699
  let v1015 : BitVec 32 := Scalar.extui v1014
  let v1016 : BitVec 32 := Scalar.subi v1013 v1015
  let v1017 : BitVec 1 := Scalar.cmpi .ne v1011 v1016
  let v1018 : BitVec 32 := Scalar.remsi v1005 c128_i32_695
  let c0_i32_700 : BitVec 32 := 0#32
  let v1019 : BitVec 1 := Scalar.cmpi .ne v1018 c0_i32_700
  let v1020 : BitVec 1 := Scalar.andi v1017 v1019
  let v1006 : BitVec 32 := Scalar.divsi v1005 c128_i32_695
  let c1_i32_701 : BitVec 32 := 1#32
  let v1021 : BitVec 32 := Scalar.subi v1006 c1_i32_701
  let v1022 : BitVec 32 := Scalar.select v1020 v1021 v1006
  let c128_i32_702 : BitVec 32 := 128#32
  let v1023 : BitVec 32 := Scalar.muli v1022 c128_i32_702
  let c982912_i32_703 : BitVec 32 := 982912#32
  let v1024 : BitVec 32 := Scalar.minsi v1023 c982912_i32_703
  ![24, v1024.toNat]

def k1_chk92 (v1005 : BitVec 32) : Prop :=
  (∀ a, (k1_off92 v1005) a + S8x128.size a ≤ S64x1000000.size a) ∧
  (∀ a, (k1_off220 v1005) a + S8x128.size a ≤ S64x1000000.size a)
theorem k1_off92_inb : ∀ (v1005 : BitVec 32) (k1_hw92 : k1_chk92 v1005), ∀ a, (k1_off92 v1005) a + S8x128.size a ≤ S64x1000000.size a := fun v1005 k1_hw92 => k1_hw92.1
theorem k1_off220_inb : ∀ (v1005 : BitVec 32) (k1_hw92 : k1_chk92 v1005), ∀ a, (k1_off220 v1005) a + S8x128.size a ≤ S64x1000000.size a := fun v1005 k1_hw92 => k1_hw92.2

def k1_off221 (v1028 : BitVec 32) : Fin 2 → Nat :=
  let c24_i32_1603 : BitVec 32 := 24#32
  let c0_i32_710 : BitVec 32 := 0#32
  let v1030 : BitVec 1 := Scalar.cmpi .sgt v1028 c0_i32_710
  let v1031 : BitVec 32 := Scalar.extui v1030
  let c0_i32_711 : BitVec 32 := 0#32
  let v1032 : BitVec 1 := Scalar.cmpi .slt v1028 c0_i32_711
  let v1033 : BitVec 32 := Scalar.extui v1032
  let v1034 : BitVec 32 := Scalar.subi v1031 v1033
  let c128_i32_709 : BitVec 32 := 128#32
  let c0_i32_712 : BitVec 32 := 0#32
  let v1035 : BitVec 1 := Scalar.cmpi .sgt c128_i32_709 c0_i32_712
  let v1036 : BitVec 32 := Scalar.extui v1035
  let c0_i32_713 : BitVec 32 := 0#32
  let v1037 : BitVec 1 := Scalar.cmpi .slt c128_i32_709 c0_i32_713
  let v1038 : BitVec 32 := Scalar.extui v1037
  let v1039 : BitVec 32 := Scalar.subi v1036 v1038
  let v1040 : BitVec 1 := Scalar.cmpi .ne v1034 v1039
  let v1041 : BitVec 32 := Scalar.remsi v1028 c128_i32_709
  let c0_i32_714 : BitVec 32 := 0#32
  let v1042 : BitVec 1 := Scalar.cmpi .ne v1041 c0_i32_714
  let v1043 : BitVec 1 := Scalar.andi v1040 v1042
  let v1029 : BitVec 32 := Scalar.divsi v1028 c128_i32_709
  let c1_i32_715 : BitVec 32 := 1#32
  let v1044 : BitVec 32 := Scalar.subi v1029 c1_i32_715
  let v1045 : BitVec 32 := Scalar.select v1043 v1044 v1029
  let c128_i32_716 : BitVec 32 := 128#32
  let v1046 : BitVec 32 := Scalar.muli v1045 c128_i32_716
  let c982912_i32_717 : BitVec 32 := 982912#32
  let v1047 : BitVec 32 := Scalar.minsi v1046 c982912_i32_717
  ![24, v1047.toNat]

def k1_chk93 (v1028 : BitVec 32) : Prop :=
  (∀ a, (k1_off93 v1028) a + S8x128.size a ≤ S64x1000000.size a) ∧
  (∀ a, (k1_off221 v1028) a + S8x128.size a ≤ S64x1000000.size a)
theorem k1_off93_inb : ∀ (v1028 : BitVec 32) (k1_hw93 : k1_chk93 v1028), ∀ a, (k1_off93 v1028) a + S8x128.size a ≤ S64x1000000.size a := fun v1028 k1_hw93 => k1_hw93.1
theorem k1_off221_inb : ∀ (v1028 : BitVec 32) (k1_hw93 : k1_chk93 v1028), ∀ a, (k1_off221 v1028) a + S8x128.size a ≤ S64x1000000.size a := fun v1028 k1_hw93 => k1_hw93.2

def k1_off222 (v1051 : BitVec 32) : Fin 2 → Nat :=
  let c24_i32_1607 : BitVec 32 := 24#32
  let c0_i32_724 : BitVec 32 := 0#32
  let v1053 : BitVec 1 := Scalar.cmpi .sgt v1051 c0_i32_724
  let v1054 : BitVec 32 := Scalar.extui v1053
  let c0_i32_725 : BitVec 32 := 0#32
  let v1055 : BitVec 1 := Scalar.cmpi .slt v1051 c0_i32_725
  let v1056 : BitVec 32 := Scalar.extui v1055
  let v1057 : BitVec 32 := Scalar.subi v1054 v1056
  let c128_i32_723 : BitVec 32 := 128#32
  let c0_i32_726 : BitVec 32 := 0#32
  let v1058 : BitVec 1 := Scalar.cmpi .sgt c128_i32_723 c0_i32_726
  let v1059 : BitVec 32 := Scalar.extui v1058
  let c0_i32_727 : BitVec 32 := 0#32
  let v1060 : BitVec 1 := Scalar.cmpi .slt c128_i32_723 c0_i32_727
  let v1061 : BitVec 32 := Scalar.extui v1060
  let v1062 : BitVec 32 := Scalar.subi v1059 v1061
  let v1063 : BitVec 1 := Scalar.cmpi .ne v1057 v1062
  let v1064 : BitVec 32 := Scalar.remsi v1051 c128_i32_723
  let c0_i32_728 : BitVec 32 := 0#32
  let v1065 : BitVec 1 := Scalar.cmpi .ne v1064 c0_i32_728
  let v1066 : BitVec 1 := Scalar.andi v1063 v1065
  let v1052 : BitVec 32 := Scalar.divsi v1051 c128_i32_723
  let c1_i32_729 : BitVec 32 := 1#32
  let v1067 : BitVec 32 := Scalar.subi v1052 c1_i32_729
  let v1068 : BitVec 32 := Scalar.select v1066 v1067 v1052
  let c128_i32_730 : BitVec 32 := 128#32
  let v1069 : BitVec 32 := Scalar.muli v1068 c128_i32_730
  let c982912_i32_731 : BitVec 32 := 982912#32
  let v1070 : BitVec 32 := Scalar.minsi v1069 c982912_i32_731
  ![24, v1070.toNat]

def k1_chk94 (v1051 : BitVec 32) : Prop :=
  (∀ a, (k1_off94 v1051) a + S8x128.size a ≤ S64x1000000.size a) ∧
  (∀ a, (k1_off222 v1051) a + S8x128.size a ≤ S64x1000000.size a)
theorem k1_off94_inb : ∀ (v1051 : BitVec 32) (k1_hw94 : k1_chk94 v1051), ∀ a, (k1_off94 v1051) a + S8x128.size a ≤ S64x1000000.size a := fun v1051 k1_hw94 => k1_hw94.1
theorem k1_off222_inb : ∀ (v1051 : BitVec 32) (k1_hw94 : k1_chk94 v1051), ∀ a, (k1_off222 v1051) a + S8x128.size a ≤ S64x1000000.size a := fun v1051 k1_hw94 => k1_hw94.2

def k1_off223 (v1074 : BitVec 32) : Fin 2 → Nat :=
  let c24_i32_1611 : BitVec 32 := 24#32
  let c0_i32_738 : BitVec 32 := 0#32
  let v1076 : BitVec 1 := Scalar.cmpi .sgt v1074 c0_i32_738
  let v1077 : BitVec 32 := Scalar.extui v1076
  let c0_i32_739 : BitVec 32 := 0#32
  let v1078 : BitVec 1 := Scalar.cmpi .slt v1074 c0_i32_739
  let v1079 : BitVec 32 := Scalar.extui v1078
  let v1080 : BitVec 32 := Scalar.subi v1077 v1079
  let c128_i32_737 : BitVec 32 := 128#32
  let c0_i32_740 : BitVec 32 := 0#32
  let v1081 : BitVec 1 := Scalar.cmpi .sgt c128_i32_737 c0_i32_740
  let v1082 : BitVec 32 := Scalar.extui v1081
  let c0_i32_741 : BitVec 32 := 0#32
  let v1083 : BitVec 1 := Scalar.cmpi .slt c128_i32_737 c0_i32_741
  let v1084 : BitVec 32 := Scalar.extui v1083
  let v1085 : BitVec 32 := Scalar.subi v1082 v1084
  let v1086 : BitVec 1 := Scalar.cmpi .ne v1080 v1085
  let v1087 : BitVec 32 := Scalar.remsi v1074 c128_i32_737
  let c0_i32_742 : BitVec 32 := 0#32
  let v1088 : BitVec 1 := Scalar.cmpi .ne v1087 c0_i32_742
  let v1089 : BitVec 1 := Scalar.andi v1086 v1088
  let v1075 : BitVec 32 := Scalar.divsi v1074 c128_i32_737
  let c1_i32_743 : BitVec 32 := 1#32
  let v1090 : BitVec 32 := Scalar.subi v1075 c1_i32_743
  let v1091 : BitVec 32 := Scalar.select v1089 v1090 v1075
  let c128_i32_744 : BitVec 32 := 128#32
  let v1092 : BitVec 32 := Scalar.muli v1091 c128_i32_744
  let c982912_i32_745 : BitVec 32 := 982912#32
  let v1093 : BitVec 32 := Scalar.minsi v1092 c982912_i32_745
  ![24, v1093.toNat]

def k1_chk95 (v1074 : BitVec 32) : Prop :=
  (∀ a, (k1_off95 v1074) a + S8x128.size a ≤ S64x1000000.size a) ∧
  (∀ a, (k1_off223 v1074) a + S8x128.size a ≤ S64x1000000.size a)
theorem k1_off95_inb : ∀ (v1074 : BitVec 32) (k1_hw95 : k1_chk95 v1074), ∀ a, (k1_off95 v1074) a + S8x128.size a ≤ S64x1000000.size a := fun v1074 k1_hw95 => k1_hw95.1
theorem k1_off223_inb : ∀ (v1074 : BitVec 32) (k1_hw95 : k1_chk95 v1074), ∀ a, (k1_off223 v1074) a + S8x128.size a ≤ S64x1000000.size a := fun v1074 k1_hw95 => k1_hw95.2

def k1_off224 (v1097 : BitVec 32) : Fin 2 → Nat :=
  let c24_i32_1615 : BitVec 32 := 24#32
  let c0_i32_752 : BitVec 32 := 0#32
  let v1099 : BitVec 1 := Scalar.cmpi .sgt v1097 c0_i32_752
  let v1100 : BitVec 32 := Scalar.extui v1099
  let c0_i32_753 : BitVec 32 := 0#32
  let v1101 : BitVec 1 := Scalar.cmpi .slt v1097 c0_i32_753
  let v1102 : BitVec 32 := Scalar.extui v1101
  let v1103 : BitVec 32 := Scalar.subi v1100 v1102
  let c128_i32_751 : BitVec 32 := 128#32
  let c0_i32_754 : BitVec 32 := 0#32
  let v1104 : BitVec 1 := Scalar.cmpi .sgt c128_i32_751 c0_i32_754
  let v1105 : BitVec 32 := Scalar.extui v1104
  let c0_i32_755 : BitVec 32 := 0#32
  let v1106 : BitVec 1 := Scalar.cmpi .slt c128_i32_751 c0_i32_755
  let v1107 : BitVec 32 := Scalar.extui v1106
  let v1108 : BitVec 32 := Scalar.subi v1105 v1107
  let v1109 : BitVec 1 := Scalar.cmpi .ne v1103 v1108
  let v1110 : BitVec 32 := Scalar.remsi v1097 c128_i32_751
  let c0_i32_756 : BitVec 32 := 0#32
  let v1111 : BitVec 1 := Scalar.cmpi .ne v1110 c0_i32_756
  let v1112 : BitVec 1 := Scalar.andi v1109 v1111
  let v1098 : BitVec 32 := Scalar.divsi v1097 c128_i32_751
  let c1_i32_757 : BitVec 32 := 1#32
  let v1113 : BitVec 32 := Scalar.subi v1098 c1_i32_757
  let v1114 : BitVec 32 := Scalar.select v1112 v1113 v1098
  let c128_i32_758 : BitVec 32 := 128#32
  let v1115 : BitVec 32 := Scalar.muli v1114 c128_i32_758
  let c982912_i32_759 : BitVec 32 := 982912#32
  let v1116 : BitVec 32 := Scalar.minsi v1115 c982912_i32_759
  ![24, v1116.toNat]

def k1_chk96 (v1097 : BitVec 32) : Prop :=
  (∀ a, (k1_off96 v1097) a + S8x128.size a ≤ S64x1000000.size a) ∧
  (∀ a, (k1_off224 v1097) a + S8x128.size a ≤ S64x1000000.size a)
theorem k1_off96_inb : ∀ (v1097 : BitVec 32) (k1_hw96 : k1_chk96 v1097), ∀ a, (k1_off96 v1097) a + S8x128.size a ≤ S64x1000000.size a := fun v1097 k1_hw96 => k1_hw96.1
theorem k1_off224_inb : ∀ (v1097 : BitVec 32) (k1_hw96 : k1_chk96 v1097), ∀ a, (k1_off224 v1097) a + S8x128.size a ≤ S64x1000000.size a := fun v1097 k1_hw96 => k1_hw96.2

def k1_off225 (v1120 : BitVec 32) : Fin 2 → Nat :=
  let c32_i32_1619 : BitVec 32 := 32#32
  let c0_i32_766 : BitVec 32 := 0#32
  let v1122 : BitVec 1 := Scalar.cmpi .sgt v1120 c0_i32_766
  let v1123 : BitVec 32 := Scalar.extui v1122
  let c0_i32_767 : BitVec 32 := 0#32
  let v1124 : BitVec 1 := Scalar.cmpi .slt v1120 c0_i32_767
  let v1125 : BitVec 32 := Scalar.extui v1124
  let v1126 : BitVec 32 := Scalar.subi v1123 v1125
  let c128_i32_765 : BitVec 32 := 128#32
  let c0_i32_768 : BitVec 32 := 0#32
  let v1127 : BitVec 1 := Scalar.cmpi .sgt c128_i32_765 c0_i32_768
  let v1128 : BitVec 32 := Scalar.extui v1127
  let c0_i32_769 : BitVec 32 := 0#32
  let v1129 : BitVec 1 := Scalar.cmpi .slt c128_i32_765 c0_i32_769
  let v1130 : BitVec 32 := Scalar.extui v1129
  let v1131 : BitVec 32 := Scalar.subi v1128 v1130
  let v1132 : BitVec 1 := Scalar.cmpi .ne v1126 v1131
  let v1133 : BitVec 32 := Scalar.remsi v1120 c128_i32_765
  let c0_i32_770 : BitVec 32 := 0#32
  let v1134 : BitVec 1 := Scalar.cmpi .ne v1133 c0_i32_770
  let v1135 : BitVec 1 := Scalar.andi v1132 v1134
  let v1121 : BitVec 32 := Scalar.divsi v1120 c128_i32_765
  let c1_i32_771 : BitVec 32 := 1#32
  let v1136 : BitVec 32 := Scalar.subi v1121 c1_i32_771
  let v1137 : BitVec 32 := Scalar.select v1135 v1136 v1121
  let c128_i32_772 : BitVec 32 := 128#32
  let v1138 : BitVec 32 := Scalar.muli v1137 c128_i32_772
  let c982912_i32_773 : BitVec 32 := 982912#32
  let v1139 : BitVec 32 := Scalar.minsi v1138 c982912_i32_773
  ![32, v1139.toNat]

def k1_chk97 (v1120 : BitVec 32) : Prop :=
  (∀ a, (k1_off97 v1120) a + S8x128.size a ≤ S64x1000000.size a) ∧
  (∀ a, (k1_off225 v1120) a + S8x128.size a ≤ S64x1000000.size a)
theorem k1_off97_inb : ∀ (v1120 : BitVec 32) (k1_hw97 : k1_chk97 v1120), ∀ a, (k1_off97 v1120) a + S8x128.size a ≤ S64x1000000.size a := fun v1120 k1_hw97 => k1_hw97.1
theorem k1_off225_inb : ∀ (v1120 : BitVec 32) (k1_hw97 : k1_chk97 v1120), ∀ a, (k1_off225 v1120) a + S8x128.size a ≤ S64x1000000.size a := fun v1120 k1_hw97 => k1_hw97.2

def k1_off226 (v1143 : BitVec 32) : Fin 2 → Nat :=
  let c32_i32_1623 : BitVec 32 := 32#32
  let c0_i32_780 : BitVec 32 := 0#32
  let v1145 : BitVec 1 := Scalar.cmpi .sgt v1143 c0_i32_780
  let v1146 : BitVec 32 := Scalar.extui v1145
  let c0_i32_781 : BitVec 32 := 0#32
  let v1147 : BitVec 1 := Scalar.cmpi .slt v1143 c0_i32_781
  let v1148 : BitVec 32 := Scalar.extui v1147
  let v1149 : BitVec 32 := Scalar.subi v1146 v1148
  let c128_i32_779 : BitVec 32 := 128#32
  let c0_i32_782 : BitVec 32 := 0#32
  let v1150 : BitVec 1 := Scalar.cmpi .sgt c128_i32_779 c0_i32_782
  let v1151 : BitVec 32 := Scalar.extui v1150
  let c0_i32_783 : BitVec 32 := 0#32
  let v1152 : BitVec 1 := Scalar.cmpi .slt c128_i32_779 c0_i32_783
  let v1153 : BitVec 32 := Scalar.extui v1152
  let v1154 : BitVec 32 := Scalar.subi v1151 v1153
  let v1155 : BitVec 1 := Scalar.cmpi .ne v1149 v1154
  let v1156 : BitVec 32 := Scalar.remsi v1143 c128_i32_779
  let c0_i32_784 : BitVec 32 := 0#32
  let v1157 : BitVec 1 := Scalar.cmpi .ne v1156 c0_i32_784
  let v1158 : BitVec 1 := Scalar.andi v1155 v1157
  let v1144 : BitVec 32 := Scalar.divsi v1143 c128_i32_779
  let c1_i32_785 : BitVec 32 := 1#32
  let v1159 : BitVec 32 := Scalar.subi v1144 c1_i32_785
  let v1160 : BitVec 32 := Scalar.select v1158 v1159 v1144
  let c128_i32_786 : BitVec 32 := 128#32
  let v1161 : BitVec 32 := Scalar.muli v1160 c128_i32_786
  let c982912_i32_787 : BitVec 32 := 982912#32
  let v1162 : BitVec 32 := Scalar.minsi v1161 c982912_i32_787
  ![32, v1162.toNat]

def k1_chk98 (v1143 : BitVec 32) : Prop :=
  (∀ a, (k1_off98 v1143) a + S8x128.size a ≤ S64x1000000.size a) ∧
  (∀ a, (k1_off226 v1143) a + S8x128.size a ≤ S64x1000000.size a)
theorem k1_off98_inb : ∀ (v1143 : BitVec 32) (k1_hw98 : k1_chk98 v1143), ∀ a, (k1_off98 v1143) a + S8x128.size a ≤ S64x1000000.size a := fun v1143 k1_hw98 => k1_hw98.1
theorem k1_off226_inb : ∀ (v1143 : BitVec 32) (k1_hw98 : k1_chk98 v1143), ∀ a, (k1_off226 v1143) a + S8x128.size a ≤ S64x1000000.size a := fun v1143 k1_hw98 => k1_hw98.2

def k1_off227 (v1166 : BitVec 32) : Fin 2 → Nat :=
  let c32_i32_1627 : BitVec 32 := 32#32
  let c0_i32_794 : BitVec 32 := 0#32
  let v1168 : BitVec 1 := Scalar.cmpi .sgt v1166 c0_i32_794
  let v1169 : BitVec 32 := Scalar.extui v1168
  let c0_i32_795 : BitVec 32 := 0#32
  let v1170 : BitVec 1 := Scalar.cmpi .slt v1166 c0_i32_795
  let v1171 : BitVec 32 := Scalar.extui v1170
  let v1172 : BitVec 32 := Scalar.subi v1169 v1171
  let c128_i32_793 : BitVec 32 := 128#32
  let c0_i32_796 : BitVec 32 := 0#32
  let v1173 : BitVec 1 := Scalar.cmpi .sgt c128_i32_793 c0_i32_796
  let v1174 : BitVec 32 := Scalar.extui v1173
  let c0_i32_797 : BitVec 32 := 0#32
  let v1175 : BitVec 1 := Scalar.cmpi .slt c128_i32_793 c0_i32_797
  let v1176 : BitVec 32 := Scalar.extui v1175
  let v1177 : BitVec 32 := Scalar.subi v1174 v1176
  let v1178 : BitVec 1 := Scalar.cmpi .ne v1172 v1177
  let v1179 : BitVec 32 := Scalar.remsi v1166 c128_i32_793
  let c0_i32_798 : BitVec 32 := 0#32
  let v1180 : BitVec 1 := Scalar.cmpi .ne v1179 c0_i32_798
  let v1181 : BitVec 1 := Scalar.andi v1178 v1180
  let v1167 : BitVec 32 := Scalar.divsi v1166 c128_i32_793
  let c1_i32_799 : BitVec 32 := 1#32
  let v1182 : BitVec 32 := Scalar.subi v1167 c1_i32_799
  let v1183 : BitVec 32 := Scalar.select v1181 v1182 v1167
  let c128_i32_800 : BitVec 32 := 128#32
  let v1184 : BitVec 32 := Scalar.muli v1183 c128_i32_800
  let c982912_i32_801 : BitVec 32 := 982912#32
  let v1185 : BitVec 32 := Scalar.minsi v1184 c982912_i32_801
  ![32, v1185.toNat]

def k1_chk99 (v1166 : BitVec 32) : Prop :=
  (∀ a, (k1_off99 v1166) a + S8x128.size a ≤ S64x1000000.size a) ∧
  (∀ a, (k1_off227 v1166) a + S8x128.size a ≤ S64x1000000.size a)
theorem k1_off99_inb : ∀ (v1166 : BitVec 32) (k1_hw99 : k1_chk99 v1166), ∀ a, (k1_off99 v1166) a + S8x128.size a ≤ S64x1000000.size a := fun v1166 k1_hw99 => k1_hw99.1
theorem k1_off227_inb : ∀ (v1166 : BitVec 32) (k1_hw99 : k1_chk99 v1166), ∀ a, (k1_off227 v1166) a + S8x128.size a ≤ S64x1000000.size a := fun v1166 k1_hw99 => k1_hw99.2

def k1_off228 (v1189 : BitVec 32) : Fin 2 → Nat :=
  let c32_i32_1631 : BitVec 32 := 32#32
  let c0_i32_808 : BitVec 32 := 0#32
  let v1191 : BitVec 1 := Scalar.cmpi .sgt v1189 c0_i32_808
  let v1192 : BitVec 32 := Scalar.extui v1191
  let c0_i32_809 : BitVec 32 := 0#32
  let v1193 : BitVec 1 := Scalar.cmpi .slt v1189 c0_i32_809
  let v1194 : BitVec 32 := Scalar.extui v1193
  let v1195 : BitVec 32 := Scalar.subi v1192 v1194
  let c128_i32_807 : BitVec 32 := 128#32
  let c0_i32_810 : BitVec 32 := 0#32
  let v1196 : BitVec 1 := Scalar.cmpi .sgt c128_i32_807 c0_i32_810
  let v1197 : BitVec 32 := Scalar.extui v1196
  let c0_i32_811 : BitVec 32 := 0#32
  let v1198 : BitVec 1 := Scalar.cmpi .slt c128_i32_807 c0_i32_811
  let v1199 : BitVec 32 := Scalar.extui v1198
  let v1200 : BitVec 32 := Scalar.subi v1197 v1199
  let v1201 : BitVec 1 := Scalar.cmpi .ne v1195 v1200
  let v1202 : BitVec 32 := Scalar.remsi v1189 c128_i32_807
  let c0_i32_812 : BitVec 32 := 0#32
  let v1203 : BitVec 1 := Scalar.cmpi .ne v1202 c0_i32_812
  let v1204 : BitVec 1 := Scalar.andi v1201 v1203
  let v1190 : BitVec 32 := Scalar.divsi v1189 c128_i32_807
  let c1_i32_813 : BitVec 32 := 1#32
  let v1205 : BitVec 32 := Scalar.subi v1190 c1_i32_813
  let v1206 : BitVec 32 := Scalar.select v1204 v1205 v1190
  let c128_i32_814 : BitVec 32 := 128#32
  let v1207 : BitVec 32 := Scalar.muli v1206 c128_i32_814
  let c982912_i32_815 : BitVec 32 := 982912#32
  let v1208 : BitVec 32 := Scalar.minsi v1207 c982912_i32_815
  ![32, v1208.toNat]

def k1_chk100 (v1189 : BitVec 32) : Prop :=
  (∀ a, (k1_off100 v1189) a + S8x128.size a ≤ S64x1000000.size a) ∧
  (∀ a, (k1_off228 v1189) a + S8x128.size a ≤ S64x1000000.size a)
theorem k1_off100_inb : ∀ (v1189 : BitVec 32) (k1_hw100 : k1_chk100 v1189), ∀ a, (k1_off100 v1189) a + S8x128.size a ≤ S64x1000000.size a := fun v1189 k1_hw100 => k1_hw100.1
theorem k1_off228_inb : ∀ (v1189 : BitVec 32) (k1_hw100 : k1_chk100 v1189), ∀ a, (k1_off228 v1189) a + S8x128.size a ≤ S64x1000000.size a := fun v1189 k1_hw100 => k1_hw100.2

def k1_off229 (v1212 : BitVec 32) : Fin 2 → Nat :=
  let c32_i32_1635 : BitVec 32 := 32#32
  let c0_i32_822 : BitVec 32 := 0#32
  let v1214 : BitVec 1 := Scalar.cmpi .sgt v1212 c0_i32_822
  let v1215 : BitVec 32 := Scalar.extui v1214
  let c0_i32_823 : BitVec 32 := 0#32
  let v1216 : BitVec 1 := Scalar.cmpi .slt v1212 c0_i32_823
  let v1217 : BitVec 32 := Scalar.extui v1216
  let v1218 : BitVec 32 := Scalar.subi v1215 v1217
  let c128_i32_821 : BitVec 32 := 128#32
  let c0_i32_824 : BitVec 32 := 0#32
  let v1219 : BitVec 1 := Scalar.cmpi .sgt c128_i32_821 c0_i32_824
  let v1220 : BitVec 32 := Scalar.extui v1219
  let c0_i32_825 : BitVec 32 := 0#32
  let v1221 : BitVec 1 := Scalar.cmpi .slt c128_i32_821 c0_i32_825
  let v1222 : BitVec 32 := Scalar.extui v1221
  let v1223 : BitVec 32 := Scalar.subi v1220 v1222
  let v1224 : BitVec 1 := Scalar.cmpi .ne v1218 v1223
  let v1225 : BitVec 32 := Scalar.remsi v1212 c128_i32_821
  let c0_i32_826 : BitVec 32 := 0#32
  let v1226 : BitVec 1 := Scalar.cmpi .ne v1225 c0_i32_826
  let v1227 : BitVec 1 := Scalar.andi v1224 v1226
  let v1213 : BitVec 32 := Scalar.divsi v1212 c128_i32_821
  let c1_i32_827 : BitVec 32 := 1#32
  let v1228 : BitVec 32 := Scalar.subi v1213 c1_i32_827
  let v1229 : BitVec 32 := Scalar.select v1227 v1228 v1213
  let c128_i32_828 : BitVec 32 := 128#32
  let v1230 : BitVec 32 := Scalar.muli v1229 c128_i32_828
  let c982912_i32_829 : BitVec 32 := 982912#32
  let v1231 : BitVec 32 := Scalar.minsi v1230 c982912_i32_829
  ![32, v1231.toNat]

def k1_chk101 (v1212 : BitVec 32) : Prop :=
  (∀ a, (k1_off101 v1212) a + S8x128.size a ≤ S64x1000000.size a) ∧
  (∀ a, (k1_off229 v1212) a + S8x128.size a ≤ S64x1000000.size a)
theorem k1_off101_inb : ∀ (v1212 : BitVec 32) (k1_hw101 : k1_chk101 v1212), ∀ a, (k1_off101 v1212) a + S8x128.size a ≤ S64x1000000.size a := fun v1212 k1_hw101 => k1_hw101.1
theorem k1_off229_inb : ∀ (v1212 : BitVec 32) (k1_hw101 : k1_chk101 v1212), ∀ a, (k1_off229 v1212) a + S8x128.size a ≤ S64x1000000.size a := fun v1212 k1_hw101 => k1_hw101.2

def k1_off230 (v1235 : BitVec 32) : Fin 2 → Nat :=
  let c32_i32_1639 : BitVec 32 := 32#32
  let c0_i32_836 : BitVec 32 := 0#32
  let v1237 : BitVec 1 := Scalar.cmpi .sgt v1235 c0_i32_836
  let v1238 : BitVec 32 := Scalar.extui v1237
  let c0_i32_837 : BitVec 32 := 0#32
  let v1239 : BitVec 1 := Scalar.cmpi .slt v1235 c0_i32_837
  let v1240 : BitVec 32 := Scalar.extui v1239
  let v1241 : BitVec 32 := Scalar.subi v1238 v1240
  let c128_i32_835 : BitVec 32 := 128#32
  let c0_i32_838 : BitVec 32 := 0#32
  let v1242 : BitVec 1 := Scalar.cmpi .sgt c128_i32_835 c0_i32_838
  let v1243 : BitVec 32 := Scalar.extui v1242
  let c0_i32_839 : BitVec 32 := 0#32
  let v1244 : BitVec 1 := Scalar.cmpi .slt c128_i32_835 c0_i32_839
  let v1245 : BitVec 32 := Scalar.extui v1244
  let v1246 : BitVec 32 := Scalar.subi v1243 v1245
  let v1247 : BitVec 1 := Scalar.cmpi .ne v1241 v1246
  let v1248 : BitVec 32 := Scalar.remsi v1235 c128_i32_835
  let c0_i32_840 : BitVec 32 := 0#32
  let v1249 : BitVec 1 := Scalar.cmpi .ne v1248 c0_i32_840
  let v1250 : BitVec 1 := Scalar.andi v1247 v1249
  let v1236 : BitVec 32 := Scalar.divsi v1235 c128_i32_835
  let c1_i32_841 : BitVec 32 := 1#32
  let v1251 : BitVec 32 := Scalar.subi v1236 c1_i32_841
  let v1252 : BitVec 32 := Scalar.select v1250 v1251 v1236
  let c128_i32_842 : BitVec 32 := 128#32
  let v1253 : BitVec 32 := Scalar.muli v1252 c128_i32_842
  let c982912_i32_843 : BitVec 32 := 982912#32
  let v1254 : BitVec 32 := Scalar.minsi v1253 c982912_i32_843
  ![32, v1254.toNat]

def k1_chk102 (v1235 : BitVec 32) : Prop :=
  (∀ a, (k1_off102 v1235) a + S8x128.size a ≤ S64x1000000.size a) ∧
  (∀ a, (k1_off230 v1235) a + S8x128.size a ≤ S64x1000000.size a)
theorem k1_off102_inb : ∀ (v1235 : BitVec 32) (k1_hw102 : k1_chk102 v1235), ∀ a, (k1_off102 v1235) a + S8x128.size a ≤ S64x1000000.size a := fun v1235 k1_hw102 => k1_hw102.1
theorem k1_off230_inb : ∀ (v1235 : BitVec 32) (k1_hw102 : k1_chk102 v1235), ∀ a, (k1_off230 v1235) a + S8x128.size a ≤ S64x1000000.size a := fun v1235 k1_hw102 => k1_hw102.2

def k1_off231 (v1258 : BitVec 32) : Fin 2 → Nat :=
  let c32_i32_1643 : BitVec 32 := 32#32
  let c0_i32_850 : BitVec 32 := 0#32
  let v1260 : BitVec 1 := Scalar.cmpi .sgt v1258 c0_i32_850
  let v1261 : BitVec 32 := Scalar.extui v1260
  let c0_i32_851 : BitVec 32 := 0#32
  let v1262 : BitVec 1 := Scalar.cmpi .slt v1258 c0_i32_851
  let v1263 : BitVec 32 := Scalar.extui v1262
  let v1264 : BitVec 32 := Scalar.subi v1261 v1263
  let c128_i32_849 : BitVec 32 := 128#32
  let c0_i32_852 : BitVec 32 := 0#32
  let v1265 : BitVec 1 := Scalar.cmpi .sgt c128_i32_849 c0_i32_852
  let v1266 : BitVec 32 := Scalar.extui v1265
  let c0_i32_853 : BitVec 32 := 0#32
  let v1267 : BitVec 1 := Scalar.cmpi .slt c128_i32_849 c0_i32_853
  let v1268 : BitVec 32 := Scalar.extui v1267
  let v1269 : BitVec 32 := Scalar.subi v1266 v1268
  let v1270 : BitVec 1 := Scalar.cmpi .ne v1264 v1269
  let v1271 : BitVec 32 := Scalar.remsi v1258 c128_i32_849
  let c0_i32_854 : BitVec 32 := 0#32
  let v1272 : BitVec 1 := Scalar.cmpi .ne v1271 c0_i32_854
  let v1273 : BitVec 1 := Scalar.andi v1270 v1272
  let v1259 : BitVec 32 := Scalar.divsi v1258 c128_i32_849
  let c1_i32_855 : BitVec 32 := 1#32
  let v1274 : BitVec 32 := Scalar.subi v1259 c1_i32_855
  let v1275 : BitVec 32 := Scalar.select v1273 v1274 v1259
  let c128_i32_856 : BitVec 32 := 128#32
  let v1276 : BitVec 32 := Scalar.muli v1275 c128_i32_856
  let c982912_i32_857 : BitVec 32 := 982912#32
  let v1277 : BitVec 32 := Scalar.minsi v1276 c982912_i32_857
  ![32, v1277.toNat]

def k1_chk103 (v1258 : BitVec 32) : Prop :=
  (∀ a, (k1_off103 v1258) a + S8x128.size a ≤ S64x1000000.size a) ∧
  (∀ a, (k1_off231 v1258) a + S8x128.size a ≤ S64x1000000.size a)
theorem k1_off103_inb : ∀ (v1258 : BitVec 32) (k1_hw103 : k1_chk103 v1258), ∀ a, (k1_off103 v1258) a + S8x128.size a ≤ S64x1000000.size a := fun v1258 k1_hw103 => k1_hw103.1
theorem k1_off231_inb : ∀ (v1258 : BitVec 32) (k1_hw103 : k1_chk103 v1258), ∀ a, (k1_off231 v1258) a + S8x128.size a ≤ S64x1000000.size a := fun v1258 k1_hw103 => k1_hw103.2

def k1_off232 (v1281 : BitVec 32) : Fin 2 → Nat :=
  let c32_i32_1647 : BitVec 32 := 32#32
  let c0_i32_864 : BitVec 32 := 0#32
  let v1283 : BitVec 1 := Scalar.cmpi .sgt v1281 c0_i32_864
  let v1284 : BitVec 32 := Scalar.extui v1283
  let c0_i32_865 : BitVec 32 := 0#32
  let v1285 : BitVec 1 := Scalar.cmpi .slt v1281 c0_i32_865
  let v1286 : BitVec 32 := Scalar.extui v1285
  let v1287 : BitVec 32 := Scalar.subi v1284 v1286
  let c128_i32_863 : BitVec 32 := 128#32
  let c0_i32_866 : BitVec 32 := 0#32
  let v1288 : BitVec 1 := Scalar.cmpi .sgt c128_i32_863 c0_i32_866
  let v1289 : BitVec 32 := Scalar.extui v1288
  let c0_i32_867 : BitVec 32 := 0#32
  let v1290 : BitVec 1 := Scalar.cmpi .slt c128_i32_863 c0_i32_867
  let v1291 : BitVec 32 := Scalar.extui v1290
  let v1292 : BitVec 32 := Scalar.subi v1289 v1291
  let v1293 : BitVec 1 := Scalar.cmpi .ne v1287 v1292
  let v1294 : BitVec 32 := Scalar.remsi v1281 c128_i32_863
  let c0_i32_868 : BitVec 32 := 0#32
  let v1295 : BitVec 1 := Scalar.cmpi .ne v1294 c0_i32_868
  let v1296 : BitVec 1 := Scalar.andi v1293 v1295
  let v1282 : BitVec 32 := Scalar.divsi v1281 c128_i32_863
  let c1_i32_869 : BitVec 32 := 1#32
  let v1297 : BitVec 32 := Scalar.subi v1282 c1_i32_869
  let v1298 : BitVec 32 := Scalar.select v1296 v1297 v1282
  let c128_i32_870 : BitVec 32 := 128#32
  let v1299 : BitVec 32 := Scalar.muli v1298 c128_i32_870
  let c982912_i32_871 : BitVec 32 := 982912#32
  let v1300 : BitVec 32 := Scalar.minsi v1299 c982912_i32_871
  ![32, v1300.toNat]

def k1_chk104 (v1281 : BitVec 32) : Prop :=
  (∀ a, (k1_off104 v1281) a + S8x128.size a ≤ S64x1000000.size a) ∧
  (∀ a, (k1_off232 v1281) a + S8x128.size a ≤ S64x1000000.size a)
theorem k1_off104_inb : ∀ (v1281 : BitVec 32) (k1_hw104 : k1_chk104 v1281), ∀ a, (k1_off104 v1281) a + S8x128.size a ≤ S64x1000000.size a := fun v1281 k1_hw104 => k1_hw104.1
theorem k1_off232_inb : ∀ (v1281 : BitVec 32) (k1_hw104 : k1_chk104 v1281), ∀ a, (k1_off232 v1281) a + S8x128.size a ≤ S64x1000000.size a := fun v1281 k1_hw104 => k1_hw104.2

def k1_off233 (v1304 : BitVec 32) : Fin 2 → Nat :=
  let c40_i32_1651 : BitVec 32 := 40#32
  let c0_i32_878 : BitVec 32 := 0#32
  let v1306 : BitVec 1 := Scalar.cmpi .sgt v1304 c0_i32_878
  let v1307 : BitVec 32 := Scalar.extui v1306
  let c0_i32_879 : BitVec 32 := 0#32
  let v1308 : BitVec 1 := Scalar.cmpi .slt v1304 c0_i32_879
  let v1309 : BitVec 32 := Scalar.extui v1308
  let v1310 : BitVec 32 := Scalar.subi v1307 v1309
  let c128_i32_877 : BitVec 32 := 128#32
  let c0_i32_880 : BitVec 32 := 0#32
  let v1311 : BitVec 1 := Scalar.cmpi .sgt c128_i32_877 c0_i32_880
  let v1312 : BitVec 32 := Scalar.extui v1311
  let c0_i32_881 : BitVec 32 := 0#32
  let v1313 : BitVec 1 := Scalar.cmpi .slt c128_i32_877 c0_i32_881
  let v1314 : BitVec 32 := Scalar.extui v1313
  let v1315 : BitVec 32 := Scalar.subi v1312 v1314
  let v1316 : BitVec 1 := Scalar.cmpi .ne v1310 v1315
  let v1317 : BitVec 32 := Scalar.remsi v1304 c128_i32_877
  let c0_i32_882 : BitVec 32 := 0#32
  let v1318 : BitVec 1 := Scalar.cmpi .ne v1317 c0_i32_882
  let v1319 : BitVec 1 := Scalar.andi v1316 v1318
  let v1305 : BitVec 32 := Scalar.divsi v1304 c128_i32_877
  let c1_i32_883 : BitVec 32 := 1#32
  let v1320 : BitVec 32 := Scalar.subi v1305 c1_i32_883
  let v1321 : BitVec 32 := Scalar.select v1319 v1320 v1305
  let c128_i32_884 : BitVec 32 := 128#32
  let v1322 : BitVec 32 := Scalar.muli v1321 c128_i32_884
  let c982912_i32_885 : BitVec 32 := 982912#32
  let v1323 : BitVec 32 := Scalar.minsi v1322 c982912_i32_885
  ![40, v1323.toNat]

def k1_chk105 (v1304 : BitVec 32) : Prop :=
  (∀ a, (k1_off105 v1304) a + S8x128.size a ≤ S64x1000000.size a) ∧
  (∀ a, (k1_off233 v1304) a + S8x128.size a ≤ S64x1000000.size a)
theorem k1_off105_inb : ∀ (v1304 : BitVec 32) (k1_hw105 : k1_chk105 v1304), ∀ a, (k1_off105 v1304) a + S8x128.size a ≤ S64x1000000.size a := fun v1304 k1_hw105 => k1_hw105.1
theorem k1_off233_inb : ∀ (v1304 : BitVec 32) (k1_hw105 : k1_chk105 v1304), ∀ a, (k1_off233 v1304) a + S8x128.size a ≤ S64x1000000.size a := fun v1304 k1_hw105 => k1_hw105.2

def k1_off234 (v1327 : BitVec 32) : Fin 2 → Nat :=
  let c40_i32_1655 : BitVec 32 := 40#32
  let c0_i32_892 : BitVec 32 := 0#32
  let v1329 : BitVec 1 := Scalar.cmpi .sgt v1327 c0_i32_892
  let v1330 : BitVec 32 := Scalar.extui v1329
  let c0_i32_893 : BitVec 32 := 0#32
  let v1331 : BitVec 1 := Scalar.cmpi .slt v1327 c0_i32_893
  let v1332 : BitVec 32 := Scalar.extui v1331
  let v1333 : BitVec 32 := Scalar.subi v1330 v1332
  let c128_i32_891 : BitVec 32 := 128#32
  let c0_i32_894 : BitVec 32 := 0#32
  let v1334 : BitVec 1 := Scalar.cmpi .sgt c128_i32_891 c0_i32_894
  let v1335 : BitVec 32 := Scalar.extui v1334
  let c0_i32_895 : BitVec 32 := 0#32
  let v1336 : BitVec 1 := Scalar.cmpi .slt c128_i32_891 c0_i32_895
  let v1337 : BitVec 32 := Scalar.extui v1336
  let v1338 : BitVec 32 := Scalar.subi v1335 v1337
  let v1339 : BitVec 1 := Scalar.cmpi .ne v1333 v1338
  let v1340 : BitVec 32 := Scalar.remsi v1327 c128_i32_891
  let c0_i32_896 : BitVec 32 := 0#32
  let v1341 : BitVec 1 := Scalar.cmpi .ne v1340 c0_i32_896
  let v1342 : BitVec 1 := Scalar.andi v1339 v1341
  let v1328 : BitVec 32 := Scalar.divsi v1327 c128_i32_891
  let c1_i32_897 : BitVec 32 := 1#32
  let v1343 : BitVec 32 := Scalar.subi v1328 c1_i32_897
  let v1344 : BitVec 32 := Scalar.select v1342 v1343 v1328
  let c128_i32_898 : BitVec 32 := 128#32
  let v1345 : BitVec 32 := Scalar.muli v1344 c128_i32_898
  let c982912_i32_899 : BitVec 32 := 982912#32
  let v1346 : BitVec 32 := Scalar.minsi v1345 c982912_i32_899
  ![40, v1346.toNat]

def k1_chk106 (v1327 : BitVec 32) : Prop :=
  (∀ a, (k1_off106 v1327) a + S8x128.size a ≤ S64x1000000.size a) ∧
  (∀ a, (k1_off234 v1327) a + S8x128.size a ≤ S64x1000000.size a)
theorem k1_off106_inb : ∀ (v1327 : BitVec 32) (k1_hw106 : k1_chk106 v1327), ∀ a, (k1_off106 v1327) a + S8x128.size a ≤ S64x1000000.size a := fun v1327 k1_hw106 => k1_hw106.1
theorem k1_off234_inb : ∀ (v1327 : BitVec 32) (k1_hw106 : k1_chk106 v1327), ∀ a, (k1_off234 v1327) a + S8x128.size a ≤ S64x1000000.size a := fun v1327 k1_hw106 => k1_hw106.2

def k1_off235 (v1350 : BitVec 32) : Fin 2 → Nat :=
  let c40_i32_1659 : BitVec 32 := 40#32
  let c0_i32_906 : BitVec 32 := 0#32
  let v1352 : BitVec 1 := Scalar.cmpi .sgt v1350 c0_i32_906
  let v1353 : BitVec 32 := Scalar.extui v1352
  let c0_i32_907 : BitVec 32 := 0#32
  let v1354 : BitVec 1 := Scalar.cmpi .slt v1350 c0_i32_907
  let v1355 : BitVec 32 := Scalar.extui v1354
  let v1356 : BitVec 32 := Scalar.subi v1353 v1355
  let c128_i32_905 : BitVec 32 := 128#32
  let c0_i32_908 : BitVec 32 := 0#32
  let v1357 : BitVec 1 := Scalar.cmpi .sgt c128_i32_905 c0_i32_908
  let v1358 : BitVec 32 := Scalar.extui v1357
  let c0_i32_909 : BitVec 32 := 0#32
  let v1359 : BitVec 1 := Scalar.cmpi .slt c128_i32_905 c0_i32_909
  let v1360 : BitVec 32 := Scalar.extui v1359
  let v1361 : BitVec 32 := Scalar.subi v1358 v1360
  let v1362 : BitVec 1 := Scalar.cmpi .ne v1356 v1361
  let v1363 : BitVec 32 := Scalar.remsi v1350 c128_i32_905
  let c0_i32_910 : BitVec 32 := 0#32
  let v1364 : BitVec 1 := Scalar.cmpi .ne v1363 c0_i32_910
  let v1365 : BitVec 1 := Scalar.andi v1362 v1364
  let v1351 : BitVec 32 := Scalar.divsi v1350 c128_i32_905
  let c1_i32_911 : BitVec 32 := 1#32
  let v1366 : BitVec 32 := Scalar.subi v1351 c1_i32_911
  let v1367 : BitVec 32 := Scalar.select v1365 v1366 v1351
  let c128_i32_912 : BitVec 32 := 128#32
  let v1368 : BitVec 32 := Scalar.muli v1367 c128_i32_912
  let c982912_i32_913 : BitVec 32 := 982912#32
  let v1369 : BitVec 32 := Scalar.minsi v1368 c982912_i32_913
  ![40, v1369.toNat]

def k1_chk107 (v1350 : BitVec 32) : Prop :=
  (∀ a, (k1_off107 v1350) a + S8x128.size a ≤ S64x1000000.size a) ∧
  (∀ a, (k1_off235 v1350) a + S8x128.size a ≤ S64x1000000.size a)
theorem k1_off107_inb : ∀ (v1350 : BitVec 32) (k1_hw107 : k1_chk107 v1350), ∀ a, (k1_off107 v1350) a + S8x128.size a ≤ S64x1000000.size a := fun v1350 k1_hw107 => k1_hw107.1
theorem k1_off235_inb : ∀ (v1350 : BitVec 32) (k1_hw107 : k1_chk107 v1350), ∀ a, (k1_off235 v1350) a + S8x128.size a ≤ S64x1000000.size a := fun v1350 k1_hw107 => k1_hw107.2

def k1_off236 (v1373 : BitVec 32) : Fin 2 → Nat :=
  let c40_i32_1663 : BitVec 32 := 40#32
  let c0_i32_920 : BitVec 32 := 0#32
  let v1375 : BitVec 1 := Scalar.cmpi .sgt v1373 c0_i32_920
  let v1376 : BitVec 32 := Scalar.extui v1375
  let c0_i32_921 : BitVec 32 := 0#32
  let v1377 : BitVec 1 := Scalar.cmpi .slt v1373 c0_i32_921
  let v1378 : BitVec 32 := Scalar.extui v1377
  let v1379 : BitVec 32 := Scalar.subi v1376 v1378
  let c128_i32_919 : BitVec 32 := 128#32
  let c0_i32_922 : BitVec 32 := 0#32
  let v1380 : BitVec 1 := Scalar.cmpi .sgt c128_i32_919 c0_i32_922
  let v1381 : BitVec 32 := Scalar.extui v1380
  let c0_i32_923 : BitVec 32 := 0#32
  let v1382 : BitVec 1 := Scalar.cmpi .slt c128_i32_919 c0_i32_923
  let v1383 : BitVec 32 := Scalar.extui v1382
  let v1384 : BitVec 32 := Scalar.subi v1381 v1383
  let v1385 : BitVec 1 := Scalar.cmpi .ne v1379 v1384
  let v1386 : BitVec 32 := Scalar.remsi v1373 c128_i32_919
  let c0_i32_924 : BitVec 32 := 0#32
  let v1387 : BitVec 1 := Scalar.cmpi .ne v1386 c0_i32_924
  let v1388 : BitVec 1 := Scalar.andi v1385 v1387
  let v1374 : BitVec 32 := Scalar.divsi v1373 c128_i32_919
  let c1_i32_925 : BitVec 32 := 1#32
  let v1389 : BitVec 32 := Scalar.subi v1374 c1_i32_925
  let v1390 : BitVec 32 := Scalar.select v1388 v1389 v1374
  let c128_i32_926 : BitVec 32 := 128#32
  let v1391 : BitVec 32 := Scalar.muli v1390 c128_i32_926
  let c982912_i32_927 : BitVec 32 := 982912#32
  let v1392 : BitVec 32 := Scalar.minsi v1391 c982912_i32_927
  ![40, v1392.toNat]

def k1_chk108 (v1373 : BitVec 32) : Prop :=
  (∀ a, (k1_off108 v1373) a + S8x128.size a ≤ S64x1000000.size a) ∧
  (∀ a, (k1_off236 v1373) a + S8x128.size a ≤ S64x1000000.size a)
theorem k1_off108_inb : ∀ (v1373 : BitVec 32) (k1_hw108 : k1_chk108 v1373), ∀ a, (k1_off108 v1373) a + S8x128.size a ≤ S64x1000000.size a := fun v1373 k1_hw108 => k1_hw108.1
theorem k1_off236_inb : ∀ (v1373 : BitVec 32) (k1_hw108 : k1_chk108 v1373), ∀ a, (k1_off236 v1373) a + S8x128.size a ≤ S64x1000000.size a := fun v1373 k1_hw108 => k1_hw108.2

def k1_off237 (v1396 : BitVec 32) : Fin 2 → Nat :=
  let c40_i32_1667 : BitVec 32 := 40#32
  let c0_i32_934 : BitVec 32 := 0#32
  let v1398 : BitVec 1 := Scalar.cmpi .sgt v1396 c0_i32_934
  let v1399 : BitVec 32 := Scalar.extui v1398
  let c0_i32_935 : BitVec 32 := 0#32
  let v1400 : BitVec 1 := Scalar.cmpi .slt v1396 c0_i32_935
  let v1401 : BitVec 32 := Scalar.extui v1400
  let v1402 : BitVec 32 := Scalar.subi v1399 v1401
  let c128_i32_933 : BitVec 32 := 128#32
  let c0_i32_936 : BitVec 32 := 0#32
  let v1403 : BitVec 1 := Scalar.cmpi .sgt c128_i32_933 c0_i32_936
  let v1404 : BitVec 32 := Scalar.extui v1403
  let c0_i32_937 : BitVec 32 := 0#32
  let v1405 : BitVec 1 := Scalar.cmpi .slt c128_i32_933 c0_i32_937
  let v1406 : BitVec 32 := Scalar.extui v1405
  let v1407 : BitVec 32 := Scalar.subi v1404 v1406
  let v1408 : BitVec 1 := Scalar.cmpi .ne v1402 v1407
  let v1409 : BitVec 32 := Scalar.remsi v1396 c128_i32_933
  let c0_i32_938 : BitVec 32 := 0#32
  let v1410 : BitVec 1 := Scalar.cmpi .ne v1409 c0_i32_938
  let v1411 : BitVec 1 := Scalar.andi v1408 v1410
  let v1397 : BitVec 32 := Scalar.divsi v1396 c128_i32_933
  let c1_i32_939 : BitVec 32 := 1#32
  let v1412 : BitVec 32 := Scalar.subi v1397 c1_i32_939
  let v1413 : BitVec 32 := Scalar.select v1411 v1412 v1397
  let c128_i32_940 : BitVec 32 := 128#32
  let v1414 : BitVec 32 := Scalar.muli v1413 c128_i32_940
  let c982912_i32_941 : BitVec 32 := 982912#32
  let v1415 : BitVec 32 := Scalar.minsi v1414 c982912_i32_941
  ![40, v1415.toNat]

def k1_chk109 (v1396 : BitVec 32) : Prop :=
  (∀ a, (k1_off109 v1396) a + S8x128.size a ≤ S64x1000000.size a) ∧
  (∀ a, (k1_off237 v1396) a + S8x128.size a ≤ S64x1000000.size a)
theorem k1_off109_inb : ∀ (v1396 : BitVec 32) (k1_hw109 : k1_chk109 v1396), ∀ a, (k1_off109 v1396) a + S8x128.size a ≤ S64x1000000.size a := fun v1396 k1_hw109 => k1_hw109.1
theorem k1_off237_inb : ∀ (v1396 : BitVec 32) (k1_hw109 : k1_chk109 v1396), ∀ a, (k1_off237 v1396) a + S8x128.size a ≤ S64x1000000.size a := fun v1396 k1_hw109 => k1_hw109.2

def k1_off238 (v1419 : BitVec 32) : Fin 2 → Nat :=
  let c40_i32_1671 : BitVec 32 := 40#32
  let c0_i32_948 : BitVec 32 := 0#32
  let v1421 : BitVec 1 := Scalar.cmpi .sgt v1419 c0_i32_948
  let v1422 : BitVec 32 := Scalar.extui v1421
  let c0_i32_949 : BitVec 32 := 0#32
  let v1423 : BitVec 1 := Scalar.cmpi .slt v1419 c0_i32_949
  let v1424 : BitVec 32 := Scalar.extui v1423
  let v1425 : BitVec 32 := Scalar.subi v1422 v1424
  let c128_i32_947 : BitVec 32 := 128#32
  let c0_i32_950 : BitVec 32 := 0#32
  let v1426 : BitVec 1 := Scalar.cmpi .sgt c128_i32_947 c0_i32_950
  let v1427 : BitVec 32 := Scalar.extui v1426
  let c0_i32_951 : BitVec 32 := 0#32
  let v1428 : BitVec 1 := Scalar.cmpi .slt c128_i32_947 c0_i32_951
  let v1429 : BitVec 32 := Scalar.extui v1428
  let v1430 : BitVec 32 := Scalar.subi v1427 v1429
  let v1431 : BitVec 1 := Scalar.cmpi .ne v1425 v1430
  let v1432 : BitVec 32 := Scalar.remsi v1419 c128_i32_947
  let c0_i32_952 : BitVec 32 := 0#32
  let v1433 : BitVec 1 := Scalar.cmpi .ne v1432 c0_i32_952
  let v1434 : BitVec 1 := Scalar.andi v1431 v1433
  let v1420 : BitVec 32 := Scalar.divsi v1419 c128_i32_947
  let c1_i32_953 : BitVec 32 := 1#32
  let v1435 : BitVec 32 := Scalar.subi v1420 c1_i32_953
  let v1436 : BitVec 32 := Scalar.select v1434 v1435 v1420
  let c128_i32_954 : BitVec 32 := 128#32
  let v1437 : BitVec 32 := Scalar.muli v1436 c128_i32_954
  let c982912_i32_955 : BitVec 32 := 982912#32
  let v1438 : BitVec 32 := Scalar.minsi v1437 c982912_i32_955
  ![40, v1438.toNat]

def k1_chk110 (v1419 : BitVec 32) : Prop :=
  (∀ a, (k1_off110 v1419) a + S8x128.size a ≤ S64x1000000.size a) ∧
  (∀ a, (k1_off238 v1419) a + S8x128.size a ≤ S64x1000000.size a)
theorem k1_off110_inb : ∀ (v1419 : BitVec 32) (k1_hw110 : k1_chk110 v1419), ∀ a, (k1_off110 v1419) a + S8x128.size a ≤ S64x1000000.size a := fun v1419 k1_hw110 => k1_hw110.1
theorem k1_off238_inb : ∀ (v1419 : BitVec 32) (k1_hw110 : k1_chk110 v1419), ∀ a, (k1_off238 v1419) a + S8x128.size a ≤ S64x1000000.size a := fun v1419 k1_hw110 => k1_hw110.2

def k1_off239 (v1442 : BitVec 32) : Fin 2 → Nat :=
  let c40_i32_1675 : BitVec 32 := 40#32
  let c0_i32_962 : BitVec 32 := 0#32
  let v1444 : BitVec 1 := Scalar.cmpi .sgt v1442 c0_i32_962
  let v1445 : BitVec 32 := Scalar.extui v1444
  let c0_i32_963 : BitVec 32 := 0#32
  let v1446 : BitVec 1 := Scalar.cmpi .slt v1442 c0_i32_963
  let v1447 : BitVec 32 := Scalar.extui v1446
  let v1448 : BitVec 32 := Scalar.subi v1445 v1447
  let c128_i32_961 : BitVec 32 := 128#32
  let c0_i32_964 : BitVec 32 := 0#32
  let v1449 : BitVec 1 := Scalar.cmpi .sgt c128_i32_961 c0_i32_964
  let v1450 : BitVec 32 := Scalar.extui v1449
  let c0_i32_965 : BitVec 32 := 0#32
  let v1451 : BitVec 1 := Scalar.cmpi .slt c128_i32_961 c0_i32_965
  let v1452 : BitVec 32 := Scalar.extui v1451
  let v1453 : BitVec 32 := Scalar.subi v1450 v1452
  let v1454 : BitVec 1 := Scalar.cmpi .ne v1448 v1453
  let v1455 : BitVec 32 := Scalar.remsi v1442 c128_i32_961
  let c0_i32_966 : BitVec 32 := 0#32
  let v1456 : BitVec 1 := Scalar.cmpi .ne v1455 c0_i32_966
  let v1457 : BitVec 1 := Scalar.andi v1454 v1456
  let v1443 : BitVec 32 := Scalar.divsi v1442 c128_i32_961
  let c1_i32_967 : BitVec 32 := 1#32
  let v1458 : BitVec 32 := Scalar.subi v1443 c1_i32_967
  let v1459 : BitVec 32 := Scalar.select v1457 v1458 v1443
  let c128_i32_968 : BitVec 32 := 128#32
  let v1460 : BitVec 32 := Scalar.muli v1459 c128_i32_968
  let c982912_i32_969 : BitVec 32 := 982912#32
  let v1461 : BitVec 32 := Scalar.minsi v1460 c982912_i32_969
  ![40, v1461.toNat]

def k1_chk111 (v1442 : BitVec 32) : Prop :=
  (∀ a, (k1_off111 v1442) a + S8x128.size a ≤ S64x1000000.size a) ∧
  (∀ a, (k1_off239 v1442) a + S8x128.size a ≤ S64x1000000.size a)
theorem k1_off111_inb : ∀ (v1442 : BitVec 32) (k1_hw111 : k1_chk111 v1442), ∀ a, (k1_off111 v1442) a + S8x128.size a ≤ S64x1000000.size a := fun v1442 k1_hw111 => k1_hw111.1
theorem k1_off239_inb : ∀ (v1442 : BitVec 32) (k1_hw111 : k1_chk111 v1442), ∀ a, (k1_off239 v1442) a + S8x128.size a ≤ S64x1000000.size a := fun v1442 k1_hw111 => k1_hw111.2

def k1_off240 (v1465 : BitVec 32) : Fin 2 → Nat :=
  let c40_i32_1679 : BitVec 32 := 40#32
  let c0_i32_976 : BitVec 32 := 0#32
  let v1467 : BitVec 1 := Scalar.cmpi .sgt v1465 c0_i32_976
  let v1468 : BitVec 32 := Scalar.extui v1467
  let c0_i32_977 : BitVec 32 := 0#32
  let v1469 : BitVec 1 := Scalar.cmpi .slt v1465 c0_i32_977
  let v1470 : BitVec 32 := Scalar.extui v1469
  let v1471 : BitVec 32 := Scalar.subi v1468 v1470
  let c128_i32_975 : BitVec 32 := 128#32
  let c0_i32_978 : BitVec 32 := 0#32
  let v1472 : BitVec 1 := Scalar.cmpi .sgt c128_i32_975 c0_i32_978
  let v1473 : BitVec 32 := Scalar.extui v1472
  let c0_i32_979 : BitVec 32 := 0#32
  let v1474 : BitVec 1 := Scalar.cmpi .slt c128_i32_975 c0_i32_979
  let v1475 : BitVec 32 := Scalar.extui v1474
  let v1476 : BitVec 32 := Scalar.subi v1473 v1475
  let v1477 : BitVec 1 := Scalar.cmpi .ne v1471 v1476
  let v1478 : BitVec 32 := Scalar.remsi v1465 c128_i32_975
  let c0_i32_980 : BitVec 32 := 0#32
  let v1479 : BitVec 1 := Scalar.cmpi .ne v1478 c0_i32_980
  let v1480 : BitVec 1 := Scalar.andi v1477 v1479
  let v1466 : BitVec 32 := Scalar.divsi v1465 c128_i32_975
  let c1_i32_981 : BitVec 32 := 1#32
  let v1481 : BitVec 32 := Scalar.subi v1466 c1_i32_981
  let v1482 : BitVec 32 := Scalar.select v1480 v1481 v1466
  let c128_i32_982 : BitVec 32 := 128#32
  let v1483 : BitVec 32 := Scalar.muli v1482 c128_i32_982
  let c982912_i32_983 : BitVec 32 := 982912#32
  let v1484 : BitVec 32 := Scalar.minsi v1483 c982912_i32_983
  ![40, v1484.toNat]

def k1_chk112 (v1465 : BitVec 32) : Prop :=
  (∀ a, (k1_off112 v1465) a + S8x128.size a ≤ S64x1000000.size a) ∧
  (∀ a, (k1_off240 v1465) a + S8x128.size a ≤ S64x1000000.size a)
theorem k1_off112_inb : ∀ (v1465 : BitVec 32) (k1_hw112 : k1_chk112 v1465), ∀ a, (k1_off112 v1465) a + S8x128.size a ≤ S64x1000000.size a := fun v1465 k1_hw112 => k1_hw112.1
theorem k1_off240_inb : ∀ (v1465 : BitVec 32) (k1_hw112 : k1_chk112 v1465), ∀ a, (k1_off240 v1465) a + S8x128.size a ≤ S64x1000000.size a := fun v1465 k1_hw112 => k1_hw112.2

def k1_off241 (v1488 : BitVec 32) : Fin 2 → Nat :=
  let c48_i32_1683 : BitVec 32 := 48#32
  let c0_i32_990 : BitVec 32 := 0#32
  let v1490 : BitVec 1 := Scalar.cmpi .sgt v1488 c0_i32_990
  let v1491 : BitVec 32 := Scalar.extui v1490
  let c0_i32_991 : BitVec 32 := 0#32
  let v1492 : BitVec 1 := Scalar.cmpi .slt v1488 c0_i32_991
  let v1493 : BitVec 32 := Scalar.extui v1492
  let v1494 : BitVec 32 := Scalar.subi v1491 v1493
  let c128_i32_989 : BitVec 32 := 128#32
  let c0_i32_992 : BitVec 32 := 0#32
  let v1495 : BitVec 1 := Scalar.cmpi .sgt c128_i32_989 c0_i32_992
  let v1496 : BitVec 32 := Scalar.extui v1495
  let c0_i32_993 : BitVec 32 := 0#32
  let v1497 : BitVec 1 := Scalar.cmpi .slt c128_i32_989 c0_i32_993
  let v1498 : BitVec 32 := Scalar.extui v1497
  let v1499 : BitVec 32 := Scalar.subi v1496 v1498
  let v1500 : BitVec 1 := Scalar.cmpi .ne v1494 v1499
  let v1501 : BitVec 32 := Scalar.remsi v1488 c128_i32_989
  let c0_i32_994 : BitVec 32 := 0#32
  let v1502 : BitVec 1 := Scalar.cmpi .ne v1501 c0_i32_994
  let v1503 : BitVec 1 := Scalar.andi v1500 v1502
  let v1489 : BitVec 32 := Scalar.divsi v1488 c128_i32_989
  let c1_i32_995 : BitVec 32 := 1#32
  let v1504 : BitVec 32 := Scalar.subi v1489 c1_i32_995
  let v1505 : BitVec 32 := Scalar.select v1503 v1504 v1489
  let c128_i32_996 : BitVec 32 := 128#32
  let v1506 : BitVec 32 := Scalar.muli v1505 c128_i32_996
  let c982912_i32_997 : BitVec 32 := 982912#32
  let v1507 : BitVec 32 := Scalar.minsi v1506 c982912_i32_997
  ![48, v1507.toNat]

def k1_chk113 (v1488 : BitVec 32) : Prop :=
  (∀ a, (k1_off113 v1488) a + S8x128.size a ≤ S64x1000000.size a) ∧
  (∀ a, (k1_off241 v1488) a + S8x128.size a ≤ S64x1000000.size a)
theorem k1_off113_inb : ∀ (v1488 : BitVec 32) (k1_hw113 : k1_chk113 v1488), ∀ a, (k1_off113 v1488) a + S8x128.size a ≤ S64x1000000.size a := fun v1488 k1_hw113 => k1_hw113.1
theorem k1_off241_inb : ∀ (v1488 : BitVec 32) (k1_hw113 : k1_chk113 v1488), ∀ a, (k1_off241 v1488) a + S8x128.size a ≤ S64x1000000.size a := fun v1488 k1_hw113 => k1_hw113.2

def k1_off242 (v1511 : BitVec 32) : Fin 2 → Nat :=
  let c48_i32_1687 : BitVec 32 := 48#32
  let c0_i32_1004 : BitVec 32 := 0#32
  let v1513 : BitVec 1 := Scalar.cmpi .sgt v1511 c0_i32_1004
  let v1514 : BitVec 32 := Scalar.extui v1513
  let c0_i32_1005 : BitVec 32 := 0#32
  let v1515 : BitVec 1 := Scalar.cmpi .slt v1511 c0_i32_1005
  let v1516 : BitVec 32 := Scalar.extui v1515
  let v1517 : BitVec 32 := Scalar.subi v1514 v1516
  let c128_i32_1003 : BitVec 32 := 128#32
  let c0_i32_1006 : BitVec 32 := 0#32
  let v1518 : BitVec 1 := Scalar.cmpi .sgt c128_i32_1003 c0_i32_1006
  let v1519 : BitVec 32 := Scalar.extui v1518
  let c0_i32_1007 : BitVec 32 := 0#32
  let v1520 : BitVec 1 := Scalar.cmpi .slt c128_i32_1003 c0_i32_1007
  let v1521 : BitVec 32 := Scalar.extui v1520
  let v1522 : BitVec 32 := Scalar.subi v1519 v1521
  let v1523 : BitVec 1 := Scalar.cmpi .ne v1517 v1522
  let v1524 : BitVec 32 := Scalar.remsi v1511 c128_i32_1003
  let c0_i32_1008 : BitVec 32 := 0#32
  let v1525 : BitVec 1 := Scalar.cmpi .ne v1524 c0_i32_1008
  let v1526 : BitVec 1 := Scalar.andi v1523 v1525
  let v1512 : BitVec 32 := Scalar.divsi v1511 c128_i32_1003
  let c1_i32_1009 : BitVec 32 := 1#32
  let v1527 : BitVec 32 := Scalar.subi v1512 c1_i32_1009
  let v1528 : BitVec 32 := Scalar.select v1526 v1527 v1512
  let c128_i32_1010 : BitVec 32 := 128#32
  let v1529 : BitVec 32 := Scalar.muli v1528 c128_i32_1010
  let c982912_i32_1011 : BitVec 32 := 982912#32
  let v1530 : BitVec 32 := Scalar.minsi v1529 c982912_i32_1011
  ![48, v1530.toNat]

def k1_chk114 (v1511 : BitVec 32) : Prop :=
  (∀ a, (k1_off114 v1511) a + S8x128.size a ≤ S64x1000000.size a) ∧
  (∀ a, (k1_off242 v1511) a + S8x128.size a ≤ S64x1000000.size a)
theorem k1_off114_inb : ∀ (v1511 : BitVec 32) (k1_hw114 : k1_chk114 v1511), ∀ a, (k1_off114 v1511) a + S8x128.size a ≤ S64x1000000.size a := fun v1511 k1_hw114 => k1_hw114.1
theorem k1_off242_inb : ∀ (v1511 : BitVec 32) (k1_hw114 : k1_chk114 v1511), ∀ a, (k1_off242 v1511) a + S8x128.size a ≤ S64x1000000.size a := fun v1511 k1_hw114 => k1_hw114.2

def k1_off243 (v1534 : BitVec 32) : Fin 2 → Nat :=
  let c48_i32_1691 : BitVec 32 := 48#32
  let c0_i32_1018 : BitVec 32 := 0#32
  let v1536 : BitVec 1 := Scalar.cmpi .sgt v1534 c0_i32_1018
  let v1537 : BitVec 32 := Scalar.extui v1536
  let c0_i32_1019 : BitVec 32 := 0#32
  let v1538 : BitVec 1 := Scalar.cmpi .slt v1534 c0_i32_1019
  let v1539 : BitVec 32 := Scalar.extui v1538
  let v1540 : BitVec 32 := Scalar.subi v1537 v1539
  let c128_i32_1017 : BitVec 32 := 128#32
  let c0_i32_1020 : BitVec 32 := 0#32
  let v1541 : BitVec 1 := Scalar.cmpi .sgt c128_i32_1017 c0_i32_1020
  let v1542 : BitVec 32 := Scalar.extui v1541
  let c0_i32_1021 : BitVec 32 := 0#32
  let v1543 : BitVec 1 := Scalar.cmpi .slt c128_i32_1017 c0_i32_1021
  let v1544 : BitVec 32 := Scalar.extui v1543
  let v1545 : BitVec 32 := Scalar.subi v1542 v1544
  let v1546 : BitVec 1 := Scalar.cmpi .ne v1540 v1545
  let v1547 : BitVec 32 := Scalar.remsi v1534 c128_i32_1017
  let c0_i32_1022 : BitVec 32 := 0#32
  let v1548 : BitVec 1 := Scalar.cmpi .ne v1547 c0_i32_1022
  let v1549 : BitVec 1 := Scalar.andi v1546 v1548
  let v1535 : BitVec 32 := Scalar.divsi v1534 c128_i32_1017
  let c1_i32_1023 : BitVec 32 := 1#32
  let v1550 : BitVec 32 := Scalar.subi v1535 c1_i32_1023
  let v1551 : BitVec 32 := Scalar.select v1549 v1550 v1535
  let c128_i32_1024 : BitVec 32 := 128#32
  let v1552 : BitVec 32 := Scalar.muli v1551 c128_i32_1024
  let c982912_i32_1025 : BitVec 32 := 982912#32
  let v1553 : BitVec 32 := Scalar.minsi v1552 c982912_i32_1025
  ![48, v1553.toNat]

def k1_chk115 (v1534 : BitVec 32) : Prop :=
  (∀ a, (k1_off115 v1534) a + S8x128.size a ≤ S64x1000000.size a) ∧
  (∀ a, (k1_off243 v1534) a + S8x128.size a ≤ S64x1000000.size a)
theorem k1_off115_inb : ∀ (v1534 : BitVec 32) (k1_hw115 : k1_chk115 v1534), ∀ a, (k1_off115 v1534) a + S8x128.size a ≤ S64x1000000.size a := fun v1534 k1_hw115 => k1_hw115.1
theorem k1_off243_inb : ∀ (v1534 : BitVec 32) (k1_hw115 : k1_chk115 v1534), ∀ a, (k1_off243 v1534) a + S8x128.size a ≤ S64x1000000.size a := fun v1534 k1_hw115 => k1_hw115.2

def k1_off244 (v1557 : BitVec 32) : Fin 2 → Nat :=
  let c48_i32_1695 : BitVec 32 := 48#32
  let c0_i32_1032 : BitVec 32 := 0#32
  let v1559 : BitVec 1 := Scalar.cmpi .sgt v1557 c0_i32_1032
  let v1560 : BitVec 32 := Scalar.extui v1559
  let c0_i32_1033 : BitVec 32 := 0#32
  let v1561 : BitVec 1 := Scalar.cmpi .slt v1557 c0_i32_1033
  let v1562 : BitVec 32 := Scalar.extui v1561
  let v1563 : BitVec 32 := Scalar.subi v1560 v1562
  let c128_i32_1031 : BitVec 32 := 128#32
  let c0_i32_1034 : BitVec 32 := 0#32
  let v1564 : BitVec 1 := Scalar.cmpi .sgt c128_i32_1031 c0_i32_1034
  let v1565 : BitVec 32 := Scalar.extui v1564
  let c0_i32_1035 : BitVec 32 := 0#32
  let v1566 : BitVec 1 := Scalar.cmpi .slt c128_i32_1031 c0_i32_1035
  let v1567 : BitVec 32 := Scalar.extui v1566
  let v1568 : BitVec 32 := Scalar.subi v1565 v1567
  let v1569 : BitVec 1 := Scalar.cmpi .ne v1563 v1568
  let v1570 : BitVec 32 := Scalar.remsi v1557 c128_i32_1031
  let c0_i32_1036 : BitVec 32 := 0#32
  let v1571 : BitVec 1 := Scalar.cmpi .ne v1570 c0_i32_1036
  let v1572 : BitVec 1 := Scalar.andi v1569 v1571
  let v1558 : BitVec 32 := Scalar.divsi v1557 c128_i32_1031
  let c1_i32_1037 : BitVec 32 := 1#32
  let v1573 : BitVec 32 := Scalar.subi v1558 c1_i32_1037
  let v1574 : BitVec 32 := Scalar.select v1572 v1573 v1558
  let c128_i32_1038 : BitVec 32 := 128#32
  let v1575 : BitVec 32 := Scalar.muli v1574 c128_i32_1038
  let c982912_i32_1039 : BitVec 32 := 982912#32
  let v1576 : BitVec 32 := Scalar.minsi v1575 c982912_i32_1039
  ![48, v1576.toNat]

def k1_chk116 (v1557 : BitVec 32) : Prop :=
  (∀ a, (k1_off116 v1557) a + S8x128.size a ≤ S64x1000000.size a) ∧
  (∀ a, (k1_off244 v1557) a + S8x128.size a ≤ S64x1000000.size a)
theorem k1_off116_inb : ∀ (v1557 : BitVec 32) (k1_hw116 : k1_chk116 v1557), ∀ a, (k1_off116 v1557) a + S8x128.size a ≤ S64x1000000.size a := fun v1557 k1_hw116 => k1_hw116.1
theorem k1_off244_inb : ∀ (v1557 : BitVec 32) (k1_hw116 : k1_chk116 v1557), ∀ a, (k1_off244 v1557) a + S8x128.size a ≤ S64x1000000.size a := fun v1557 k1_hw116 => k1_hw116.2

def k1_off245 (v1580 : BitVec 32) : Fin 2 → Nat :=
  let c48_i32_1699 : BitVec 32 := 48#32
  let c0_i32_1046 : BitVec 32 := 0#32
  let v1582 : BitVec 1 := Scalar.cmpi .sgt v1580 c0_i32_1046
  let v1583 : BitVec 32 := Scalar.extui v1582
  let c0_i32_1047 : BitVec 32 := 0#32
  let v1584 : BitVec 1 := Scalar.cmpi .slt v1580 c0_i32_1047
  let v1585 : BitVec 32 := Scalar.extui v1584
  let v1586 : BitVec 32 := Scalar.subi v1583 v1585
  let c128_i32_1045 : BitVec 32 := 128#32
  let c0_i32_1048 : BitVec 32 := 0#32
  let v1587 : BitVec 1 := Scalar.cmpi .sgt c128_i32_1045 c0_i32_1048
  let v1588 : BitVec 32 := Scalar.extui v1587
  let c0_i32_1049 : BitVec 32 := 0#32
  let v1589 : BitVec 1 := Scalar.cmpi .slt c128_i32_1045 c0_i32_1049
  let v1590 : BitVec 32 := Scalar.extui v1589
  let v1591 : BitVec 32 := Scalar.subi v1588 v1590
  let v1592 : BitVec 1 := Scalar.cmpi .ne v1586 v1591
  let v1593 : BitVec 32 := Scalar.remsi v1580 c128_i32_1045
  let c0_i32_1050 : BitVec 32 := 0#32
  let v1594 : BitVec 1 := Scalar.cmpi .ne v1593 c0_i32_1050
  let v1595 : BitVec 1 := Scalar.andi v1592 v1594
  let v1581 : BitVec 32 := Scalar.divsi v1580 c128_i32_1045
  let c1_i32_1051 : BitVec 32 := 1#32
  let v1596 : BitVec 32 := Scalar.subi v1581 c1_i32_1051
  let v1597 : BitVec 32 := Scalar.select v1595 v1596 v1581
  let c128_i32_1052 : BitVec 32 := 128#32
  let v1598 : BitVec 32 := Scalar.muli v1597 c128_i32_1052
  let c982912_i32_1053 : BitVec 32 := 982912#32
  let v1599 : BitVec 32 := Scalar.minsi v1598 c982912_i32_1053
  ![48, v1599.toNat]

def k1_chk117 (v1580 : BitVec 32) : Prop :=
  (∀ a, (k1_off117 v1580) a + S8x128.size a ≤ S64x1000000.size a) ∧
  (∀ a, (k1_off245 v1580) a + S8x128.size a ≤ S64x1000000.size a)
theorem k1_off117_inb : ∀ (v1580 : BitVec 32) (k1_hw117 : k1_chk117 v1580), ∀ a, (k1_off117 v1580) a + S8x128.size a ≤ S64x1000000.size a := fun v1580 k1_hw117 => k1_hw117.1
theorem k1_off245_inb : ∀ (v1580 : BitVec 32) (k1_hw117 : k1_chk117 v1580), ∀ a, (k1_off245 v1580) a + S8x128.size a ≤ S64x1000000.size a := fun v1580 k1_hw117 => k1_hw117.2

def k1_off246 (v1603 : BitVec 32) : Fin 2 → Nat :=
  let c48_i32_1703 : BitVec 32 := 48#32
  let c0_i32_1060 : BitVec 32 := 0#32
  let v1605 : BitVec 1 := Scalar.cmpi .sgt v1603 c0_i32_1060
  let v1606 : BitVec 32 := Scalar.extui v1605
  let c0_i32_1061 : BitVec 32 := 0#32
  let v1607 : BitVec 1 := Scalar.cmpi .slt v1603 c0_i32_1061
  let v1608 : BitVec 32 := Scalar.extui v1607
  let v1609 : BitVec 32 := Scalar.subi v1606 v1608
  let c128_i32_1059 : BitVec 32 := 128#32
  let c0_i32_1062 : BitVec 32 := 0#32
  let v1610 : BitVec 1 := Scalar.cmpi .sgt c128_i32_1059 c0_i32_1062
  let v1611 : BitVec 32 := Scalar.extui v1610
  let c0_i32_1063 : BitVec 32 := 0#32
  let v1612 : BitVec 1 := Scalar.cmpi .slt c128_i32_1059 c0_i32_1063
  let v1613 : BitVec 32 := Scalar.extui v1612
  let v1614 : BitVec 32 := Scalar.subi v1611 v1613
  let v1615 : BitVec 1 := Scalar.cmpi .ne v1609 v1614
  let v1616 : BitVec 32 := Scalar.remsi v1603 c128_i32_1059
  let c0_i32_1064 : BitVec 32 := 0#32
  let v1617 : BitVec 1 := Scalar.cmpi .ne v1616 c0_i32_1064
  let v1618 : BitVec 1 := Scalar.andi v1615 v1617
  let v1604 : BitVec 32 := Scalar.divsi v1603 c128_i32_1059
  let c1_i32_1065 : BitVec 32 := 1#32
  let v1619 : BitVec 32 := Scalar.subi v1604 c1_i32_1065
  let v1620 : BitVec 32 := Scalar.select v1618 v1619 v1604
  let c128_i32_1066 : BitVec 32 := 128#32
  let v1621 : BitVec 32 := Scalar.muli v1620 c128_i32_1066
  let c982912_i32_1067 : BitVec 32 := 982912#32
  let v1622 : BitVec 32 := Scalar.minsi v1621 c982912_i32_1067
  ![48, v1622.toNat]

def k1_chk118 (v1603 : BitVec 32) : Prop :=
  (∀ a, (k1_off118 v1603) a + S8x128.size a ≤ S64x1000000.size a) ∧
  (∀ a, (k1_off246 v1603) a + S8x128.size a ≤ S64x1000000.size a)
theorem k1_off118_inb : ∀ (v1603 : BitVec 32) (k1_hw118 : k1_chk118 v1603), ∀ a, (k1_off118 v1603) a + S8x128.size a ≤ S64x1000000.size a := fun v1603 k1_hw118 => k1_hw118.1
theorem k1_off246_inb : ∀ (v1603 : BitVec 32) (k1_hw118 : k1_chk118 v1603), ∀ a, (k1_off246 v1603) a + S8x128.size a ≤ S64x1000000.size a := fun v1603 k1_hw118 => k1_hw118.2

def k1_off247 (v1626 : BitVec 32) : Fin 2 → Nat :=
  let c48_i32_1707 : BitVec 32 := 48#32
  let c0_i32_1074 : BitVec 32 := 0#32
  let v1628 : BitVec 1 := Scalar.cmpi .sgt v1626 c0_i32_1074
  let v1629 : BitVec 32 := Scalar.extui v1628
  let c0_i32_1075 : BitVec 32 := 0#32
  let v1630 : BitVec 1 := Scalar.cmpi .slt v1626 c0_i32_1075
  let v1631 : BitVec 32 := Scalar.extui v1630
  let v1632 : BitVec 32 := Scalar.subi v1629 v1631
  let c128_i32_1073 : BitVec 32 := 128#32
  let c0_i32_1076 : BitVec 32 := 0#32
  let v1633 : BitVec 1 := Scalar.cmpi .sgt c128_i32_1073 c0_i32_1076
  let v1634 : BitVec 32 := Scalar.extui v1633
  let c0_i32_1077 : BitVec 32 := 0#32
  let v1635 : BitVec 1 := Scalar.cmpi .slt c128_i32_1073 c0_i32_1077
  let v1636 : BitVec 32 := Scalar.extui v1635
  let v1637 : BitVec 32 := Scalar.subi v1634 v1636
  let v1638 : BitVec 1 := Scalar.cmpi .ne v1632 v1637
  let v1639 : BitVec 32 := Scalar.remsi v1626 c128_i32_1073
  let c0_i32_1078 : BitVec 32 := 0#32
  let v1640 : BitVec 1 := Scalar.cmpi .ne v1639 c0_i32_1078
  let v1641 : BitVec 1 := Scalar.andi v1638 v1640
  let v1627 : BitVec 32 := Scalar.divsi v1626 c128_i32_1073
  let c1_i32_1079 : BitVec 32 := 1#32
  let v1642 : BitVec 32 := Scalar.subi v1627 c1_i32_1079
  let v1643 : BitVec 32 := Scalar.select v1641 v1642 v1627
  let c128_i32_1080 : BitVec 32 := 128#32
  let v1644 : BitVec 32 := Scalar.muli v1643 c128_i32_1080
  let c982912_i32_1081 : BitVec 32 := 982912#32
  let v1645 : BitVec 32 := Scalar.minsi v1644 c982912_i32_1081
  ![48, v1645.toNat]

def k1_chk119 (v1626 : BitVec 32) : Prop :=
  (∀ a, (k1_off119 v1626) a + S8x128.size a ≤ S64x1000000.size a) ∧
  (∀ a, (k1_off247 v1626) a + S8x128.size a ≤ S64x1000000.size a)
theorem k1_off119_inb : ∀ (v1626 : BitVec 32) (k1_hw119 : k1_chk119 v1626), ∀ a, (k1_off119 v1626) a + S8x128.size a ≤ S64x1000000.size a := fun v1626 k1_hw119 => k1_hw119.1
theorem k1_off247_inb : ∀ (v1626 : BitVec 32) (k1_hw119 : k1_chk119 v1626), ∀ a, (k1_off247 v1626) a + S8x128.size a ≤ S64x1000000.size a := fun v1626 k1_hw119 => k1_hw119.2

def k1_off248 (v1649 : BitVec 32) : Fin 2 → Nat :=
  let c48_i32_1711 : BitVec 32 := 48#32
  let c0_i32_1088 : BitVec 32 := 0#32
  let v1651 : BitVec 1 := Scalar.cmpi .sgt v1649 c0_i32_1088
  let v1652 : BitVec 32 := Scalar.extui v1651
  let c0_i32_1089 : BitVec 32 := 0#32
  let v1653 : BitVec 1 := Scalar.cmpi .slt v1649 c0_i32_1089
  let v1654 : BitVec 32 := Scalar.extui v1653
  let v1655 : BitVec 32 := Scalar.subi v1652 v1654
  let c128_i32_1087 : BitVec 32 := 128#32
  let c0_i32_1090 : BitVec 32 := 0#32
  let v1656 : BitVec 1 := Scalar.cmpi .sgt c128_i32_1087 c0_i32_1090
  let v1657 : BitVec 32 := Scalar.extui v1656
  let c0_i32_1091 : BitVec 32 := 0#32
  let v1658 : BitVec 1 := Scalar.cmpi .slt c128_i32_1087 c0_i32_1091
  let v1659 : BitVec 32 := Scalar.extui v1658
  let v1660 : BitVec 32 := Scalar.subi v1657 v1659
  let v1661 : BitVec 1 := Scalar.cmpi .ne v1655 v1660
  let v1662 : BitVec 32 := Scalar.remsi v1649 c128_i32_1087
  let c0_i32_1092 : BitVec 32 := 0#32
  let v1663 : BitVec 1 := Scalar.cmpi .ne v1662 c0_i32_1092
  let v1664 : BitVec 1 := Scalar.andi v1661 v1663
  let v1650 : BitVec 32 := Scalar.divsi v1649 c128_i32_1087
  let c1_i32_1093 : BitVec 32 := 1#32
  let v1665 : BitVec 32 := Scalar.subi v1650 c1_i32_1093
  let v1666 : BitVec 32 := Scalar.select v1664 v1665 v1650
  let c128_i32_1094 : BitVec 32 := 128#32
  let v1667 : BitVec 32 := Scalar.muli v1666 c128_i32_1094
  let c982912_i32_1095 : BitVec 32 := 982912#32
  let v1668 : BitVec 32 := Scalar.minsi v1667 c982912_i32_1095
  ![48, v1668.toNat]

def k1_chk120 (v1649 : BitVec 32) : Prop :=
  (∀ a, (k1_off120 v1649) a + S8x128.size a ≤ S64x1000000.size a) ∧
  (∀ a, (k1_off248 v1649) a + S8x128.size a ≤ S64x1000000.size a)
theorem k1_off120_inb : ∀ (v1649 : BitVec 32) (k1_hw120 : k1_chk120 v1649), ∀ a, (k1_off120 v1649) a + S8x128.size a ≤ S64x1000000.size a := fun v1649 k1_hw120 => k1_hw120.1
theorem k1_off248_inb : ∀ (v1649 : BitVec 32) (k1_hw120 : k1_chk120 v1649), ∀ a, (k1_off248 v1649) a + S8x128.size a ≤ S64x1000000.size a := fun v1649 k1_hw120 => k1_hw120.2

def k1_off249 (v1672 : BitVec 32) : Fin 2 → Nat :=
  let c56_i32_1715 : BitVec 32 := 56#32
  let c0_i32_1102 : BitVec 32 := 0#32
  let v1674 : BitVec 1 := Scalar.cmpi .sgt v1672 c0_i32_1102
  let v1675 : BitVec 32 := Scalar.extui v1674
  let c0_i32_1103 : BitVec 32 := 0#32
  let v1676 : BitVec 1 := Scalar.cmpi .slt v1672 c0_i32_1103
  let v1677 : BitVec 32 := Scalar.extui v1676
  let v1678 : BitVec 32 := Scalar.subi v1675 v1677
  let c128_i32_1101 : BitVec 32 := 128#32
  let c0_i32_1104 : BitVec 32 := 0#32
  let v1679 : BitVec 1 := Scalar.cmpi .sgt c128_i32_1101 c0_i32_1104
  let v1680 : BitVec 32 := Scalar.extui v1679
  let c0_i32_1105 : BitVec 32 := 0#32
  let v1681 : BitVec 1 := Scalar.cmpi .slt c128_i32_1101 c0_i32_1105
  let v1682 : BitVec 32 := Scalar.extui v1681
  let v1683 : BitVec 32 := Scalar.subi v1680 v1682
  let v1684 : BitVec 1 := Scalar.cmpi .ne v1678 v1683
  let v1685 : BitVec 32 := Scalar.remsi v1672 c128_i32_1101
  let c0_i32_1106 : BitVec 32 := 0#32
  let v1686 : BitVec 1 := Scalar.cmpi .ne v1685 c0_i32_1106
  let v1687 : BitVec 1 := Scalar.andi v1684 v1686
  let v1673 : BitVec 32 := Scalar.divsi v1672 c128_i32_1101
  let c1_i32_1107 : BitVec 32 := 1#32
  let v1688 : BitVec 32 := Scalar.subi v1673 c1_i32_1107
  let v1689 : BitVec 32 := Scalar.select v1687 v1688 v1673
  let c128_i32_1108 : BitVec 32 := 128#32
  let v1690 : BitVec 32 := Scalar.muli v1689 c128_i32_1108
  let c982912_i32_1109 : BitVec 32 := 982912#32
  let v1691 : BitVec 32 := Scalar.minsi v1690 c982912_i32_1109
  ![56, v1691.toNat]

def k1_chk121 (v1672 : BitVec 32) : Prop :=
  (∀ a, (k1_off121 v1672) a + S8x128.size a ≤ S64x1000000.size a) ∧
  (∀ a, (k1_off249 v1672) a + S8x128.size a ≤ S64x1000000.size a)
theorem k1_off121_inb : ∀ (v1672 : BitVec 32) (k1_hw121 : k1_chk121 v1672), ∀ a, (k1_off121 v1672) a + S8x128.size a ≤ S64x1000000.size a := fun v1672 k1_hw121 => k1_hw121.1
theorem k1_off249_inb : ∀ (v1672 : BitVec 32) (k1_hw121 : k1_chk121 v1672), ∀ a, (k1_off249 v1672) a + S8x128.size a ≤ S64x1000000.size a := fun v1672 k1_hw121 => k1_hw121.2

def k1_off250 (v1695 : BitVec 32) : Fin 2 → Nat :=
  let c56_i32_1719 : BitVec 32 := 56#32
  let c0_i32_1116 : BitVec 32 := 0#32
  let v1697 : BitVec 1 := Scalar.cmpi .sgt v1695 c0_i32_1116
  let v1698 : BitVec 32 := Scalar.extui v1697
  let c0_i32_1117 : BitVec 32 := 0#32
  let v1699 : BitVec 1 := Scalar.cmpi .slt v1695 c0_i32_1117
  let v1700 : BitVec 32 := Scalar.extui v1699
  let v1701 : BitVec 32 := Scalar.subi v1698 v1700
  let c128_i32_1115 : BitVec 32 := 128#32
  let c0_i32_1118 : BitVec 32 := 0#32
  let v1702 : BitVec 1 := Scalar.cmpi .sgt c128_i32_1115 c0_i32_1118
  let v1703 : BitVec 32 := Scalar.extui v1702
  let c0_i32_1119 : BitVec 32 := 0#32
  let v1704 : BitVec 1 := Scalar.cmpi .slt c128_i32_1115 c0_i32_1119
  let v1705 : BitVec 32 := Scalar.extui v1704
  let v1706 : BitVec 32 := Scalar.subi v1703 v1705
  let v1707 : BitVec 1 := Scalar.cmpi .ne v1701 v1706
  let v1708 : BitVec 32 := Scalar.remsi v1695 c128_i32_1115
  let c0_i32_1120 : BitVec 32 := 0#32
  let v1709 : BitVec 1 := Scalar.cmpi .ne v1708 c0_i32_1120
  let v1710 : BitVec 1 := Scalar.andi v1707 v1709
  let v1696 : BitVec 32 := Scalar.divsi v1695 c128_i32_1115
  let c1_i32_1121 : BitVec 32 := 1#32
  let v1711 : BitVec 32 := Scalar.subi v1696 c1_i32_1121
  let v1712 : BitVec 32 := Scalar.select v1710 v1711 v1696
  let c128_i32_1122 : BitVec 32 := 128#32
  let v1713 : BitVec 32 := Scalar.muli v1712 c128_i32_1122
  let c982912_i32_1123 : BitVec 32 := 982912#32
  let v1714 : BitVec 32 := Scalar.minsi v1713 c982912_i32_1123
  ![56, v1714.toNat]

def k1_chk122 (v1695 : BitVec 32) : Prop :=
  (∀ a, (k1_off122 v1695) a + S8x128.size a ≤ S64x1000000.size a) ∧
  (∀ a, (k1_off250 v1695) a + S8x128.size a ≤ S64x1000000.size a)
theorem k1_off122_inb : ∀ (v1695 : BitVec 32) (k1_hw122 : k1_chk122 v1695), ∀ a, (k1_off122 v1695) a + S8x128.size a ≤ S64x1000000.size a := fun v1695 k1_hw122 => k1_hw122.1
theorem k1_off250_inb : ∀ (v1695 : BitVec 32) (k1_hw122 : k1_chk122 v1695), ∀ a, (k1_off250 v1695) a + S8x128.size a ≤ S64x1000000.size a := fun v1695 k1_hw122 => k1_hw122.2

def k1_off251 (v1718 : BitVec 32) : Fin 2 → Nat :=
  let c56_i32_1723 : BitVec 32 := 56#32
  let c0_i32_1130 : BitVec 32 := 0#32
  let v1720 : BitVec 1 := Scalar.cmpi .sgt v1718 c0_i32_1130
  let v1721 : BitVec 32 := Scalar.extui v1720
  let c0_i32_1131 : BitVec 32 := 0#32
  let v1722 : BitVec 1 := Scalar.cmpi .slt v1718 c0_i32_1131
  let v1723 : BitVec 32 := Scalar.extui v1722
  let v1724 : BitVec 32 := Scalar.subi v1721 v1723
  let c128_i32_1129 : BitVec 32 := 128#32
  let c0_i32_1132 : BitVec 32 := 0#32
  let v1725 : BitVec 1 := Scalar.cmpi .sgt c128_i32_1129 c0_i32_1132
  let v1726 : BitVec 32 := Scalar.extui v1725
  let c0_i32_1133 : BitVec 32 := 0#32
  let v1727 : BitVec 1 := Scalar.cmpi .slt c128_i32_1129 c0_i32_1133
  let v1728 : BitVec 32 := Scalar.extui v1727
  let v1729 : BitVec 32 := Scalar.subi v1726 v1728
  let v1730 : BitVec 1 := Scalar.cmpi .ne v1724 v1729
  let v1731 : BitVec 32 := Scalar.remsi v1718 c128_i32_1129
  let c0_i32_1134 : BitVec 32 := 0#32
  let v1732 : BitVec 1 := Scalar.cmpi .ne v1731 c0_i32_1134
  let v1733 : BitVec 1 := Scalar.andi v1730 v1732
  let v1719 : BitVec 32 := Scalar.divsi v1718 c128_i32_1129
  let c1_i32_1135 : BitVec 32 := 1#32
  let v1734 : BitVec 32 := Scalar.subi v1719 c1_i32_1135
  let v1735 : BitVec 32 := Scalar.select v1733 v1734 v1719
  let c128_i32_1136 : BitVec 32 := 128#32
  let v1736 : BitVec 32 := Scalar.muli v1735 c128_i32_1136
  let c982912_i32_1137 : BitVec 32 := 982912#32
  let v1737 : BitVec 32 := Scalar.minsi v1736 c982912_i32_1137
  ![56, v1737.toNat]

def k1_chk123 (v1718 : BitVec 32) : Prop :=
  (∀ a, (k1_off123 v1718) a + S8x128.size a ≤ S64x1000000.size a) ∧
  (∀ a, (k1_off251 v1718) a + S8x128.size a ≤ S64x1000000.size a)
theorem k1_off123_inb : ∀ (v1718 : BitVec 32) (k1_hw123 : k1_chk123 v1718), ∀ a, (k1_off123 v1718) a + S8x128.size a ≤ S64x1000000.size a := fun v1718 k1_hw123 => k1_hw123.1
theorem k1_off251_inb : ∀ (v1718 : BitVec 32) (k1_hw123 : k1_chk123 v1718), ∀ a, (k1_off251 v1718) a + S8x128.size a ≤ S64x1000000.size a := fun v1718 k1_hw123 => k1_hw123.2

def k1_off252 (v1741 : BitVec 32) : Fin 2 → Nat :=
  let c56_i32_1727 : BitVec 32 := 56#32
  let c0_i32_1144 : BitVec 32 := 0#32
  let v1743 : BitVec 1 := Scalar.cmpi .sgt v1741 c0_i32_1144
  let v1744 : BitVec 32 := Scalar.extui v1743
  let c0_i32_1145 : BitVec 32 := 0#32
  let v1745 : BitVec 1 := Scalar.cmpi .slt v1741 c0_i32_1145
  let v1746 : BitVec 32 := Scalar.extui v1745
  let v1747 : BitVec 32 := Scalar.subi v1744 v1746
  let c128_i32_1143 : BitVec 32 := 128#32
  let c0_i32_1146 : BitVec 32 := 0#32
  let v1748 : BitVec 1 := Scalar.cmpi .sgt c128_i32_1143 c0_i32_1146
  let v1749 : BitVec 32 := Scalar.extui v1748
  let c0_i32_1147 : BitVec 32 := 0#32
  let v1750 : BitVec 1 := Scalar.cmpi .slt c128_i32_1143 c0_i32_1147
  let v1751 : BitVec 32 := Scalar.extui v1750
  let v1752 : BitVec 32 := Scalar.subi v1749 v1751
  let v1753 : BitVec 1 := Scalar.cmpi .ne v1747 v1752
  let v1754 : BitVec 32 := Scalar.remsi v1741 c128_i32_1143
  let c0_i32_1148 : BitVec 32 := 0#32
  let v1755 : BitVec 1 := Scalar.cmpi .ne v1754 c0_i32_1148
  let v1756 : BitVec 1 := Scalar.andi v1753 v1755
  let v1742 : BitVec 32 := Scalar.divsi v1741 c128_i32_1143
  let c1_i32_1149 : BitVec 32 := 1#32
  let v1757 : BitVec 32 := Scalar.subi v1742 c1_i32_1149
  let v1758 : BitVec 32 := Scalar.select v1756 v1757 v1742
  let c128_i32_1150 : BitVec 32 := 128#32
  let v1759 : BitVec 32 := Scalar.muli v1758 c128_i32_1150
  let c982912_i32_1151 : BitVec 32 := 982912#32
  let v1760 : BitVec 32 := Scalar.minsi v1759 c982912_i32_1151
  ![56, v1760.toNat]

def k1_chk124 (v1741 : BitVec 32) : Prop :=
  (∀ a, (k1_off124 v1741) a + S8x128.size a ≤ S64x1000000.size a) ∧
  (∀ a, (k1_off252 v1741) a + S8x128.size a ≤ S64x1000000.size a)
theorem k1_off124_inb : ∀ (v1741 : BitVec 32) (k1_hw124 : k1_chk124 v1741), ∀ a, (k1_off124 v1741) a + S8x128.size a ≤ S64x1000000.size a := fun v1741 k1_hw124 => k1_hw124.1
theorem k1_off252_inb : ∀ (v1741 : BitVec 32) (k1_hw124 : k1_chk124 v1741), ∀ a, (k1_off252 v1741) a + S8x128.size a ≤ S64x1000000.size a := fun v1741 k1_hw124 => k1_hw124.2

def k1_off253 (v1764 : BitVec 32) : Fin 2 → Nat :=
  let c56_i32_1731 : BitVec 32 := 56#32
  let c0_i32_1158 : BitVec 32 := 0#32
  let v1766 : BitVec 1 := Scalar.cmpi .sgt v1764 c0_i32_1158
  let v1767 : BitVec 32 := Scalar.extui v1766
  let c0_i32_1159 : BitVec 32 := 0#32
  let v1768 : BitVec 1 := Scalar.cmpi .slt v1764 c0_i32_1159
  let v1769 : BitVec 32 := Scalar.extui v1768
  let v1770 : BitVec 32 := Scalar.subi v1767 v1769
  let c128_i32_1157 : BitVec 32 := 128#32
  let c0_i32_1160 : BitVec 32 := 0#32
  let v1771 : BitVec 1 := Scalar.cmpi .sgt c128_i32_1157 c0_i32_1160
  let v1772 : BitVec 32 := Scalar.extui v1771
  let c0_i32_1161 : BitVec 32 := 0#32
  let v1773 : BitVec 1 := Scalar.cmpi .slt c128_i32_1157 c0_i32_1161
  let v1774 : BitVec 32 := Scalar.extui v1773
  let v1775 : BitVec 32 := Scalar.subi v1772 v1774
  let v1776 : BitVec 1 := Scalar.cmpi .ne v1770 v1775
  let v1777 : BitVec 32 := Scalar.remsi v1764 c128_i32_1157
  let c0_i32_1162 : BitVec 32 := 0#32
  let v1778 : BitVec 1 := Scalar.cmpi .ne v1777 c0_i32_1162
  let v1779 : BitVec 1 := Scalar.andi v1776 v1778
  let v1765 : BitVec 32 := Scalar.divsi v1764 c128_i32_1157
  let c1_i32_1163 : BitVec 32 := 1#32
  let v1780 : BitVec 32 := Scalar.subi v1765 c1_i32_1163
  let v1781 : BitVec 32 := Scalar.select v1779 v1780 v1765
  let c128_i32_1164 : BitVec 32 := 128#32
  let v1782 : BitVec 32 := Scalar.muli v1781 c128_i32_1164
  let c982912_i32_1165 : BitVec 32 := 982912#32
  let v1783 : BitVec 32 := Scalar.minsi v1782 c982912_i32_1165
  ![56, v1783.toNat]

def k1_chk125 (v1764 : BitVec 32) : Prop :=
  (∀ a, (k1_off125 v1764) a + S8x128.size a ≤ S64x1000000.size a) ∧
  (∀ a, (k1_off253 v1764) a + S8x128.size a ≤ S64x1000000.size a)
theorem k1_off125_inb : ∀ (v1764 : BitVec 32) (k1_hw125 : k1_chk125 v1764), ∀ a, (k1_off125 v1764) a + S8x128.size a ≤ S64x1000000.size a := fun v1764 k1_hw125 => k1_hw125.1
theorem k1_off253_inb : ∀ (v1764 : BitVec 32) (k1_hw125 : k1_chk125 v1764), ∀ a, (k1_off253 v1764) a + S8x128.size a ≤ S64x1000000.size a := fun v1764 k1_hw125 => k1_hw125.2

def k1_off254 (v1787 : BitVec 32) : Fin 2 → Nat :=
  let c56_i32_1735 : BitVec 32 := 56#32
  let c0_i32_1172 : BitVec 32 := 0#32
  let v1789 : BitVec 1 := Scalar.cmpi .sgt v1787 c0_i32_1172
  let v1790 : BitVec 32 := Scalar.extui v1789
  let c0_i32_1173 : BitVec 32 := 0#32
  let v1791 : BitVec 1 := Scalar.cmpi .slt v1787 c0_i32_1173
  let v1792 : BitVec 32 := Scalar.extui v1791
  let v1793 : BitVec 32 := Scalar.subi v1790 v1792
  let c128_i32_1171 : BitVec 32 := 128#32
  let c0_i32_1174 : BitVec 32 := 0#32
  let v1794 : BitVec 1 := Scalar.cmpi .sgt c128_i32_1171 c0_i32_1174
  let v1795 : BitVec 32 := Scalar.extui v1794
  let c0_i32_1175 : BitVec 32 := 0#32
  let v1796 : BitVec 1 := Scalar.cmpi .slt c128_i32_1171 c0_i32_1175
  let v1797 : BitVec 32 := Scalar.extui v1796
  let v1798 : BitVec 32 := Scalar.subi v1795 v1797
  let v1799 : BitVec 1 := Scalar.cmpi .ne v1793 v1798
  let v1800 : BitVec 32 := Scalar.remsi v1787 c128_i32_1171
  let c0_i32_1176 : BitVec 32 := 0#32
  let v1801 : BitVec 1 := Scalar.cmpi .ne v1800 c0_i32_1176
  let v1802 : BitVec 1 := Scalar.andi v1799 v1801
  let v1788 : BitVec 32 := Scalar.divsi v1787 c128_i32_1171
  let c1_i32_1177 : BitVec 32 := 1#32
  let v1803 : BitVec 32 := Scalar.subi v1788 c1_i32_1177
  let v1804 : BitVec 32 := Scalar.select v1802 v1803 v1788
  let c128_i32_1178 : BitVec 32 := 128#32
  let v1805 : BitVec 32 := Scalar.muli v1804 c128_i32_1178
  let c982912_i32_1179 : BitVec 32 := 982912#32
  let v1806 : BitVec 32 := Scalar.minsi v1805 c982912_i32_1179
  ![56, v1806.toNat]

def k1_chk126 (v1787 : BitVec 32) : Prop :=
  (∀ a, (k1_off126 v1787) a + S8x128.size a ≤ S64x1000000.size a) ∧
  (∀ a, (k1_off254 v1787) a + S8x128.size a ≤ S64x1000000.size a)
theorem k1_off126_inb : ∀ (v1787 : BitVec 32) (k1_hw126 : k1_chk126 v1787), ∀ a, (k1_off126 v1787) a + S8x128.size a ≤ S64x1000000.size a := fun v1787 k1_hw126 => k1_hw126.1
theorem k1_off254_inb : ∀ (v1787 : BitVec 32) (k1_hw126 : k1_chk126 v1787), ∀ a, (k1_off254 v1787) a + S8x128.size a ≤ S64x1000000.size a := fun v1787 k1_hw126 => k1_hw126.2

def k1_off255 (v1810 : BitVec 32) : Fin 2 → Nat :=
  let c56_i32_1739 : BitVec 32 := 56#32
  let c0_i32_1186 : BitVec 32 := 0#32
  let v1812 : BitVec 1 := Scalar.cmpi .sgt v1810 c0_i32_1186
  let v1813 : BitVec 32 := Scalar.extui v1812
  let c0_i32_1187 : BitVec 32 := 0#32
  let v1814 : BitVec 1 := Scalar.cmpi .slt v1810 c0_i32_1187
  let v1815 : BitVec 32 := Scalar.extui v1814
  let v1816 : BitVec 32 := Scalar.subi v1813 v1815
  let c128_i32_1185 : BitVec 32 := 128#32
  let c0_i32_1188 : BitVec 32 := 0#32
  let v1817 : BitVec 1 := Scalar.cmpi .sgt c128_i32_1185 c0_i32_1188
  let v1818 : BitVec 32 := Scalar.extui v1817
  let c0_i32_1189 : BitVec 32 := 0#32
  let v1819 : BitVec 1 := Scalar.cmpi .slt c128_i32_1185 c0_i32_1189
  let v1820 : BitVec 32 := Scalar.extui v1819
  let v1821 : BitVec 32 := Scalar.subi v1818 v1820
  let v1822 : BitVec 1 := Scalar.cmpi .ne v1816 v1821
  let v1823 : BitVec 32 := Scalar.remsi v1810 c128_i32_1185
  let c0_i32_1190 : BitVec 32 := 0#32
  let v1824 : BitVec 1 := Scalar.cmpi .ne v1823 c0_i32_1190
  let v1825 : BitVec 1 := Scalar.andi v1822 v1824
  let v1811 : BitVec 32 := Scalar.divsi v1810 c128_i32_1185
  let c1_i32_1191 : BitVec 32 := 1#32
  let v1826 : BitVec 32 := Scalar.subi v1811 c1_i32_1191
  let v1827 : BitVec 32 := Scalar.select v1825 v1826 v1811
  let c128_i32_1192 : BitVec 32 := 128#32
  let v1828 : BitVec 32 := Scalar.muli v1827 c128_i32_1192
  let c982912_i32_1193 : BitVec 32 := 982912#32
  let v1829 : BitVec 32 := Scalar.minsi v1828 c982912_i32_1193
  ![56, v1829.toNat]

def k1_chk127 (v1810 : BitVec 32) : Prop :=
  (∀ a, (k1_off127 v1810) a + S8x128.size a ≤ S64x1000000.size a) ∧
  (∀ a, (k1_off255 v1810) a + S8x128.size a ≤ S64x1000000.size a)
theorem k1_off127_inb : ∀ (v1810 : BitVec 32) (k1_hw127 : k1_chk127 v1810), ∀ a, (k1_off127 v1810) a + S8x128.size a ≤ S64x1000000.size a := fun v1810 k1_hw127 => k1_hw127.1
theorem k1_off255_inb : ∀ (v1810 : BitVec 32) (k1_hw127 : k1_chk127 v1810), ∀ a, (k1_off255 v1810) a + S8x128.size a ≤ S64x1000000.size a := fun v1810 k1_hw127 => k1_hw127.2

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S64x1 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S64x1 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x1 .i32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x1 .i32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]
-- ==== ReferenceIdeal.lean ====
abbrev S64x1000000 : Shape := ⟨2, ![64, 1000000]⟩
abbrev S64x1 : Shape := ⟨2, ![64, 1]⟩
abbrev S_ : Shape := ⟨0, ![]⟩
abbrev S64 : Shape := ⟨1, ![64]⟩
abbrev S64x1x1 : Shape := ⟨3, ![64, 1, 1]⟩
abbrev S1 : Shape := ⟨1, ![1]⟩
abbrev S1x1x1 : Shape := ⟨3, ![1, 1, 1]⟩

abbrev nBuf : Space → Nat
  | .hbm => 48
  | .vmem => 0
  | .smem => 0
  | _ => 0

abbrev bufTy : (tb : Table) → Fin (tcTables nBuf tb) → BufTy
  | .hbm, ⟨0, _⟩ => ⟨S64x1000000, .f32⟩
  | .hbm, ⟨1, _⟩ => ⟨S64x1, .i32⟩
  | .hbm, ⟨2, _⟩ => ⟨S_, .f32⟩
  | .hbm, ⟨3, _⟩ => ⟨S64, .f32⟩
  | .hbm, ⟨4, _⟩ => ⟨S_, .f32⟩
  | .hbm, ⟨5, _⟩ => ⟨S64, .f32⟩
  | .hbm, ⟨6, _⟩ => ⟨S64, .f32⟩
  | .hbm, ⟨7, _⟩ => ⟨S64x1, .f32⟩
  | .hbm, ⟨8, _⟩ => ⟨S64x1000000, .f32⟩
  | .hbm, ⟨9, _⟩ => ⟨S64x1000000, .f32⟩
  | .hbm, ⟨10, _⟩ => ⟨S64x1000000, .f32⟩
  | .hbm, ⟨11, _⟩ => ⟨S_, .f32⟩
  | .hbm, ⟨12, _⟩ => ⟨S64, .f32⟩
  | .hbm, ⟨13, _⟩ => ⟨S64x1, .f32⟩
  | .hbm, ⟨14, _⟩ => ⟨S64x1, .f32⟩
  | .hbm, ⟨15, _⟩ => ⟨S64x1000000, .f32⟩
  | .hbm, ⟨16, _⟩ => ⟨S64x1000000, .f32⟩
  | .hbm, ⟨17, _⟩ => ⟨S_, .i32⟩
  | .hbm, ⟨18, _⟩ => ⟨S64x1, .i32⟩
  | .hbm, ⟨19, _⟩ => ⟨S64x1, .i1⟩
  | .hbm, ⟨20, _⟩ => ⟨S_, .i32⟩
  | .hbm, ⟨21, _⟩ => ⟨S64x1, .i32⟩
  | .hbm, ⟨22, _⟩ => ⟨S64x1, .i32⟩
  | .hbm, ⟨23, _⟩ => ⟨S64x1, .i32⟩
  | .hbm, ⟨24, _⟩ => ⟨S64x1x1, .i32⟩
  | .hbm, ⟨25, _⟩ => ⟨S1, .i32⟩
  | .hbm, ⟨26, _⟩ => ⟨S_, .i32⟩
  | .hbm, ⟨27, _⟩ => ⟨S64x1x1, .i32⟩
  | .hbm, ⟨28, _⟩ => ⟨S64x1x1, .i1⟩
  | .hbm, ⟨29, _⟩ => ⟨S1x1x1, .i32⟩
  | .hbm, ⟨30, _⟩ => ⟨S64x1x1, .i32⟩
  | .hbm, ⟨31, _⟩ => ⟨S64x1x1, .i1⟩
  | .hbm, ⟨32, _⟩ => ⟨S64x1x1, .i1⟩
  | .hbm, ⟨33, _⟩ => ⟨S_, .i1⟩
  | .hbm, ⟨34, _⟩ => ⟨S64x1, .i1⟩
  | .hbm, ⟨35, _⟩ => ⟨S64x1, .f32⟩
  | .hbm, ⟨36, _⟩ => ⟨S_, .f32⟩
  | .hbm, ⟨37, _⟩ => ⟨S64x1, .f32⟩
  | .hbm, ⟨38, _⟩ => ⟨S64x1, .f32⟩
  | .hbm, ⟨39, _⟩ => ⟨S_, .f32⟩
  | .hbm, ⟨40, _⟩ => ⟨S64, .f32⟩
  | .hbm, ⟨41, _⟩ => ⟨S64x1, .f32⟩
  | .hbm, ⟨42, _⟩ => ⟨S64x1000000, .i32⟩
  | .hbm, ⟨43, _⟩ => ⟨S_, .f32⟩
  | .hbm, ⟨44, _⟩ => ⟨S_, .i32⟩
  | .hbm, ⟨45, _⟩ => ⟨S64, .f32⟩
  | .hbm, ⟨46, _⟩ => ⟨S64, .i32⟩
  | .hbm, ⟨47, _⟩ => ⟨S64x1, .i32⟩
  | _, _ => ⟨S64x1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_call1_c : Ref sig .tc := ⟨.hbm, 17, rfl⟩
abbrev main_call1_v0 : Ref sig .tc := ⟨.hbm, 18, rfl⟩
abbrev main_call1_v1 : Ref sig .tc := ⟨.hbm, 19, rfl⟩
abbrev main_call1_c_0 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_v5 : Ref sig .tc := ⟨.hbm, 24, rfl⟩
abbrev main_call1_c_1 : Ref sig .tc := ⟨.hbm, 25, rfl⟩
abbrev main_call1_c_2 : Ref sig .tc := ⟨.hbm, 26, rfl⟩
abbrev main_call1_v6 : Ref sig .tc := ⟨.hbm, 27, rfl⟩
abbrev main_call1_v7 : Ref sig .tc := ⟨.hbm, 28, rfl⟩
abbrev main_call1_v8 : Ref sig .tc := ⟨.hbm, 29, rfl⟩
abbrev main_call1_v9 : Ref sig .tc := ⟨.hbm, 30, rfl⟩
abbrev main_call1_v10 : Ref sig .tc := ⟨.hbm, 31, rfl⟩
abbrev main_call1_v11 : Ref sig .tc := ⟨.hbm, 32, rfl⟩
abbrev main_call1_c_3 : Ref sig .tc := ⟨.hbm, 33, rfl⟩
abbrev main_call1_v12 : Ref sig .tc := ⟨.hbm, 34, rfl⟩
abbrev main_call1_v13 : Ref sig .tc := ⟨.hbm, 35, rfl⟩
abbrev main_call1_cst : Ref sig .tc := ⟨.hbm, 36, rfl⟩
abbrev main_call1_v14 : Ref sig .tc := ⟨.hbm, 37, rfl⟩
abbrev main_v1 : Ref sig .tc := ⟨.hbm, 38, rfl⟩
abbrev main_cst : Ref sig .tc := ⟨.hbm, 39, rfl⟩
abbrev main_v2 : Ref sig .tc := ⟨.hbm, 40, rfl⟩
abbrev main_v3 : Ref sig .tc := ⟨.hbm, 41, rfl⟩
abbrev main_call2_v0 : Ref sig .tc := ⟨.hbm, 42, rfl⟩
abbrev main_call2_cst : Ref sig .tc := ⟨.hbm, 43, rfl⟩
abbrev main_call2_c : Ref sig .tc := ⟨.hbm, 44, rfl⟩
abbrev main_call2_v1_0 : Ref sig .tc := ⟨.hbm, 45, rfl⟩
abbrev main_v4 : Ref sig .tc := ⟨.hbm, 46, rfl⟩
abbrev main_v5 : Ref sig .tc := ⟨.hbm, 47, rfl⟩

abbrev nD : Nat := 1
abbrev τ : Topo := Topo.v7x

variable {F : FTy → Type} [FloatOps F]
-- ==== Proof.InRange.lean ====
/- What the precondition says: every action is a lane of its row. -/
module

public import proofs.«01_k».proof.Pre_actions_in_range
public import proofs.«01_k».proof.Proof.Gen.Pre_actions_in_range
public import Idealize.ShloMosaic.Lib.StableHlo.Predicate
public import Idealize.ShloMosaic.Lib.WordCmp

@[expose] public section

noncomputable section

namespace Cert.Pre_actions_in_range

open Idealize.ShloMosaic

variable {F : FTy → Type} [FloatOps F]

/-- Two bits both one, from their conjunction. -/
theorem both_one (a b : BitVec 1) (h : a &&& b = 1#1) : a = 1#1 ∧ b = 1#1 := by revert a b; decide

/-- The precondition decoded at one action: a natural number below the row's length. -/
theorem lane_of (logits : FVec F S64x1000000 .f32) (actions : IVec S64x1 32)
    (h : fn logits actions = fun _ => 1#1) (i : S64x1.Idx) : ∃ v < 1000000, actions i = BitVec.ofNat 32 v := by
  have e : (BitVec.ofBool (BitVec.sle 0#32 (actions i)) &&& BitVec.ofBool (BitVec.slt (actions i) 1000000#32)) = 1#1 := congrFun h i
  obtain ⟨e0, e1⟩ := both_one _ _ e
  rw [StableHlo.Predicate.ofBool_eq_one_iff] at e0 e1
  refine ⟨(actions i).toNat, ?_, by simp⟩
  generalize actions i = a at *
  have h0 : a.toNat < 2 ^ 31 := by
    rw [BitVec.sle_eq_decide, decide_eq_true_eq] at e0
    have := a.isLt
    by_contra hc
    rw [BitVec.toInt_eq_toNat_cond, BitVec.toInt_eq_toNat_cond] at e0
    simp at e0; omega
  rw [BitVec.slt_eq_decide, decide_eq_true_eq] at e1
  rw [BitVec.toInt_eq_toNat_cond, BitVec.toInt_eq_toNat_cond] at e1
  simp at e1; omega

end Cert.Pre_actions_in_range

end
-- ==== Proof.Ideal.Common.lean ====
/- What the two calls' proofs share: the resource algebra (the pipeline library's beside the transfers' counters), a
   memref held whole at what it reads, and the levels and variants, all one. -/
module

public import proofs.«01_k».proof.Proof.Gen.KernelIdeal.Launch
public import Idealize.ShloMosaic.Lib.Pipeline.Routed
public import Idealize.ShloMosaic.Lib.Pipeline.ReadBack
public import Idealize.ShloMosaic.Lib.VecWindow
public import Idealize.ShloMosaic.Lib.Tactic

@[expose] public section

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-- The resource algebra: the pipelines' rounds beside the transfers' counters. -/
abbrev UU : Type := UR sig nD τ × Counters

/-- The assertions' algebra. -/
abbrev MM (F : FTy → Type) : Type := MT nD τ sig Unit (Elt F) ℕ UU ℕ

abbrev 𝒱₀ : Variants := Variants.none
/-- One index at every counter of a core's own thread. No core owes another anything, so the levels are all one. -/
abbrev L : GSem nD τ sig → Finset Unit := fun g => if g.1.2 = .tc then {()} else ∅
abbrev lv : GSem nD τ sig → Unit → ℕ := fun _ _ => 0

/-- Memref `M` held whole, reading `X`. -/
abbrev has (c : Dev nD) {sp : Space} {S : Shape} {e : EltTy} (M : Memref sig .tc sp S e) (X : S.Idx → Elt F e) : sProp (MM F) :=
  owns (c : Thread nD τ) M fullShare X

end Cert.KernelIdeal.Run
-- ==== Proof.Ideal.Pass1Loop.lean ====
/- The first kernel call, written with the tournament over a block's tiles as a recursion: initialise the running
   maximum, sum and winner at the first point, sweep a block of 32 tiles at the first thirty points, sweep the
   masked tail and write the results at the last one. That the printed call is this program is checked by
   unfolding. -/
module

public import proofs.«01_k».proof.Proof.Gen.KernelIdeal
public import Idealize.ShloMosaic.Lib.Pipeline.Regions

@[expose] public section

set_option maxRecDepth 16384

noncomputable section

namespace Cert.KernelIdeal.Pass1

open Idealize.ShloMosaic Idealize.SL.Sem
open Cert.KernelIdeal Cert.KernelIdeal.Gen

variable {F : FTy → Type} [FloatOps F]

/-! ## The tournament -/

/-- A candidate: a value and the tile it comes from, for each row. -/
abbrev Cand (F : FTy → Type) := FVec F S64x1 .f32 × IVec S64x1 32

/-- Of two candidates the later one where it is strictly greater, else the earlier one. -/
def node (a c : Cand F) : Cand F :=
  (select (cmpf .ogt c.1 a.1) c.1 a.1, select (cmpf .ogt c.1 a.1) c.2 a.2)

/-- The tournament of the `2 ^ d` candidates from `b` on. -/
def tour (leaf : Nat → FVec F S64x1 .f32) : Nat → Nat → Cand F
  | 0, b => (leaf b, broadcast S64x1 (BitVec.ofNat 32 b))
  | d + 1, b => node (tour leaf d b) (tour leaf d (b + 2 ^ d))

theorem slices32 (k : Nat) (h : k < 32) : S64x32768.Slices ![0, 1024 * k] S64x1024 :=
  ⟨rfl, by intro a; fin_cases a
           · exact Nat.le_refl 64
           · show 1024 * k + 1024 ≤ 32768; omega⟩
theorem slices17 (k : Nat) (h : k < 17) : S64x17408.Slices ![0, 1024 * k] S64x1024 :=
  ⟨rfl, by intro a; fin_cases a
           · exact Nat.le_refl 64
           · show 1024 * k + 1024 ≤ 17408; omega⟩

/-- Each row's maximum over tile `k` of a block. -/
def leaf32 (x : Vec F S64x32768 .f32) (k : Nat) : FVec F S64x1 .f32 :=
  if h : k < 32 then
    shapeCast S64x1 (multiReduction .maximumf [1] S64 (extractStridedSlice S64x1024 ![0, 1024 * k] x (slices32 k h)) 0xFF800000#32 reduces_S64x1024_S64 (.inl rfl) rfl) shapeCasts_S64_S64x1
  else broadcast S64x1 (Scalar.ofBits .f32 0xFF800000#32)
/-- Each row's maximum over tile `k` of the tail. -/
def leaf17 (x : Vec F S64x17408 .f32) (k : Nat) : FVec F S64x1 .f32 :=
  if h : k < 17 then
    shapeCast S64x1 (multiReduction .maximumf [1] S64 (extractStridedSlice S64x1024 ![0, 1024 * k] x (slices17 k h)) 0xFF800000#32 reduces_S64x1024_S64 (.inl rfl) rfl) shapeCasts_S64_S64x1
  else broadcast S64x1 (Scalar.ofBits .f32 0xFF800000#32)

/-- The winner of a whole block's 32 tiles. -/
def win32 (x : Vec F S64x32768 .f32) : Cand F := tour (leaf32 x) 5 0
/-- The winner of the tail's 17 tiles. -/
def win17 (x : Vec F S64x17408 .f32) : Cand F :=
  node (tour (leaf17 x) 4 0) (leaf17 x 16, broadcast S64x1 16#32)

/-! ## The running state's next values -/

def mInit : FVec F S64x1 .f32 := shapeCast S64x1 (broadcast S64x1 (Scalar.ofBits .f32 0xFF800000#32 : F .f32)) shapeCasts_S64x1_S64x1
def sInit : FVec F S64x1 .f32 := shapeCast S64x1 (broadcast S64x1 (Scalar.ofBits .f32 0x00000000#32 : F .f32)) shapeCasts_S64x1_S64x1
def jInit : IVec S64x1 32 := shapeCast S64x1 (broadcast S64x1 0#32) shapeCasts_S64x1_S64x1

/-- The sum of the exponentials, with a block's added. -/
def sNext (x : Vec F S64x32768 .f32) (s : Vec F S64x1 .f32) : FVec F S64x1 .f32 :=
  shapeCast S64x1 (addf s (shapeCast S64x1 (multiReduction .add [1] S64 (exp x) 0x00000000#32 reduces_S64x32768_S64 (.inl rfl) rfl) shapeCasts_S64_S64x1)) shapeCasts_S64x1_S64x1
/-- The sum of the exponentials, with the tail's added. -/
def sNextT (x : Vec F S64x17408 .f32) (s : Vec F S64x1 .f32) : FVec F S64x1 .f32 :=
  shapeCast S64x1 (addf s (shapeCast S64x1 (multiReduction .add [1] S64 (exp x) 0x00000000#32 reduces_S64x17408_S64 (.inl rfl) rfl) shapeCasts_S64_S64x1)) shapeCasts_S64x1_S64x1
/-- The winning tile, replaced where the block's candidate is strictly greater than the running maximum. -/
def jNext (g : BitVec 32) (c : Cand F) (m : Vec F S64x1 .f32) (j : Vec F S64x1 .i32) : IVec S64x1 32 :=
  shapeCast S64x1 (select (cmpf .ogt c.1 m) (addi (broadcast S64x1 (Scalar.muli g 32#32)) c.2) j) shapeCasts_S64x1_S64x1
/-- The running maximum, replaced likewise (`m'` is the maximum read again). -/
def mNext (c : Cand F) (m m' : Vec F S64x1 .f32) : FVec F S64x1 .f32 :=
  shapeCast S64x1 (select (cmpf .ogt c.1 m) c.1 m') shapeCasts_S64x1_S64x1

/-- The tail's lane numbers. -/
def lanesT : IVec S64x17408 32 := iota .tc S64x17408 32 [1] iota_S64x17408_d1_w32
/-- The tail's column numbers. -/
def colsT : IVec S64x17408 32 := addi (broadcast S64x17408 983040#32) lanesT
/-- The tail with the lanes past the logits' end at minus infinity. -/
def maskT (x : Vec F S64x17408 .f32) : Vec F S64x17408 .f32 :=
  select (cmpi .slt lanesT (broadcast S64x17408 16960#32)) x (broadcast S64x17408 (Scalar.ofBits .f32 0xFF800000#32 : F .f32))
/-- The tail's first column attaining the tail's maximum. -/
def tailIdx (x : Vec F S64x17408 .f32) : IVec S64x1 32 :=
  shapeCast S64x1 (multiReductionI .minsi [1] S64 (select (cmpf .oeq x (broadcastTo S64x17408 (shapeCast S64x1 (multiReduction .maximumf [1] S64 x 0xFF800000#32 reduces_S64x17408_S64 (.inl rfl) rfl) shapeCasts_S64_S64x1) broadcasts_S64x1_S64x17408)) colsT (broadcast S64x17408 1000000#32)) 2147483647#32 reduces_S64x17408_S64 rfl) shapeCasts_S64_S64x1
/-- The tail's logit at the action, zero where the action is not in the tail. -/
def tailPick (x : Vec F S64x17408 .f32) (a : Vec F S64x1 .i32) : FVec F S64x1 .f32 :=
  shapeCast S64x1 (multiReduction .add [1] S64 (select (cmpi .eq colsT (broadcastTo S64x17408 a broadcasts_S64x1_S64x17408)) x (broadcast S64x17408 (Scalar.ofBits .f32 0x00000000#32 : F .f32))) 0x00000000#32 reduces_S64x17408_S64 (.inl rfl) rfl) shapeCasts_S64_S64x1

/-! ## The program -/

section Prog
variable (arg1 : Memref sig .tc .vmem S64x1 .i32) (arg2 : Memref sig .tc .vmem S64x32768 .f32)
  (arg3 : Memref sig .tc .vmem S64x1 .f32) (arg4 arg5 : Memref sig .tc .vmem S64x1 .i32)
  (arg6 arg7 arg8 : Memref sig .tc .vmem S64x1 .f32) (arg9 : Memref sig .tc .vmem S64x1 .i32)

/-- At the first point: maximum minus infinity, sum zero, winner tile zero. -/
def initPart : Prog (TpuEff nD τ sig (Elt F) Λ₀ .tc) PUnit := do
  let v10 : Vec F S64x1 .f32 ← Prog.lift (.load arg7 (Rect.unit (s := S64x1) ![0, 0] S64x1.size inb_S64x1_S64x1_0_0).toLoadRect (View.loadsAt_vmem h_S64x1))
  Prog.lift (.store arg7 (Rect.unit (s := S64x1) ![0, 0] S64x1.size inb_S64x1_S64x1_0_0) (mInit (F := F)) Finset.univ (View.stores_vmem_bits_univ h_S64x1 rfl) (.inl rfl))
  let v14 : Vec F S64x1 .f32 ← Prog.lift (.load arg8 (Rect.unit (s := S64x1) ![0, 0] S64x1.size inb_S64x1_S64x1_0_0).toLoadRect (View.loadsAt_vmem h_S64x1))
  Prog.lift (.store arg8 (Rect.unit (s := S64x1) ![0, 0] S64x1.size inb_S64x1_S64x1_0_0) (sInit (F := F)) Finset.univ (View.stores_vmem_bits_univ h_S64x1 rfl) (.inl rfl))
  let v18 : Vec F S64x1 .i32 ← Prog.lift (.load arg9 (Rect.unit (s := S64x1) ![0, 0] S64x1.size inb_S64x1_S64x1_0_0).toLoadRect (View.loadsAt_vmem h_S64x1))
  Prog.lift (.store arg9 (Rect.unit (s := S64x1) ![0, 0] S64x1.size inb_S64x1_S64x1_0_0) jInit Finset.univ (View.stores_vmem_bits_univ h_S64x1 rfl) (.inl rfl))
  pure ⟨⟩

/-- Update the winner and the maximum by a block's candidate. -/
def update (g : BitVec 32) (c : Cand F) : Prog (TpuEff nD τ sig (Elt F) Λ₀ .tc) PUnit := do
  let m : Vec F S64x1 .f32 ← Prog.lift (.load arg7 (Rect.unit (s := S64x1) ![0, 0] S64x1.size inb_S64x1_S64x1_0_0).toLoadRect (View.loadsAt_vmem h_S64x1))
  let j : Vec F S64x1 .i32 ← Prog.lift (.load arg9 (Rect.unit (s := S64x1) ![0, 0] S64x1.size inb_S64x1_S64x1_0_0).toLoadRect (View.loadsAt_vmem h_S64x1))
  let _j : Vec F S64x1 .i32 ← Prog.lift (.load arg9 (Rect.unit (s := S64x1) ![0, 0] S64x1.size inb_S64x1_S64x1_0_0).toLoadRect (View.loadsAt_vmem h_S64x1))
  Prog.lift (.store arg9 (Rect.unit (s := S64x1) ![0, 0] S64x1.size inb_S64x1_S64x1_0_0) (jNext g c m j) Finset.univ (View.stores_vmem_bits_univ h_S64x1 rfl) (.inl rfl))
  let m' : Vec F S64x1 .f32 ← Prog.lift (.load arg7 (Rect.unit (s := S64x1) ![0, 0] S64x1.size inb_S64x1_S64x1_0_0).toLoadRect (View.loadsAt_vmem h_S64x1))
  let _m : Vec F S64x1 .f32 ← Prog.lift (.load arg7 (Rect.unit (s := S64x1) ![0, 0] S64x1.size inb_S64x1_S64x1_0_0).toLoadRect (View.loadsAt_vmem h_S64x1))
  Prog.lift (.store arg7 (Rect.unit (s := S64x1) ![0, 0] S64x1.size inb_S64x1_S64x1_0_0) (mNext c m m') Finset.univ (View.stores_vmem_bits_univ h_S64x1 rfl) (.inl rfl))

/-- A whole block. -/
def fullPart (g : BitVec 32) : Prog (TpuEff nD τ sig (Elt F) Λ₀ .tc) PUnit := do
  let x : Vec F S64x32768 .f32 ← Prog.lift (.load arg2 (Rect.unit (s := S64x32768) ![0, 0] S64x32768.size inb_S64x32768_S64x32768_0_0).toLoadRect (View.loadsAt_vmem h_S64x32768))
  let s : Vec F S64x1 .f32 ← Prog.lift (.load arg8 (Rect.unit (s := S64x1) ![0, 0] S64x1.size inb_S64x1_S64x1_0_0).toLoadRect (View.loadsAt_vmem h_S64x1))
  let _s : Vec F S64x1 .f32 ← Prog.lift (.load arg8 (Rect.unit (s := S64x1) ![0, 0] S64x1.size inb_S64x1_S64x1_0_0).toLoadRect (View.loadsAt_vmem h_S64x1))
  Prog.lift (.store arg8 (Rect.unit (s := S64x1) ![0, 0] S64x1.size inb_S64x1_S64x1_0_0) (sNext x s) Finset.univ (View.stores_vmem_bits_univ h_S64x1 rfl) (.inl rfl))
  update arg7 arg9 g (win32 x)
  pure ⟨⟩

/-- The tail, and the results. -/
def tailPart (g : BitVec 32) : Prog (TpuEff nD τ sig (Elt F) Λ₀ .tc) PUnit := do
  let x : Vec F S64x17408 .f32 ← Prog.lift (.load arg2 (Rect.unit (s := S64x32768) ![0, 0] S64x17408.size inb_S64x32768_S64x17408_0_0).toLoadRect (View.loadsAt_vmem h_S64x17408))
  let s : Vec F S64x1 .f32 ← Prog.lift (.load arg8 (Rect.unit (s := S64x1) ![0, 0] S64x1.size inb_S64x1_S64x1_0_0).toLoadRect (View.loadsAt_vmem h_S64x1))
  let _s : Vec F S64x1 .f32 ← Prog.lift (.load arg8 (Rect.unit (s := S64x1) ![0, 0] S64x1.size inb_S64x1_S64x1_0_0).toLoadRect (View.loadsAt_vmem h_S64x1))
  Prog.lift (.store arg8 (Rect.unit (s := S64x1) ![0, 0] S64x1.size inb_S64x1_S64x1_0_0) (sNextT (maskT x) s) Finset.univ (View.stores_vmem_bits_univ h_S64x1 rfl) (.inl rfl))
  update arg7 arg9 g (win17 (maskT x))
  let _t : Vec F S64x1 .i32 ← Prog.lift (.load arg5 (Rect.unit (s := S64x1) ![0, 0] S64x1.size inb_S64x1_S64x1_0_0).toLoadRect (View.loadsAt_vmem h_S64x1))
  Prog.lift (.store arg5 (Rect.unit (s := S64x1) ![0, 0] S64x1.size inb_S64x1_S64x1_0_0) (tailIdx (maskT x)) Finset.univ (View.stores_vmem_bits_univ h_S64x1 rfl) (.inl rfl))
  let a : Vec F S64x1 .i32 ← Prog.lift (.load arg1 (Rect.unit (s := S64x1) ![0, 0] S64x1.size inb_S64x1_S64x1_0_0).toLoadRect (View.loadsAt_vmem h_S64x1))
  let _p : Vec F S64x1 .f32 ← Prog.lift (.load arg6 (Rect.unit (s := S64x1) ![0, 0] S64x1.size inb_S64x1_S64x1_0_0).toLoadRect (View.loadsAt_vmem h_S64x1))
  Prog.lift (.store arg6 (Rect.unit (s := S64x1) ![0, 0] S64x1.size inb_S64x1_S64x1_0_0) (tailPick (maskT x) a) Finset.univ (View.stores_vmem_bits_univ h_S64x1 rfl) (.inl rfl))
  let s' : Vec F S64x1 .f32 ← Prog.lift (.load arg8 (Rect.unit (s := S64x1) ![0, 0] S64x1.size inb_S64x1_S64x1_0_0).toLoadRect (View.loadsAt_vmem h_S64x1))
  let _z : Vec F S64x1 .f32 ← Prog.lift (.load arg3 (Rect.unit (s := S64x1) ![0, 0] S64x1.size inb_S64x1_S64x1_0_0).toLoadRect (View.loadsAt_vmem h_S64x1))
  Prog.lift (.store arg3 (Rect.unit (s := S64x1) ![0, 0] S64x1.size inb_S64x1_S64x1_0_0) (log s') Finset.univ (View.stores_vmem_bits_univ h_S64x1 rfl) (.inl rfl))
  let j' : Vec F S64x1 .i32 ← Prog.lift (.load arg9 (Rect.unit (s := S64x1) ![0, 0] S64x1.size inb_S64x1_S64x1_0_0).toLoadRect (View.loadsAt_vmem h_S64x1))
  let _w : Vec F S64x1 .i32 ← Prog.lift (.load arg4 (Rect.unit (s := S64x1) ![0, 0] S64x1.size inb_S64x1_S64x1_0_0).toLoadRect (View.loadsAt_vmem h_S64x1))
  Prog.lift (.store arg4 (Rect.unit (s := S64x1) ![0, 0] S64x1.size inb_S64x1_S64x1_0_0) j' Finset.univ (View.stores_vmem_bits_univ h_S64x1 rfl) (.inl rfl))
  pure ⟨⟩

/-- The first call. -/
def prog (i : grid0.Coords) : Prog (TpuEff nD τ sig (Elt F) Λ₀ .tc) PUnit := do
  if Scalar.cmpi .ne (Scalar.extui (Scalar.cmpi .eq (BitVec.ofNat 32 (i 0).val) 0#32)) 0#32 = 1#1 then
    initPart arg7 arg8 arg9
  else pure ⟨⟩
  if Scalar.cmpi .ne (Scalar.extui (Scalar.cmpi .slt (BitVec.ofNat 32 (i 0).val) 30#32)) 0#32 = 1#1 then
    fullPart arg2 arg7 arg8 arg9 (BitVec.ofNat 32 (i 0).val)
  else pure ⟨⟩
  if k0_cond3 i = 1#1 then
    tailPart arg1 arg2 arg3 arg4 arg5 arg6 arg7 arg8 arg9 (BitVec.ofNat 32 (i 0).val)
  else pure ⟨⟩
  pure ⟨⟩

/-- The printed first call is this program. -/
theorem kernel_eq (i : grid0.Coords) (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) :
    cc0__pass1_kernel (F := F) i arg1 harg1 arg2 harg2 arg3 harg3 arg4 harg4 arg5 harg5 arg6 harg6 arg7 harg7 arg8 harg8 arg9 harg9 =
    prog arg1 arg2 arg3 arg4 arg5 arg6 arg7 arg8 arg9 i := by chain_rfl

end Prog

end Cert.KernelIdeal.Pass1
-- ==== Proof.Ideal.Pass1Run.lean ====
/- One grid point of the first call: the body meets its specification at every point, first, middle and last. -/
module

public import proofs.«01_k».proof.Proof.Ideal.Common
public import proofs.«01_k».proof.Proof.Ideal.Pass1Loop

@[expose] public section

set_option maxRecDepth 16384

noncomputable section

namespace Cert.KernelIdeal.Pass1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.KernelIdeal.Run

variable {F : FTy → Type} [FloatOps F]

section
variable (c : Dev nD) (arg1 : Memref sig .tc .vmem S64x1 .i32) (arg2 : Memref sig .tc .vmem S64x32768 .f32)
  (arg3 : Memref sig .tc .vmem S64x1 .f32) (arg4 arg5 : Memref sig .tc .vmem S64x1 .i32)
  (arg6 arg7 arg8 : Memref sig .tc .vmem S64x1 .f32) (arg9 : Memref sig .tc .vmem S64x1 .i32)
  (h1 : arg1.IsWhole) (h2 : arg2.IsWhole) (h3 : arg3.IsWhole) (h4 : arg4.IsWhole) (h5 : arg5.IsWhole) (h6 : arg6.IsWhole) (h7 : arg7.IsWhole)
  (h8 : arg8.IsWhole) (h9 : arg9.IsWhole)

omit [FloatOps F] in
theorem full1 {e : EltTy} (M : Memref sig .tc .vmem S64x1 e) (f : M.view.ty.Contents (Elt F)) :
    M.view.readAt (Elt F) (Rect.unit (s := S64x1) ![0, 0] S64x1.size inb_S64x1_S64x1_0_0).toLoadRect f = M.view.read (Elt F) f := View.readAt_full ..
omit [FloatOps F] in
theorem full32 {e : EltTy} (M : Memref sig .tc .vmem S64x32768 e) (f : M.view.ty.Contents (Elt F)) :
    M.view.readAt (Elt F) (Rect.unit (s := S64x32768) ![0, 0] S64x32768.size inb_S64x32768_S64x32768_0_0).toLoadRect f = M.view.read (Elt F) f := View.readAt_full ..
theorem cov1 {e : EltTy} (M : Memref sig .tc .vmem S64x1 e) (w : S64x1.Idx → Elt F e) :
    M.view.readCov (Val := Elt F) [⟨Rect.unit (s := S64x1) ![0, 0] S64x1.size inb_S64x1_S64x1_0_0, w⟩]
      (Rect.unit (s := S64x1) ![0, 0] S64x1.size inb_S64x1_S64x1_0_0).toLoadRect = w :=
  View.readCov_unit_lit (S := S64x1) M.view inb_S64x1_S64x1_0_0 w (by decide)

include h7 h8 h9 in
theorem wp_init (m s : FVec F S64x1 .f32) (j : IVec S64x1 32) (E : Set ℕ) (Q : PUnit → sProp (MM F)) :
    iprop(has c arg7 m ∗ has c arg8 s ∗ has c arg9 j ∗ (iprop(has c arg7 mInit ∗ has c arg8 sInit ∗ has c arg9 jInit) -∗ Q ⟨⟩))
      ⊢ wp frame (wpE (defs₀ (F := F)) 𝒱₀ c none) E (initPart arg7 arg8 arg9) Q := by
  unfold initPart has owns
  iintro ⟨⟨%f7, %e7, H7⟩, ⟨%f8, %e8, H8⟩, ⟨%f9, %e9, H9⟩, Hk⟩
  sl_exec!
  sl_step
  iapply Hk
  isplitl [H7]; · iexists _; isplitr; swap; (· iexact H7); ipureintro; sl_unfold_words; exact View.read_writes_full ..
  isplitl [H8]; · iexists _; isplitr; swap; (· iexact H8); ipureintro; sl_unfold_words; exact View.read_writes_full ..
  iexists _; isplitr; swap; (· iexact H9); ipureintro; sl_unfold_words; exact View.read_writes_full ..

include h2 h7 h8 h9 in
theorem wp_full (g : BitVec 32) (x : FVec F S64x32768 .f32) (m s : FVec F S64x1 .f32) (j : IVec S64x1 32) (E : Set ℕ) (Q : PUnit → sProp (MM F)) :
    iprop(has c arg2 x ∗ has c arg7 m ∗ has c arg8 s ∗ has c arg9 j
      ∗ (iprop(has c arg2 x ∗ has c arg7 (mNext (win32 x) m m) ∗ has c arg8 (sNext x s) ∗ has c arg9 (jNext g (win32 x) m j)) -∗ Q ⟨⟩))
      ⊢ wp frame (wpE (defs₀ (F := F)) 𝒱₀ c none) E (fullPart arg2 arg7 arg8 arg9 g) Q := by
  unfold fullPart update has owns
  iintro ⟨⟨%f2, %e2, H2⟩, ⟨%f7, %e7, H7⟩, ⟨%f8, %e8, H8⟩, ⟨%f9, %e9, H9⟩, Hk⟩
  sl_exec!
  sl_step
  iapply Hk
  isplitl [H2]; · iexists _; isplitr; swap; (· iexact H2); ipureintro; exact e2
  isplitl [H7]; · iexists _; isplitr; swap; (· iexact H7); ipureintro; sl_unfold_words; exact (View.read_writes_full ..).trans (by rw [full32, full1, e2, e7])
  isplitl [H8]; · iexists _; isplitr; swap; (· iexact H8); ipureintro; sl_unfold_words; exact (View.read_writes_full ..).trans (by rw [full32, full1, e2, e8])
  iexists _; isplitr; swap; (· iexact H9); ipureintro; sl_unfold_words; exact (View.read_writes_full ..).trans (by rw [full32, full1, full1, e2, e7, e9])

/-- The tail's lanes of a staged block. -/
def headT (x : FVec F S64x32768 .f32) : FVec F S64x17408 .f32 :=
  fun y => x ((Rect.unit (s := S64x32768) ![0, 0] S64x17408.size inb_S64x32768_S64x17408_0_0).toLoadRect.idx y)

include h1 h2 h3 h4 h5 h6 h7 h8 h9 in
theorem wp_tail (g : BitVec 32) (a : IVec S64x1 32) (x : FVec F S64x32768 .f32) (m s : FVec F S64x1 .f32) (j : IVec S64x1 32) (E : Set ℕ) (Q : PUnit → sProp (MM F))
   (o3 o6 : FVec F S64x1 .f32) (o4 o5 : IVec S64x1 32) :
    iprop(has c arg1 a ∗ has c arg2 x ∗ has c arg3 o3 ∗ has c arg4 o4 ∗ has c arg5 o5 ∗ has c arg6 o6 ∗ has c arg7 m ∗ has c arg8 s ∗ has c arg9 j
      ∗ (iprop(has c arg1 a ∗ has c arg2 x ∗ has c arg3 (log (sNextT (maskT (headT x)) s)) ∗ has c arg4 (jNext g (win17 (maskT (headT x))) m j)
        ∗ has c arg5 (tailIdx (maskT (headT x))) ∗ has c arg6 (tailPick (maskT (headT x)) a)
        ∗ has c arg7 (mNext (win17 (maskT (headT x))) m m) ∗ has c arg8 (sNextT (maskT (headT x)) s) ∗ has c arg9 (jNext g (win17 (maskT (headT x))) m j)) -∗ Q ⟨⟩))
      ⊢ wp frame (wpE (defs₀ (F := F)) 𝒱₀ c none) E (tailPart arg1 arg2 arg3 arg4 arg5 arg6 arg7 arg8 arg9 g) Q := by
  unfold tailPart update has owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, Hk⟩
  sl_exec!
  have e2' : View.readAt (Elt F) arg2.view (Rect.unit (s := S64x32768) ![0, 0] S64x17408.size inb_S64x32768_S64x17408_0_0).toLoadRect f2 = headT x := by
    subst e2; rfl
  sl_step
  iapply Hk
  isplitl [H1]; · iexists _; isplitr; swap; (· iexact H1); ipureintro; exact e1
  isplitl [H2]; · iexists _; isplitr; swap; (· iexact H2); ipureintro; exact e2
  isplitl [H3]; · iexists _; isplitr; swap; (· iexact H3); ipureintro; sl_unfold_words; exact (View.read_writes_full ..).trans (by rw [cov1, full1, e2', e8])
  isplitl [H4]; · iexists _; isplitr; swap; (· iexact H4); ipureintro; sl_unfold_words; exact (View.read_writes_full ..).trans (by rw [cov1, full1, full1, e2', e7, e9])
  isplitl [H5]; · iexists _; isplitr; swap; (· iexact H5); ipureintro; sl_unfold_words; exact (View.read_writes_full ..).trans (by rw [e2'])
  isplitl [H6]; · iexists _; isplitr; swap; (· iexact H6); ipureintro; sl_unfold_words; exact (View.read_writes_full ..).trans (by rw [full1, e2', e1])
  isplitl [H7]; · iexists _; isplitr; swap; (· iexact H7); ipureintro; sl_unfold_words; exact (View.read_writes_full ..).trans (by rw [full1, e2', e7])
  isplitl [H8]; · iexists _; isplitr; swap; (· iexact H8); ipureintro; sl_unfold_words; exact (View.read_writes_full ..).trans (by rw [full1, e2', e8])
  iexists _; isplitr; swap; (· iexact H9); ipureintro; sl_unfold_words; exact (View.read_writes_full ..).trans (by rw [full1, full1, e2', e7, e9])

end

end Cert.KernelIdeal.Pass1
-- ==== Proof.Ideal.Pass1Body.lean ====
/- The first call's body at each grid point, and its proof data: the scratch holds the running maximum, sum and winner
   of the blocks swept so far; at the last point the results are left in their staging buffers. -/
module

public import proofs.«01_k».proof.Proof.Gen.KernelIdeal.Points
public import proofs.«01_k».proof.Proof.Ideal.Pass1Run
public import Idealize.ShloMosaic.Lib.WordCmp

@[expose] public section

set_option maxRecDepth 16384

noncomputable section

namespace Cert.KernelIdeal.Pass1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose heldIn)
open Cert.KernelIdeal Cert.KernelIdeal.Gen Cert.KernelIdeal.Run

variable {F : FTy → Type} [FloatOps F]

/-! ## The state -/

/-- The running maximum, sum and winner. -/
abbrev State (F : FTy → Type) := FVec F S64x1 .f32 × FVec F S64x1 .f32 × IVec S64x1 32

/-- The state after a whole block `x`, the `g`-th. -/
def stepFull (g : BitVec 32) (x : FVec F S64x32768 .f32) (a : State F) : State F :=
  (mNext (win32 x) a.1 a.1, sNext x a.2.1, jNext g (win32 x) a.1 a.2.2)
/-- The state after the tail `x`. -/
def stepTail (g : BitVec 32) (x : FVec F S64x17408 .f32) (a : State F) : State F :=
  (mNext (win17 x) a.1 a.1, sNextT x a.2.1, jNext g (win17 x) a.1 a.2.2)

/-- The state after the first `n` blocks of `X`, all whole. -/
def st (X : Nat → FVec F S64x32768 .f32) : Nat → State F
  | 0 => (mInit, sInit, jInit)
  | n + 1 => stepFull (BitVec.ofNat 32 n) (X n) (st X n)

/-- The tail of the blocks `X`: the last one's leading lanes, masked. -/
def tailOf (X : Nat → FVec F S64x32768 .f32) : FVec F S64x17408 .f32 := maskT (headT (X 30))

/-- The state at the end. -/
def stEnd (X : Nat → FVec F S64x32768 .f32) : State F := stepTail (BitVec.ofNat 32 30) (tailOf X) (st X 30)

/-- The state after `n` points. -/
def stAt (X : Nat → FVec F S64x32768 .f32) (n : Nat) : State F := if n ≤ 30 then st X n else stEnd X

/-! ## The program at a point -/

section Prog
variable (c : Dev nD) (arg1 : Memref sig .tc .vmem S64x1 .i32) (arg2 : Memref sig .tc .vmem S64x32768 .f32)
  (arg3 : Memref sig .tc .vmem S64x1 .f32) (arg4 arg5 : Memref sig .tc .vmem S64x1 .i32)
  (arg6 arg7 arg8 : Memref sig .tc .vmem S64x1 .f32) (arg9 : Memref sig .tc .vmem S64x1 .i32)
  (h1 : arg1.IsWhole) (h2 : arg2.IsWhole) (h3 : arg3.IsWhole) (h4 : arg4.IsWhole) (h5 : arg5.IsWhole) (h6 : arg6.IsWhole) (h7 : arg7.IsWhole)
  (h8 : arg8.IsWhole) (h9 : arg9.IsWhole)

/-- The scratch at a state. -/
def scr (a : State F) : sProp (MM F) := iprop(has c arg7 a.1 ∗ has c arg8 a.2.1 ∗ has c arg9 a.2.2)

/-- The guard of the first point, of the whole blocks. -/
abbrev isFirst (i : grid0.Coords) : Prop := Scalar.cmpi .ne (Scalar.extui (Scalar.cmpi .eq (BitVec.ofNat 32 (i 0).val) 0#32)) 0#32 = 1#1
abbrev isFull (i : grid0.Coords) : Prop := Scalar.cmpi .ne (Scalar.extui (Scalar.cmpi .slt (BitVec.ofNat 32 (i 0).val) 30#32)) 0#32 = 1#1
abbrev isLast (i : grid0.Coords) : Prop := k0_cond3 i = 1#1

include h2 h7 h8 h9 in
theorem wp_first (i : grid0.Coords) (c0 : isFirst i) (c1 : isFull i) (c3 : ¬ isLast i) (x : FVec F S64x32768 .f32) (a : State F) (E : Set ℕ) (Q : PUnit → sProp (MM F)) :
    iprop(has c arg2 x ∗ scr c arg7 arg8 arg9 a
      ∗ (iprop(has c arg2 x ∗ scr c arg7 arg8 arg9 (stepFull (BitVec.ofNat 32 (i 0).val) x (mInit, sInit, jInit))) -∗ Q ⟨⟩))
      ⊢ wp frame (wpE (defs₀ (F := F)) 𝒱₀ c none) E (prog arg1 arg2 arg3 arg4 arg5 arg6 arg7 arg8 arg9 i) Q := by
  unfold prog scr
  rw [if_pos c0, if_pos c1, if_neg c3]
  simp only [wp_bind]
  iintro ⟨H2, ⟨H7, H8, H9⟩, Hk⟩
  iapply (wp_init c arg7 arg8 arg9 h7 h8 h9 a.1 a.2.1 a.2.2 E _)
  isplitl [H7]; · iexact H7
  isplitl [H8]; · iexact H8
  isplitl [H9]; · iexact H9
  iintro ⟨H7, H8, H9⟩
  iapply (wp_full c arg2 arg7 arg8 arg9 h2 h7 h8 h9 _ x mInit sInit jInit E _)
  isplitl [H2]; · iexact H2
  isplitl [H7]; · iexact H7
  isplitl [H8]; · iexact H8
  isplitl [H9]; · iexact H9
  iintro ⟨H2, H7, H8, H9⟩
  simp only [wp_pure]
  imodintro
  iapply Hk
  isplitl [H2]; · iexact H2
  isplitl [H7]; · iexact H7
  isplitl [H8]; · iexact H8
  iexact H9

include h2 h7 h8 h9 in
theorem wp_mid (i : grid0.Coords) (c0 : ¬ isFirst i) (c1 : isFull i) (c3 : ¬ isLast i) (x : FVec F S64x32768 .f32) (a : State F) (E : Set ℕ) (Q : PUnit → sProp (MM F)) :
    iprop(has c arg2 x ∗ scr c arg7 arg8 arg9 a
      ∗ (iprop(has c arg2 x ∗ scr c arg7 arg8 arg9 (stepFull (BitVec.ofNat 32 (i 0).val) x a)) -∗ Q ⟨⟩))
      ⊢ wp frame (wpE (defs₀ (F := F)) 𝒱₀ c none) E (prog arg1 arg2 arg3 arg4 arg5 arg6 arg7 arg8 arg9 i) Q := by
  unfold prog scr
  rw [if_neg c0, if_pos c1, if_neg c3]
  simp only [wp_bind, wp_pure]
  iintro ⟨H2, ⟨H7, H8, H9⟩, Hk⟩
  iapply (wp_full c arg2 arg7 arg8 arg9 h2 h7 h8 h9 _ x a.1 a.2.1 a.2.2 E _)
  isplitl [H2]; · iexact H2
  isplitl [H7]; · iexact H7
  isplitl [H8]; · iexact H8
  isplitl [H9]; · iexact H9
  iintro ⟨H2, H7, H8, H9⟩
  imodintro
  iapply Hk
  isplitl [H2]; · iexact H2
  isplitl [H7]; · iexact H7
  isplitl [H8]; · iexact H8
  iexact H9

include h1 h2 h3 h4 h5 h6 h7 h8 h9 in
theorem wp_last (i : grid0.Coords) (c0 : ¬ isFirst i) (c1 : ¬ isFull i) (c3 : isLast i) (b : IVec S64x1 32) (x : FVec F S64x32768 .f32) (a : State F)
    (o3 o6 : FVec F S64x1 .f32) (o4 o5 : IVec S64x1 32) (E : Set ℕ) (Q : PUnit → sProp (MM F)) :
    iprop(has c arg1 b ∗ has c arg2 x ∗ has c arg3 o3 ∗ has c arg4 o4 ∗ has c arg5 o5 ∗ has c arg6 o6 ∗ scr c arg7 arg8 arg9 a
      ∗ (iprop(has c arg1 b ∗ has c arg2 x ∗ has c arg3 (log (stepTail (BitVec.ofNat 32 (i 0).val) (maskT (headT x)) a).2.1)
          ∗ has c arg4 (stepTail (BitVec.ofNat 32 (i 0).val) (maskT (headT x)) a).2.2 ∗ has c arg5 (tailIdx (maskT (headT x)))
          ∗ has c arg6 (tailPick (maskT (headT x)) b) ∗ scr c arg7 arg8 arg9 (stepTail (BitVec.ofNat 32 (i 0).val) (maskT (headT x)) a)) -∗ Q ⟨⟩))
      ⊢ wp frame (wpE (defs₀ (F := F)) 𝒱₀ c none) E (prog arg1 arg2 arg3 arg4 arg5 arg6 arg7 arg8 arg9 i) Q := by
  unfold prog scr
  rw [if_neg c0, if_neg c1, if_pos c3]
  simp only [wp_bind, wp_pure]
  iintro ⟨H1, H2, H3, H4, H5, H6, ⟨H7, H8, H9⟩, Hk⟩
  iapply (wp_tail c arg1 arg2 arg3 arg4 arg5 arg6 arg7 arg8 arg9 h1 h2 h3 h4 h5 h6 h7 h8 h9 _ b x a.1 a.2.1 a.2.2 E _ o3 o6 o4 o5)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H1, H2, H3, H4, H5, H6, H7, H8, H9⟩
  imodintro
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

end Prog

/-! ## The points -/

theorem first_iff : ∀ t : Fin grid0.N, isFirst (grid0.coords t) ↔ t.val = 0 := by decide +kernel
theorem full_iff : ∀ t : Fin grid0.N, isFull (grid0.coords t) ↔ t.val < 30 := by decide +kernel
theorem last_iff : ∀ t : Fin grid0.N, isLast (grid0.coords t) ↔ t.val = 30 := by decide +kernel
theorem coords_val : ∀ t : Fin grid0.N, ((grid0.coords t) 0).val = t.val := by decide +kernel
theorem clip_none : ∀ t : Fin grid0.N, t.val < 30 → ∀ a, win0_1.clip (grid0.coords t) a = none := by decide +kernel

/-! ## The proof data -/

variable (A : (c : Dev nD) → (w : Fin cfg0.W) → Buf (Elt F) ((cfg0.win w).arr.view.loc (c.tc : Thread nD τ)))

/-- Block `n` of the logits as the fetch stages it (past the logits' end: something). -/
def blocks (c : Dev nD) (n : Nat) : FVec F S64x32768 .f32 :=
  if h : n < cfg0.N then heldIn cfg0 (A c) 1 n h else fun _ => Scalar.ofBits .f32 0x00000000#32
/-- The staged actions. -/
def acts (c : Dev nD) (n : Nat) : IVec S64x1 32 :=
  if h : n < cfg0.N then heldIn cfg0 (A c) 0 n h else fun _ => 0#32

/-- The scratch buffers at a state. -/
abbrev scr0 (c : Dev nD) (a : State F) : sProp (MM F) := scr c (Memref.whole cc0_scratch0) (Memref.whole cc0_scratch1) (Memref.whole cc0_scratch2) a

/-- The scoped buffers the pipeline does not stage. -/
abbrev rest0 (c : Dev nD) : sProp (MM F) := Pipeline.scopedRest (Ix := Unit) (Name := ℕ) (U := UU) (Lvl := ℕ) (Val := Elt F) spec0 c

/-- Between points: the scratch at the state reached (before the first point: at some contents), the other scoped buffers beside. -/
def Φ1 (c : Dev nD) (n : Nat) : sProp (MM F) :=
  iprop((∃ a : State F, ⌜n ≠ 0 → a = stAt (blocks A c) n⌝ ∗ scr0 c a) ∗ (∀ a : State F, scr0 c a -∗ rest0 c))

theorem phi_in (c : Dev nD) : rest0 (F := F) c ⊢ Φ1 A c 0 := by
  unfold Φ1 rest0
  rw [scopedRest0_eq]
  unfold scr0 scr has
  simp only [owns_whole_eq]
  iintro ⟨⟨%f0, H0⟩, ⟨%f1, H1⟩, ⟨%f2, H2⟩, H⟩
  isplitl [H0 H1 H2]
  · iexists ((f0, f1, f2) : State F)
    isplitr
    · ipureintro; exact fun h => absurd rfl h
    isplitl [H0]; · iexists _; isplitr; swap; (· iexact H0); ipureintro; rfl
    isplitl [H1]; · iexists _; isplitr; swap; (· iexact H1); ipureintro; rfl
    iexists _; isplitr; swap; (· iexact H2); ipureintro; rfl
  iintro %a ⟨⟨%g0, -, H0⟩, ⟨%g1, -, H1⟩, ⟨%g2, -, H2⟩⟩
  isplitl [H0]; · iexists _; iexact H0
  isplitl [H1]; · iexists _; iexact H1
  isplitl [H2]; · iexists _; iexact H2
  iexact H

theorem phi_out (c : Dev nD) (n : Nat) : Φ1 A c n ⊢ rest0 (F := F) c := by
  unfold Φ1
  iintro ⟨⟨%a, -, Ha⟩, Hw⟩
  iapply Hw $$ Ha

/-- The first call's proof data, over arrays holding `A`. -/
def dat1 (c : Dev nD) : Dat τ (Elt F) Unit ℕ UU ℕ cfg0 c where
  A w := A c w
  after w t := match w with
    | ⟨0, _⟩ => acts A c t.val
    | ⟨1, _⟩ => blocks A c t.val
    | ⟨2, _⟩ => log (stEnd (blocks A c)).2.1
    | ⟨3, _⟩ => (stEnd (blocks A c)).2.2
    | ⟨4, _⟩ => tailIdx (tailOf (blocks A c))
    | ⟨5, _⟩ => tailPick (tailOf (blocks A c)) (acts A c 30)
  Φ t := Φ1 A c t.val
  q _ := fullShare
  owed _ := 0

theorem after_2 (c : Dev nD) (t : Fin cfg0.N) : (dat1 A c).after 2 t = log (stEnd (blocks A c)).2.1 := by unfold dat1; exact rfl
theorem after_3 (c : Dev nD) (t : Fin cfg0.N) : (dat1 A c).after 3 t = (stEnd (blocks A c)).2.2 := by unfold dat1; exact rfl
attribute [local irreducible] tailIdx tailPick in
theorem after_4 (c : Dev nD) (t : Fin cfg0.N) : (dat1 A c).after 4 t = tailIdx (tailOf (blocks A c)) := by unfold dat1; exact rfl
attribute [local irreducible] tailIdx tailPick in
theorem after_5 (c : Dev nD) (t : Fin cfg0.N) : (dat1 A c).after 5 t = tailPick (tailOf (blocks A c)) (acts A c 30) := by unfold dat1; exact rfl

theorem lanesT_apply (y : S64x17408.Idx) : lanesT y = BitVec.ofNat 32 (y 1).val := by
  unfold lanesT
  rw [WordCmp.iota_at]
  simp only [List.foldl_cons, List.foldl_nil, Nat.zero_mul, Nat.zero_add]

theorem maskT_apply (x : FVec F S64x17408 .f32) (y : S64x17408.Idx) :
    maskT x y = if (y 1).val < 16960 then x y else Scalar.ofBits .f32 0xFF800000#32 := by
  have hy : (y 1).val < 17408 := (y 1).isLt
  unfold maskT
  rw [WordCmp.select_at, WordCmp.cmpi_at, lanesT_apply, WordCmp.broadcast_at, WordCmp.broadcast_at, WordCmp.cmpi_slt_ofNat (by omega) (by omega), WordCmp.select_decide]

theorem before_acts (c : Dev nD) (t : Fin cfg0.N) (d) : (dat1 A c).before 0 t d = acts A c t.val := by
  rw [(dat1 A c).before_eq_heldIn 0 rfl (fun _ => rfl) (fun _ _ => rfl) (fun t => by show acts A c t.val = _; unfold acts; rw [dif_pos t.isLt]; rfl) t d]
  unfold acts; rw [dif_pos t.isLt]; rfl

theorem before_block (c : Dev nD) (t : Fin cfg0.N) (d) : (dat1 A c).before 1 t d = (dat1 A c).fetched 1 t d :=
  (dat1 A c).before_fetched 1 t (fetch0_1 t) d

theorem blocks_eq (c : Dev nD) (t : Fin cfg0.N) : ∃ d, blocks A c t.val = (dat1 A c).fetched 1 t d := by
  refine ⟨fun _ => Classical.arbitrary _, ?_⟩
  unfold blocks; rw [dif_pos t.isLt]
  exact Pipeline.heldIn_of_fetch (A c) 1 t (fetch0_1 t)

theorem refill (c : Dev nD) (t : Fin cfg0.N) (d) :
    (win0 1).fill (grid0.coords t) d ((win0 1).cut (grid0.coords t) (blocks A c t.val)) = (dat1 A c).fetched 1 t d := by
  obtain ⟨d', e⟩ := blocks_eq A c t
  rw [e]
  exact congrArg ((win0 1).fill (grid0.coords t) d) ((dat1 A c).cut_fetched 1 t d')

theorem block_fetched (c : Dev nD) (t : Fin cfg0.N) (h : t.val < 30) (d) : (dat1 A c).fetched 1 t d = blocks A c t.val := by
  obtain ⟨d', e⟩ := blocks_eq A c t
  rw [e]
  exact Pipeline.fill_of_clip_none (cfg := cfg0) 1 _ (clip_none t h) _ _ _

theorem xsize_last : ∀ t : Fin grid0.N, t.val = 30 → win0_1.xsize (grid0.coords t) 0 = 64 ∧ win0_1.xsize (grid0.coords t) 1 = 16960 := by decide +kernel

theorem tail_fetched (c : Dev nD) (t : Fin cfg0.N) (h : t.val = 30) (d) : maskT (headT ((dat1 A c).fetched 1 t d)) = tailOf (blocks A c) := by
  obtain ⟨d', e⟩ := blocks_eq A c t
  unfold tailOf
  rw [← h, e]
  funext y
  rw [maskT_apply, maskT_apply]
  by_cases hy : (y 1).val < 16960
  · rw [if_pos hy, if_pos hy]
    have hm : win0_1.moved (grid0.coords t) ((Rect.unit (s := S64x32768) ![0, 0] S64x17408.size inb_S64x32768_S64x17408_0_0).toLoadRect.idx y) = true :=
      (win0_1.moved_iff _ _).mpr fun a => by
        have hx := xsize_last t h
        have h0 : (y 0).val < 64 := (y 0).isLt
        fin_cases a
        · exact lt_of_lt_of_eq (show (0 + 1 * (y 0).val : Nat) < 64 by omega) hx.1.symm
        · exact lt_of_lt_of_eq (show (0 + 1 * (y 1).val : Nat) < 16960 by omega) hx.2.symm
    unfold headT
    show win0_1.fill _ _ _ _ = win0_1.fill _ _ _ _
    unfold Window.fill
    rw [dif_pos hm, dif_pos hm]
  · rw [if_neg hy, if_neg hy]

theorem body_obligation (c : Dev nD) : BodyObligationLoose (dat1 A c) (defs₀ (F := F)) 𝒱₀ () Set.univ := fun t => by
  rw [bigSep_W0, bigSep_W0]
  rw [show (dat1 A c).Φ t.castSucc = Φ1 A c t.val from rfl, show (dat1 A c).Φ t.succ = Φ1 A c (t.val + 1) from rfl,
    show (dat1 A c).owesAt () t.succ = (dat1 A c).owesAt () t.castSucc from rfl]
  have body : defs₀ (F := F) .tc cfg0.body (cfg0.bodyArgs t (cfg0.slots t))
      = prog (st0_0 t) (st0_1 t) (st0_2 t) (st0_3 t) (st0_4 t) (st0_5 t) (Memref.whole cc0_scratch0) (Memref.whole cc0_scratch1)
          (Memref.whole cc0_scratch2) (grid0.coords t) := kernel_eq _ _ _ _ _ _ _ _ _ _ _ _ _ _ _ _ _ _ _
  rw [body]
  by_cases hl : t.val = 30
  · have i2 : idle0 2 (grid0.coords t) = false := by
      show (!(k0_cond3 (grid0.coords t) == 1#1)) = false; rw [(last_iff t).mpr hl]; rfl
    have i3 : idle0 3 (grid0.coords t) = false := i2
    have i4 : idle0 4 (grid0.coords t) = false := i2
    have i5 : idle0 5 (grid0.coords t) = false := i2
    simp only [i2, i3, i4, i5]
    simp only [before_acts, before_block]
    unfold Φ1
    iintro ⟨⟨⟨%a, %ha, Hs⟩, Hw⟩, Ho, ⟨%d0, H0⟩, ⟨%d1, H1⟩, ⟨%d2, H2⟩, ⟨%d3, H3⟩, ⟨%d4, H4⟩, ⟨%d5, H5⟩⟩
    have ha' : a = st (blocks A c) 30 := by
      rw [ha (by omega), hl]; rfl
    subst ha'
    iapply (wp_last c (st0_0 t) (st0_1 t) (st0_2 t) (st0_3 t) (st0_4 t) (st0_5 t) (Memref.whole cc0_scratch0) (Memref.whole cc0_scratch1)
      (Memref.whole cc0_scratch2) (hstage0_0 _) (hstage0_1 _) (hstage0_2 _) (hstage0_3 _) (hstage0_4 _) (hstage0_5 _)
      (Memref.isWhole_whole _) (Memref.isWhole_whole _) (Memref.isWhole_whole _) (grid0.coords t) (mt (first_iff t).mp (by omega)) (mt (full_iff t).mp (by omega))
      ((last_iff t).mpr hl) (acts A c t.val) ((dat1 A c).fetched 1 t d1) (st (blocks A c) 30) _ _ _ _ Set.univ _)
    isplitl [H0]; · iexact H0
    isplitl [H1]; · iexact H1
    isplitl [H2]; · iexact H2
    isplitl [H3]; · iexact H3
    isplitl [H4]; · iexact H4
    isplitl [H5]; · iexact H5
    isplitl [Hs]; · iexact Hs
    rw [tail_fetched A c t hl d1, coords_val t, hl, show stepTail (BitVec.ofNat 32 30) (tailOf (blocks A c)) (st (blocks A c) 30) = stEnd (blocks A c) from rfl]
    iintro ⟨H0, H1, H2, H3, H4, H5, Hs⟩
    isplitl [Hs Hw]
    · isplitl [Hs]
      · iexists _
        isplitr; swap; · iexact Hs
        ipureintro; intro _; rfl
      · iexact Hw
    isplitl [Ho]; · iexact Ho
    isplitl [H0]; · rw [show (dat1 A c).after 0 t = acts A c 30 from congrArg (acts A c) hl]; iexact H0
    isplitl [H1]; · iexists d1; rw [show (dat1 A c).after 1 t = blocks A c t.val from rfl, refill]; iexact H1
    rw [after_2, after_3, after_4, after_5]
    isplitl [H2]; · iexact H2
    isplitl [H3]; · iexact H3
    isplitl [H4]; · iexact H4
    iexact H5
  · have i2 : idle0 2 (grid0.coords t) = true := by
      show (!(k0_cond3 (grid0.coords t) == 1#1)) = true
      have := mt (last_iff t).mp hl
      rw [beq_eq_false_iff_ne.mpr this]; rfl
    have hm : ¬ t.val % 31 = 30 := by have := lt_of_lt_of_eq t.isLt N_0; omega
    have f2 : (win0 2).flush t = false := Bool.eq_false_iff.mpr (mt (flush0_2 t).mp hm)
    have f3 : (win0 3).flush t = false := Bool.eq_false_iff.mpr (mt (flush0_3 t).mp hm)
    have f4 : (win0 4).flush t = false := Bool.eq_false_iff.mpr (mt (flush0_4 t).mp hm)
    have f5 : (win0 5).flush t = false := Bool.eq_false_iff.mpr (mt (flush0_5 t).mp hm)
    have i3 : idle0 3 (grid0.coords t) = true := i2
    have i4 : idle0 4 (grid0.coords t) = true := i2
    have i5 : idle0 5 (grid0.coords t) = true := i2
    simp only [i2, i3, i4, i5, f2, f3, f4, f5]
    simp only [before_acts, before_block]
    have ht : t.val < 30 := by have := lt_of_lt_of_eq t.isLt N_0; omega
    unfold Φ1
    iintro ⟨⟨⟨%a, %ha, Hs⟩, Hw⟩, Ho, ⟨%d0, H0⟩, ⟨%d1, H1⟩, H2, H3, H4, H5⟩
    rw [block_fetched A c t ht d1]
    by_cases h0 : t.val = 0
    · iapply (wp_first c (st0_0 t) (st0_1 t) (st0_2 t) (st0_3 t) (st0_4 t) (st0_5 t) (Memref.whole cc0_scratch0) (Memref.whole cc0_scratch1)
        (Memref.whole cc0_scratch2) (hstage0_1 _) (Memref.isWhole_whole _) (Memref.isWhole_whole _) (Memref.isWhole_whole _) (grid0.coords t) ((first_iff t).mpr h0)
        ((full_iff t).mpr ht) (mt (last_iff t).mp hl) (blocks A c t.val) a Set.univ _)
      isplitl [H1]; · iexact H1
      isplitl [Hs]; · iexact Hs
      iintro ⟨H1, Hs⟩
      isplitl [Hs Hw]
      · isplitl [Hs]
        · iexists _
          isplitr; swap; · iexact Hs
          ipureintro; intro _
          rw [coords_val t, h0]; rfl
        · iexact Hw
      isplitl [Ho]; · iexact Ho
      isplitl [H0]; · iexact H0
      isplitl [H1]; · iexists d1; rw [show (dat1 A c).after 1 t = blocks A c t.val from rfl, refill, block_fetched A c t ht d1]; iexact H1
      isplitl [H2]; · iexact H2
      isplitl [H3]; · iexact H3
      isplitl [H4]; · iexact H4
      iexact H5
    · iapply (wp_mid c (st0_0 t) (st0_1 t) (st0_2 t) (st0_3 t) (st0_4 t) (st0_5 t) (Memref.whole cc0_scratch0) (Memref.whole cc0_scratch1)
        (Memref.whole cc0_scratch2) (hstage0_1 _) (Memref.isWhole_whole _) (Memref.isWhole_whole _) (Memref.isWhole_whole _) (grid0.coords t) (mt (first_iff t).mp h0)
        ((full_iff t).mpr ht) (mt (last_iff t).mp hl) (blocks A c t.val) a Set.univ _)
      isplitl [H1]; · iexact H1
      isplitl [Hs]; · iexact Hs
      iintro ⟨H1, Hs⟩
      isplitl [Hs Hw]
      · isplitl [Hs]
        · iexists _
          isplitr; swap; · iexact Hs
          ipureintro; intro _
          rw [coords_val t, ha h0]; unfold stAt; rw [if_pos (by omega), if_pos (by omega)]; rfl
        · iexact Hw
      isplitl [Ho]; · iexact Ho
      isplitl [H0]; · iexact H0
      isplitl [H1]; · iexists d1; rw [show (dat1 A c).after 1 t = blocks A c t.val from rfl, refill, block_fetched A c t ht d1]; iexact H1
      isplitl [H2]; · iexact H2
      isplitl [H3]; · iexact H3
      isplitl [H4]; · iexact H4
      iexact H5

end Cert.KernelIdeal.Pass1
-- ==== Proof.Ideal.Pass2Loop.lean ====
/- The second kernel call, written as four loops over the 64 batch rows: fetch the winning tile of each row,
   fetch the 128 lanes around each row's action, wait for the first fetches, compute the mode, wait for the
   second ones, compute the log-probability. The printed call lists the 64 rows one after another; that it is
   this program is checked by unfolding. -/
module

public import proofs.«01_k».proof.Proof.Gen.KernelIdeal.Skeleton
public import Idealize.ShloMosaic.Lib.Pipeline.Regions

@[expose] public section

set_option maxRecDepth 16384

noncomputable section

namespace Cert.KernelIdeal.Pass2

open Idealize.ShloMosaic Idealize.SL.Sem
open Cert.KernelIdeal Cert.KernelIdeal.Gen

variable {F : FTy → Type} [FloatOps F]

/-! ## Where row `r` fetches from -/

/-- The offsets of the winning tile of row `r`: its group of eight rows, and the tile (or the last one). -/
def offJ (r : Nat) (v : BitVec 32) : Fin 2 → Nat :=
  ![8 * (r / 8), (Scalar.muli (Scalar.minsi v 959#32) 1024#32).toNat]

/-- The offsets of the 128 lanes around row `r`'s action. -/
def offA (r : Nat) (v : BitVec 32) : Fin 2 → Nat :=
  let c0_i32_319 : BitVec 32 := 0#32
  let v386 : BitVec 1 := Scalar.cmpi .sgt v c0_i32_319
  let v387 : BitVec 32 := Scalar.extui v386
  let c0_i32_320 : BitVec 32 := 0#32
  let v388 : BitVec 1 := Scalar.cmpi .slt v c0_i32_320
  let v389 : BitVec 32 := Scalar.extui v388
  let v390 : BitVec 32 := Scalar.subi v387 v389
  let c128_i32 : BitVec 32 := 128#32
  let c0_i32_321 : BitVec 32 := 0#32
  let v391 : BitVec 1 := Scalar.cmpi .sgt c128_i32 c0_i32_321
  let v392 : BitVec 32 := Scalar.extui v391
  let c0_i32_322 : BitVec 32 := 0#32
  let v393 : BitVec 1 := Scalar.cmpi .slt c128_i32 c0_i32_322
  let v394 : BitVec 32 := Scalar.extui v393
  let v395 : BitVec 32 := Scalar.subi v392 v394
  let v396 : BitVec 1 := Scalar.cmpi .ne v390 v395
  let v397 : BitVec 32 := Scalar.remsi v c128_i32
  let c0_i32_323 : BitVec 32 := 0#32
  let v398 : BitVec 1 := Scalar.cmpi .ne v397 c0_i32_323
  let v399 : BitVec 1 := Scalar.andi v396 v398
  let v385 : BitVec 32 := Scalar.divsi v c128_i32
  let c1_i32_324 : BitVec 32 := 1#32
  let v400 : BitVec 32 := Scalar.subi v385 c1_i32_324
  let v401 : BitVec 32 := Scalar.select v399 v400 v385
  let c128_i32_325 : BitVec 32 := 128#32
  let v402 : BitVec 32 := Scalar.muli v401 c128_i32_325
  let c982912_i32 : BitVec 32 := 982912#32
  let v403 : BitVec 32 := Scalar.minsi v402 c982912_i32
  ![8 * (r / 8), v403.toNat]

/-- The winning tile lies inside the logits (asked for once by the fetch, once by the wait). -/
def chkJ (r : Nat) (v : BitVec 32) : Prop :=
  (∀ a, offJ r v a + S8x1024.size a ≤ S64x1000000.size a) ∧
  (∀ a, offJ r v a + S8x1024.size a ≤ S64x1000000.size a)
instance chkJ.dec (r : Nat) (v : BitVec 32) : Decidable (chkJ r v) := decidable_of_iff' _ (Iff.of_eq (chkJ.eq_1 r v))

/-- The 128 lanes around the action lie inside the logits. -/
def inA (r : Nat) (v : BitVec 32) : Prop := ∀ a, offA r v a + S8x128.size a ≤ S64x1000000.size a
/-- The same, as the program asks for it: once by the fetch and once by the wait, of the last row once. -/
def chkA : Bool → Nat → BitVec 32 → Prop
  | true, r, v => ∀ a, offA r v a + S8x128.size a ≤ S64x1000000.size a
  | false, r, v => (∀ a, offA r v a + S8x128.size a ≤ S64x1000000.size a) ∧
      (∀ a, offA r v a + S8x128.size a ≤ S64x1000000.size a)
instance chkA.dec : (l : Bool) → (r : Nat) → (v : BitVec 32) → Decidable (chkA l r v)
  | true, r, v => decidable_of_iff' (∀ a, offA r v a + S8x128.size a ≤ S64x1000000.size a) Iff.rfl
  | false, r, v => decidable_of_iff' ((∀ a, offA r v a + S8x128.size a ≤ S64x1000000.size a) ∧
      (∀ a, offA r v a + S8x128.size a ≤ S64x1000000.size a)) Iff.rfl
theorem chkA.inA : {l : Bool} → {r : Nat} → {v : BitVec 32} → chkA l r v → inA r v
  | true, _, _, h => h
  | false, _, _, h => h.1
theorem inA.chk : {r : Nat} → {v : BitVec 32} → inA r v → (l : Bool) → chkA l r v
  | _, _, h, true => h
  | _, _, h, false => ⟨h, h⟩

theorem inbS (r : Nat) (h : r < 64) : ∀ a, (![r] : Fin 1 → Nat) a + S1.size a ≤ S64.size a := by
  intro a; fin_cases a; exact h
theorem inbJ (r : Nat) (h : r < 64) : ∀ a, (![r, 0, 0] : Fin 3 → Nat) a + S1x8x1024.size a ≤ S64x8x1024.size a := by
  intro a; fin_cases a
  · exact h
  · exact Nat.le_refl 8
  · exact Nat.le_refl 1024
theorem inbA (r : Nat) (h : r < 64) : ∀ a, (![r, 0, 0] : Fin 3 → Nat) a + S1x8x128.size a ≤ S64x8x128.size a := by
  intro a; fin_cases a
  · exact h
  · exact Nat.le_refl 8
  · exact Nat.le_refl 128

/-! ## One row -/

/-- Row `r` of the buffer of winning tiles. -/
abbrev dstJ (arg11 : Memref sig .tc .vmem S64x8x1024 .f32) (r : Nat) (h : r < 64) : Memref sig .tc .vmem S8x1024 .f32 :=
  (arg11.slice (Rect.unit (s := S64x8x1024) ![r, 0, 0] S1x8x1024.size (inbJ r h)) (fun _ => rfl)).squeeze
    S8x1024 squeezes_S1x8x1024_S8x1024
/-- Row `r` of the buffer of lanes around the actions. -/
abbrev dstA (arg12 : Memref sig .tc .vmem S64x8x128 .f32) (r : Nat) (h : r < 64) : Memref sig .tc .vmem S8x128 .f32 :=
  (arg12.slice (Rect.unit (s := S64x8x128) ![r, 0, 0] S1x8x128.size (inbA r h)) (fun _ => rfl)).squeeze
    S8x128 squeezes_S1x8x128_S8x128
/-- The winning tile of row `r` in the logits. -/
abbrev srcJ (arg3 : Memref sig .tc .hbm S64x1000000 .f32) (r : Nat) (v : BitVec 32) (hv : chkJ r v) :
    Memref sig .tc .hbm S8x1024 .f32 :=
  arg3.slice (Rect.unit (s := S64x1000000) (offJ r v) S8x1024.size hv.1) (fun _ => rfl)
/-- The lanes around row `r`'s action in the logits. -/
abbrev srcA (arg3 : Memref sig .tc .hbm S64x1000000 .f32) (r : Nat) (v : BitVec 32) (hv : inA r v) :
    Memref sig .tc .hbm S8x128 .f32 :=
  arg3.slice (Rect.unit (s := S64x1000000) (offA r v) S8x128.size hv) (fun _ => rfl)

/-- The fetch of row `r`'s winning tile, returning the tile number read. -/
def startJ (arg1 : Memref sig .tc .smem S64 .i32) (arg3 : Memref sig .tc .hbm S64x1000000 .f32)
    (arg11 : Memref sig .tc .vmem S64x8x1024 .f32) (sem : DmaSem sig) (r : Nat) (h : r < 64) :
    Prog (TpuEff nD τ sig (Elt F) Λ₀ .tc) (Σ' (v : BitVec 32), chkJ r v) := do
  let v : Elt F .i32 ← smemLoad arg1 (Rect.unit (s := S64) ![r] S1.size (inbS r h)) numel1_S1 rfl
  have hv : chkJ r v := (← Prog.lift (TpuEff.assume (chkJ r v) (chkJ.dec r v))).down
  Prog.lift (.enqueueDma (srcJ arg3 r v hv) (.here (dstJ arg11 r h)) (.dma sem) (View.wordExact_bits rfl)
    ((View.wordExact_bits rfl).reshape _ _) ⟨Or.inl rfl, trivial⟩)
  pure ⟨v, hv⟩

/-- The fetch of the lanes around row `r`'s action, returning the action read. -/
def startA (arg2 : Memref sig .tc .smem S64 .i32) (arg3 : Memref sig .tc .hbm S64x1000000 .f32)
    (arg12 : Memref sig .tc .vmem S64x8x128 .f32) (sem : DmaSem sig) (r : Nat) (h : r < 64) :
    Prog (TpuEff nD τ sig (Elt F) Λ₀ .tc) (Σ' (v : BitVec 32), inA r v) := do
  let v : Elt F .i32 ← smemLoad arg2 (Rect.unit (s := S64) ![r] S1.size (inbS r h)) numel1_S1 rfl
  have hv : inA r v := (← Prog.lift (TpuEff.assume (chkA (Nat.beq r 63) r v) (chkA.dec (Nat.beq r 63) r v))).down.inA
  Prog.lift (.enqueueDma (srcA arg3 r v hv) (.here (dstA arg12 r h)) (.dma sem) (View.wordExact_bits rfl)
    ((View.wordExact_bits rfl).reshape _ _) ⟨Or.inl rfl, trivial⟩)
  pure ⟨v, hv⟩

/-! ## The loops -/

/-- Run `f 0`, …, `f (n-1)` and collect the words read with what was checked of them. -/
def starts {C : Nat → BitVec 32 → Prop} (f : (r : Nat) → r < 64 → Prog (TpuEff nD τ sig (Elt F) Λ₀ .tc) (Σ' (v : BitVec 32), C r v)) :
    (n : Nat) → n ≤ 64 → Prog (TpuEff nD τ sig (Elt F) Λ₀ .tc) (Σ' (v : Nat → BitVec 32), ∀ r, r < n → C r (v r))
  | 0, _ => pure ⟨fun _ => 0#32, fun r h => absurd h (Nat.not_lt_zero r)⟩
  | n + 1, h => do
    let g ← starts f n (Nat.le_of_succ_le h)
    let a ← f n h
    pure ⟨fun r => if r = n then a.1 else g.1 r, fun r hr => by
      by_cases e : r = n
      · subst e; show C r (if r = r then a.1 else g.1 r); rw [if_pos rfl]; exact a.2
      · show C r (if r = n then a.1 else g.1 r); rw [if_neg e]; exact g.2 r (by omega)⟩

/-- Run `f 0`, …, `f (n-1)`. -/
def waits (f : (r : Nat) → r < 64 → Prog (TpuEff nD τ sig (Elt F) Λ₀ .tc) PUnit) :
    (n : Nat) → n ≤ 64 → Prog (TpuEff nD τ sig (Elt F) Λ₀ .tc) PUnit
  | 0, _ => pure ⟨⟩
  | n + 1, h => do
    waits f n (Nat.le_of_succ_le h)
    f n h

/-- The mode: the tile's first lane attaining the row's maximum, or the tail's. -/
def modePart (arg4 arg5 arg10 : Memref sig .tc .vmem S64x1 .i32) (arg11 : Memref sig .tc .vmem S64x8x1024 .f32) :
    Prog (TpuEff nD τ sig (Elt F) Λ₀ .tc) PUnit := do
  let v2067 : Vec F S64x8x1024 .f32 ← Prog.lift (.load arg11 (Rect.unit (s := S64x8x1024) ![0, 0, 0] S64x8x1024.size inb_S64x8x1024_S64x8x1024_0_0_0).toLoadRect (View.loadsAt_vmem h_S64x8x1024))
  let v2080 : Vec F S64x1 .i32 ← Prog.lift (.load arg4 (Rect.unit (s := S64x1) ![0, 0] S64x1.size inb_S64x1_S64x1_0_0).toLoadRect (View.loadsAt_vmem h_S64x1))
  let v2084 : Vec F S64x1 .i32 ← Prog.lift (.load arg5 (Rect.unit (s := S64x1) ![0, 0] S64x1.size inb_S64x1_S64x1_0_0).toLoadRect (View.loadsAt_vmem h_S64x1))
  let v2090 : Vec F S64x1 .i32 ← Prog.lift (.load arg10 (Rect.unit (s := S64x1) ![0, 0] S64x1.size inb_S64x1_S64x1_0_0).toLoadRect (View.loadsAt_vmem h_S64x1))
  Prog.lift (.store arg10 (Rect.unit (s := S64x1) ![0, 0] S64x1.size inb_S64x1_S64x1_0_0) (k1_pay4 (k1_pay2 v2067) (k1_pay3 v2080) 960#32 v2084) Finset.univ (View.stores_vmem_bits_univ h_S64x1 rfl) (.inl rfl))

/-- The mask of the action's own lane. -/
def maskA (v2283 : Vec F S64x1 .i32) : IVec S64x8x128 1 :=
  k1_pay8 v2283 128#32 (k1_pay5 v2283) (k1_pay6 v2283) (k1_pay7 v2283)

/-- The log-probability: the action's logit, from the fetched lanes or from the tail, less the row's `logz`. -/
def lpPart (arg6 arg7 : Memref sig .tc .vmem S64x1 .f32) (arg8 : Memref sig .tc .vmem S64x1 .i32)
    (arg9 : Memref sig .tc .vmem S64x1 .f32) (arg12 : Memref sig .tc .vmem S64x8x128 .f32) :
    Prog (TpuEff nD τ sig (Elt F) Λ₀ .tc) PUnit := do
  let v2283 : Vec F S64x1 .i32 ← Prog.lift (.load arg8 (Rect.unit (s := S64x1) ![0, 0] S64x1.size inb_S64x1_S64x1_0_0).toLoadRect (View.loadsAt_vmem h_S64x1))
  let v2337 : Vec F S64x8x128 .f32 ← Prog.lift (.load arg12 (Rect.unit (s := S64x8x128) ![0, 0, 0] S64x8x128.size inb_S64x8x128_S64x8x128_0_0_0).toLoadRect (View.loadsAt_vmem h_S64x8x128))
  let v2345 : Vec F S64x1 .f32 ← Prog.lift (.load arg6 (Rect.unit (s := S64x1) ![0, 0] S64x1.size inb_S64x1_S64x1_0_0).toLoadRect (View.loadsAt_vmem h_S64x1))
  let v2348 : Vec F S64x1 .f32 ← Prog.lift (.load arg7 (Rect.unit (s := S64x1) ![0, 0] S64x1.size inb_S64x1_S64x1_0_0).toLoadRect (View.loadsAt_vmem h_S64x1))
  let v2351 : Vec F S64x1 .f32 ← Prog.lift (.load arg9 (Rect.unit (s := S64x1) ![0, 0] S64x1.size inb_S64x1_S64x1_0_0).toLoadRect (View.loadsAt_vmem h_S64x1))
  Prog.lift (.store arg9 (Rect.unit (s := S64x1) ![0, 0] S64x1.size inb_S64x1_S64x1_0_0) (k1_pay1 v2283 (maskA v2283) v2337 v2345 v2348) Finset.univ (View.stores_vmem_bits_univ h_S64x1 rfl) (.inl rfl))

/-- The second call as loops over the rows. -/
def prog (arg1 arg2 : Memref sig .tc .smem S64 .i32) (arg3 : Memref sig .tc .hbm S64x1000000 .f32)
    (arg4 arg5 : Memref sig .tc .vmem S64x1 .i32) (arg6 arg7 : Memref sig .tc .vmem S64x1 .f32)
    (arg8 : Memref sig .tc .vmem S64x1 .i32) (arg9 : Memref sig .tc .vmem S64x1 .f32) (arg10 : Memref sig .tc .vmem S64x1 .i32)
    (arg11 : Memref sig .tc .vmem S64x8x1024 .f32) (arg12 : Memref sig .tc .vmem S64x8x128 .f32) (sem1 sem2 : DmaSem sig) :
    Prog (TpuEff nD τ sig (Elt F) Λ₀ .tc) PUnit := do
  let vj ← starts (C := chkJ) (startJ arg1 arg3 arg11 sem1) 64 (Nat.le_refl 64)
  let va ← starts (C := inA) (startA arg2 arg3 arg12 sem2) 64 (Nat.le_refl 64)
  waits (fun r h => Prog.lift (.waitDma2 sem1 (srcJ arg3 r (vj.1 r) (vj.2 r h)) (dstJ arg11 r h)
    (View.wordExact_bits rfl) ((View.wordExact_bits rfl).reshape _ _))) 64 (Nat.le_refl 64)
  modePart arg4 arg5 arg10 arg11
  waits (fun r h => Prog.lift (.waitDma2 sem2 (srcA arg3 r (va.1 r) (va.2 r h)) (dstA arg12 r h)
    (View.wordExact_bits rfl) ((View.wordExact_bits rfl).reshape _ _))) 64 (Nat.le_refl 64)
  lpPart arg6 arg7 arg8 arg9 arg12

/-- The printed second call is the four loops. -/
theorem kernel_eq (i : grid1.Coords) (arg1 : Memref sig .tc .smem S64 .i32) (harg1 : arg1.IsWhole) (arg2 : Memref sig .tc .smem S64 .i32) (harg2 : arg2.IsWhole) (arg3 : Memref sig .tc .hbm S64x1000000 .f32) (harg3 : arg3.IsWhole) (arg4 : Memref sig .tc .vmem S64x1 .i32) (harg4 : arg4.IsWhole) (arg5 : Memref sig .tc .vmem S64x1 .i32) (harg5 : arg5.IsWhole) (arg6 : Memref sig .tc .vmem S64x1 .f32) (harg6 : arg6.IsWhole) (arg7 : Memref sig .tc .vmem S64x1 .f32) (harg7 : arg7.IsWhole) (arg8 : Memref sig .tc .vmem S64x1 .i32) (harg8 : arg8.IsWhole) (arg9 : Memref sig .tc .vmem S64x1 .f32) (harg9 : arg9.IsWhole) (arg10 : Memref sig .tc .vmem S64x1 .i32) (harg10 : arg10.IsWhole) (arg11 : Memref sig .tc .vmem S64x8x1024 .f32) (harg11 : arg11.IsWhole) (arg12 : Memref sig .tc .vmem S64x8x128 .f32) (harg12 : arg12.IsWhole) (arg13 : DmaSems sig S_) (arg14 : DmaSems sig S_) :
    cc1__pass2_kernel (F := F) i arg1 harg1 arg2 harg2 arg3 harg3 arg4 harg4 arg5 harg5 arg6 harg6 arg7 harg7 arg8 harg8
      arg9 harg9 arg10 harg10 arg11 harg11 arg12 harg12 arg13 arg14 =
    prog arg1 arg2 arg3 arg4 arg5 arg6 arg7 arg8 arg9 arg10 arg11 arg12 arg13.sem arg14.sem := by chain_rfl

end Cert.KernelIdeal.Pass2
-- ==== Proof.Ideal.Pass2FetchJ.lean ====
/- The second call's fetches of the winning tiles: 64 transfers on one semaphore, started row by row and waited for
   row by row; after the last wait the scratch buffer holds, at row `r`, the tile the table names for row `r`. -/
module

public import proofs.«01_k».proof.Proof.Ideal.Common
public import proofs.«01_k».proof.Proof.Ideal.Pass2Loop
public import Idealize.ShloMosaic.Lib.Batch
public import Idealize.ShloMosaic.Lib.Ring
public import Idealize.ShloMosaic.Lib.ValueLayout

@[expose] public section

set_option maxRecDepth 16384

noncomputable section

namespace Cert.KernelIdeal.Pass2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.KernelIdeal.Run

variable {F : FTy → Type} [FloatOps F]

/-! ## Loops -/

/-- A loop of starts, by what holds before each. -/
theorem wp_starts (c : Dev nD) {C : Nat → BitVec 32 → Prop}
    (f : (r : Nat) → r < 64 → Prog (TpuEff nD τ sig (Elt F) Λ₀ .tc) (Σ' (v : BitVec 32), C r v)) (Inv : Nat → sProp (MM F))
    (step : ∀ (r : Nat) (h : r < 64) (Q : (Σ' (v : BitVec 32), C r v) → sProp (MM F)),
      iprop(Inv r ∗ (∀ a, Inv (r + 1) -∗ Q a)) ⊢ wp frame (wpE (defs₀ (F := F)) 𝒱₀ c none) Set.univ (f r h) Q) :
    ∀ (n : Nat) (h : n ≤ 64) (Q : (Σ' (v : Nat → BitVec 32), ∀ r, r < n → C r (v r)) → sProp (MM F)),
      iprop(Inv 0 ∗ (∀ a, Inv n -∗ Q a)) ⊢ wp frame (wpE (defs₀ (F := F)) 𝒱₀ c none) Set.univ (starts f n h) Q
  | 0, h, Q => by
    unfold starts
    simp only [wp_pure]
    iintro ⟨HI, Hk⟩
    imodintro
    iapply Hk
    iexact HI
  | n + 1, h, Q => by
    unfold starts
    simp only [wp_bind, wp_pure]
    iintro ⟨HI, Hk⟩
    iapply (wp_starts c f Inv step n (Nat.le_of_succ_le h) _)
    isplitl [HI]; · iexact HI
    iintro %g HI
    iapply (step n h _)
    isplitl [HI]; · iexact HI
    iintro %a HI
    imodintro
    iapply Hk
    iexact HI

/-- A loop of waits, likewise. -/
theorem wp_waits (c : Dev nD) (f : (r : Nat) → r < 64 → Prog (TpuEff nD τ sig (Elt F) Λ₀ .tc) PUnit) (Inv : Nat → sProp (MM F))
    (step : ∀ (r : Nat) (h : r < 64) (Q : PUnit → sProp (MM F)),
      iprop(Inv r ∗ (Inv (r + 1) -∗ Q ⟨⟩)) ⊢ wp frame (wpE (defs₀ (F := F)) 𝒱₀ c none) Set.univ (f r h) Q) :
    ∀ (n : Nat) (h : n ≤ 64) (Q : PUnit → sProp (MM F)),
      iprop(Inv 0 ∗ (Inv n -∗ Q ⟨⟩)) ⊢ wp frame (wpE (defs₀ (F := F)) 𝒱₀ c none) Set.univ (waits f n h) Q
  | 0, h, Q => by
    unfold waits
    simp only [wp_pure]
    iintro ⟨HI, Hk⟩
    imodintro
    iapply Hk
    iexact HI
  | n + 1, h, Q => by
    unfold waits
    simp only [wp_bind]
    iintro ⟨HI, Hk⟩
    iapply (wp_waits c f Inv step n (Nat.le_of_succ_le h) _)
    isplitl [HI]; · iexact HI
    iintro HI
    iapply (step n h _)
    isplitl [HI]; · iexact HI
    iexact Hk

/-! ## One start -/

section J

variable (c : Dev nD) (arg1 : Memref sig .tc .smem S64 .i32) (sem : DmaSem sig)

/-- The logits, and the buffer of the winning tiles. -/
abbrev logitsRef : Memref sig .tc .hbm S64x1000000 .f32 := Memref.whole main_arg0
abbrev tilesRef : Memref sig .tc .vmem S64x8x1024 .f32 := Memref.whole cc1_scratch0

/-- The table's word for row `r`. -/
def wordAt (f1 : Buf (Elt F) (arg1.view.loc (c : Thread nD τ))) (r : Nat) (h : r < 64) : BitVec 32 :=
  arg1.view.read (Elt F) f1 (Idealize.ShloMosaic.ValueIdx.ix1 ⟨r, h⟩)

variable (f1 : Buf (Elt F) (arg1.view.loc (c : Thread nD τ))) (hT : ∀ r h, chkJ r (wordAt c arg1 f1 r h))
  (q : PosShare TreeShare) (fs : FVec F S64x1000000 .f32) (fd : FVec F S64x8x1024 .f32)

abbrev srcAt (r : Fin 64) : Memref sig .tc .hbm S8x1024 .f32 := srcJ logitsRef r.val (wordAt c arg1 f1 r.val r.isLt) (hT r.val r.isLt)
abbrev dstAt (r : Fin 64) : Memref sig .tc .vmem S8x1024 .f32 := dstJ tilesRef r.val r.isLt

/-- The units one transfer adds to the semaphore. -/
def unitJ : Nat := (dstAt 0).view.amount (.dma sem)

/-- Row `r`'s source and destination before the transfer, and after it. -/
def rowJ (r : Fin 64) : sProp (MM F) :=
  iprop(((srcAt c arg1 f1 hT r).view.loc (c : Thread nD τ) ↦[(srcAt c arg1 f1 hT r).view.set]{Transfers.shareTok q 64 r} fs)
    ∗ ((dstAt r).view.loc (c : Thread nD τ) ↦[(dstAt r).view.set]{fullShare} fd))
def gotJ (r : Fin 64) : sProp (MM F) :=
  iprop(((dstAt r).view.loc (c : Thread nD τ) ↦[(dstAt r).view.set]{fullShare}
      ((dstAt r).view.write (Elt F) fd ((srcAt c arg1 f1 hT r).view.read (Elt F) fs) Finset.univ))
    ∗ ((srcAt c arg1 f1 hT r).view.loc (c : Thread nD τ) ↦[(srcAt c arg1 f1 hT r).view.set]{Transfers.shareTok q 64 r} fs))

instance (r : Fin 64) : Storable (upEmb : UEmb _ (MM F)) (gotJ c arg1 f1 hT q fs fd r) := by unfold gotJ; infer_instance

/-- The transfers in flight. -/
abbrev batchJ (k u : Nat) : sProp (MM F) :=
  Transfers.Batch (countersEmb (U := UU)) (c : Thread nD τ) (.dma sem) () (unitJ sem) (gotJ c arg1 f1 hT q fs fd) k u

def startInvJ (r : Nat) : sProp (MM F) :=
  iprop((arg1.view.loc (c : Thread nD τ) ↦{fullShare} f1) ∗ batchJ c arg1 sem f1 hT q fs fd r 0
    ∗ bigSep (Transfers.pending r) (rowJ c arg1 f1 hT q fs fd))

theorem word_eq (r : Nat) (h : r < 64) (x) :
    (arg1.access (Rect.unit (s := S64) ![r] S1.size (inbS r h))).read (Elt F) f1 x = wordAt c arg1 f1 r h := by
  show arg1.view.read (Elt F) f1 ((Rect.unit (s := S64) ![r] S1.size (inbS r h)).emb x) = _
  unfold wordAt
  congr 1
  funext a
  fin_cases a
  apply Fin.ext
  show r + 1 * (x 0).val = r
  have : (x 0).val < 1 := (x 0).isLt
  omega

theorem wp_startJ (r : Nat) (h : r < 64) (Q : (Σ' (v : BitVec 32), chkJ r v) → sProp (MM F)) :
    iprop(startInvJ c arg1 sem f1 hT q fs fd r ∗ (∀ a, startInvJ c arg1 sem f1 hT q fs fd (r + 1) -∗ Q a))
      ⊢ wp frame (wpE (defs₀ (F := F)) 𝒱₀ c none) Set.univ (startJ arg1 logitsRef tilesRef sem r h) Q := by
  unfold startJ startInvJ
  rw [Transfers.bigSep_pending_step _ r h]
  simp only [wp_bind]
  iintro ⟨⟨H1, HB, Hr, Hp⟩, Hk⟩
  unfold smemLoad
  iapply (wp_smemLoadElt 𝒱₀ (c : Thread nD τ) none Set.univ (m := arg1) (r := Rect.unit (s := S64) ![r] S1.size (inbS r h)) (f := f1)
    (q := fullShare) (S := Finset.univ) (Finset.subset_univ _)) $$ H1
  iintro H1
  rw [word_eq]
  simp only [wp_ret]
  imodintro
  iapply (wp_assume 𝒱₀ (c : Thread nD τ) none Set.univ (hT r h))
  simp only [wp_ret]
  imodintro
  unfold rowJ
  icases Hr with ⟨Hs, Hd⟩
  iapply (Transfers.wp_dmaBatch (countersEmb (U := UU)) 𝒱₀ (c : Thread nD τ) none (src := srcAt c arg1 f1 hT ⟨r, h⟩) (dst := dstAt ⟨r, h⟩) () (unitJ sem) rfl subset_rfl
    (D := gotJ c arg1 f1 hT q fs fd) (j := r) (u := 0) h (Nat.zero_le _) (by unfold gotJ; exact .rfl)) $$ [Hs Hd HB]
  · isplitl [Hs]; · iexact Hs
    isplitl [Hd]; · iexact Hd
    iexact HB
  iintro HB
  simp only [wp_ret, wp_pure]
  imodintro
  imodintro
  ispecialize Hk $$ %⟨wordAt c arg1 f1 r h, hT r h⟩
  iapply Hk
  isplitl [H1]; · iexact H1
  isplitl [HB]; · iexact HB
  iexact Hp

/-! ## One wait -/

def waitInvJ (r : Nat) : sProp (MM F) :=
  if r < 64 then iprop(batchJ c arg1 sem f1 hT q fs fd 64 (r * unitJ sem) ∗ ∃ W, owes (c : Thread nD τ) 0 W)
  else iprop(bigSep Finset.univ (gotJ c arg1 f1 hT q fs fd) ∗ semVal ((c : Thread nD τ), .dma sem) 0 ∗ ∃ W, owes (c : Thread nD τ) 0 W)

theorem unitJ_pos : 0 < unitJ sem := by
  show 0 < (dstAt 0).view.dmaCredit
  decide

theorem wp_waitJ (src : Memref sig .tc .hbm S8x1024 .f32) (r : Nat) (h : r < 64) (w1 w2) (Q : PUnit → sProp (MM F)) :
    iprop(waitInvJ c arg1 sem f1 hT q fs fd r ∗ (waitInvJ c arg1 sem f1 hT q fs fd (r + 1) -∗ Q ⟨⟩))
      ⊢ wp frame (wpE (defs₀ (F := F)) 𝒱₀ c none) Set.univ (Prog.lift (.waitDma2 sem src (dstJ tilesRef r h) w1 w2)) Q := by
  unfold waitInvJ
  rw [if_pos h]
  iintro ⟨⟨HB, ⟨%W, HO⟩⟩, Hk⟩
  by_cases hl : r = 63
  · rw [if_neg (by omega)]
    iapply (Transfers.wp_waitBatchLast (countersEmb (U := UU)) 𝒱₀ (c : Thread nD τ) none (srcw := src) (dstw := dstJ tilesRef r h) (hsrc := w1) (hdst := w2) () (N := unitJ sem) rfl (unitJ_pos sem) (D := gotJ c arg1 f1 hT q fs fd)
      (u := r * unitJ sem) (by subst hl; rw [← Nat.succ_mul, Nat.mul_comm])) $$ [HB HO]
    · isplitl [HB] <;> iassumption
    iintro ⟨HD, Hv, HO⟩
    simp only [wp_ret]
    imodintro
    iapply Hk
    isplitl [HD]; · iexact HD
    isplitl [Hv]; · iexact Hv
    iexists _; iexact HO
  · rw [if_pos (by omega)]
    iapply (Transfers.wp_waitBatch (countersEmb (U := UU)) 𝒱₀ (c : Thread nD τ) none (srcw := src) (dstw := dstJ tilesRef r h) (hsrc := w1) (hdst := w2) () (N := unitJ sem) rfl (D := gotJ c arg1 f1 hT q fs fd)
      (u := r * unitJ sem) (by
        show r * unitJ sem + unitJ sem < unitJ sem * 64
        rw [← Nat.succ_mul, Nat.mul_comm]; exact Nat.mul_lt_mul_of_pos_left (by omega) (unitJ_pos sem))) $$ [HB HO]
    · isplitl [HB] <;> iassumption
    iintro ⟨HB, HO⟩
    simp only [wp_ret]
    imodintro
    iapply Hk
    isplitl [HB]; · rw [Nat.succ_mul]; iexact HB
    iexists _; iexact HO

/-! ## The buffers as rows, and back -/

theorem bigSep_split {I : Type} (s : Finset I) (Φ Ψ : I → sProp (MM F)) :
    bigSep s (fun i => iprop(Φ i ∗ Ψ i)) = iprop(bigSep s Φ ∗ bigSep s Ψ) := bigSep_sep s Φ Ψ

/-- The tiles the table names. -/
def tilesOf : FVec F S64x8x1024 .f32 := fun i =>
  (srcAt c arg1 f1 hT (i 0)).view.read (Elt F) fs (Idealize.ShloMosaic.ValueIdx.ix2 (n0 := 8) (n1 := 1024) (i 1) (i 2))

/-- What is kept of the logits while the transfers fly. -/
def keepJ : sProp (MM F) :=
  iprop((logitsRef.view.loc (c : Thread nD τ) ↦{Transfers.shareDrop q 64} fs)
    ∗ bigSep Finset.univ fun r : Fin 64 =>
        (logitsRef.view.loc (c : Thread nD τ) ↦[Finset.univ \ (srcAt c arg1 f1 hT r).view.set]{Transfers.shareTok q 64 r} fs))

/-- The rows of the buffer of tiles. -/
abbrev setJ (r : Fin 64) : Finset S64x8x1024.Idx := (Rect.unit (s := S64x8x1024) ![r.val, 0, 0] S1x8x1024.size (inbJ r.val r.isLt)).set

theorem set_dstAt (r : Fin 64) : (dstAt r).view.set = setJ r :=
  (View.set_reshape (v := (tilesRef.slice (Rect.unit (s := S64x8x1024) ![r.val, 0, 0] S1x8x1024.size (inbJ r.val r.isLt)) (fun _ => rfl)).view) _).trans (View.set_slice_whole _ _)

theorem setJ_disjoint : ∀ r r' : Fin 64, r ≠ r' → Disjoint (setJ r) (setJ r') :=
  Ring.lead_disjoint (s := S64x8x1024) 0 1 (fun r : Fin 64 => ![r.val, 0, 0]) S1x8x1024.size (fun r => inbJ r.val r.isLt) (fun b => (Nat.one_mul _).symm) rfl

theorem off_row (r : Nat) (a : Fin 3) (ha : a ≠ 0) : (![r, 0, 0] : Fin 3 → Nat) a = 0 := by
  fin_cases a
  · exact absurd rfl ha
  · rfl
  · rfl
theorem size_row (a : Fin 3) (ha : a ≠ 0) : S1x8x1024.size a = S64x8x1024.size a := by
  fin_cases a
  · exact absurd rfl ha
  · rfl
  · rfl

theorem setJ_cover : Finset.univ.biUnion setJ = Finset.univ :=
  Ring.lead_cover (s := S64x8x1024) 0 1 (fun r : Fin 64 => ![r.val, 0, 0]) S1x8x1024.size (fun r => inbJ r.val r.isLt) (fun b => (Nat.one_mul _).symm)
    (fun b a ha => off_row b.val a ha) rfl (fun a ha => size_row a ha) rfl

theorem rows_in : iprop((logitsRef.view.loc (c : Thread nD τ) ↦{q} fs) ∗ (tilesRef.view.loc (c : Thread nD τ) ↦{fullShare} fd))
    ⊢ iprop(bigSep Finset.univ (rowJ c arg1 f1 hT q fs fd) ∗ keepJ c arg1 f1 hT q fs) := by
  have e1 : (tilesRef.view.loc (c : Thread nD τ) ↦{fullShare} fd : sProp (MM F))
      = bigSep Finset.univ fun r : Fin 64 => ((dstAt r).view.loc (c : Thread nD τ) ↦[(dstAt r).view.set]{fullShare} fd) :=
    (Ring.pointsTo_blocks setJ setJ_disjoint setJ_cover _).trans (bigSep_congr fun r _ => by
      rw [set_dstAt r])
  have e2 : (bigSep Finset.univ fun r : Fin 64 => (logitsRef.view.loc (c : Thread nD τ) ↦{Transfers.shareTok q 64 r} fs : sProp (MM F)))
      ⊢ iprop((bigSep Finset.univ fun r : Fin 64 => ((srcAt c arg1 f1 hT r).view.loc (c : Thread nD τ) ↦[(srcAt c arg1 f1 hT r).view.set]{Transfers.shareTok q 64 r} fs))
        ∗ bigSep Finset.univ fun r : Fin 64 => (logitsRef.view.loc (c : Thread nD τ) ↦[Finset.univ \ (srcAt c arg1 f1 hT r).view.set]{Transfers.shareTok q 64 r} fs)) := by
    rw [← bigSep_split]
    exact bigSep_mono fun r _ => (pointsTo_split_subset (ℓ := logitsRef.view.loc (c : Thread nD τ)) (I := (srcAt c arg1 f1 hT r).view.set) (Finset.subset_univ _)).1
  unfold keepJ rowJ
  rw [e1, bigSep_split]
  iintro ⟨H, Hd⟩
  ihave H := (Transfers.pointsTo_toks_split q 64) $$ H
  icases H with ⟨Hq, Ht⟩
  ihave Ht := e2 $$ Ht
  icases Ht with ⟨Hs, Hr⟩
  isplitl [Hs Hd]
  · isplitl [Hs]; · iexact Hs
    iexact Hd
  isplitl [Hq]; · iexact Hq
  iexact Hr

theorem tilesOf_on (r : Fin 64) (i : S64x8x1024.Idx) (hi : i ∈ setJ r) :
    tilesOf c arg1 f1 hT fs i = (dstAt r).view.write (Elt F) fd ((srcAt c arg1 f1 hT r).view.read (Elt F) fs) Finset.univ i := by
  have h0 := (Rect.mem_set_unit.mp hi) 0
  have hr : i 0 = r := Fin.ext (by
    have h1 : r.val ≤ (i 0).val := h0.1
    have h2 : (i 0).val < r.val + 1 := h0.2
    omega)
  have hz : Shape.reshapeEquiv squeezes_S1x8x1024_S8x1024.numel_eq (Idealize.ShloMosaic.ValueIdx.ix2 (n0 := 8) (n1 := 1024) (i 1) (i 2))
      = Idealize.ShloMosaic.ValueIdx.ix3 (n0 := 1) (n1 := 8) (n2 := 1024) ⟨0, Nat.one_pos⟩ (i 1) (i 2) :=
    Idealize.ShloMosaic.ValueIdx.reshapeEquiv_ix2_1ab _ _ _
  have he : (dstAt r).view.emb (Idealize.ShloMosaic.ValueIdx.ix2 (n0 := 8) (n1 := 1024) (i 1) (i 2)) = i := by
    refine (congrArg (Rect.unit (s := S64x8x1024) ![r.val, 0, 0] S1x8x1024.size (inbJ r.val r.isLt)).emb hz).trans ?_
    funext a
    fin_cases a
    · apply Fin.ext
      show r.val + 1 * 0 = (i 0).val
      rw [hr]; rfl
    · apply Fin.ext
      show 0 + 1 * (i 1).val = (i 1).val
      omega
    · apply Fin.ext
      show 0 + 1 * (i 2).val = (i 2).val
      omega
  have e1 : tilesOf c arg1 f1 hT fs i
      = (srcAt c arg1 f1 hT r).view.read (Elt F) fs (Idealize.ShloMosaic.ValueIdx.ix2 (n0 := 8) (n1 := 1024) (i 1) (i 2)) := by
    subst hr; rfl
  have e2 := congrFun (View.read_write_univ (v := (dstAt r).view) (Val := Elt F) fd ((srcAt c arg1 f1 hT r).view.read (Elt F) fs))
    (Idealize.ShloMosaic.ValueIdx.ix2 (n0 := 8) (n1 := 1024) (i 1) (i 2))
  rw [e1, ← e2]
  show (dstAt r).view.write (Elt F) fd _ Finset.univ ((dstAt r).view.emb _) = _
  rw [he]

theorem rows_out : iprop(bigSep Finset.univ (gotJ c arg1 f1 hT q fs fd) ∗ keepJ c arg1 f1 hT q fs)
    ⊢ iprop((logitsRef.view.loc (c : Thread nD τ) ↦{q} fs) ∗ (tilesRef.view.loc (c : Thread nD τ) ↦{fullShare} tilesOf c arg1 f1 hT fs)) := by
  have e1 : (tilesRef.view.loc (c : Thread nD τ) ↦{fullShare} tilesOf c arg1 f1 hT fs : sProp (MM F))
      = bigSep Finset.univ fun r : Fin 64 => ((dstAt r).view.loc (c : Thread nD τ) ↦[(dstAt r).view.set]{fullShare}
          ((dstAt r).view.write (Elt F) fd ((srcAt c arg1 f1 hT r).view.read (Elt F) fs) Finset.univ)) :=
    (Ring.pointsTo_blocks setJ setJ_disjoint setJ_cover _).trans (bigSep_congr fun r _ => by
      rw [set_dstAt r]
      exact pointsTo_congr fun i hi => (tilesOf_on c arg1 f1 hT fs fd r i hi))
  have e2 : iprop((bigSep Finset.univ fun r : Fin 64 => ((srcAt c arg1 f1 hT r).view.loc (c : Thread nD τ) ↦[(srcAt c arg1 f1 hT r).view.set]{Transfers.shareTok q 64 r} fs : sProp (MM F)))
        ∗ bigSep Finset.univ fun r : Fin 64 => (logitsRef.view.loc (c : Thread nD τ) ↦[Finset.univ \ (srcAt c arg1 f1 hT r).view.set]{Transfers.shareTok q 64 r} fs))
      ⊢ (bigSep Finset.univ fun r : Fin 64 => (logitsRef.view.loc (c : Thread nD τ) ↦{Transfers.shareTok q 64 r} fs : sProp (MM F))) := by
    rw [← bigSep_split]
    exact bigSep_mono fun r _ => (pointsTo_split_subset (ℓ := logitsRef.view.loc (c : Thread nD τ)) (I := (srcAt c arg1 f1 hT r).view.set) (Finset.subset_univ _)).2
  unfold keepJ gotJ
  rw [e1, bigSep_split]
  iintro ⟨⟨Hd, Hs⟩, Hq, Hr⟩
  isplitl [Hs Hq Hr]
  · iapply (Transfers.pointsTo_toks_join q 64)
    isplitl [Hq]; · iexact Hq
    iapply e2
    isplitl [Hs]; · iexact Hs
    iexact Hr
  iexact Hd

end J

end Cert.KernelIdeal.Pass2
-- ==== Proof.Ideal.Pass2FetchA.lean ====
/- The second call's fetches of the lanes around the actions: 64 transfers on one semaphore, started row by row and waited for
   row by row; after the last wait the scratch buffer holds, at row `r`, the 128 lanes around the action the table names for row `r`. -/
module

public import proofs.«01_k».proof.Proof.Ideal.Common
public import proofs.«01_k».proof.Proof.Ideal.Pass2FetchJ
public import Idealize.ShloMosaic.Lib.Batch
public import Idealize.ShloMosaic.Lib.Ring
public import Idealize.ShloMosaic.Lib.ValueLayout

@[expose] public section

set_option maxRecDepth 16384

noncomputable section

namespace Cert.KernelIdeal.Pass2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.KernelIdeal.Run

variable {F : FTy → Type} [FloatOps F]

/-! ## One start -/

section A

variable (c : Dev nD) (arg1 : Memref sig .tc .smem S64 .i32) (sem : DmaSem sig)

/-- The buffer of the lanes around the actions. -/
abbrev lanesRef : Memref sig .tc .vmem S64x8x128 .f32 := Memref.whole cc1_scratch1

variable (f1 : Buf (Elt F) (arg1.view.loc (c : Thread nD τ))) (hT : ∀ r h, inA r (wordAt c arg1 f1 r h))
  (q : PosShare TreeShare) (fs : FVec F S64x1000000 .f32) (fd : FVec F S64x8x128 .f32)

abbrev srcAtA (r : Fin 64) : Memref sig .tc .hbm S8x128 .f32 := srcA logitsRef r.val (wordAt c arg1 f1 r.val r.isLt) (hT r.val r.isLt)
abbrev dstAtA (r : Fin 64) : Memref sig .tc .vmem S8x128 .f32 := dstA lanesRef r.val r.isLt

/-- The units one transfer adds to the semaphore. -/
def unitA : Nat := (dstAtA 0).view.amount (.dma sem)

/-- Row `r`'s source and destination before the transfer, and after it. -/
def rowA (r : Fin 64) : sProp (MM F) :=
  iprop(((srcAtA c arg1 f1 hT r).view.loc (c : Thread nD τ) ↦[(srcAtA c arg1 f1 hT r).view.set]{Transfers.shareTok q 64 r} fs)
    ∗ ((dstAtA r).view.loc (c : Thread nD τ) ↦[(dstAtA r).view.set]{fullShare} fd))
def gotA (r : Fin 64) : sProp (MM F) :=
  iprop(((dstAtA r).view.loc (c : Thread nD τ) ↦[(dstAtA r).view.set]{fullShare}
      ((dstAtA r).view.write (Elt F) fd ((srcAtA c arg1 f1 hT r).view.read (Elt F) fs) Finset.univ))
    ∗ ((srcAtA c arg1 f1 hT r).view.loc (c : Thread nD τ) ↦[(srcAtA c arg1 f1 hT r).view.set]{Transfers.shareTok q 64 r} fs))

instance (r : Fin 64) : Storable (upEmb : UEmb _ (MM F)) (gotA c arg1 f1 hT q fs fd r) := by unfold gotA; infer_instance

/-- The transfers in flight. -/
abbrev batchA (k u : Nat) : sProp (MM F) :=
  Transfers.Batch (countersEmb (U := UU)) (c : Thread nD τ) (.dma sem) () (unitA sem) (gotA c arg1 f1 hT q fs fd) k u

def startInvA (r : Nat) : sProp (MM F) :=
  iprop((arg1.view.loc (c : Thread nD τ) ↦{fullShare} f1) ∗ batchA c arg1 sem f1 hT q fs fd r 0
    ∗ bigSep (Transfers.pending r) (rowA c arg1 f1 hT q fs fd))

theorem wp_startA (r : Nat) (h : r < 64) (Q : (Σ' (v : BitVec 32), inA r v) → sProp (MM F)) :
    iprop(startInvA c arg1 sem f1 hT q fs fd r ∗ (∀ a, startInvA c arg1 sem f1 hT q fs fd (r + 1) -∗ Q a))
      ⊢ wp frame (wpE (defs₀ (F := F)) 𝒱₀ c none) Set.univ (startA arg1 logitsRef lanesRef sem r h) Q := by
  unfold startA startInvA
  rw [Transfers.bigSep_pending_step _ r h]
  simp only [wp_bind]
  iintro ⟨⟨H1, HB, Hr, Hp⟩, Hk⟩
  unfold smemLoad
  iapply (wp_smemLoadElt 𝒱₀ (c : Thread nD τ) none Set.univ (m := arg1) (r := Rect.unit (s := S64) ![r] S1.size (inbS r h)) (f := f1)
    (q := fullShare) (S := Finset.univ) (Finset.subset_univ _)) $$ H1
  iintro H1
  rw [word_eq]
  simp only [wp_ret]
  imodintro
  iapply (wp_assume 𝒱₀ (c : Thread nD τ) none Set.univ ((hT r h).chk (Nat.beq r 63)))
  simp only [wp_ret]
  imodintro
  unfold rowA
  icases Hr with ⟨Hs, Hd⟩
  iapply (Transfers.wp_dmaBatch (countersEmb (U := UU)) 𝒱₀ (c : Thread nD τ) none (src := srcAtA c arg1 f1 hT ⟨r, h⟩) (dst := dstAtA ⟨r, h⟩) () (unitA sem) rfl subset_rfl
    (D := gotA c arg1 f1 hT q fs fd) (j := r) (u := 0) h (Nat.zero_le _) (by unfold gotA; exact .rfl)) $$ [Hs Hd HB]
  · isplitl [Hs]; · iexact Hs
    isplitl [Hd]; · iexact Hd
    iexact HB
  iintro HB
  simp only [wp_ret, wp_pure]
  imodintro
  imodintro
  ispecialize Hk $$ %⟨wordAt c arg1 f1 r h, hT r h⟩
  iapply Hk
  isplitl [H1]; · iexact H1
  isplitl [HB]; · iexact HB
  iexact Hp

/-! ## One wait -/

def waitInvA (r : Nat) : sProp (MM F) :=
  if r < 64 then iprop(batchA c arg1 sem f1 hT q fs fd 64 (r * unitA sem) ∗ ∃ W, owes (c : Thread nD τ) 0 W)
  else iprop(bigSep Finset.univ (gotA c arg1 f1 hT q fs fd) ∗ semVal ((c : Thread nD τ), .dma sem) 0 ∗ ∃ W, owes (c : Thread nD τ) 0 W)

theorem unitA_pos : 0 < unitA sem := by
  show 0 < (dstAtA 0).view.dmaCredit
  decide

theorem wp_waitA (src : Memref sig .tc .hbm S8x128 .f32) (r : Nat) (h : r < 64) (w1 w2) (Q : PUnit → sProp (MM F)) :
    iprop(waitInvA c arg1 sem f1 hT q fs fd r ∗ (waitInvA c arg1 sem f1 hT q fs fd (r + 1) -∗ Q ⟨⟩))
      ⊢ wp frame (wpE (defs₀ (F := F)) 𝒱₀ c none) Set.univ (Prog.lift (.waitDma2 sem src (dstA lanesRef r h) w1 w2)) Q := by
  unfold waitInvA
  rw [if_pos h]
  iintro ⟨⟨HB, ⟨%W, HO⟩⟩, Hk⟩
  by_cases hl : r = 63
  · rw [if_neg (by omega)]
    iapply (Transfers.wp_waitBatchLast (countersEmb (U := UU)) 𝒱₀ (c : Thread nD τ) none (srcw := src) (dstw := dstA lanesRef r h) (hsrc := w1) (hdst := w2) () (N := unitA sem) rfl (unitA_pos sem) (D := gotA c arg1 f1 hT q fs fd)
      (u := r * unitA sem) (by subst hl; rw [← Nat.succ_mul, Nat.mul_comm])) $$ [HB HO]
    · isplitl [HB] <;> iassumption
    iintro ⟨HD, Hv, HO⟩
    simp only [wp_ret]
    imodintro
    iapply Hk
    isplitl [HD]; · iexact HD
    isplitl [Hv]; · iexact Hv
    iexists _; iexact HO
  · rw [if_pos (by omega)]
    iapply (Transfers.wp_waitBatch (countersEmb (U := UU)) 𝒱₀ (c : Thread nD τ) none (srcw := src) (dstw := dstA lanesRef r h) (hsrc := w1) (hdst := w2) () (N := unitA sem) rfl (D := gotA c arg1 f1 hT q fs fd)
      (u := r * unitA sem) (by
        show r * unitA sem + unitA sem < unitA sem * 64
        rw [← Nat.succ_mul, Nat.mul_comm]; exact Nat.mul_lt_mul_of_pos_left (by omega) (unitA_pos sem))) $$ [HB HO]
    · isplitl [HB] <;> iassumption
    iintro ⟨HB, HO⟩
    simp only [wp_ret]
    imodintro
    iapply Hk
    isplitl [HB]; · rw [Nat.succ_mul]; iexact HB
    iexists _; iexact HO

/-! ## The buffers as rows, and back -/

/-- The lanes the table names. -/
def nearOf : FVec F S64x8x128 .f32 := fun i =>
  (srcAtA c arg1 f1 hT (i 0)).view.read (Elt F) fs (Idealize.ShloMosaic.ValueIdx.ix2 (n0 := 8) (n1 := 128) (i 1) (i 2))

/-- What is kept of the logits while the transfers fly. -/
def keepA : sProp (MM F) :=
  iprop((logitsRef.view.loc (c : Thread nD τ) ↦{Transfers.shareDrop q 64} fs)
    ∗ bigSep Finset.univ fun r : Fin 64 =>
        (logitsRef.view.loc (c : Thread nD τ) ↦[Finset.univ \ (srcAtA c arg1 f1 hT r).view.set]{Transfers.shareTok q 64 r} fs))

/-- The rows of the buffer of lanes. -/
abbrev setA (r : Fin 64) : Finset S64x8x128.Idx := (Rect.unit (s := S64x8x128) ![r.val, 0, 0] S1x8x128.size (inbA r.val r.isLt)).set

theorem set_dstAtA (r : Fin 64) : (dstAtA r).view.set = setA r :=
  (View.set_reshape (v := (lanesRef.slice (Rect.unit (s := S64x8x128) ![r.val, 0, 0] S1x8x128.size (inbA r.val r.isLt)) (fun _ => rfl)).view) _).trans (View.set_slice_whole _ _)

theorem setA_disjoint : ∀ r r' : Fin 64, r ≠ r' → Disjoint (setA r) (setA r') :=
  Ring.lead_disjoint (s := S64x8x128) 0 1 (fun r : Fin 64 => ![r.val, 0, 0]) S1x8x128.size (fun r => inbA r.val r.isLt) (fun b => (Nat.one_mul _).symm) rfl

theorem size_rowA (a : Fin 3) (ha : a ≠ 0) : S1x8x128.size a = S64x8x128.size a := by
  fin_cases a
  · exact absurd rfl ha
  · rfl
  · rfl

theorem setA_cover : Finset.univ.biUnion setA = Finset.univ :=
  Ring.lead_cover (s := S64x8x128) 0 1 (fun r : Fin 64 => ![r.val, 0, 0]) S1x8x128.size (fun r => inbA r.val r.isLt) (fun b => (Nat.one_mul _).symm)
    (fun b a ha => off_row b.val a ha) rfl (fun a ha => size_rowA a ha) rfl

theorem rows_inA : iprop((logitsRef.view.loc (c : Thread nD τ) ↦{q} fs) ∗ (lanesRef.view.loc (c : Thread nD τ) ↦{fullShare} fd))
    ⊢ iprop(bigSep Finset.univ (rowA c arg1 f1 hT q fs fd) ∗ keepA c arg1 f1 hT q fs) := by
  have e1 : (lanesRef.view.loc (c : Thread nD τ) ↦{fullShare} fd : sProp (MM F))
      = bigSep Finset.univ fun r : Fin 64 => ((dstAtA r).view.loc (c : Thread nD τ) ↦[(dstAtA r).view.set]{fullShare} fd) :=
    (Ring.pointsTo_blocks setA setA_disjoint setA_cover _).trans (bigSep_congr fun r _ => by
      rw [set_dstAtA r])
  have e2 : (bigSep Finset.univ fun r : Fin 64 => (logitsRef.view.loc (c : Thread nD τ) ↦{Transfers.shareTok q 64 r} fs : sProp (MM F)))
      ⊢ iprop((bigSep Finset.univ fun r : Fin 64 => ((srcAtA c arg1 f1 hT r).view.loc (c : Thread nD τ) ↦[(srcAtA c arg1 f1 hT r).view.set]{Transfers.shareTok q 64 r} fs))
        ∗ bigSep Finset.univ fun r : Fin 64 => (logitsRef.view.loc (c : Thread nD τ) ↦[Finset.univ \ (srcAtA c arg1 f1 hT r).view.set]{Transfers.shareTok q 64 r} fs)) := by
    rw [← bigSep_split]
    exact bigSep_mono fun r _ => (pointsTo_split_subset (ℓ := logitsRef.view.loc (c : Thread nD τ)) (I := (srcAtA c arg1 f1 hT r).view.set) (Finset.subset_univ _)).1
  unfold keepA rowA
  rw [e1, bigSep_split]
  iintro ⟨H, Hd⟩
  ihave H := (Transfers.pointsTo_toks_split q 64) $$ H
  icases H with ⟨Hq, Ht⟩
  ihave Ht := e2 $$ Ht
  icases Ht with ⟨Hs, Hr⟩
  isplitl [Hs Hd]
  · isplitl [Hs]; · iexact Hs
    iexact Hd
  isplitl [Hq]; · iexact Hq
  iexact Hr

theorem nearOf_on (r : Fin 64) (i : S64x8x128.Idx) (hi : i ∈ setA r) :
    nearOf c arg1 f1 hT fs i = (dstAtA r).view.write (Elt F) fd ((srcAtA c arg1 f1 hT r).view.read (Elt F) fs) Finset.univ i := by
  have h0 := (Rect.mem_set_unit.mp hi) 0
  have hr : i 0 = r := Fin.ext (by
    have h1 : r.val ≤ (i 0).val := h0.1
    have h2 : (i 0).val < r.val + 1 := h0.2
    omega)
  have hz : Shape.reshapeEquiv squeezes_S1x8x128_S8x128.numel_eq (Idealize.ShloMosaic.ValueIdx.ix2 (n0 := 8) (n1 := 128) (i 1) (i 2))
      = Idealize.ShloMosaic.ValueIdx.ix3 (n0 := 1) (n1 := 8) (n2 := 128) ⟨0, Nat.one_pos⟩ (i 1) (i 2) :=
    Idealize.ShloMosaic.ValueIdx.reshapeEquiv_ix2_1ab _ _ _
  have he : (dstAtA r).view.emb (Idealize.ShloMosaic.ValueIdx.ix2 (n0 := 8) (n1 := 128) (i 1) (i 2)) = i := by
    refine (congrArg (Rect.unit (s := S64x8x128) ![r.val, 0, 0] S1x8x128.size (inbA r.val r.isLt)).emb hz).trans ?_
    funext a
    fin_cases a
    · apply Fin.ext
      show r.val + 1 * 0 = (i 0).val
      rw [hr]; rfl
    · apply Fin.ext
      show 0 + 1 * (i 1).val = (i 1).val
      omega
    · apply Fin.ext
      show 0 + 1 * (i 2).val = (i 2).val
      omega
  have e1 : nearOf c arg1 f1 hT fs i
      = (srcAtA c arg1 f1 hT r).view.read (Elt F) fs (Idealize.ShloMosaic.ValueIdx.ix2 (n0 := 8) (n1 := 128) (i 1) (i 2)) := by
    subst hr; rfl
  have e2 := congrFun (View.read_write_univ (v := (dstAtA r).view) (Val := Elt F) fd ((srcAtA c arg1 f1 hT r).view.read (Elt F) fs))
    (Idealize.ShloMosaic.ValueIdx.ix2 (n0 := 8) (n1 := 128) (i 1) (i 2))
  rw [e1, ← e2]
  show (dstAtA r).view.write (Elt F) fd _ Finset.univ ((dstAtA r).view.emb _) = _
  rw [he]

theorem rows_outA : iprop(bigSep Finset.univ (gotA c arg1 f1 hT q fs fd) ∗ keepA c arg1 f1 hT q fs)
    ⊢ iprop((logitsRef.view.loc (c : Thread nD τ) ↦{q} fs) ∗ (lanesRef.view.loc (c : Thread nD τ) ↦{fullShare} nearOf c arg1 f1 hT fs)) := by
  have e1 : (lanesRef.view.loc (c : Thread nD τ) ↦{fullShare} nearOf c arg1 f1 hT fs : sProp (MM F))
      = bigSep Finset.univ fun r : Fin 64 => ((dstAtA r).view.loc (c : Thread nD τ) ↦[(dstAtA r).view.set]{fullShare}
          ((dstAtA r).view.write (Elt F) fd ((srcAtA c arg1 f1 hT r).view.read (Elt F) fs) Finset.univ)) :=
    (Ring.pointsTo_blocks setA setA_disjoint setA_cover _).trans (bigSep_congr fun r _ => by
      rw [set_dstAtA r]
      exact pointsTo_congr fun i hi => (nearOf_on c arg1 f1 hT fs fd r i hi))
  have e2 : iprop((bigSep Finset.univ fun r : Fin 64 => ((srcAtA c arg1 f1 hT r).view.loc (c : Thread nD τ) ↦[(srcAtA c arg1 f1 hT r).view.set]{Transfers.shareTok q 64 r} fs : sProp (MM F)))
        ∗ bigSep Finset.univ fun r : Fin 64 => (logitsRef.view.loc (c : Thread nD τ) ↦[Finset.univ \ (srcAtA c arg1 f1 hT r).view.set]{Transfers.shareTok q 64 r} fs))
      ⊢ (bigSep Finset.univ fun r : Fin 64 => (logitsRef.view.loc (c : Thread nD τ) ↦{Transfers.shareTok q 64 r} fs : sProp (MM F))) := by
    rw [← bigSep_split]
    exact bigSep_mono fun r _ => (pointsTo_split_subset (ℓ := logitsRef.view.loc (c : Thread nD τ)) (I := (srcAtA c arg1 f1 hT r).view.set) (Finset.subset_univ _)).2
  unfold keepA gotA
  rw [e1, bigSep_split]
  iintro ⟨⟨Hd, Hs⟩, Hq, Hr⟩
  isplitl [Hs Hq Hr]
  · iapply (Transfers.pointsTo_toks_join q 64)
    isplitl [Hq]; · iexact Hq
    iapply e2
    isplitl [Hs]; · iexact Hs
    iexact Hr
  iexact Hd

end A

end Cert.KernelIdeal.Pass2
-- ==== Proof.Ideal.Pass2Run.lean ====
/- The second call's run: from the tables, the logits and the first call's results, the mode and the log-probability. -/
module

public import proofs.«01_k».proof.Proof.Ideal.Pass2FetchA

@[expose] public section

set_option maxRecDepth 16384

noncomputable section

namespace Cert.KernelIdeal.Pass2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.KernelIdeal.Run

variable {F : FTy → Type} [FloatOps F]

theorem full2 {κ : Kind} {sp : Space} {e : EltTy} (M : Memref sig κ sp S64x1 e) (h) (X : M.view.ty.Contents (Elt F)) :
    M.view.readAt (Elt F) (Rect.unit (s := S64x1) ![0, 0] S64x1.size h).toLoadRect X = M.view.read (Elt F) X :=
  View.readAt_full ..
theorem fullTiles (X : FVec F S64x8x1024 .f32) (h) :
    tilesRef.view.readAt (Elt F) (Rect.unit (s := S64x8x1024) ![0, 0, 0] S64x8x1024.size h).toLoadRect X = X :=
  View.readAt_full ..
theorem fullLanes (X : FVec F S64x8x128 .f32) (h) :
    lanesRef.view.readAt (Elt F) (Rect.unit (s := S64x8x128) ![0, 0, 0] S64x8x128.size h).toLoadRect X = X :=
  View.readAt_full ..

/-- The mode from the tiles, the winners and the tail's columns. -/
def modeOf (x : FVec F S64x8x1024 .f32) (j t : IVec S64x1 32) : IVec S64x1 32 := k1_pay4 (F := F) (k1_pay2 x) (k1_pay3 (F := F) j) 960#32 t
/-- The log-probability from the actions, the lanes around them, the tail's picks and the rows' `logz`. -/
def lpOf (b : IVec S64x1 32) (x : FVec F S64x8x128 .f32) (p z : FVec F S64x1 .f32) : FVec F S64x1 .f32 := k1_pay1 b (maskA (F := F) b) x p z

variable (c : Dev nD) (arg4 arg5 : Memref sig .tc .vmem S64x1 .i32) (arg6 arg7 : Memref sig .tc .vmem S64x1 .f32)
  (arg8 : Memref sig .tc .vmem S64x1 .i32) (arg9 : Memref sig .tc .vmem S64x1 .f32) (arg10 : Memref sig .tc .vmem S64x1 .i32)
  (h4 : arg4.IsWhole) (h5 : arg5.IsWhole) (h6 : arg6.IsWhole) (h7 : arg7.IsWhole) (h8 : arg8.IsWhole) (h9 : arg9.IsWhole) (h10 : arg10.IsWhole)

include h4 h5 h10 in
theorem wp_mode (x : FVec F S64x8x1024 .f32) (j t o : IVec S64x1 32) (Q : PUnit → sProp (MM F)) :
    iprop((tilesRef.view.loc (c : Thread nD τ) ↦{fullShare} x) ∗ has c arg4 j ∗ has c arg5 t ∗ has c arg10 o
      ∗ (iprop((tilesRef.view.loc (c : Thread nD τ) ↦{fullShare} x) ∗ has c arg4 j ∗ has c arg5 t ∗ has c arg10 (modeOf x j t)) -∗ Q ⟨⟩))
      ⊢ wp frame (wpE (defs₀ (F := F)) 𝒱₀ c none) Set.univ (modePart arg4 arg5 arg10 tilesRef) Q := by
  unfold modePart has owns
  iintro ⟨HX, ⟨%f4, %e4, H4⟩, ⟨%f5, %e5, H5⟩, ⟨%f10, %e10, H10⟩, Hk⟩
  sl_exec!
  sl_step
  iapply Hk
  isplitl [HX]; · iexact HX
  isplitl [H4]; · iexists _; isplitr; swap; (· iexact H4); ipureintro; exact e4
  isplitl [H5]; · iexists _; isplitr; swap; (· iexact H5); ipureintro; exact e5
  iexists _; isplitr; swap; (· iexact H10); ipureintro; sl_unfold_words
  exact (View.read_writes_full ..).trans (by rw [full2, full2, fullTiles, e4, e5]; rfl)

include h6 h7 h8 h9 in
theorem wp_lp (x : FVec F S64x8x128 .f32) (b : IVec S64x1 32) (p z o : FVec F S64x1 .f32) (Q : PUnit → sProp (MM F)) :
    iprop((lanesRef.view.loc (c : Thread nD τ) ↦{fullShare} x) ∗ has c arg6 p ∗ has c arg7 z ∗ has c arg8 b ∗ has c arg9 o
      ∗ (iprop((lanesRef.view.loc (c : Thread nD τ) ↦{fullShare} x) ∗ has c arg6 p ∗ has c arg7 z ∗ has c arg8 b ∗ has c arg9 (lpOf b x p z)) -∗ Q ⟨⟩))
      ⊢ wp frame (wpE (defs₀ (F := F)) 𝒱₀ c none) Set.univ (lpPart arg6 arg7 arg8 arg9 lanesRef) Q := by
  unfold lpPart has owns
  iintro ⟨HX, ⟨%f6, %e6, H6⟩, ⟨%f7, %e7, H7⟩, ⟨%f8, %e8, H8⟩, ⟨%f9, %e9, H9⟩, Hk⟩
  sl_exec!
  sl_step
  iapply Hk
  isplitl [HX]; · iexact HX
  isplitl [H6]; · iexists _; isplitr; swap; (· iexact H6); ipureintro; exact e6
  isplitl [H7]; · iexists _; isplitr; swap; (· iexact H7); ipureintro; exact e7
  isplitl [H8]; · iexists _; isplitr; swap; (· iexact H8); ipureintro; exact e8
  iexists _; isplitr; swap; (· iexact H9); ipureintro; sl_unfold_words
  exact (View.read_writes_full ..).trans (by rw [full2, full2, full2, fullLanes, e6, e7, e8]; rfl)

/-! ## The whole call -/

variable (arg1 arg2 : Memref sig .tc .smem S64 .i32) (sem1 sem2 : DmaSem sig)
  (f1 : Buf (Elt F) (arg1.view.loc (c : Thread nD τ))) (f2 : Buf (Elt F) (arg2.view.loc (c : Thread nD τ)))
  (hJ : ∀ r h, chkJ r (wordAt c arg1 f1 r h)) (hA : ∀ r h, inA r (wordAt c arg2 f2 r h)) (fs : FVec F S64x1000000 .f32)

theorem waitInvJ_end (fd : FVec F S64x8x1024 .f32) (q : PosShare TreeShare) : waitInvJ c arg1 sem1 f1 hJ q fs fd 64
    = iprop(bigSep Finset.univ (gotJ c arg1 f1 hJ q fs fd) ∗ semVal ((c : Thread nD τ), .dma sem1) 0 ∗ ∃ W, owes (c : Thread nD τ) 0 W) := by
  unfold waitInvJ; rw [if_neg (Nat.lt_irrefl 64)]

theorem waitInvA_end (fd : FVec F S64x8x128 .f32) (q : PosShare TreeShare) : waitInvA c arg2 sem2 f2 hA q fs fd 64
    = iprop(bigSep Finset.univ (gotA c arg2 f2 hA q fs fd) ∗ semVal ((c : Thread nD τ), .dma sem2) 0 ∗ ∃ W, owes (c : Thread nD τ) 0 W) := by
  unfold waitInvA; rw [if_neg (Nat.lt_irrefl 64)]

attribute [local irreducible] starts waits startInvJ startInvA waitInvJ waitInvA

/-- All the winners' transfers are started. -/
theorem wp_startsJ (fd : FVec F S64x8x1024 .f32) (q : PosShare TreeShare) (Q : (Σ' (v : Nat → BitVec 32), ∀ r, r < 64 → chkJ r (v r)) → sProp (MM F)) :
    iprop(startInvJ c arg1 sem1 f1 hJ q fs fd 0 ∗ (∀ a, startInvJ c arg1 sem1 f1 hJ q fs fd 64 -∗ Q a))
      ⊢ wp frame (wpE (defs₀ (F := F)) 𝒱₀ c none) Set.univ (starts (C := chkJ) (startJ arg1 logitsRef tilesRef sem1) 64 (Nat.le_refl 64)) Q :=
  wp_starts (C := chkJ) c (startJ arg1 logitsRef tilesRef sem1) (startInvJ c arg1 sem1 f1 hJ q fs fd) (wp_startJ c arg1 sem1 f1 hJ q fs fd) 64 (Nat.le_refl 64) Q

/-- All the actions' transfers are started. -/
theorem wp_startsA (fe : FVec F S64x8x128 .f32) (q : PosShare TreeShare) (Q : (Σ' (v : Nat → BitVec 32), ∀ r, r < 64 → inA r (v r)) → sProp (MM F)) :
    iprop(startInvA c arg2 sem2 f2 hA q fs fe 0 ∗ (∀ a, startInvA c arg2 sem2 f2 hA q fs fe 64 -∗ Q a))
      ⊢ wp frame (wpE (defs₀ (F := F)) 𝒱₀ c none) Set.univ (starts (C := inA) (startA arg2 logitsRef lanesRef sem2) 64 (Nat.le_refl 64)) Q :=
  wp_starts (C := inA) c (startA arg2 logitsRef lanesRef sem2) (startInvA c arg2 sem2 f2 hA q fs fe) (wp_startA c arg2 sem2 f2 hA q fs fe) 64 (Nat.le_refl 64) Q

/-- All the winners' transfers are waited for. -/
theorem wp_waitsJ (fd : FVec F S64x8x1024 .f32) (q : PosShare TreeShare) (vj : Σ' (v : Nat → BitVec 32), ∀ r, r < 64 → chkJ r (v r)) (Q : PUnit → sProp (MM F)) :
    iprop(waitInvJ c arg1 sem1 f1 hJ q fs fd 0 ∗ (waitInvJ c arg1 sem1 f1 hJ q fs fd 64 -∗ Q ⟨⟩))
      ⊢ wp frame (wpE (defs₀ (F := F)) 𝒱₀ c none) Set.univ
          (waits (fun r h => Prog.lift (.waitDma2 sem1 (srcJ logitsRef r (vj.1 r) (vj.2 r h)) (dstJ tilesRef r h)
            (View.wordExact_bits rfl) ((View.wordExact_bits rfl).reshape _ _))) 64 (Nat.le_refl 64)) Q :=
  wp_waits c _ (waitInvJ c arg1 sem1 f1 hJ q fs fd)
    (fun r h Q => wp_waitJ c arg1 sem1 f1 hJ q fs fd (srcJ logitsRef r (vj.1 r) (vj.2 r h)) r h (View.wordExact_bits rfl) ((View.wordExact_bits rfl).reshape _ _) Q) 64 (Nat.le_refl 64) Q

/-- All the actions' transfers are waited for. -/
theorem wp_waitsA (fe : FVec F S64x8x128 .f32) (q : PosShare TreeShare) (va : Σ' (v : Nat → BitVec 32), ∀ r, r < 64 → inA r (v r)) (Q : PUnit → sProp (MM F)) :
    iprop(waitInvA c arg2 sem2 f2 hA q fs fe 0 ∗ (waitInvA c arg2 sem2 f2 hA q fs fe 64 -∗ Q ⟨⟩))
      ⊢ wp frame (wpE (defs₀ (F := F)) 𝒱₀ c none) Set.univ
          (waits (fun r h => Prog.lift (.waitDma2 sem2 (srcA logitsRef r (va.1 r) (va.2 r h)) (dstA lanesRef r h)
            (View.wordExact_bits rfl) ((View.wordExact_bits rfl).reshape _ _))) 64 (Nat.le_refl 64)) Q :=
  wp_waits c _ (waitInvA c arg2 sem2 f2 hA q fs fe)
    (fun r h Q => wp_waitA c arg2 sem2 f2 hA q fs fe (srcA logitsRef r (va.1 r) (va.2 r h)) r h (View.wordExact_bits rfl) ((View.wordExact_bits rfl).reshape _ _) Q) 64 (Nat.le_refl 64) Q

include h4 h5 h6 h7 h8 h9 h10 in
/-- The whole second call. -/
theorem wp_prog (fd : FVec F S64x8x1024 .f32) (fe : FVec F S64x8x128 .f32) (j t o10 b : IVec S64x1 32) (p z o9 : FVec F S64x1 .f32)
    (W : Waits sig Unit) (Q : PUnit → sProp (MM F)) :
    iprop((arg1.view.loc (c : Thread nD τ) ↦{fullShare} f1) ∗ (arg2.view.loc (c : Thread nD τ) ↦{fullShare} f2)
      ∗ (logitsRef.view.loc (c : Thread nD τ) ↦{fullShare} fs) ∗ (tilesRef.view.loc (c : Thread nD τ) ↦{fullShare} fd)
      ∗ (lanesRef.view.loc (c : Thread nD τ) ↦{fullShare} fe)
      ∗ semVal ((c : Thread nD τ), .dma sem1) 0 ∗ semVal ((c : Thread nD τ), .dma sem2) 0 ∗ owes (c : Thread nD τ) 0 W
      ∗ has c arg4 j ∗ has c arg5 t ∗ has c arg6 p ∗ has c arg7 z ∗ has c arg8 b ∗ has c arg9 o9 ∗ has c arg10 o10
      ∗ (iprop((arg1.view.loc (c : Thread nD τ) ↦{fullShare} f1) ∗ (arg2.view.loc (c : Thread nD τ) ↦{fullShare} f2)
          ∗ (logitsRef.view.loc (c : Thread nD τ) ↦{fullShare} fs) ∗ (tilesRef.view.loc (c : Thread nD τ) ↦{fullShare} tilesOf c arg1 f1 hJ fs)
          ∗ (lanesRef.view.loc (c : Thread nD τ) ↦{fullShare} nearOf c arg2 f2 hA fs)
          ∗ semVal ((c : Thread nD τ), .dma sem1) 0 ∗ semVal ((c : Thread nD τ), .dma sem2) 0 ∗ (∃ W, owes (c : Thread nD τ) 0 W)
          ∗ has c arg4 j ∗ has c arg5 t ∗ has c arg6 p ∗ has c arg7 z ∗ has c arg8 b ∗ has c arg9 (lpOf b (nearOf c arg2 f2 hA fs) p z)
          ∗ has c arg10 (modeOf (tilesOf c arg1 f1 hJ fs) j t)) -∗ Q ⟨⟩))
      ⊢ wp frame (wpE (defs₀ (F := F)) 𝒱₀ c none) Set.univ
          (prog arg1 arg2 logitsRef arg4 arg5 arg6 arg7 arg8 arg9 arg10 tilesRef lanesRef sem1 sem2) Q := by
  unfold prog
  simp only [wp_bind]
  iintro ⟨H1, H2, Hl, Hd, He, Hv1, Hv2, HO, H4, H5, H6, H7, H8, H9, H10, Hk⟩
  imod (Transfers.batch_alloc' (Lvl := ℕ) (countersEmb (U := UU)) (c : Thread nD τ) () (unitJ sem1) (gotJ c arg1 f1 hJ fullShare.left fs fd) (sm := .dma sem1) (E := Set.univ)) $$ Hv1 with HB1
  imod (Transfers.batch_alloc' (Lvl := ℕ) (countersEmb (U := UU)) (c : Thread nD τ) () (unitA sem2) (gotA c arg2 f2 hA fullShare.right fs fe) (sm := .dma sem2) (E := Set.univ)) $$ Hv2 with HB2
  ihave Hl := (pointsTo_share (ℓ := logitsRef.view.loc (c : Thread nD τ)) (PosShare.mem_left_op_right fullShare)).1 $$ Hl
  icases Hl with ⟨Hl1, Hl2⟩
  ihave HJ := (rows_in c arg1 f1 hJ fullShare.left fs fd) $$ [Hl1 Hd]
  · isplitl [Hl1]; · iexact Hl1
    iexact Hd
  icases HJ with ⟨HJ, Hkj⟩
  ihave HA := (rows_inA c arg2 f2 hA fullShare.right fs fe) $$ [Hl2 He]
  · isplitl [Hl2]; · iexact Hl2
    iexact He
  icases HA with ⟨HA, Hka⟩
  iapply (wp_startsJ c arg1 sem1 f1 hJ fs fd fullShare.left _)
  isplitl [H1 HB1 HJ]
  · unfold startInvJ
    rw [Transfers.pending_zero]
    isplitl [H1]; · iexact H1
    isplitl [HB1]; · iexact HB1
    iexact HJ
  iintro %vj HI
  iapply (wp_startsA c arg2 sem2 f2 hA fs fe fullShare.right _)
  isplitl [H2 HB2 HA]
  · unfold startInvA
    rw [Transfers.pending_zero]
    isplitl [H2]; · iexact H2
    isplitl [HB2]; · iexact HB2
    iexact HA
  iintro %va HI2
  unfold startInvJ startInvA
  icases HI with ⟨H1, HB1, -⟩
  icases HI2 with ⟨H2, HB2, -⟩
  iapply (wp_waitsJ c arg1 sem1 f1 hJ fs fd fullShare.left vj _)
  isplitl [HB1 HO]
  · unfold waitInvJ
    rw [if_pos (by decide), Nat.zero_mul]
    isplitl [HB1]; · iexact HB1
    iexists W; iexact HO
  rw [waitInvJ_end]
  iintro ⟨HD, Hv1, ⟨%W1, HO⟩⟩
  ihave HD := (rows_out c arg1 f1 hJ fullShare.left fs fd) $$ [HD Hkj]
  · isplitl [HD]; · iexact HD
    iexact Hkj
  icases HD with ⟨Hl1, Hd⟩
  iapply (wp_mode c arg4 arg5 arg10 h4 h5 h10 (tilesOf c arg1 f1 hJ fs) j t o10 _)
  isplitl [Hd]; · iexact Hd
  isplitl [H4]; · iexact H4
  isplitl [H5]; · iexact H5
  isplitl [H10]; · iexact H10
  iintro ⟨Hd, H4, H5, H10⟩
  iapply (wp_waitsA c arg2 sem2 f2 hA fs fe fullShare.right va _)
  isplitl [HB2 HO]
  · unfold waitInvA
    rw [if_pos (by decide), Nat.zero_mul]
    isplitl [HB2]; · iexact HB2
    iexists W1; iexact HO
  rw [waitInvA_end]
  iintro ⟨HD, Hv2, HO⟩
  ihave HD := (rows_outA c arg2 f2 hA fullShare.right fs fe) $$ [HD Hka]
  · isplitl [HD]; · iexact HD
    iexact Hka
  icases HD with ⟨Hl2, He⟩
  iapply (wp_lp c arg6 arg7 arg8 arg9 h6 h7 h8 h9 (nearOf c arg2 f2 hA fs) b p z o9 _)
  isplitl [He]; · iexact He
  isplitl [H6]; · iexact H6
  isplitl [H7]; · iexact H7
  isplitl [H8]; · iexact H8
  isplitl [H9]; · iexact H9
  iintro ⟨He, H6, H7, H8, H9⟩
  iapply Hk
  isplitl [H1]; · iexact H1
  isplitl [H2]; · iexact H2
  isplitl [Hl1 Hl2]
  · iapply (pointsTo_share (ℓ := logitsRef.view.loc (c : Thread nD τ)) (PosShare.mem_left_op_right fullShare)).2
    isplitl [Hl1]; · iexact Hl1
    iexact Hl2
  isplitl [Hd]; · iexact Hd
  isplitl [He]; · iexact He
  isplitl [Hv1]; · iexact Hv1
  isplitl [Hv2]; · iexact Hv2
  isplitl [HO]; · iexact HO
  isplitl [H4]; · iexact H4
  isplitl [H5]; · iexact H5
  isplitl [H6]; · iexact H6
  isplitl [H7]; · iexact H7
  isplitl [H8]; · iexact H8
  isplitl [H9]; · iexact H9
  iexact H10

end Cert.KernelIdeal.Pass2
-- ==== Proof.Ideal.Pass2Body.lean ====
/- The second call's proof data and its one point. -/
module

public import proofs.«01_k».proof.Proof.Ideal.Pass2Run
public import Idealize.ShloMosaic.Lib.Pipeline.RegionArraysDT

@[expose] public section

set_option maxRecDepth 16384

noncomputable section

namespace Cert.KernelIdeal.Pass2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.KernelIdeal Cert.KernelIdeal.Gen Cert.KernelIdeal.Run

variable {F : FTy → Type} [FloatOps F]

/-- The call's own semaphores: the winners' transfers' and the actions'. -/
abbrev osem2 : Fin 2 → SemLoc sig := ![.dma cc1_scratch2.sem, .dma cc1_scratch3.sem]

theorem osem2_facts : OwnSemFacts spec1 osem2 := by decide

/-- The winners' table. -/
abbrev tblJ : Memref sig .tc .smem S64 .i32 := Memref.whole main_v1
/-- The actions' table. -/
abbrev tblA : Memref sig .tc .smem S64 .i32 := Memref.whole main_v2

variable (a : (pcfg1 (F := F)).Adm) (V : Dev nD → Valuation τ sig (Elt F))

/-- The logits. -/
abbrev logitsAt (c : Dev nD) : FVec F S64x1000000 .f32 := V c (Proc.devRef .tc main_arg0)

/-- Every winner's tile lies in the logits. -/
abbrev GoodJ : Prop := ∀ (c : Dev nD) r h, chkJ r (wordAt c tblJ (a.1 0) r h)
/-- Every action's lanes lie in the logits. -/
abbrev GoodA : Prop := ∀ (c : Dev nD) r h, inA r (wordAt c tblA (a.1 1) r h)

variable (hJ : GoodJ a) (hA : GoodA a)

/-- The arrays, as a valuation has them. -/
abbrev arrs (c : Dev nD) (w : Fin (cfg1 a).W) : Buf (Elt F) (((cfg1 a).win w).arr.view.loc (c.tc : Thread nD τ)) :=
  V c (Proc.devRef .tc (arrRef spec1 w))

/-- An input's staged block. -/
def inp (c : Dev nD) (w : Fin (cfg1 a).W) : ((cfg1 a).win w).block.Idx → Elt F ((cfg1 a).win w).elt :=
  heldIn (cfg1 a) (arrs a V c) w 0 (by rw [show (cfg1 a).N = grid1.N from rfl, N_1]; decide)

/-- The call's result: the mode. -/
def outMode (c : Dev nD) : IVec S64x1 32 :=
  modeOf (F := F) (tilesOf c tblJ (a.1 0) (hJ c) (logitsAt V c)) (inp a V c 0) (inp a V c 1)
/-- The call's result: the log-probability. -/
def outLp (c : Dev nD) : FVec F S64x1 .f32 :=
  lpOf (inp a V c 4) (nearOf c tblA (a.1 1) (hA c) (logitsAt V c)) (inp a V c 2) (inp a V c 3)

/-- What the point holds beside its windows, before it and after it alike. -/
def Φ2 (c : Dev nD) : sProp (MM F) :=
  iprop(iprop(scopedRest (Ix := Unit) (Name := ℕ) (U := UU) (Lvl := ℕ) (Val := Elt F) spec1 c ∗ (∃ r, prngReg c r) ∗ ownSems0 osem2 c
    ∗ (bigSep {main_arg0} fun b => ((c.tc : Thread nD τ).loc b) ↦{fullShare} V c (Proc.devRef .tc b)))
    ∗ prefHeld pre1 c (fun _ => fullShare) a.1)

/-- The second call's proof data. -/
def dat2 (c : Dev nD) : Dat τ (Elt F) Unit ℕ UU ℕ (cfg1 a) c where
  A w := arrs a V c w
  after w _ := match w with
    | ⟨0, _⟩ => inp a V c 0
    | ⟨1, _⟩ => inp a V c 1
    | ⟨2, _⟩ => inp a V c 2
    | ⟨3, _⟩ => inp a V c 3
    | ⟨4, _⟩ => inp a V c 4
    | ⟨5, _⟩ => outLp a V hA c
    | ⟨6, _⟩ => outMode a V hJ c
  Φ _ := Φ2 a V c
  q _ := fullShare
  owed _ := 0

theorem before_in0 (c : Dev nD) (t : Fin (cfg1 a).N) (d) : (dat2 a V hJ hA c).before (0 : Fin 7) t d = inp a V c 0 := by
  rw [(dat2 a V hJ hA c).before_eq_heldIn 0 rfl (fun _ => rfl) (fun _ _ => rfl) (fun t => by obtain rfl := fin_N1 t; exact rfl) t d]
  obtain rfl := fin_N1 t; exact rfl
theorem before_in1 (c : Dev nD) (t : Fin (cfg1 a).N) (d) : (dat2 a V hJ hA c).before (1 : Fin 7) t d = inp a V c 1 := by
  rw [(dat2 a V hJ hA c).before_eq_heldIn 1 rfl (fun _ => rfl) (fun _ _ => rfl) (fun t => by obtain rfl := fin_N1 t; exact rfl) t d]
  obtain rfl := fin_N1 t; exact rfl
theorem before_in2 (c : Dev nD) (t : Fin (cfg1 a).N) (d) : (dat2 a V hJ hA c).before (2 : Fin 7) t d = inp a V c 2 := by
  rw [(dat2 a V hJ hA c).before_eq_heldIn 2 rfl (fun _ => rfl) (fun _ _ => rfl) (fun t => by obtain rfl := fin_N1 t; exact rfl) t d]
  obtain rfl := fin_N1 t; exact rfl
theorem before_in3 (c : Dev nD) (t : Fin (cfg1 a).N) (d) : (dat2 a V hJ hA c).before (3 : Fin 7) t d = inp a V c 3 := by
  rw [(dat2 a V hJ hA c).before_eq_heldIn 3 rfl (fun _ => rfl) (fun _ _ => rfl) (fun t => by obtain rfl := fin_N1 t; exact rfl) t d]
  obtain rfl := fin_N1 t; exact rfl
theorem before_in4 (c : Dev nD) (t : Fin (cfg1 a).N) (d) : (dat2 a V hJ hA c).before (4 : Fin 7) t d = inp a V c 4 := by
  rw [(dat2 a V hJ hA c).before_eq_heldIn 4 rfl (fun _ => rfl) (fun _ _ => rfl) (fun t => by obtain rfl := fin_N1 t; exact rfl) t d]
  obtain rfl := fin_N1 t; exact rfl

theorem tables_eq (c : Dev nD) : (prefHeld pre1 c (fun _ => fullShare) a.1 : sProp (MM F))
    = iprop((tblJ.view.loc (c : Thread nD τ) ↦{fullShare} a.1 0) ∗ (tblA.view.loc (c : Thread nD τ) ↦{fullShare} a.1 1)) := by
  unfold prefHeld
  exact bigSep_univ_eq_bigSepL [(0 : Fin 2), 1] (by decide) (by decide) _

theorem sems_eq (c : Dev nD) : (ownSems0 osem2 c : sProp (MM F))
    = iprop(semVal ((c : Thread nD τ), .dma cc1_scratch2.sem) 0 ∗ semVal ((c : Thread nD τ), .dma cc1_scratch3.sem) 0) := by
  unfold ownSems0
  exact bigSep_univ_eq_bigSepL [(0 : Fin 2), 1] (by decide) (by decide) _

attribute [local irreducible] prog modeOf lpOf tilesOf nearOf inp outLp outMode

set_option maxHeartbeats 2000000 in
/-- The second call's one point, from what it holds to its results. -/
theorem body_obligation (c : Dev nD) : BodyObligationLoose (dat2 a V hJ hA c) (defs₀ (F := F)) 𝒱₀ () Set.univ := fun t => by
  obtain rfl := fin_N1 t
  rw [bigSep_W1, bigSep_W1]
  rw [show (dat2 a V hJ hA c).Φ t1_0.castSucc = Φ2 a V c from rfl, show (dat2 a V hJ hA c).Φ t1_0.succ = Φ2 a V c from rfl,
    show (dat2 a V hJ hA c).owesAt () t1_0.succ = (dat2 a V hJ hA c).owesAt () t1_0.castSucc from rfl]
  have eLp : outLp a V hA c = lpOf (inp a V c 4) (nearOf c tblA (a.1 1) (hA c) (logitsAt V c)) (inp a V c 2) (inp a V c 3) := by unfold outLp; rfl
  have eMode : outMode a V hJ c = modeOf (F := F) (tilesOf c tblJ (a.1 0) (hJ c) (logitsAt V c)) (inp a V c 0) (inp a V c 1) := by unfold outMode; rfl
  have body : defs₀ (F := F) .tc (cfg1 a).body ((cfg1 a).bodyArgs t1_0 ((cfg1 a).slots t1_0))
      = prog tblJ tblA logitsRef (spec1_0.stage ((cfg1 a).slots t1_0 (0 : Fin 7))) (spec1_1.stage ((cfg1 a).slots t1_0 (1 : Fin 7))) (spec1_2.stage ((cfg1 a).slots t1_0 (2 : Fin 7)))
          (spec1_3.stage ((cfg1 a).slots t1_0 (3 : Fin 7))) (spec1_4.stage ((cfg1 a).slots t1_0 (4 : Fin 7))) (spec1_5.stage ((cfg1 a).slots t1_0 (5 : Fin 7)))
          (spec1_6.stage ((cfg1 a).slots t1_0 (6 : Fin 7))) tilesRef lanesRef cc1_scratch2.sem cc1_scratch3.sem :=
    kernel_eq ..
  rw [body]
  simp only [before_in0, before_in1, before_in2, before_in3, before_in4]
  unfold Φ2
  rw [tables_eq, sems_eq, scopedRest1_eq, BI.bigSep_singleton]
  rw [show (dat2 a V hJ hA c).after (0 : Fin 7) t1_0 = inp a V c 0 from rfl, show (dat2 a V hJ hA c).after (1 : Fin 7) t1_0 = inp a V c 1 from rfl,
    show (dat2 a V hJ hA c).after (2 : Fin 7) t1_0 = inp a V c 2 from rfl, show (dat2 a V hJ hA c).after (3 : Fin 7) t1_0 = inp a V c 3 from rfl,
    show (dat2 a V hJ hA c).after (4 : Fin 7) t1_0 = inp a V c 4 from rfl, show (dat2 a V hJ hA c).after (5 : Fin 7) t1_0 = outLp a V hA c from rfl,
    show (dat2 a V hJ hA c).after (6 : Fin 7) t1_0 = outMode a V hJ c from rfl, eLp, eMode]
  unfold Dat.owesAt owesWithin
  iintro ⟨⟨⟨⟨R0, R1, R2, R3, R4, R5, R6, R7, R8, R9, ⟨%fd, Hd⟩, ⟨%fe, He⟩⟩, Hp, ⟨Hv1, Hv2⟩, Hl⟩, ⟨H1, H2⟩⟩, ⟨%Wd, -, HO⟩,
    ⟨%d0, W0⟩, ⟨%d1, W1⟩, ⟨%d2, W2⟩, ⟨%d3, W3⟩, ⟨%d4, W4⟩, ⟨%d5, W5⟩, ⟨%d6, W6⟩⟩
  iapply (wp_prog c (spec1_0.stage ((cfg1 a).slots t1_0 (0 : Fin 7))) (spec1_1.stage ((cfg1 a).slots t1_0 (1 : Fin 7))) (spec1_2.stage ((cfg1 a).slots t1_0 (2 : Fin 7)))
    (spec1_3.stage ((cfg1 a).slots t1_0 (3 : Fin 7))) (spec1_4.stage ((cfg1 a).slots t1_0 (4 : Fin 7))) (spec1_5.stage ((cfg1 a).slots t1_0 (5 : Fin 7)))
    (spec1_6.stage ((cfg1 a).slots t1_0 (6 : Fin 7))) (hstage1_0 (((cfg1 a).slots t1_0 (0 : Fin 7)).cast nbuf1_0)) (hstage1_1 (((cfg1 a).slots t1_0 (1 : Fin 7)).cast nbuf1_1)) (hstage1_2 (((cfg1 a).slots t1_0 (2 : Fin 7)).cast nbuf1_2)) (hstage1_3 (((cfg1 a).slots t1_0 (3 : Fin 7)).cast nbuf1_3)) (hstage1_4 (((cfg1 a).slots t1_0 (4 : Fin 7)).cast nbuf1_4)) (hstage1_5 (((cfg1 a).slots t1_0 (5 : Fin 7)).cast nbuf1_5)) (hstage1_6 (((cfg1 a).slots t1_0 (6 : Fin 7)).cast nbuf1_6))
    tblJ tblA cc1_scratch2.sem cc1_scratch3.sem (a.1 0) (a.1 1) (hJ c) (hA c) (logitsAt V c) fd fe
    (inp a V c 0) (inp a V c 1) _ (inp a V c 4) (inp a V c 2) (inp a V c 3) _ Wd _)
  isplitl [H1]; · iexact H1
  isplitl [H2]; · iexact H2
  isplitl [Hl]; · iexact Hl
  isplitl [Hd]; · iexact Hd
  isplitl [He]; · iexact He
  isplitl [Hv1]; · iexact Hv1
  isplitl [Hv2]; · iexact Hv2
  isplitl [HO]; · iexact HO
  isplitl [W0]; · iexact W0
  isplitl [W1]; · iexact W1
  isplitl [W2]; · iexact W2
  isplitl [W3]; · iexact W3
  isplitl [W4]; · iexact W4
  isplitl [W5]; · iexact W5
  isplitl [W6]; · iexact W6
  iintro ⟨H1, H2, Hl, Hd, He, Hv1, Hv2, ⟨%We, HO⟩, W0, W1, W2, W3, W4, W5, W6⟩
  isplitl [R0 R1 R2 R3 R4 R5 R6 R7 R8 R9 Hd He Hp Hv1 Hv2 Hl H1 H2]
  · isplitl [R0 R1 R2 R3 R4 R5 R6 R7 R8 R9 Hd He Hp Hv1 Hv2 Hl]
    · isplitl [R0 R1 R2 R3 R4 R5 R6 R7 R8 R9 Hd He]
      · isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [Hd]; · iexists _; iexact Hd
        iexists _; iexact He
      isplitl [Hp]; · iexact Hp
      isplitl [Hv1 Hv2]
      · isplitl [Hv1]; · iexact Hv1
        iexact Hv2
      iexact Hl
    isplitl [H1]; · iexact H1
    iexact H2
  isplitl [HO]
  · iexists We
    isplitr; · ipureintro; exact fun _ _ => Or.inl trivial
    iexact HO
  isplitl [W0]; · iexact W0
  isplitl [W1]; · iexact W1
  isplitl [W2]; · iexact W2
  isplitl [W3]; · iexact W3
  isplitl [W4]; · iexact W4
  isplitl [W5]; · iexact W5
  iexact W6

end Cert.KernelIdeal.Pass2
-- ==== Proof.Ideal.Run.lean ====
/- The whole program: the first call, the two tables, the second call — what every buffer holds at the end. -/
module

public import proofs.«01_k».proof.Proof.Ideal.Pass1Body
public import proofs.«01_k».proof.Proof.Ideal.Pass2Body
public import proofs.«01_k».proof.Proof.Gen.KernelIdeal.Regions
public import Idealize.ShloMosaic.Lib.Pipeline.RegionArraysS
public import Idealize.ShloMosaic.Lib.Pipeline.ValueKit.Geometry

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline Idealize.ShloMosaic.Rounds
open Cert.KernelIdeal Cert.KernelIdeal.Gen

variable {F : FTy → Type} [FloatOps F]
variable (m : (ℓ : Loc nD τ sig) → Buf (Elt F) ℓ)

/-! ## What the buffers hold between the items -/

/-- Before the first call. -/
abbrev W0 (c : Dev nD) : Valuation τ sig (Elt F) := fun b => m (c, b)
/-- The first call's arrays at its start. -/
abbrev arrs0 (c : Dev nD) (w : Fin cfg0.W) : Buf (Elt F) ((cfg0.win w).arr.view.loc (c.tc : Thread nD τ)) :=
  W0 m c (Proc.devRef .tc (arrRef spec0 w))
/-- After the first call. -/
def W1 (c : Dev nD) : Valuation τ sig (Elt F) := afterRegion (Pass1.dat1 (arrs0 m) c) (W0 m c)
/-- After the host's two reshapes. -/
def W2 (c : Dev nD) : Valuation τ sig (Elt F) := StableHlo.after hostOps1 (W1 m c)

/-- The second call's tables. -/
abbrev adm1 : (pcfg1 (F := F)).Adm := ⟨fun k => W2 m 0 (Proc.devRef .tc (pre1.ref k)), trivial⟩

/-- The two calls' tables: the first has none. -/
abbrev adm : (p : Fin 2) → (pcfgs (F := F) p).Adm
  | ⟨0, _⟩ => cfg0.toPCfg_adm
  | ⟨1, _⟩ => adm1 m
  | ⟨_ + 2, h⟩ => absurd h (Nat.not_lt.2 (Nat.le_add_left _ _))

variable (hJ : Pass2.GoodJ (adm1 m)) (hA : Pass2.GoodA (adm1 m))

/-- The two calls' proof data. -/
abbrev pdats : (p : Fin 2) → (c : Dev nD) → Dat τ (Elt F) Unit ℕ UU ℕ (pin (pcfgs (F := F)) (adm m) p) c
  | ⟨0, _⟩ => fun c => Pass1.dat1 (arrs0 m) c
  | ⟨1, _⟩ => fun c => Pass2.dat2 (adm1 m) (W2 m) hJ hA c
  | ⟨_ + 2, h⟩ => absurd h (Nat.not_lt.2 (Nat.le_add_left _ _))

/-- After the second call. -/
def W3 (c : Dev nD) : Valuation τ sig (Elt F) := afterRegion (Pass2.dat2 (adm1 m) (W2 m) hJ hA c) (W2 m c)

/-! ## The calls as segments -/

theorem hL : ∀ g : GSem nD τ sig, g.1.2 ≠ .tc → L g = ∅ := fun g h => if_neg h

theorem cut (p : Fin 2) : LevelCut (pcfgs (F := F)) (adm m) () L lv p (fun _ => 0) (fun _ => 0) where
  hι _ _ _ := by unfold L; rw [if_pos rfl]; exact Finset.mem_singleton.mpr rfl
  hιb _ _ _ := Nat.le_refl _
  hD _ _ _ h := absurd h (lt_irrefl _)

/-- What rides along: nothing owed, the generator register. -/
abbrev ride (c : Dev nD) : sProp (MM F) := iprop((∃ Wd, owes (c : Thread nD τ) (0 : CellTallies nD τ sig Unit) Wd) ∗ emp ∗ ∃ r, prngReg c r)

theorem share1 (c : Dev nD) (w : Fin cfg0.W) : (Pass1.dat1 (arrs0 m) c).share w = fullShare := ite_self _
theorem share2 (c : Dev nD) (w : Fin (cfg1 (adm1 m)).W) : (Pass2.dat2 (adm1 m) (W2 m) hJ hA c).share w = fullShare := ite_self _

/-- The first call. -/
def R0 : RegionSeg (pcfgs (F := F)) (adm m) (pdats m hJ hA) () defs₀ 𝒱₀ L lv 0 :=
  RegionSeg.ofHeldIn (pcfgs (F := F)) (adm m) (pdats m hJ hA) () defs₀ 𝒱₀ L lv 0 (fun _ => 0) (ucRefs τ sig)
    (fun c => iprop(emp)) (fun c => iprop(emp)) launch0 rfl (Pass1.body_obligation (arrs0 m))
    (fun _ _ => rfl) (fun _ => rfl) (share1 m)
    (fun c => show iprop(Pass1.rest0 c ∗ emp) ⊢ Pass1.Φ1 (arrs0 m) c 0 from by
      iintro ⟨H, -⟩
      iapply (Pass1.phi_in (arrs0 m) c) $$ H)
    (fun c => show Pass1.Φ1 (arrs0 m) c cfg0.N ⊢ iprop(Pass1.rest0 c ∗ emp) from by
      iintro H
      isplitl [H]
      · iapply (Pass1.phi_out (arrs0 m) c _) $$ H
      iempintro) (fun _ => 0) (cut m 0) (fun c => iprop(∃ r, prngReg c r)) (W0 m) (fun _ _ => rfl)

/-- The other buffers the second call's thread holds: the logits and what neither call's arrays nor the tables are. -/
abbrev others : Finset (DevRef τ sig) := (ucRefs τ sig \ arrRefs spec1) \ tblRefs pre1

theorem logits_other : hbmRefs (τ := τ) ({main_arg0} : Finset (Ref sig .tc)) ⊆ others := fun b hb => by
  obtain ⟨r, hr, rfl⟩ := Finset.mem_map.mp hb
  obtain rfl := Finset.mem_singleton.mp hr
  refine Finset.mem_sdiff.mpr ⟨Finset.mem_sdiff.mpr ⟨hbmRefs_sub_ucRefs _ (by decide) hb, fun h => ?_⟩, fun h => ?_⟩
  · obtain ⟨r', hr', e⟩ := Finset.mem_map.mp h
    obtain ⟨w, -, rfl⟩ := Finset.mem_image.mp hr'
    exact absurd (Proc.devRef_injective _ e) (by revert w; decide)
  · obtain ⟨r', hr', e⟩ := Finset.mem_map.mp h
    obtain ⟨k, -, rfl⟩ := Finset.mem_image.mp hr'
    exact absurd (Proc.devRef_injective _ e) (by revert k; decide)

theorem tables_keep (c : Dev nD) (k : Fin pre1.K) : (adm1 m).1 k = W2 m c (Proc.devRef .tc (pre1.ref k)) := by
  obtain rfl : c = 0 := Subsingleton.elim _ _
  rfl

/-- The second call. -/
def R1 : RegionSeg (pcfgs (F := F)) (adm m) (pdats m hJ hA) () defs₀ 𝒱₀ L lv 1 :=
  RegionSeg.ofHeldDHT (pcfgs (F := F)) (adm m) (pdats m hJ hA) () defs₀ 𝒱₀ L lv 1 (fun _ => 0) () Pass2.osem2 Pass2.osem2_facts
    {main_arg0} others logits_other launch1 (Pass2.body_obligation (adm1 m) (W2 m) hJ hA)
    (fun _ _ => rfl) (fun _ => rfl) (share2 m hJ hA)
    (fun c => by iintro -; iapply (Transfers.MayWaits.zero (c : Thread nD τ) ()); iempintro) (W2 m) (W3 m hJ hA)
    (fun c => show _ ⊢ Pass2.Φ2 (adm1 m) (W2 m) c from by
      unfold Pass2.Φ2
      iintro ⟨⟨Hr, Hp, Hs, Hl, -⟩, Ht⟩
      isplitl [Hr Hp Hs Hl]
      · isplitl [Hr]; · iexact Hr
        isplitl [Hp]; · iexact Hp
        isplitl [Hs]; · iexact Hs
        iexact Hl
      iexact Ht)
    (fun c => .rfl) (fun _ => 0) (cut m 1) (fun c => iprop(emp)) (fun _ _ => rfl) (tables_keep m)
    (fun c w => (afterRegion_arr (Pass2.dat2 (adm1 m) (W2 m) hJ hA c) (W2 m c) (launch1 (F := F)).win.arr_inj w).symm)
    (fun c k => (tables_keep m c k).trans (afterRegion_of_not_arr (Pass2.dat2 (adm1 m) (W2 m) hJ hA c) (W2 m c) ((launch1 (F := F)).pre.disj k)).symm)

/-! ## The items chain -/

theorem sub_arrs0 : arrRefs (τ := τ) spec0 ⊆ ucRefs τ sig := arrRefs_sub_ucRefs spec0 (by decide)
theorem sub_arrs : arrRefs (τ := τ) spec1 ⊆ ucRefs τ sig := arrRefs_sub_ucRefs spec1 (by decide)
theorem sub_tbls : tblRefs (τ := τ) pre1 ⊆ ucRefs τ sig \ arrRefs spec1 := tblRefs_sub_ucRefs_sdiff spec1 pre1 (by decide) (by decide)

theorem pre0 (c : Dev nD) : iprop(StableHlo.held (c : Thread nD τ) (ucRefs τ sig) (W0 m c) ∗ ride c) ⊢ (R0 m hJ hA).pre c := by
  show _ ⊢ iprop(StableHlo.held (c.tc : Thread nD τ) (arrRefs spec0) (W0 m c) ∗ emp
    ∗ (StableHlo.held (c.tc : Thread nD τ) (ucRefs τ sig \ arrRefs spec0) (W0 m c) ∗ ∃ r, prngReg c r)
    ∗ ∃ Wd, owes (c : Thread nD τ) (0 : CellTallies nD τ sig Unit) Wd)
  rw [StableHlo.held_sub_split (c.tc : Thread nD τ) sub_arrs0 (W0 m c)]
  iintro ⟨⟨Ha, Hu⟩, HO, -, HR⟩
  isplitl [Ha]; · iexact Ha
  isplitr; · iempintro
  isplitl [Hu HR]
  · isplitl [Hu]; · iexact Hu
    iexact HR
  iexact HO

theorem post0 (c : Dev nD) : (R0 m hJ hA).post c ⊢ iprop(StableHlo.held (c : Thread nD τ) (ucRefs τ sig) (W1 m c) ∗ ride c) := by
  show iprop(StableHlo.held (c.tc : Thread nD τ) (arrRefs spec0) (W1 m c) ∗ emp
    ∗ (StableHlo.held (c.tc : Thread nD τ) (ucRefs τ sig \ arrRefs spec0) (W0 m c) ∗ ∃ r, prngReg c r)
    ∗ ∃ Wd, owes (c : Thread nD τ) (0 : CellTallies nD τ sig Unit) Wd) ⊢ _
  rw [StableHlo.held_sub_split (c.tc : Thread nD τ) sub_arrs0 (W1 m c),
    StableHlo.held_congr (c.tc : Thread nD τ) (S := ucRefs τ sig \ arrRefs spec0) (V := W1 m c) (V' := W0 m c)
      (afterRegion_off (Pass1.dat1 (arrs0 m) c) (W0 m c) (ucRefs τ sig))]
  iintro ⟨Ha, -, ⟨Hu, HR⟩, HO⟩
  isplitl [Ha Hu]
  · isplitl [Ha]; · iexact Ha
    iexact Hu
  isplitl [HO]; · iexact HO
  isplitr; · iempintro
  iexact HR

theorem pre1' (c : Dev nD) : iprop(StableHlo.held (c : Thread nD τ) (ucRefs τ sig) (W2 m c) ∗ ride c) ⊢ (R1 m hJ hA).pre c := by
  show _ ⊢ iprop(StableHlo.held (c.tc : Thread nD τ) (arrRefs spec1) (W2 m c) ∗ StableHlo.held (c.tc : Thread nD τ) (tblRefs pre1) (W2 m c) ∗ (∃ r, prngReg c r)
    ∗ (StableHlo.held (c.tc : Thread nD τ) others (W2 m c) ∗ emp) ∗ ∃ Wd, owes (c : Thread nD τ) (0 : CellTallies nD τ sig Unit) Wd)
  rw [StableHlo.held_sub_split (c.tc : Thread nD τ) sub_arrs (W2 m c), StableHlo.held_sub_split (c.tc : Thread nD τ) sub_tbls (W2 m c)]
  iintro ⟨⟨Ha, Ht, Ho⟩, HO, -, Hp⟩
  isplitl [Ha]; · iexact Ha
  isplitl [Ht]; · iexact Ht
  isplitl [Hp]; · iexact Hp
  isplitl [Ho]
  · isplitl [Ho]; · iexact Ho
    iempintro
  iexact HO

theorem post1 (c : Dev nD) : (R1 m hJ hA).post c ⊢ iprop(StableHlo.held (c : Thread nD τ) (ucRefs τ sig) (W3 m hJ hA c)
    ∗ ∃ Wd, owes (c : Thread nD τ) (0 : CellTallies nD τ sig Unit) Wd) := by
  show iprop(StableHlo.held (c.tc : Thread nD τ) (arrRefs spec1) (W3 m hJ hA c) ∗ StableHlo.held (c.tc : Thread nD τ) (tblRefs pre1) (W3 m hJ hA c) ∗ (∃ r, prngReg c r)
    ∗ (StableHlo.held (c.tc : Thread nD τ) others (W2 m c) ∗ emp) ∗ ∃ Wd, owes (c : Thread nD τ) (0 : CellTallies nD τ sig Unit) Wd) ⊢ _
  rw [StableHlo.held_sub_split (c.tc : Thread nD τ) sub_arrs (W3 m hJ hA c), StableHlo.held_sub_split (c.tc : Thread nD τ) sub_tbls (W3 m hJ hA c),
    StableHlo.held_congr (c.tc : Thread nD τ) (S := others) (V := W3 m hJ hA c) (V' := W2 m c)
      (fun b hb => afterRegion_off (Pass2.dat2 (adm1 m) (W2 m) hJ hA c) (W2 m c) (ucRefs τ sig) b (Finset.mem_sdiff.mp hb).1)]
  iintro ⟨Ha, Ht, -, ⟨Ho, -⟩, HO⟩
  isplitl [Ha Ht Ho]
  · isplitl [Ha]; · iexact Ha
    isplitl [Ht]; · iexact Ht
    iexact Ho
  iexact HO

/-- The host's stretch between the calls. -/
def S1 : HostSeg (Ix := Unit) (Name := ℕ) (U := UU) (Lvl := ℕ) (pcfgs (F := F)) defs₀ 𝒱₀ L lv :=
  HostSeg.ofOps _ _ _ _ _ (ucRefs τ sig) hostOps1
    (fun op h => sub_ucRefs op ((List.forall_iff_forall_mem.mp hostOps1_sub) op h))
    (fun op h => (List.forall_iff_forall_mem.mp hostOps1_fresh) op h) (W1 m) ride

/-- The program's three items. -/
abbrev items (_ : Dev nD) : List (Seg (pcfgs (F := F)) (adm m) (pdats m hJ hA) () defs₀ 𝒱₀ L lv) :=
  [.region (R0 m hJ hA), .host (S1 m), .region (R1 m hJ hA)]

/-- What the launch hands a core is what the first call asks for. -/
theorem launch_core (ρ : Dev nD → PrngReg) (c : Dev nD) :
    (iprop(unscopedBufs c (fun b => m ((c.tc : Thread nD τ).loc b)) ∗ unscopedSems0 c
      ∗ owes (c.tc : Thread nD τ) (0 : CellTallies nD τ sig Unit) ∅ ∗ launchCred (fun _ => 0) c ∗ prngReg c (ρ c) ∗ emp) : sProp (MM F))
      ⊢ iprop(StableHlo.held (c : Thread nD τ) (ucRefs τ sig) (W0 m c) ∗ ride c) := by
  rw [← unscopedBufs_held (Ix := Unit) (Name := ℕ) (U := UU) (Lvl := ℕ) c (W0 m c)]
  iintro ⟨Hb, -, HO, -, Hp, -⟩
  isplitl [Hb]; · iexact Hb
  isplitl [HO]; · iexists _; iexact HO
  isplitr; · iempintro
  iexists _; iexact Hp

set_option backward.isDefEq.respectTransparency.types false in
/-- Every execution from memory `m` ends, every unscoped buffer holding what `W3` says and every counter at zero. -/
theorem run (ρ : Dev nD → PrngReg) :
    θ_run defs (onTc (τ := τ) (main (F := F))) ⟨m, fun _ => 0, ρ⟩ (fun r =>
      (∀ c : Dev nD, ∀ b : Ref sig .tc, b.isScoped = false → r.2.mem ((c.tc : Thread nD τ).loc b) = W3 m hJ hA c (Proc.devRef .tc b))
      ∧ r.2.sem = fun _ => 0) := by
  refine Pipeline.θ_run_regions_kit_dev_sems (pcfgs (F := F)) (adm m) (pdats m hJ hA) () (cellOf_inj (adm m)) embL defs₀ 𝒱₀ L lv m ρ main
    (items m hJ hA)
    (fun c Q => by
      rewrite [main_chain c, Seg.run_eq_chain,
        show (items m hJ hA c).map Seg.prog = [
          Prog.lift (.customCall (Pipeline.entry 0) ()),
          StableHlo.seq hostOps1,
          Prog.lift (.customCall (Pipeline.entry 1) ()) ] from rfl]
      dsimp (config := { failIfUnchanged := false }) only
      exact .rfl)
    (fun c => by simp only [items, Seg.pipes_host, Seg.pipes_region, Seg.pipes_nil]; decide) (fun _ => 0) hL (fun _ => iprop(emp))
    (initOf (cells (pin (pcfgs (F := F)) (adm m)) (cellOf_inj (adm m))) (launchToks (pin (pcfgs (F := F)) (adm m)) (cellOf_inj (adm m))), 1)
    (by
      iintro Hu
      ihave H := (ownU_pair _ _) $$ Hu
      icases H with ⟨HP, -⟩
      imodintro
      isplitl [HP]; · iexact HP
      iapply (show (BI.emp : sProp (MM F)) ⊢ bigSep Finset.univ (fun _ : Dev nD => (BI.emp : sProp (MM F))) from by rw [BI.bigSep_emp_const])
      iempintro)
    (T₀ := fun c => iprop(StableHlo.held (c : Thread nD τ) (ucRefs τ sig) (W0 m c) ∗ ride c))
    (Tₙ := fun c => StableHlo.held (c : Thread nD τ) (ucRefs τ sig) (W3 m hJ hA c))
    (hch := fun c => ⟨pre0 m hJ hA c, post0 m hJ hA c, pre1' m hJ hA c, post1 m hJ hA c⟩)
    (hinit := ?_) (QY := fun c s => ∀ b : Ref sig .tc, b.isScoped = false → s.mem ((c.tc : Thread nD τ).loc b) = W3 m hJ hA c (Proc.devRef .tc b))
    (hfin := fun c s' => ?_) (hQ := fun _ h hz => ⟨h, funext fun g => hz g (.inr (regions_no_unscoped g.2))⟩)
  · iintro ⟨H, -⟩
    imodintro
    iapply (show _ ⊢ (bigSep Finset.univ fun c : Dev nD => iprop(StableHlo.held (c : Thread nD τ) (ucRefs τ sig) (W0 m c) ∗ ride c) : sProp (MM F))
      from bigSep_mono fun c _ => launch_core m ρ c) $$ H
  · unfold StableHlo.held
    iintro ⟨Hh, HSI⟩
    ihave Hr := (pointsTo_read_all (ucRefs τ sig) (fun b => ((c : Thread nD τ).1, b)) (W3 m hJ hA c) s') $$ [Hh HSI]
    · isplitl [Hh] <;> iassumption
    icases Hr with ⟨%h, HSI⟩
    imodintro
    isplitr
    · ipureintro
      exact fun b hb => h (Proc.devRef .tc b) (Finset.mem_filter.mpr ⟨StableHlo.devRef_mem_tcRefs b, fun h' => Bool.false_ne_true (hb.symm.trans h')⟩)
    · iexact HSI

end Cert.KernelIdeal.Run
-- ==== Proof.Ideal.Bounds.lean ====
/- The words that say where the second call reads: the winning tile's offset, the offset of the lanes around the action. -/
module

public import proofs.«01_k».proof.Proof.Ideal.Pass1Body
public import proofs.«01_k».proof.Proof.Ideal.Pass2Loop
public import Idealize.ShloMosaic.Lib.WordCmp
public import Idealize.ShloMosaic.Lib.Routing.Words

@[expose] public section

set_option maxRecDepth 16384

noncomputable section

namespace Cert.KernelIdeal

open Idealize.ShloMosaic
open Cert.KernelIdeal Cert.KernelIdeal.Gen

variable {F : FTy → Type} [FloatOps F]

/-! ## The offsets -/

/-- Of two words below half the range the signed lesser is the lesser. -/
theorem minsi_word {a b : Nat} (ha : a < 2 ^ 31) (hb : b < 2 ^ 31) :
    Scalar.minsi (BitVec.ofNat 32 a) (BitVec.ofNat 32 b) = BitVec.ofNat 32 (min a b) := by
  have e : (BitVec.ofNat 32 a).slt (BitVec.ofNat 32 b) = decide (a < b) := by
    rw [BitVec.slt, WordCmp.toInt_ofNat_of_lt (by omega), WordCmp.toInt_ofNat_of_lt (by omega)]
    simp
  unfold Scalar.minsi IntOp.minsi
  rw [e]
  by_cases h : a < b
  · rw [if_pos (by simpa using h), Nat.min_eq_left (by omega)]
  · rw [if_neg (by simpa using h), Nat.min_eq_right (by omega)]

namespace Pass2

/-- The winning tile's offsets: its group of eight rows, and the tile, or tile 959 if it is a later one. -/
theorem offJ_eq (r : Nat) {j : Nat} (hj : j < 2 ^ 31) : offJ r (BitVec.ofNat 32 j) = ![8 * (r / 8), min j 959 * 1024] := by
  unfold offJ
  rw [minsi_word hj (by omega)]
  have e : (Scalar.muli (BitVec.ofNat 32 (min j 959)) 1024#32).toNat = min j 959 * 1024 := by
    show (IntOp.muli (BitVec.ofNat 32 (min j 959)) (BitVec.ofNat 32 1024)).toNat = _
    rw [WordCmp.muli_ofNat, WordCmp.toNat_ofNat_of_lt (by omega)]
  rw [e]

/-- The winning tile lies in the logits. -/
theorem chkJ_of (r : Nat) (hr : r < 64) {j : Nat} (hj : j < 2 ^ 31) : chkJ r (BitVec.ofNat 32 j) := by
  have h : ∀ a, offJ r (BitVec.ofNat 32 j) a + S8x1024.size a ≤ S64x1000000.size a := by
    rw [offJ_eq r hj]
    intro a
    fin_cases a
    · show 8 * (r / 8) + 8 ≤ 64; omega
    · show min j 959 * 1024 + 1024 ≤ 1000000; omega
  exact ⟨h, h⟩

/-- The offsets of the lanes around an action: its group of eight rows, and the group of 128 lanes, or the last one that begins below 982912. -/
theorem offA_eq (r : Nat) {v : Nat} (hv : v < 1000000) : offA r (BitVec.ofNat 32 v) = ![8 * (r / 8), min (v / 128 * 128) 982912] := by
  unfold offA
  have hd : Scalar.divsi (BitVec.ofNat 32 v) 128#32 = BitVec.ofNat 32 (v / 128) := Routing.divsi_word .scalar (by omega) (by omega) (by omega)
  have hm : Scalar.remsi (BitVec.ofNat 32 v) 128#32 = BitVec.ofNat 32 (v % 128) := Routing.remsi_word .scalar (by omega) (by omega) (by omega)
  have hz : Scalar.andi (Scalar.cmpi .ne (Scalar.subi (Scalar.extui (Scalar.cmpi .sgt (BitVec.ofNat 32 v) 0#32)) (Scalar.extui (Scalar.cmpi .slt (BitVec.ofNat 32 v) 0#32)))
      (Scalar.subi (Scalar.extui (Scalar.cmpi .sgt 128#32 0#32)) (Scalar.extui (Scalar.cmpi .slt 128#32 0#32))))
      (Scalar.cmpi .ne (BitVec.ofNat 32 (v % 128)) 0#32) = 0#1 := by
    rcases Nat.eq_zero_or_pos v with h | h
    · subst h; rfl
    · have e1 : Scalar.cmpi .sgt (BitVec.ofNat 32 v) 0#32 = 1#1 := (WordCmp.cmpi_sgt_ofNat_eq_one_iff (w := 32) (a := v) (b := 0) (by omega) (by omega)).mpr h
      have e2 : Scalar.cmpi .slt (BitVec.ofNat 32 v) 0#32 = 0#1 := (WordCmp.cmpi_slt_ofNat_eq_zero_iff (w := 32) (a := v) (b := 0) (by omega) (by omega)).mpr (by omega)
      rw [e1, e2]
      show IntOp.andi 0#1 _ = 0#1
      unfold IntOp.andi
      simp
  have ho : (Scalar.minsi (Scalar.muli (BitVec.ofNat 32 (v / 128)) 128#32) 982912#32).toNat = min (v / 128 * 128) 982912 := by
    rw [show Scalar.muli (BitVec.ofNat 32 (v / 128)) 128#32 = BitVec.ofNat 32 (v / 128 * 128) from WordCmp.muli_ofNat (v / 128) 128,
      minsi_word (by omega) (by omega), WordCmp.toNat_ofNat_of_lt (by omega)]
  simp only [hd, hm, hz, WordCmp.select_zero, ho]

/-- The lanes around an action lie in the logits. -/
theorem inA_of (r : Nat) (hr : r < 64) {v : Nat} (hv : v < 1000000) : inA r (BitVec.ofNat 32 v) := by
  unfold inA
  rw [offA_eq r hv]
  intro a
  fin_cases a
  · show 8 * (r / 8) + 8 ≤ 64; omega
  · show min (v / 128 * 128) 982912 + 128 ≤ 1000000; omega

end Pass2

namespace Pass1

/-! ## The winning tile's number -/

/-- A tournament's winner is one of its candidates. -/
theorem tour_idx (leaf : Nat → FVec F S64x1 .f32) (y : S64x1.Idx) : (d b : Nat) → ∃ k, b ≤ k ∧ k < b + 2 ^ d ∧ (tour leaf d b).2 y = BitVec.ofNat 32 k
  | 0, b => ⟨b, le_refl _, by omega, rfl⟩
  | d + 1, b => by
    obtain ⟨k, h1, h2, e⟩ := tour_idx leaf y d b
    obtain ⟨k', h1', h2', e'⟩ := tour_idx leaf y d (b + 2 ^ d)
    have hp : 2 ^ (d + 1) = 2 ^ d + 2 ^ d := by rw [pow_succ]; omega
    show ∃ k, b ≤ k ∧ k < b + 2 ^ (d + 1) ∧ Scalar.select _ ((tour leaf d (b + 2 ^ d)).2 y) ((tour leaf d b).2 y) = BitVec.ofNat 32 k
    unfold Scalar.select
    split
    · exact ⟨k', by omega, by omega, e'⟩
    · exact ⟨k, by omega, by omega, e⟩

theorem win32_idx (x : FVec F S64x32768 .f32) (y : S64x1.Idx) : ∃ k < 32, (win32 x).2 y = BitVec.ofNat 32 k := by
  obtain ⟨k, -, h, e⟩ := tour_idx (leaf32 x) y 5 0
  exact ⟨k, by simpa using h, e⟩

theorem win17_idx (x : FVec F S64x17408 .f32) (y : S64x1.Idx) : ∃ k < 17, (win17 x).2 y = BitVec.ofNat 32 k := by
  obtain ⟨k, -, h, e⟩ := tour_idx (leaf17 x) y 4 0
  show ∃ k < 17, Scalar.select _ 16#32 ((tour (leaf17 x) 4 0).2 y) = BitVec.ofNat 32 k
  unfold Scalar.select
  split
  · exact ⟨16, by omega, rfl⟩
  · exact ⟨k, by have : (2 : Nat) ^ 4 = 16 := rfl; omega, e⟩

/-- The winner's next value at a row: the candidate's tile where its value is greater, else as it was. -/
theorem jNext_apply (g : Nat) (c : Cand F) (m : FVec F S64x1 .f32) (j : IVec S64x1 32) (y : S64x1.Idx) (k : Nat) (hk : c.2 y = BitVec.ofNat 32 k) :
    jNext (BitVec.ofNat 32 g) c m j y = if cmpf .ogt c.1 m y = 1 then BitVec.ofNat 32 (g * 32 + k) else j y := by
  unfold jNext
  rw [shapeCast_self]
  show Scalar.select _ (IntOp.addi (IntOp.muli (BitVec.ofNat 32 g) (BitVec.ofNat 32 32)) (c.2 y)) (j y) = _
  rw [hk, WordCmp.muli_ofNat, WordCmp.addi_ofNat]
  rfl

/-- The winner so far is one of the tiles seen, or tile zero. -/
theorem st_idx (X : Nat → FVec F S64x32768 .f32) (y : S64x1.Idx) : (n : Nat) → ∃ k, k ≤ 32 * n ∧ (st X n).2.2 y = BitVec.ofNat 32 k
  | 0 => ⟨0, by omega, by unfold st jInit; rw [shapeCast_self]; rfl⟩
  | n + 1 => by
    obtain ⟨k, hk, e⟩ := st_idx X y n
    obtain ⟨k', hk', e'⟩ := win32_idx (X n) y
    show ∃ k, k ≤ 32 * (n + 1) ∧ jNext (BitVec.ofNat 32 n) (win32 (X n)) (st X n).1 (st X n).2.2 y = BitVec.ofNat 32 k
    rw [jNext_apply n _ _ _ y k' e']
    split
    · exact ⟨_, by omega, rfl⟩
    · exact ⟨k, by omega, e⟩

theorem stEnd_idx (X : Nat → FVec F S64x32768 .f32) (y : S64x1.Idx) : ∃ k < 1000, (stEnd X).2.2 y = BitVec.ofNat 32 k := by
  obtain ⟨k, hk, e⟩ := st_idx X y 30
  obtain ⟨k', hk', e'⟩ := win17_idx (tailOf X) y
  show ∃ k < 1000, jNext (BitVec.ofNat 32 30) (win17 (tailOf X)) (st X 30).1 (st X 30).2.2 y = BitVec.ofNat 32 k
  rw [jNext_apply 30 _ _ _ y k' e']
  split
  · exact ⟨_, by omega, rfl⟩
  · exact ⟨k, by omega, e⟩

end Pass1

end Cert.KernelIdeal
-- ==== Proof.Ideal.Ends.lean ====
/- What the program's buffers hold at the end, in terms of the two calls' sums. -/
module

public import proofs.«01_k».proof.Proof.Ideal.Run
public import proofs.«01_k».proof.Proof.Ideal.Bounds
public import Idealize.ShloMosaic.Lib.StableHlo.RunHlo

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline Idealize.ShloMosaic.Rounds
open Cert.KernelIdeal Cert.KernelIdeal.Gen

variable {F : FTy → Type} [FloatOps F]
variable (m : (ℓ : Loc nD τ sig) → Buf (Elt F) ℓ)

attribute [local irreducible] Pass1.blocks Pass1.acts Pass1.stEnd Pass1.tailOf Pass1.tailIdx Pass1.tailPick Pass2.outLp Pass2.outMode

/-! ## After the first call -/

/-- The first call's last point. -/
abbrev tLast : Fin cfg0.N := ⟨30, by rw [show cfg0.N = grid0.N from rfl]; decide⟩

/-- The first call writes neither argument. -/
theorem W1_arg0 (c : Dev nD) : W1 m c (Proc.devRef .tc main_arg0) = m (c, Proc.devRef .tc main_arg0) :=
  afterRegion_keeps (Pass1.dat1 (arrs0 m) c) (W0 m c) (launch0 (F := F)).win.arr_inj (fun _ => rfl) main_arg0 (by decide)
theorem W1_arg1 (c : Dev nD) : W1 m c (Proc.devRef .tc main_arg1) = m (c, Proc.devRef .tc main_arg1) :=
  afterRegion_keeps (Pass1.dat1 (arrs0 m) c) (W0 m c) (launch0 (F := F)).win.arr_inj (fun _ => rfl) main_arg1 (by decide)

/-- The sums' logarithms. -/
theorem W1_logz (c : Dev nD) : W1 m c (Proc.devRef .tc main_v0_0) = log (Pass1.stEnd (Pass1.blocks (arrs0 m) c)).2.1 :=
  (afterRegion_arr (Pass1.dat1 (arrs0 m) c) (W0 m c) (launch0 (F := F)).win.arr_inj 2).trans
    (Dat.arrAt_eq_of_after_last (Pass1.dat1 (arrs0 m) c) 2 tLast (by decide +kernel) _ (fun j => congrFun (Pass1.after_2 (arrs0 m) c tLast) _))
/-- The winning tiles. -/
theorem W1_jstar (c : Dev nD) : W1 m c (Proc.devRef .tc main_v0_1) = (Pass1.stEnd (Pass1.blocks (arrs0 m) c)).2.2 :=
  (afterRegion_arr (Pass1.dat1 (arrs0 m) c) (W0 m c) (launch0 (F := F)).win.arr_inj 3).trans
    (Dat.arrAt_eq_of_after_last (Pass1.dat1 (arrs0 m) c) 3 tLast (by decide +kernel) _ (fun j => rfl))

/-- An array the last point writes holds what it wrote. -/
theorem arr4 (c : Dev nD) (X : IVec S64x1 32) (h : (Pass1.dat1 (arrs0 m) c).after 4 tLast = X) : (Pass1.dat1 (arrs0 m) c).arrAt 4 cfg0.N = X :=
  Dat.arrAt_eq_of_after_last (Pass1.dat1 (arrs0 m) c) 4 tLast (by decide +kernel) X (fun j => congrFun h _)
theorem arr5 (c : Dev nD) (X : FVec F S64x1 .f32) (h : (Pass1.dat1 (arrs0 m) c).after 5 tLast = X) : (Pass1.dat1 (arrs0 m) c).arrAt 5 cfg0.N = X :=
  Dat.arrAt_eq_of_after_last (Pass1.dat1 (arrs0 m) c) 5 tLast (by decide +kernel) X (fun j => congrFun h _)

/-- The tails' first maxima. -/
theorem W1_tail (c : Dev nD) : W1 m c (Proc.devRef .tc main_v0_2) = Pass1.tailIdx (Pass1.tailOf (Pass1.blocks (arrs0 m) c)) :=
  (afterRegion_arr (Pass1.dat1 (arrs0 m) c) (W0 m c) (launch0 (F := F)).win.arr_inj 4).trans
    (arr4 m c _ (Pass1.after_4 (arrs0 m) c tLast))
/-- The tails' logits at the actions. -/
theorem W1_pick (c : Dev nD) : W1 m c (Proc.devRef .tc main_v0_3) = Pass1.tailPick (Pass1.tailOf (Pass1.blocks (arrs0 m) c)) (Pass1.acts (arrs0 m) c 30) :=
  (afterRegion_arr (Pass1.dat1 (arrs0 m) c) (W0 m c) (launch0 (F := F)).win.arr_inj 5).trans
    (arr5 m c _ (Pass1.after_5 (arrs0 m) c tLast))

/-- The host writes the two tables only. -/
theorem W2_of (c : Dev nD) (r : Ref sig .tc) (h : r ∉ hostOps1_W) : W2 m c (Proc.devRef .tc r) = W1 m c (Proc.devRef .tc r) :=
  StableHlo.after_of_writes_sub hostOps1 _ hostOps1_writes h

/-- A column read as a list. -/
theorem column_apply (x : IVec S64x1 32) (r : Fin 64) :
    shapeCast S64 x shapeCasts_S64x1_S64 (Idealize.ShloMosaic.ValueIdx.ix1 r) = x (Idealize.ShloMosaic.ValueIdx.ix2 (n0 := 64) (n1 := 1) r 0) :=
  shapeCast_apply x shapeCasts_S64x1_S64 _ _ (by rw [Shape.rowMajor_val_one, Shape.rowMajor_val_two]; show r.val * 1 + 0 = r.val; omega)

/-- The winners' table is the winning tiles' column. -/
theorem W2_tblJ (c : Dev nD) : (W2 m c (Proc.devRef .tc main_v1) : IVec S64 32)
    = shapeCast S64 (W1 m c (Proc.devRef .tc main_v0_1) : IVec S64x1 32) shapeCasts_S64x1_S64 := by
  unfold W2 hostOps1
  after_results
  rfl
/-- The actions' table is the actions' column. -/
theorem W2_tblA (c : Dev nD) : (W2 m c (Proc.devRef .tc main_v2) : IVec S64 32)
    = shapeCast S64 (W1 m c (Proc.devRef .tc main_arg1) : IVec S64x1 32) shapeCasts_S64x1_S64 := by
  unfold W2 hostOps1
  after_results
  rfl

/-! ## The second call's offsets -/

/-- A table's word, the table being given. -/
theorem word_tblJ (c : Dev nD) (f : IVec S64 32) (r : Nat) (h : r < 64) :
    Pass2.wordAt (F := F) c Pass2.tblJ f r h = f (Idealize.ShloMosaic.ValueIdx.ix1 ⟨r, h⟩) := rfl
theorem word_tblA (c : Dev nD) (f : IVec S64 32) (r : Nat) (h : r < 64) :
    Pass2.wordAt (F := F) c Pass2.tblA f r h = f (Idealize.ShloMosaic.ValueIdx.ix1 ⟨r, h⟩) := rfl

/-- The winners' table's word at a row. -/
theorem wordJ (c : Dev nD) (r : Nat) (h : r < 64) : Pass2.wordAt c Pass2.tblJ ((adm1 m).1 0) r h
    = (Pass1.stEnd (Pass1.blocks (arrs0 m) 0)).2.2 (Idealize.ShloMosaic.ValueIdx.ix2 (n0 := 64) (n1 := 1) ⟨r, h⟩ 0) := by
  have e : (adm1 m).1 0 = shapeCast S64 ((Pass1.stEnd (Pass1.blocks (arrs0 m) 0)).2.2) shapeCasts_S64x1_S64 :=
    (tables_keep m 0 0).trans ((W2_tblJ m 0).trans (congrArg (fun x => shapeCast S64 x shapeCasts_S64x1_S64) (W1_jstar m 0)))
  rw [e, word_tblJ, column_apply]
/-- The actions' table's word at a row. -/
theorem wordA (c : Dev nD) (r : Nat) (h : r < 64) : Pass2.wordAt c Pass2.tblA ((adm1 m).1 1) r h
    = (m (0, Proc.devRef .tc main_arg1) : IVec S64x1 32) (Idealize.ShloMosaic.ValueIdx.ix2 (n0 := 64) (n1 := 1) ⟨r, h⟩ 0) := by
  have e : (adm1 m).1 1 = shapeCast S64 (m (0, Proc.devRef .tc main_arg1) : IVec S64x1 32) shapeCasts_S64x1_S64 :=
    (tables_keep m 0 1).trans ((W2_tblA m 0).trans (congrArg (fun x => shapeCast S64 x shapeCasts_S64x1_S64) (W1_arg1 m 0)))
  rw [e, word_tblA, column_apply]

/-- Every winner's tile lies in the logits. -/
theorem goodJ : Pass2.GoodJ (adm1 m) := fun c r h => by
  obtain ⟨k, hk, e⟩ := Pass1.stEnd_idx (Pass1.blocks (arrs0 m) 0) (Idealize.ShloMosaic.ValueIdx.ix2 (n0 := 64) (n1 := 1) ⟨r, h⟩ 0)
  rw [wordJ m c r h, e]
  exact Pass2.chkJ_of r h (by omega)

/-- Actions that number columns of the logits. -/
def InRange : Prop := ∀ (c : Dev nD) (r : Fin 64), ∃ v < 1000000, (m (c, Proc.devRef .tc main_arg1) : IVec S64x1 32) (Idealize.ShloMosaic.ValueIdx.ix2 (n0 := 64) (n1 := 1) r 0) = BitVec.ofNat 32 v

/-- Every action's lanes lie in the logits. -/
theorem goodA (h : InRange m) : Pass2.GoodA (adm1 m) := fun c r hr => by
  obtain ⟨v, hv, e⟩ := h 0 ⟨r, hr⟩
  rw [wordA m c r hr, e]
  exact Pass2.inA_of r hr hv

/-! ## At the end -/

variable (hJ : Pass2.GoodJ (adm1 m)) (hA : Pass2.GoodA (adm1 m))

/-- The arguments end as they began. -/
theorem W3_arg0 (c : Dev nD) : W3 m hJ hA c (Proc.devRef .tc main_arg0) = m (c, Proc.devRef .tc main_arg0) :=
  (afterRegion_keeps (Pass2.dat2 (adm1 m) (W2 m) hJ hA c) (W2 m c) (launch1 (F := F)).win.arr_inj (fun _ => rfl) main_arg0 (show ∀ w : Fin 7, arrRef spec1 w = main_arg0 → (spec1 w).isOut = false by decide)).trans
    ((W2_of m c main_arg0 (by decide)).trans (W1_arg0 m c))
theorem W3_arg1 (c : Dev nD) : W3 m hJ hA c (Proc.devRef .tc main_arg1) = m (c, Proc.devRef .tc main_arg1) :=
  (afterRegion_keeps (Pass2.dat2 (adm1 m) (W2 m) hJ hA c) (W2 m c) (launch1 (F := F)).win.arr_inj (fun _ => rfl) main_arg1 (show ∀ w : Fin 7, arrRef spec1 w = main_arg1 → (spec1 w).isOut = false by decide)).trans
    ((W2_of m c main_arg1 (by decide)).trans (W1_arg1 m c))

/-- The second call's one point writes each of its results whole. -/
theorem whole5 (a : (pcfg1 (F := F)).Adm) : ((cfg1 a).win 5).WholeAt t1_0 :=
  ⟨by
    show (true && (decide (t1_0.val + 1 = grid1.N) || _)) = true
    rw [decide_eq_true (show t1_0.val + 1 = grid1.N from N_1.symm)]; rfl, fun t _ => fin_N1 t, fun b => by fin_cases b <;> exact ⟨rfl, rfl⟩⟩
theorem whole6 (a : (pcfg1 (F := F)).Adm) : ((cfg1 a).win 6).WholeAt t1_0 :=
  ⟨by
    show (true && (decide (t1_0.val + 1 = grid1.N) || _)) = true
    rw [decide_eq_true (show t1_0.val + 1 = grid1.N from N_1.symm)]; rfl, fun t _ => fin_N1 t, fun b => by fin_cases b <;> exact ⟨rfl, rfl⟩⟩

/-- A result holds what the one point wrote. -/
theorem arr5' (c : Dev nD) (X : FVec F S64x1 .f32) (h : (Pass2.dat2 (adm1 m) (W2 m) hJ hA c).after 5 t1_0 = X) :
    (Pass2.dat2 (adm1 m) (W2 m) hJ hA c).arrAt 5 (cfg1 (adm1 m)).N = X :=
  Dat.arrAt_eq_of_after_last (Pass2.dat2 (adm1 m) (W2 m) hJ hA c) 5 t1_0 (whole5 (adm1 m)) X (fun j => congrFun h _)
theorem arr6' (c : Dev nD) (X : IVec S64x1 32) (h : (Pass2.dat2 (adm1 m) (W2 m) hJ hA c).after 6 t1_0 = X) :
    (Pass2.dat2 (adm1 m) (W2 m) hJ hA c).arrAt 6 (cfg1 (adm1 m)).N = X :=
  Dat.arrAt_eq_of_after_last (Pass2.dat2 (adm1 m) (W2 m) hJ hA c) 6 t1_0 (whole6 (adm1 m)) X (fun j => congrFun h _)
theorem after5' (c : Dev nD) : (Pass2.dat2 (adm1 m) (W2 m) hJ hA c).after 5 t1_0 = Pass2.outLp (adm1 m) (W2 m) hA c := by unfold Pass2.dat2; exact rfl
theorem after6' (c : Dev nD) : (Pass2.dat2 (adm1 m) (W2 m) hJ hA c).after 6 t1_0 = Pass2.outMode (adm1 m) (W2 m) hJ c := by unfold Pass2.dat2; exact rfl

/-- The log-probabilities. -/
theorem W3_lp (c : Dev nD) : W3 m hJ hA c (Proc.devRef .tc main_v3_0) = Pass2.outLp (adm1 m) (W2 m) hA c :=
  (afterRegion_arr (Pass2.dat2 (adm1 m) (W2 m) hJ hA c) (W2 m c) (launch1 (F := F)).win.arr_inj 5).trans (arr5' m hJ hA c _ (after5' m hJ hA c))
/-- The modes. -/
theorem W3_mode (c : Dev nD) : W3 m hJ hA c (Proc.devRef .tc main_v3_1) = Pass2.outMode (adm1 m) (W2 m) hJ c :=
  (afterRegion_arr (Pass2.dat2 (adm1 m) (W2 m) hJ hA c) (W2 m c) (launch1 (F := F)).win.arr_inj 6).trans (arr6' m hJ hA c _ (after6' m hJ hA c))

/-- The program runs, leaves its arguments as they were, and ends at rest. -/
theorem frame_main (h : InRange m) (ρ : Dev nD → PrngReg) :
    θ_run defs (onTc (τ := τ) (main (F := F))) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0) :=
  θ_run_mono (run m (goodJ m) (goodA m h) ρ) fun r hr =>
    ⟨fun c => ⟨(hr.1 c main_arg0 rfl).trans (W3_arg0 m _ _ c), (hr.1 c main_arg1 rfl).trans (W3_arg1 m _ _ c)⟩, hr.2⟩

end Cert.KernelIdeal.Run
-- ==== Proof.Ref.Run.lean ====
/- The reference's run: what its results and its arguments hold at the end. -/
module

public import proofs.«01_k».proof.ReferenceIdeal
public import proofs.«01_k».proof.Proof.Gen.ReferenceIdeal
public import Idealize.ShloMosaic.Lib.Claim

@[expose] public section

set_option maxRecDepth 16384

noncomputable section

namespace Cert.ReferenceIdeal.Run

open Idealize.ShloMosaic Idealize.ShloMosaic.TcCoe Idealize.SL.Sem
open Cert.ReferenceIdeal Cert.ReferenceIdeal.Gen

variable {F : FTy → Type} [FloatOps F]

/-- The reference runs, and its arguments end as they began, every semaphore at zero. -/
theorem frame_main (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  have h : θ_run (defs (F := F)) (onTc (τ := τ) (main (F := F))) ⟨m, fun _ => 0, g⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) := by
    hlo_run
  exact θ_run_mono h fun r hr => ⟨hr, sem_eq_zero_of_no_sems rfl r.2⟩

end Cert.ReferenceIdeal.Run

end
-- ==== Proof.Math.First.lean ====
/- First maxima: the first place a sequence of extended reals attains its maximum over a range, joined from two
   neighbouring ranges, and found from the tiles' maxima. -/
module

public import Idealize.ShloMosaic.PureOps.Ideal
public import Idealize.ShloMosaic.PureOps.Ideal.Laws
public import Idealize.ShloMosaic.Lib.WordCmp
public import Idealize.ShloMosaic.Lib.SortNet.Extract

@[expose] public section

noncomputable section

namespace Cert.Math

open Idealize.ShloMosaic

/-- `k` is the first place from `a` up to `b` at which `T` attains its maximum there, `v`. -/
def First (T : ℕ → EReal) (a b : ℕ) (v : EReal) (k : ℕ) : Prop :=
  a ≤ k ∧ k < b ∧ v = T k ∧ (∀ i, a ≤ i → i < b → T i ≤ v) ∧ ∀ i, a ≤ i → i < k → T i < v

variable {T L : ℕ → EReal} {a b c : ℕ} {v w : EReal} {k l : ℕ}

theorem First.one (T : ℕ → EReal) (a : ℕ) : First T a (a + 1) (T a) a :=
  ⟨le_refl _, by omega, rfl, fun i h1 h2 => by rw [show i = a by omega], fun i h1 h2 => absurd h2 (by omega)⟩

/-- The later range's maximum is greater. -/
theorem First.later (h : First T a b v k) (h' : First T b c w l) (hlt : v < w) : First T a c w l :=
  ⟨by have := h.1; have := h.2.1; have := h'.1; omega, h'.2.1, h'.2.2.1,
   fun i h1 h2 => if hb : i < b then (h.2.2.2.1 i h1 hb).trans hlt.le else h'.2.2.2.1 i (by omega) h2,
   fun i h1 h2 => if hb : i < b then (h.2.2.2.1 i h1 hb).trans_lt hlt else h'.2.2.2.2 i (by omega) h2⟩

/-- The later range's maximum is no greater. -/
theorem First.earlier (h : First T a b v k) (h' : First T b c w l) (hle : w ≤ v) : First T a c v k :=
  ⟨h.1, by have := h.2.1; have := h'.1; have := h'.2.1; omega, h.2.2.1,
   fun i h1 h2 => if hb : i < b then h.2.2.2.1 i h1 hb else (h'.2.2.2.1 i (by omega) h2).trans hle,
   fun i h1 h2 => h.2.2.2.2 i h1 h2⟩

/-- There is at most one. -/
theorem First.unique (h : First T a b v k) (h' : First T a b w l) : v = w ∧ k = l := by
  have e : v = w := le_antisymm (by rw [h.2.2.1]; exact h'.2.2.2.1 k h.1 h.2.1) (by rw [h'.2.2.1]; exact h.2.2.2.1 l h'.1 h'.2.1)
  refine ⟨e, ?_⟩
  rcases lt_trichotomy k l with hlt | he | hlt
  · exact absurd (h'.2.2.2.2 k h.1 hlt) (by rw [← h.2.2.1, e]; exact lt_irrefl _)
  · exact he
  · exact absurd (h.2.2.2.2 l h'.1 hlt) (by rw [← h'.2.2.1, e]; exact lt_irrefl _)

/-- From a shifted sequence. -/
theorem First.congr {T' : ℕ → EReal} (h : First T a b v k) (e : ∀ i, a ≤ i → i < b → T i = T' i) : First T' a b v k :=
  ⟨h.1, h.2.1, h.2.2.1.trans (e k h.1 h.2.1), fun i h1 h2 => by rw [← e i h1 h2]; exact h.2.2.2.1 i h1 h2,
   fun i h1 h2 => by rw [← e i h1 (h2.trans h.2.1)]; exact h.2.2.2.2 i h1 h2⟩

/-! ## Maxima as folds -/

/-- The maximum of finitely many extended reals. -/
abbrev top {n : ℕ} (f : Fin n → EReal) : EReal := (Finset.univ : Finset (Fin n)).fold max ⊥ f

theorem le_top {n : ℕ} (f : Fin n → EReal) (k : Fin n) : f k ≤ top f :=
  (Finset.le_fold_max (f k)).mpr (.inr ⟨k, Finset.mem_univ k, le_refl _⟩)
theorem top_le {n : ℕ} (f : Fin n → EReal) (v : EReal) (h : ∀ k, f k ≤ v) : top f ≤ v :=
  (Finset.fold_max_le v).mpr ⟨bot_le, fun k _ => h k⟩
theorem top_mem {n : ℕ} (f : Fin n → EReal) (hn : 0 < n) : ∃ k, f k = top f := by
  haveI : Nonempty (Fin n) := ⟨⟨0, hn⟩⟩
  obtain ⟨k, -, hk⟩ := Finset.exists_max_image (Finset.univ : Finset (Fin n)) f Finset.univ_nonempty
  exact ⟨k, le_antisymm (le_top f k) (top_le f _ fun i => hk i (Finset.mem_univ i))⟩

/-- The first place at which a sequence attains its maximum over a range from zero exists. -/
theorem First.exists (T : ℕ → EReal) (n : ℕ) (hn : 0 < n) : ∃ k, First T 0 n (top fun l : Fin n => T l) k := by
  classical
  have hex : ∃ k, k < n ∧ T k = top fun l : Fin n => T l := by
    obtain ⟨k, hk⟩ := top_mem (fun l : Fin n => T l) hn
    exact ⟨k.val, k.isLt, hk⟩
  refine ⟨Nat.find hex, Nat.zero_le _, (Nat.find_spec hex).1, (Nat.find_spec hex).2.symm,
    fun i _ hi => le_top (fun l : Fin n => T l) ⟨i, hi⟩, fun i _ hi => ?_⟩
  have hin := hi.trans (Nat.find_spec hex).1
  exact lt_of_le_of_ne (le_top (fun l : Fin n => T l) ⟨i, hin⟩) fun he => Nat.find_min hex hi ⟨hin, he⟩

/-- The first maximum over a range from zero is the fold's. -/
theorem First.eq_top {n : ℕ} (h : First T 0 n v k) : v = top fun l : Fin n => T l :=
  le_antisymm (by rw [h.2.2.1]; exact le_top (fun l : Fin n => T l) ⟨k, h.2.1⟩) (top_le _ _ fun l => h.2.2.2.1 l (Nat.zero_le _) l.isLt)

/-! ## Tiles -/

/-- The maximum of tile `k`. -/
def tileMax (L : ℕ → EReal) (k : ℕ) : EReal := top fun l : Fin 1024 => L (1024 * k + l)

theorem le_tileMax (L : ℕ → EReal) (i : ℕ) : L i ≤ tileMax L (i / 1024) := by
  have h := le_top (fun l : Fin 1024 => L (1024 * (i / 1024) + l)) ⟨i % 1024, Nat.mod_lt _ (by omega)⟩
  have e : 1024 * (i / 1024) + i % 1024 = i := Nat.div_add_mod i 1024
  simp only [e] at h
  exact h

/-- The first maximum lies in the first winning tile, where that tile's is. -/
theorem First.lane {n : ℕ} (h : First (tileMax L) 0 n v k) (h' : First (fun i => L (1024 * k + i)) 0 1024 w l) :
    First L 0 (1024 * n) w (1024 * k + l) := by
  have hk := h.2.1
  have hl := h'.2.1
  have e : v = w := h.2.2.1.trans h'.eq_top.symm
  refine ⟨Nat.zero_le _, by omega, h'.2.2.1, fun i _ hi => ?_, fun i _ hi => ?_⟩
  · exact (le_tileMax L i).trans (e ▸ h.2.2.2.1 _ (Nat.zero_le _) (by omega))
  · rcases lt_or_ge (i / 1024) k with hq | hq
    · exact (le_tileMax L i).trans_lt (e ▸ h.2.2.2.2 _ (Nat.zero_le _) hq)
    · have := h'.2.2.2.2 (i - 1024 * k) (Nat.zero_le _) (by omega)
      simp only [show 1024 * k + (i - 1024 * k) = i by omega] at this
      exact this

/-- If the first winning tile is not before tile `t`, the first maximum is the first one from there on. -/
theorem First.tail {n t : ℕ} (h : First (tileMax L) 0 n v k) (ht : t ≤ k) (h' : First (fun i => L (1024 * t + i)) 0 (1024 * n - 1024 * t) w l) :
    First L 0 (1024 * n) w (1024 * t + l) := by
  have hk := h.2.1
  have hl := h'.2.1
  have e : v = w := by
    refine le_antisymm ?_ ?_
    · rw [h.2.2.1]
      refine top_le _ _ fun i => ?_
      have := h'.2.2.2.1 (1024 * k + i - 1024 * t) (Nat.zero_le _) (by have := i.isLt; omega)
      simp only [show 1024 * t + (1024 * k + i - 1024 * t) = 1024 * k + i by omega] at this
      exact this
    · rw [h'.2.2.1]
      exact (le_tileMax L _).trans (h.2.2.2.1 _ (Nat.zero_le _) (by omega))
  refine ⟨Nat.zero_le _, by omega, h'.2.2.1, fun i _ hi => ?_, fun i _ hi => ?_⟩
  · exact (le_tileMax L i).trans (e ▸ h.2.2.2.1 _ (Nat.zero_le _) (by omega))
  · rcases lt_or_ge i (1024 * t) with hq | hq
    · exact (le_tileMax L i).trans_lt (e ▸ h.2.2.2.2 _ (Nat.zero_le _) (by omega))
    · have := h'.2.2.2.2 (i - 1024 * t) (Nat.zero_le _) (by omega)
      simp only [show 1024 * t + (i - 1024 * t) = i by omega] at this
      exact this

/-- Places from `n` on that hold minus infinity do not matter. -/
theorem First.trim {n N : ℕ} (h : First L 0 N v k) (hn : 0 < n) (hN : n ≤ N) (hpad : ∀ i, n ≤ i → L i = ⊥) : First L 0 n v k := by
  have hk : k < n := by
    by_contra hc
    have h0 := h.2.2.2.2 0 (le_refl _) (by omega)
    rw [h.2.2.1, hpad k (by omega)] at h0
    exact absurd h0 (not_lt_bot)
  exact ⟨h.1, hk, h.2.2.1, fun i h1 h2 => h.2.2.2.1 i h1 (by omega), h.2.2.2.2⟩

/-! ## The first lane, as a minimum of words -/

/-- A minimum of signed words that are natural numbers. -/
theorem fold_minsi {n : ℕ} (g : Fin n → BitVec 32) (q : ℕ) (hq : q < 2 ^ 31) (p : Fin n) (hp : g p = BitVec.ofNat 32 q)
    (hle : ∀ l, ∃ r, q ≤ r ∧ r < 2 ^ 31 ∧ g l = BitVec.ofNat 32 r) :
    (Finset.univ : Finset (Fin n)).fold IntOp.minsi 2147483647#32 g = BitVec.ofNat 32 q := by
  apply BitVec.eq_of_toInt_eq
  rw [← Finset.fold_hom (op' := (min : ℤ → ℤ → ℤ)) (m := BitVec.toInt) fun x y => SortNet.toInt_minsi x y]
  have eq : ∀ r : ℕ, r < 2 ^ 31 → (BitVec.ofNat 32 r).toInt = (r : ℤ) := fun r hr => WordCmp.toInt_ofNat_of_lt hr
  refine le_antisymm ?_ ?_
  · exact (Finset.fold_min_le _).mpr (.inr ⟨p, Finset.mem_univ p, by rw [hp]⟩)
  · refine (Finset.le_fold_min _).mpr ⟨?_, fun l _ => ?_⟩
    · rw [eq q hq, show (2147483647#32).toInt = 2147483647 by decide]; omega
    · obtain ⟨r, h1, h2, e⟩ := hle l
      rw [e, eq q hq, eq r h2]; exact_mod_cast h1

/-- The least lane number at which a sequence attains its maximum, the others' being `big`. -/
theorem firstLane {n : ℕ} (f : ℕ → EReal) (base : ℕ) (big : ℕ) (h : First f 0 n v k) (hb : base + k ≤ big) (hn : base + n ≤ 2 ^ 31) (hbig : big < 2 ^ 31)
    (g : Fin n → BitVec 32) (hg : ∀ l : Fin n, g l = if f l = v then BitVec.ofNat 32 (base + l) else BitVec.ofNat 32 big) :
    (Finset.univ : Finset (Fin n)).fold IntOp.minsi 2147483647#32 g = BitVec.ofNat 32 (base + k) := by
  have hk := h.2.1
  refine fold_minsi g (base + k) (by omega) ⟨k, hk⟩ ?_ fun l => ?_
  · rw [hg, if_pos h.2.2.1.symm]
  · rw [hg]
    split
    · next he =>
      refine ⟨base + l, ?_, by have := l.isLt; omega, rfl⟩
      by_contra hc
      exact absurd (h.2.2.2.2 l (Nat.zero_le _) (by omega)) (by rw [he]; exact lt_irrefl _)
    · exact ⟨big, by omega, hbig, rfl⟩

end Cert.Math

end
-- ==== Proof.Math.LogSum.lean ====
/- The logarithm of a sum of exponentials, on the extended reals: subtracting the maximum first changes nothing, whatever
   the values. -/
module

public import Idealize.ShloMosaic.PureOps.Ideal
public import Idealize.ShloMosaic.PureOps.Ideal.Laws

@[expose] public section

noncomputable section

namespace Cert.Math

open Idealize.ShloMosaic

/-- A finite sum of reals, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem exp_nonneg (x : EReal) : 0 ≤ Ideal.exp x := by
  induction x using EReal.rec with
  | bot => exact le_refl _
  | top => exact le_top
  | coe r => rw [Ideal.exp_coe]; exact_mod_cast (Real.exp_pos r).le

/-- Subtracting from every value the greatest of them. -/
theorem log_softmax {ι : Type} [Fintype ι] (f : ι → EReal) (M : EReal) (hle : ∀ i, f i ≤ M) (hmem : ∃ i, f i = M) (a : ι) :
    (f a - M) - Ideal.log (∑ i, Ideal.exp (f i - M)) = f a - Ideal.log (∑ i, Ideal.exp (f i)) := by
  induction M using EReal.rec with
  | bot =>
    have h : f a = ⊥ := le_bot_iff.mp (hle a)
    rw [h, EReal.bot_sub, EReal.bot_sub, EReal.bot_sub]
  | top =>
    obtain ⟨i, hi⟩ := hmem
    have hs : ∑ i, Ideal.exp (f i) = ⊤ := by
      refine top_le_iff.mp ?_
      have := Finset.single_le_sum (f := fun i => Ideal.exp (f i)) (fun i _ => exp_nonneg _) (Finset.mem_univ i)
      rwa [hi, Ideal.exp_top] at this
    rw [hs, Ideal.log_top, EReal.sub_top, EReal.bot_sub]
  | coe m =>
    have hcase : ∀ i, f i = ⊥ ∨ ∃ x : ℝ, f i = x := fun i => by
      have := hle i
      generalize f i = y at this
      induction y using EReal.rec with
      | bot => exact .inl rfl
      | top => exact absurd (top_le_iff.mp this) (EReal.coe_ne_top m)
      | coe x => exact .inr ⟨x, rfl⟩
    have he : ∀ i, ∃ e : ℝ, 0 ≤ e ∧ Ideal.exp (f i) = e ∧ Ideal.exp (f i - m) = ((e * Real.exp (-m) : ℝ) : EReal) ∧ (f i = m → 0 < e) := fun i => by
      rcases hcase i with h | ⟨x, h⟩
      · refine ⟨0, le_refl _, by rw [h, Ideal.exp_bot, EReal.coe_zero], by rw [h, EReal.bot_sub, Ideal.exp_bot, zero_mul, EReal.coe_zero], fun hm => ?_⟩
        rw [h] at hm; exact absurd hm.symm (EReal.coe_ne_bot m)
      · refine ⟨Real.exp x, (Real.exp_pos x).le, by rw [h, Ideal.exp_coe], ?_, fun _ => Real.exp_pos x⟩
        rw [h, ← EReal.coe_sub, Ideal.exp_coe, sub_eq_add_neg, Real.exp_add]
    choose e h0 h1 h2 h3 using he
    have hS : 0 < ∑ i, e i := by
      obtain ⟨i, hi⟩ := hmem
      exact Finset.sum_pos' (fun i _ => h0 i) ⟨i, Finset.mem_univ i, h3 i hi⟩
    have s1 : ∑ i, Ideal.exp (f i) = ((∑ i, e i : ℝ) : EReal) := by rw [coe_sum]; exact Finset.sum_congr rfl fun i _ => h1 i
    have s2 : ∑ i, Ideal.exp (f i - m) = (((∑ i, e i) * Real.exp (-m) : ℝ) : EReal) := by
      rw [Finset.sum_mul, coe_sum]; exact Finset.sum_congr rfl fun i _ => h2 i
    have hE := Real.exp_pos (-m)
    rw [s1, s2, Ideal.log_coe, Ideal.log_coe, if_neg (not_le.mpr hS), if_neg (not_le.mpr (mul_pos hS hE)), Real.log_mul hS.ne' hE.ne', Real.log_exp]
    rcases hcase a with h | ⟨x, h⟩
    · rw [h, EReal.bot_sub, EReal.bot_sub, EReal.bot_sub]
    · rw [h, ← EReal.coe_sub, ← EReal.coe_sub, ← EReal.coe_sub]
      congr 1
      ring

end Cert.Math

end
-- ==== Proof.Ideal.Sweep.lean ====
/- What the first call computes on the extended reals: each row's sum of exponentials, the first tile attaining its maximum,
   the tail's first column attaining the tail's maximum, and the tail's logit at the action. -/
module

public import proofs.«01_k».proof.Proof.Ideal.Bounds
public import proofs.«01_k».proof.Proof.Math.First
public import proofs.«01_k».proof.Proof.Math.LogSum

@[expose] public section

set_option maxRecDepth 16384

noncomputable section

namespace Cert.KernelIdeal.Values

open Idealize.ShloMosaic Idealize.ShloMosaic.ValueIdx
open Cert.KernelIdeal Cert.KernelIdeal.Gen Cert.KernelIdeal.Pass1 Cert.Math

/-! ## Operations at an index -/

theorem bot_bits : (Scalar.ofBits .f32 0xFF800000#32 : Ideal .f32) = (⊥ : EReal) := by
  show Ideal.ofBits .f32 0xFF800000#32 = ⊥
  simp [Ideal.ofBits, Ideal.ieee]
theorem zero_bits : (Scalar.ofBits .f32 0x00000000#32 : Ideal .f32) = (0 : EReal) := Ideal.ofBits_zero_f32

theorem select_ogt {α : Type} (x y : EReal) (a b : α) : Scalar.select (Ideal.cmp .ogt x y) a b = if y < x then a else b := by
  unfold Scalar.select Ideal.cmp
  by_cases h : y < x <;> simp [h]
theorem select_oeq {α : Type} (x y : EReal) (a b : α) : Scalar.select (Ideal.cmp .oeq x y) a b = if x = y then a else b := by
  unfold Scalar.select Ideal.cmp
  by_cases h : x = y <;> simp [h]

/-- The one column of row `r`. -/
abbrev at0 (r : Fin 64) : S64x1.Idx := ix2 (n0 := 64) (n1 := 1) r 0

/-- A row's value spread to a column. -/
theorem column {α : Type} (x : S64.Idx → α) (r : Fin 64) : shapeCast S64x1 x shapeCasts_S64_S64x1 (at0 r) = x (ValueIdx.ix1 (n := 64) r) :=
  shapeCast_apply x _ _ _ (by rw [Shape.rowMajor_val_one, Shape.rowMajor_val_two]; show r.val = r.val * 1 + 0; omega)

/-! ## A block's tiles -/

/-- Tile `k`'s maximum, of a block whose row `r` is `f`. -/
theorem leaf32_apply (x : FVec Ideal S64x32768 .f32) (r : Fin 64) (f : ℕ → EReal)
    (hx : ∀ l : Fin 32768, x (ix2 (n0 := 64) (n1 := 32768) r l) = f l) (k : ℕ) (hk : k < 32) :
    leaf32 (F := Ideal) x k (at0 r) = top fun l : Fin 1024 => f (1024 * k + l) := by
  unfold leaf32
  rw [dif_pos hk, column]
  refine (Ideal.multiReduction_maximumf_single _ _ _ _ _ _).trans ?_
  rw [show (FloatOps.ofBits .f32 0xFF800000#32 : Ideal .f32) = (⊥ : EReal) from bot_bits]
  refine Finset.fold_congr fun l _ => ?_
  have hl : l.val < 1024 := l.isLt
  refine Eq.trans ?_ (hx ⟨1024 * k + l.val, by omega⟩)
  refine congrArg x (funext fun a => ?_)
  fin_cases a
  · exact Fin.ext (Nat.zero_add r.val)
  · rfl

/-- The same of the tail's tiles. -/
theorem leaf17_apply (x : FVec Ideal S64x17408 .f32) (r : Fin 64) (f : ℕ → EReal)
    (hx : ∀ l : Fin 17408, x (ix2 (n0 := 64) (n1 := 17408) r l) = f l) (k : ℕ) (hk : k < 17) :
    leaf17 (F := Ideal) x k (at0 r) = top fun l : Fin 1024 => f (1024 * k + l) := by
  unfold leaf17
  rw [dif_pos hk, column]
  refine (Ideal.multiReduction_maximumf_single _ _ _ _ _ _).trans ?_
  rw [show (FloatOps.ofBits .f32 0xFF800000#32 : Ideal .f32) = (⊥ : EReal) from bot_bits]
  refine Finset.fold_congr fun l _ => ?_
  have hl : l.val < 1024 := l.isLt
  refine Eq.trans ?_ (hx ⟨1024 * k + l.val, by omega⟩)
  refine congrArg x (funext fun a => ?_)
  fin_cases a
  · exact Fin.ext (Nat.zero_add r.val)
  · rfl

/-! ## The tournament -/

/-- Row `r` of a candidate is the first maximum of the tiles from `a` up to `b`, numbered from `off`. -/
def Wins (T : ℕ → EReal) (off a b : ℕ) (c : Cand Ideal) (r : Fin 64) : Prop :=
  ∃ k, First T a b (c.1 (at0 r)) (off + k) ∧ c.2 (at0 r) = BitVec.ofNat 32 k

theorem node_wins {T : ℕ → EReal} {off a b e : ℕ} {c c' : Cand Ideal} {r : Fin 64} (h : Wins T off a b c r) (h' : Wins T off b e c' r) :
    Wins T off a e (node c c') r := by
  obtain ⟨k, hf, hk⟩ := h
  obtain ⟨k', hf', hk'⟩ := h'
  have e1 : (node c c').1 (at0 r) = if c.1 (at0 r) < c'.1 (at0 r) then c'.1 (at0 r) else c.1 (at0 r) := select_ogt _ _ _ _
  have e2 : (node c c').2 (at0 r) = if c.1 (at0 r) < c'.1 (at0 r) then c'.2 (at0 r) else c.2 (at0 r) := select_ogt _ _ _ _
  by_cases hlt : c.1 (at0 r) < c'.1 (at0 r)
  · rw [if_pos hlt] at e1 e2
    exact ⟨k', by rw [e1]; exact hf.later hf' hlt, e2.trans hk'⟩
  · rw [if_neg hlt] at e1 e2
    exact ⟨k, by rw [e1]; exact hf.earlier hf' (not_lt.mp hlt), e2.trans hk⟩

theorem tour_wins (T : ℕ → EReal) (off n : ℕ) (leaf : ℕ → FVec Ideal S64x1 .f32) (r : Fin 64) (hleaf : ∀ k < n, (leaf k (at0 r) : EReal) = T (off + k)) :
    (d b : ℕ) → b + 2 ^ d ≤ n → Wins T off (off + b) (off + (b + 2 ^ d)) (tour leaf d b) r
  | 0, b, hb => ⟨b, by
      show First T (off + b) (off + (b + 1)) (leaf b (at0 r)) (off + b)
      rw [hleaf b (by simpa using hb)]
      exact First.one T (off + b), rfl⟩
  | d + 1, b, hb => by
    have hp : 2 ^ (d + 1) = 2 ^ d + 2 ^ d := by rw [pow_succ]; omega
    rw [hp] at hb
    have hpos : 0 < 2 ^ d := Nat.two_pow_pos d
    have h1 := tour_wins T off n leaf r hleaf d b (by omega)
    have h2 := tour_wins T off n leaf r hleaf d (b + 2 ^ d) (by omega)
    rw [hp, show b + (2 ^ d + 2 ^ d) = b + 2 ^ d + 2 ^ d by omega]
    exact node_wins h1 h2

/-- A block's winner, of block `n` of a row `L`. -/
theorem win32_wins (x : FVec Ideal S64x32768 .f32) (r : Fin 64) (L : ℕ → EReal) (n : ℕ)
    (hx : ∀ l : Fin 32768, x (ix2 (n0 := 64) (n1 := 32768) r l) = L (32768 * n + l)) :
    Wins (tileMax L) (32 * n) (32 * n) (32 * (n + 1)) (win32 x) r := by
  have := tour_wins (tileMax L) (32 * n) 32 (leaf32 x) r (fun k hk => by
    rw [leaf32_apply x r (fun i => L (32768 * n + i)) hx k hk]
    unfold tileMax
    refine Finset.fold_congr fun l _ => ?_
    show L _ = L _
    congr 1; omega) 5 0 (by decide)
  exact this

attribute [local irreducible] leaf17 in
/-- The tail's winner. -/
theorem win17_wins (x : FVec Ideal S64x17408 .f32) (r : Fin 64) (L : ℕ → EReal)
    (hx : ∀ l : Fin 17408, x (ix2 (n0 := 64) (n1 := 17408) r l) = L (983040 + l)) : Wins (tileMax L) 960 960 977 (win17 x) r := by
  have hl : ∀ k < 17, leaf17 (F := Ideal) x k (at0 r) = tileMax L (960 + k) := fun k hk => by
    rw [leaf17_apply x r (fun i => L (983040 + i)) hx k hk]
    unfold tileMax
    refine Finset.fold_congr fun l _ => ?_
    show L _ = L _
    congr 1; omega
  have h1 : Wins (tileMax L) 960 960 976 (tour (leaf17 x) 4 0) r := tour_wins (tileMax L) 960 17 (leaf17 x) r hl 4 0 (by decide)
  have h2 : Wins (tileMax L) 960 976 977 (leaf17 x 16, broadcast S64x1 16#32) r := by
    have hf : First (tileMax L) 976 977 (tileMax L 976) 976 := First.one _ 976
    rw [← hl 16 (by omega)] at hf
    exact ⟨16, hf, rfl⟩
  exact node_wins h1 h2

/-! ## The running state -/

/-- The sum of the exponentials of a row's first `n` values. -/
def expSum (L : ℕ → EReal) (n : ℕ) : EReal := ∑ i ∈ Finset.range n, Ideal.exp (L i)

theorem expSum_add (L : ℕ → EReal) (n k : ℕ) : expSum L (n + k) = expSum L n + ∑ l : Fin k, Ideal.exp (L (n + l)) := by
  unfold expSum
  rw [Finset.sum_range_add, Finset.sum_range fun l => Ideal.exp (L (n + l))]

/-- The running maximum and winner: nothing yet, or the first maximum of the first `n` tiles. -/
def Leads (T : ℕ → EReal) (n : ℕ) (m : EReal) (j : BitVec 32) : Prop :=
  ∃ k, j = BitVec.ofNat 32 k ∧ (n = 0 → m = ⊥ ∧ k = 0) ∧ (0 < n → First T 0 n m k)

/-- One update: the next tiles' first maximum replaces the running one where it is strictly greater. -/
theorem update_leads {T : ℕ → EReal} {g e : ℕ} {m : FVec Ideal S64x1 .f32} {j : IVec S64x1 32} {c : Cand Ideal} {r : Fin 64}
    (h : Leads T (32 * g) (m (at0 r)) (j (at0 r))) (hc : Wins T (32 * g) (32 * g) e c r) :
    Leads T e (mNext c m m (at0 r)) (jNext (BitVec.ofNat 32 g) c m j (at0 r)) := by
  obtain ⟨k, hj, h0, h1⟩ := h
  obtain ⟨k', hf, hk'⟩ := hc
  have em : mNext c m m (at0 r) = if m (at0 r) < c.1 (at0 r) then c.1 (at0 r) else m (at0 r) := by
    unfold mNext; rw [shapeCast_self]; exact select_ogt _ _ _ _
  have ej : jNext (BitVec.ofNat 32 g) c m j (at0 r) = if m (at0 r) < c.1 (at0 r) then BitVec.ofNat 32 (32 * g + k') else j (at0 r) := by
    unfold jNext
    rw [shapeCast_self]
    refine (select_ogt _ _ _ _).trans ?_
    have : (addi (broadcast S64x1 (Scalar.muli (BitVec.ofNat 32 g) 32#32)) c.2) (at0 r) = BitVec.ofNat 32 (32 * g + k') := by
      show IntOp.addi (IntOp.muli (BitVec.ofNat 32 g) (BitVec.ofNat 32 32)) (c.2 (at0 r)) = _
      rw [hk', WordCmp.muli_ofNat, WordCmp.addi_ofNat, Nat.mul_comm]
    rw [this]
  have he : 0 < e := lt_of_le_of_lt (Nat.zero_le _) hf.2.1
  have hge : 32 * g < e := lt_of_le_of_lt hf.1 hf.2.1
  by_cases hlt : m (at0 r) < c.1 (at0 r)
  · rw [if_pos hlt] at em ej
    refine ⟨32 * g + k', ej, fun h => absurd h he.ne', fun _ => ?_⟩
    rw [em]
    rcases Nat.eq_zero_or_pos (32 * g) with hz | hp
    · rw [hz] at hf ⊢; exact hf
    · exact (h1 hp).later hf hlt
  · rw [if_neg hlt] at em ej
    refine ⟨k, ej.trans hj, fun h => absurd h he.ne', fun _ => ?_⟩
    rw [em]
    rcases Nat.eq_zero_or_pos (32 * g) with hz | hp
    · obtain ⟨hm, hk⟩ := h0 hz
      have hb : c.1 (at0 r) = ⊥ := by rw [hm] at hlt; exact not_bot_lt_iff.mp hlt
      rw [hz, hb] at hf
      rw [hm, hk]
      have all : ∀ i, i < e → T i = ⊥ := fun i hi => le_bot_iff.mp (hf.2.2.2.1 i (Nat.zero_le _) hi)
      exact ⟨le_refl _, he, (all 0 he).symm, fun i _ hi => (all i hi).le, fun i _ hi => absurd hi (Nat.not_lt_zero _)⟩
    · exact (h1 hp).earlier hf (not_lt.mp hlt)

theorem sNext_apply (x : FVec Ideal S64x32768 .f32) (s : FVec Ideal S64x1 .f32) (r : Fin 64) (L : ℕ → EReal) (n : ℕ)
    (hx : ∀ l : Fin 32768, x (ix2 (n0 := 64) (n1 := 32768) r l) = L (32768 * n + l)) (hs : s (at0 r) = expSum L (32768 * n)) :
    sNext (F := Ideal) x s (at0 r) = expSum L (32768 * (n + 1)) := by
  unfold sNext
  rw [shapeCast_self]
  show s (at0 r) + shapeCast S64x1 _ shapeCasts_S64_S64x1 (at0 r) = _
  rw [column, hs, show 32768 * (n + 1) = 32768 * n + 32768 by omega, expSum_add]
  refine congrArg (expSum L _ + ·) ?_
  refine (Ideal.multiReduction_add_single _ _ _ _ _ _).trans ?_
  refine Finset.sum_congr rfl fun l _ => ?_
  show Ideal.exp (x _) = _
  rw [← hx l]
  refine congrArg (fun i => Ideal.exp (x i)) (funext fun a => ?_)
  fin_cases a <;> rfl

theorem sNextT_apply (x : FVec Ideal S64x17408 .f32) (s : FVec Ideal S64x1 .f32) (r : Fin 64) (L : ℕ → EReal)
    (hx : ∀ l : Fin 17408, x (ix2 (n0 := 64) (n1 := 17408) r l) = L (983040 + l)) (hs : s (at0 r) = expSum L 983040) :
    sNextT (F := Ideal) x s (at0 r) = expSum L 1000448 := by
  unfold sNextT
  rw [shapeCast_self]
  show s (at0 r) + shapeCast S64x1 _ shapeCasts_S64_S64x1 (at0 r) = _
  rw [column, hs, show 1000448 = 983040 + 17408 by rfl, expSum_add]
  refine congrArg (expSum L _ + ·) ?_
  refine (Ideal.multiReduction_add_single _ _ _ _ _ _).trans ?_
  refine Finset.sum_congr rfl fun l _ => ?_
  show Ideal.exp (x _) = _
  rw [← hx l]
  refine congrArg (fun i => Ideal.exp (x i)) (funext fun a => ?_)
  fin_cases a <;> rfl

theorem mInit_apply (r : Fin 64) : mInit (F := Ideal) (at0 r) = (⊥ : EReal) := by unfold mInit; rw [shapeCast_self]; exact bot_bits
theorem sInit_apply (r : Fin 64) : sInit (F := Ideal) (at0 r) = (0 : EReal) := by unfold sInit; rw [shapeCast_self]; exact zero_bits
theorem jInit_apply (r : Fin 64) : jInit (at0 r) = BitVec.ofNat 32 0 := by unfold jInit; rw [shapeCast_self]; rfl

section Blocks
variable (X : ℕ → FVec Ideal S64x32768 .f32) (r : Fin 64) (L : ℕ → EReal)
  (hX : ∀ n < 30, ∀ l : Fin 32768, X n (ix2 (n0 := 64) (n1 := 32768) r l) = L (32768 * n + l))

attribute [local irreducible] mInit jInit mNext jNext win32 in
include hX in
theorem st_leads (n : ℕ) (hn : n ≤ 30) : Leads (tileMax L) (32 * n) ((st X n).1 (at0 r)) ((st X n).2.2 (at0 r)) := by
  induction n with
  | zero => exact ⟨0, jInit_apply r, fun _ => ⟨mInit_apply r, rfl⟩, fun h => absurd h (lt_irrefl _)⟩
  | succ n ih =>
    rw [show st X (n + 1) = stepFull (BitVec.ofNat 32 n) (X n) (st X n) from rfl]
    exact update_leads (ih (by omega)) (win32_wins (X n) r L n (hX n (by omega)))

include hX in
theorem st_sum (n : ℕ) (hn : n ≤ 30) : (st X n).2.1 (at0 r) = expSum L (32768 * n) := by
  induction n with
  | zero => exact (sInit_apply r).trans (by unfold expSum; simp)
  | succ n ih => exact sNext_apply (X n) _ r L n (hX n (by omega)) (ih (by omega))

variable (hT : ∀ l : Fin 17408, tailOf X (ix2 (n0 := 64) (n1 := 17408) r l) = L (983040 + l))

attribute [local irreducible] mInit jInit mNext jNext win32 win17 st tailOf in
include hX hT in
/-- At the end: the first tile attaining the row's maximum. -/
theorem stEnd_first : ∃ k, (stEnd X).2.2 (at0 r) = BitVec.ofNat 32 k ∧ First (tileMax L) 0 977 ((stEnd X).1 (at0 r)) k := by
  have hw := win17_wins (tailOf X) r L hT
  rw [show 960 = 32 * 30 from rfl] at hw
  obtain ⟨k, h1, -, h2⟩ := update_leads (st_leads X r L hX 30 (le_refl _)) hw
  rw [show stEnd X = stepTail (BitVec.ofNat 32 30) (tailOf X) (st X 30) from rfl]
  exact ⟨k, h1, h2 (by omega)⟩

include hX hT in
/-- At the end: the sum of the row's exponentials. -/
theorem stEnd_sum : (stEnd X).2.1 (at0 r) = expSum L 1000448 :=
  sNextT_apply (tailOf X) _ r L hT (st_sum X r L hX 30 (le_refl _))

end Blocks

/-! ## The tail -/

theorem colsT_apply (r : Fin 64) (l : Fin 17408) : colsT (ix2 (n0 := 64) (n1 := 17408) r l) = BitVec.ofNat 32 (983040 + l) := by
  show IntOp.addi (BitVec.ofNat 32 983040) (lanesT (ix2 (n0 := 64) (n1 := 17408) r l)) = _
  rw [lanesT_apply, WordCmp.addi_ofNat]

theorem spread_apply {α : Type} (x : S64x1.Idx → α) (r : Fin 64) (l : Fin 17408) :
    broadcastTo S64x17408 x broadcasts_S64x1_S64x17408 (ix2 (n0 := 64) (n1 := 17408) r l) = x (at0 r) := by
  refine broadcastTo_apply x _ _ (at0 r) fun a => ?_
  fin_cases a <;> rfl

/-- A row's index. -/
theorem lift17 (r : Fin 64) (l : Fin 17408) : (reduces_S64x17408_S64.lift (ValueIdx.ix1 (n := 64) r) l : S64x17408.Idx) = ix2 (n0 := 64) (n1 := 17408) r l := by
  funext a; fin_cases a <;> rfl

/-- A minimum of words along one axis. -/
theorem minsi_single {s t : Shape} {a : Fin s.rank} (src : IVec s 32) (h : s.Reduces [a] t) (hacc : 2147483647#32 = IKind.minsi.neutral) (j : t.Idx) :
    multiReductionI .minsi [a] t src 2147483647#32 h hacc j
      = (Finset.univ : Finset (Fin (s.size a))).fold IntOp.minsi 2147483647#32 (src ∘ h.lift j) := by
  rw [multiReductionI_eq_fold]
  exact h.fold_filter_drop_single _ _ src j

/-- The tail's first column attaining the tail's maximum. -/
theorem tailIdx_apply (x : FVec Ideal S64x17408 .f32) (r : Fin 64) (f : ℕ → EReal)
    (hx : ∀ l : Fin 17408, x (ix2 (n0 := 64) (n1 := 17408) r l) = f l) (v : EReal) (k : ℕ) (h : First f 0 17408 v k) (hk : k < 16960) :
    tailIdx (F := Ideal) x (at0 r) = BitVec.ofNat 32 (983040 + k) := by
  unfold tailIdx
  rw [column]
  refine (minsi_single _ _ _ _).trans ?_
  refine firstLane f 983040 1000000 h (by omega) (by omega) (by omega) _ fun l => ?_
  show select _ _ _ (reduces_S64x17408_S64.lift (ValueIdx.ix1 (n := 64) r) l) = _
  rw [lift17]
  refine (select_oeq _ _ _ _).trans ?_
  rw [spread_apply, column, colsT_apply, hx l]
  have hm : multiReduction .maximumf [1] S64 x 0xFF800000#32 reduces_S64x17408_S64 (.inl rfl) rfl (ValueIdx.ix1 (n := 64) r) = v := by
    refine (Ideal.multiReduction_maximumf_single _ _ _ _ _ _).trans ?_
    rw [show (FloatOps.ofBits .f32 0xFF800000#32 : Ideal .f32) = (⊥ : EReal) from bot_bits, h.eq_top]
    refine Finset.fold_congr fun l _ => ?_
    exact (congrArg x (lift17 r l)).trans (hx l)
  rw [hm]
  rfl

/-- The tail's logit at the action. -/
theorem tailPick_apply (x : FVec Ideal S64x17408 .f32) (a : IVec S64x1 32) (r : Fin 64) (f : ℕ → EReal)
    (hx : ∀ l : Fin 17408, x (ix2 (n0 := 64) (n1 := 17408) r l) = f l) (v : ℕ) (hv : 983040 ≤ v) (hv' : v < 1000448) (ha : a (at0 r) = BitVec.ofNat 32 v) :
    tailPick (F := Ideal) x a (at0 r) = f (v - 983040) := by
  unfold tailPick
  rw [column]
  refine (Ideal.multiReduction_add_single _ _ _ _ _ _).trans ?_
  have hl : ∀ l : Fin 17408, select (cmpi .eq colsT (broadcastTo S64x17408 a broadcasts_S64x1_S64x17408)) x (broadcast S64x17408 (Scalar.ofBits .f32 0x00000000#32 : Ideal .f32))
      (reduces_S64x17408_S64.lift (ValueIdx.ix1 (n := 64) r) l) = if 983040 + l.val = v then f l else 0 := fun l => by
    have := l.isLt
    rw [lift17]
    show Scalar.select (IntOp.cmpi .eq (colsT _) (broadcastTo S64x17408 a broadcasts_S64x1_S64x17408 _)) (x _) (Scalar.ofBits .f32 0x00000000#32 : Ideal .f32) = _
    rw [spread_apply, colsT_apply, ha, hx l, zero_bits, WordCmp.cmpi_eq_ofNat (by omega) (by omega), WordCmp.select_decide]
  refine (Finset.sum_congr rfl fun l _ => hl l).trans ?_
  show (∑ l : Fin 17408, if 983040 + l.val = v then f l else 0) = _
  rw [Finset.sum_eq_single (⟨v - 983040, by omega⟩ : Fin 17408)]
  · rw [if_pos (show 983040 + (v - 983040) = v by omega)]
  · intro b _ hb
    rw [if_neg]
    intro he
    exact hb (Fin.ext (show b.val = v - 983040 by omega))
  · intro h; exact absurd (Finset.mem_univ _) h

end Cert.KernelIdeal.Values

end
-- ==== Proof.Ideal.Staged.lean ====
/- What the calls' windows stage: the blocks of the logits read at a lane, and the columns whole. -/
module

public import proofs.«01_k».proof.Proof.Ideal.Ends
public import Idealize.ShloMosaic.Lib.Pipeline.ValueKit

@[expose] public section

set_option maxRecDepth 16384

noncomputable section

namespace Cert.KernelIdeal

open Idealize.ShloMosaic Idealize.SL.Sem Idealize.ShloMosaic.Pipeline
open Cert.KernelIdeal.Gen Cert.KernelIdeal.Run

variable {F : FTy → Type} [FloatOps F] (m : (ℓ : Loc nD τ sig) → Buf (Elt F) ℓ)

theorem index0_1 : ∀ t : Fin grid0.N, win0_1.index t 0 = 0 ∧ win0_1.index t 1 = t.val := by decide +kernel
theorem xsize0_1 : ∀ t : Fin grid0.N, win0_1.xsize (grid0.coords t) 0 = 64 ∧ (t.val < 30 → win0_1.xsize (grid0.coords t) 1 = 32768)
    ∧ (t.val = 30 → win0_1.xsize (grid0.coords t) 1 = 16960) := by decide +kernel
theorem N0 : grid0.N = 31 := by decide +kernel

/-- A block's lane is the logits' lane. -/
theorem blocks_apply (c : Dev nD) (n : ℕ) (hn : n < 31) (r : Fin 64) (l : Fin 32768) (hl : 32768 * n + l.val < 1000000) :
    Pass1.blocks (arrs0 m) c n (ValueIdx.ix2 (n0 := 64) (n1 := 32768) r l)
      = (m (c, Proc.devRef .tc main_arg0) : FVec F S64x1000000 .f32) (ValueIdx.ix2 (n0 := 64) (n1 := 1000000) r ⟨32768 * n + l.val, hl⟩) := by
  have hN : n < grid0.N := by rw [N0]; exact hn
  obtain ⟨i0, i1⟩ := index0_1 ⟨n, hN⟩
  obtain ⟨x0, x1, x2⟩ := xsize0_1 ⟨n, hN⟩
  unfold Pass1.blocks
  rw [dif_pos (show n < cfg0.N from hN), Pipeline.heldIn_of_fetch (arrs0 m c) 1 ⟨n, hN⟩ (fetch0_1 _)]
  have hm : win0_1.moved (grid0.coords ⟨n, hN⟩) (ValueIdx.ix2 (n0 := 64) (n1 := 32768) r l) = true := (win0_1.moved_iff _ _).mpr fun a => by
    fin_cases a
    · exact lt_of_lt_of_eq r.isLt x0.symm
    · show l.val < win0_1.xsize (grid0.coords ⟨n, hN⟩) 1
      rcases Nat.lt_or_ge n 30 with h | h
      · rw [x1 h]; exact l.isLt
      · rw [x2 (by show n = 30; omega)]; have : n = 30 := by omega
        omega
  show win0_1.fill _ _ _ _ = _
  unfold Window.fill
  rw [dif_pos (show win0_1.moved (cfg0.grid.coords ⟨n, hN⟩) (ValueIdx.ix2 (n0 := 64) (n1 := 32768) r l) = true from hm)]
  show (m (c, Proc.devRef .tc main_arg0) : FVec F S64x1000000 .f32) _ = _
  refine congrArg _ (funext fun a => Fin.ext ?_)
  fin_cases a
  · exact win0_1.rect_emb_val_of_index_zero ⟨n, hN⟩ 0 i0 _
  · refine (win0_1.rect_emb_val ⟨n, hN⟩ _ 1).trans ?_
    rw [i1]
    show n * 32768 + l.val = 32768 * n + l.val
    omega

/-- The masked tail's lane: the logits' lane, minus infinity past their end. -/
theorem tail_apply (c : Dev nD) (r : Fin 64) (l : Fin 17408) :
    Pass1.tailOf (Pass1.blocks (arrs0 m) c) (ValueIdx.ix2 (n0 := 64) (n1 := 17408) r l)
      = if h : 983040 + l.val < 1000000 then (m (c, Proc.devRef .tc main_arg0) : FVec F S64x1000000 .f32) (ValueIdx.ix2 (n0 := 64) (n1 := 1000000) r ⟨983040 + l.val, h⟩)
        else Scalar.ofBits .f32 0xFF800000#32 := by
  unfold Pass1.tailOf
  rw [Pass1.maskT_apply]
  show (if l.val < 16960 then _ else _) = _
  by_cases h : l.val < 16960
  · rw [if_pos h, dif_pos (by omega)]
    refine Eq.trans ?_ (blocks_apply m c 30 (by omega) r ⟨l.val, by omega⟩ (by show 32768 * 30 + l.val < 1000000; omega))
    unfold Pass1.headT
    refine congrArg (Pass1.blocks (arrs0 m) c 30) (funext fun a => Fin.ext ?_)
    fin_cases a
    · show 0 + 1 * r.val = r.val; omega
    · show 0 + 1 * l.val = l.val; omega
  · rw [if_neg h, dif_neg (by omega)]

theorem index0_0 : ∀ t : Fin grid0.N, ∀ a, win0_0.index t a = 0 := by decide +kernel
theorem xsize0_0 : ∀ t : Fin grid0.N, ∀ a, win0_0.xsize (grid0.coords t) a = S64x1.size a := by decide +kernel

/-- The staged actions are the actions. -/
theorem acts_eq (c : Dev nD) (n : ℕ) (hn : n < 31) : Pass1.acts (arrs0 m) c n = (m (c, Proc.devRef .tc main_arg1) : IVec S64x1 32) := by
  have hN : n < grid0.N := by rw [N0]; exact hn
  have hfill : ∀ (t : Fin grid0.N) (d : S64x1.Idx → Elt F .i32), win0_0.fill (grid0.coords t) d ((win0_0.blk t).view.read (Elt F) (arrs0 m c 0)) = (m (c, Proc.devRef .tc main_arg1) : IVec S64x1 32) := fun t d => by
    funext y
    have hm : win0_0.moved (grid0.coords t) y = true := (win0_0.moved_iff _ _).mpr fun a => lt_of_lt_of_eq (y a).isLt (xsize0_0 t a).symm
    unfold Window.fill
    rw [dif_pos hm]
    show (m (c, Proc.devRef .tc main_arg1) : IVec S64x1 32) _ = _
    exact congrArg _ (funext fun a => Fin.ext (win0_0.rect_emb_val_of_index_zero t a (index0_0 t a) _))
  unfold Pass1.acts
  rw [dif_pos (show n < cfg0.N from hN)]
  clear hn
  induction n with
  | zero => exact hfill ⟨0, hN⟩ _
  | succ n ih =>
    show (if _ then _ else _) = _
    split
    · exact hfill ⟨n + 1, hN⟩ _
    · exact ih (Nat.lt_of_succ_lt hN)

/-! ## The second call's columns -/

section Second
variable (a : (pcfg1 (F := F)).Adm) (V : Dev nD → Valuation τ sig (Elt F)) (c : Dev nD)

/-- The winning tiles, staged whole. -/
theorem inp0 : (Pass2.inp a V c 0 : IVec S64x1 32) = V c (Proc.devRef .tc main_v0_1) := by
  funext y
  change S64x1.Idx at y
  have hN : 0 < (cfg1 a).N := by rw [show (cfg1 a).N = grid1.N from rfl, N_1]; decide
  have hm : ((cfg1 a).win 0).moved ((cfg1 a).grid.coords ⟨0, hN⟩) y = true := (Window.moved_iff _ _ _).mpr fun b => by
    fin_cases b
    · exact (y 0).isLt
    · exact (y 1).isLt
  unfold Pass2.inp
  show ((cfg1 a).win 0).fill _ _ _ y = _
  unfold Window.fill
  rw [dif_pos hm]
  show (V c (Proc.devRef .tc main_v0_1) : IVec S64x1 32) _ = _
  refine congrArg _ (funext fun b => Fin.ext (((cfg1 a).win 0).rect_emb_val_of_index_zero ⟨0, hN⟩ b ?_ _))
  fin_cases b <;> rfl

/-- The tails' first maxima, staged whole. -/
theorem inp1 : (Pass2.inp a V c 1 : IVec S64x1 32) = V c (Proc.devRef .tc main_v0_2) := by
  funext y
  change S64x1.Idx at y
  have hN : 0 < (cfg1 a).N := by rw [show (cfg1 a).N = grid1.N from rfl, N_1]; decide
  have hm : ((cfg1 a).win 1).moved ((cfg1 a).grid.coords ⟨0, hN⟩) y = true := (Window.moved_iff _ _ _).mpr fun b => by
    fin_cases b
    · exact (y 0).isLt
    · exact (y 1).isLt
  unfold Pass2.inp
  show ((cfg1 a).win 1).fill _ _ _ y = _
  unfold Window.fill
  rw [dif_pos hm]
  show (V c (Proc.devRef .tc main_v0_2) : IVec S64x1 32) _ = _
  refine congrArg _ (funext fun b => Fin.ext (((cfg1 a).win 1).rect_emb_val_of_index_zero ⟨0, hN⟩ b ?_ _))
  fin_cases b <;> rfl

/-- The tails' logits, staged whole. -/
theorem inp2 : (Pass2.inp a V c 2 : FVec F S64x1 .f32) = V c (Proc.devRef .tc main_v0_3) := by
  funext y
  change S64x1.Idx at y
  have hN : 0 < (cfg1 a).N := by rw [show (cfg1 a).N = grid1.N from rfl, N_1]; decide
  have hm : ((cfg1 a).win 2).moved ((cfg1 a).grid.coords ⟨0, hN⟩) y = true := (Window.moved_iff _ _ _).mpr fun b => by
    fin_cases b
    · exact (y 0).isLt
    · exact (y 1).isLt
  unfold Pass2.inp
  show ((cfg1 a).win 2).fill _ _ _ y = _
  unfold Window.fill
  rw [dif_pos hm]
  show (V c (Proc.devRef .tc main_v0_3) : FVec F S64x1 .f32) _ = _
  refine congrArg _ (funext fun b => Fin.ext (((cfg1 a).win 2).rect_emb_val_of_index_zero ⟨0, hN⟩ b ?_ _))
  fin_cases b <;> rfl

/-- The logarithms, staged whole. -/
theorem inp3 : (Pass2.inp a V c 3 : FVec F S64x1 .f32) = V c (Proc.devRef .tc main_v0_0) := by
  funext y
  change S64x1.Idx at y
  have hN : 0 < (cfg1 a).N := by rw [show (cfg1 a).N = grid1.N from rfl, N_1]; decide
  have hm : ((cfg1 a).win 3).moved ((cfg1 a).grid.coords ⟨0, hN⟩) y = true := (Window.moved_iff _ _ _).mpr fun b => by
    fin_cases b
    · exact (y 0).isLt
    · exact (y 1).isLt
  unfold Pass2.inp
  show ((cfg1 a).win 3).fill _ _ _ y = _
  unfold Window.fill
  rw [dif_pos hm]
  show (V c (Proc.devRef .tc main_v0_0) : FVec F S64x1 .f32) _ = _
  refine congrArg _ (funext fun b => Fin.ext (((cfg1 a).win 3).rect_emb_val_of_index_zero ⟨0, hN⟩ b ?_ _))
  fin_cases b <;> rfl

/-- The actions, staged whole. -/
theorem inp4 : (Pass2.inp a V c 4 : IVec S64x1 32) = V c (Proc.devRef .tc main_arg1) := by
  funext y
  change S64x1.Idx at y
  have hN : 0 < (cfg1 a).N := by rw [show (cfg1 a).N = grid1.N from rfl, N_1]; decide
  have hm : ((cfg1 a).win 4).moved ((cfg1 a).grid.coords ⟨0, hN⟩) y = true := (Window.moved_iff _ _ _).mpr fun b => by
    fin_cases b
    · exact (y 0).isLt
    · exact (y 1).isLt
  unfold Pass2.inp
  show ((cfg1 a).win 4).fill _ _ _ y = _
  unfold Window.fill
  rw [dif_pos hm]
  show (V c (Proc.devRef .tc main_arg1) : IVec S64x1 32) _ = _
  refine congrArg _ (funext fun b => Fin.ext (((cfg1 a).win 4).rect_emb_val_of_index_zero ⟨0, hN⟩ b ?_ _))
  fin_cases b <;> rfl

end Second

end Cert.KernelIdeal

end
-- ==== Proof.Ideal.Pick.lean ====
/- What the second call computes on the extended reals: the first lane of the winning tile attaining its maximum, and the
   logit at the action, out of the rows fetched eight at a time. -/
module

public import proofs.«01_k».proof.Proof.Ideal.Sweep
public import proofs.«01_k».proof.Proof.Ideal.Staged

@[expose] public section

set_option maxRecDepth 16384

noncomputable section

namespace Cert.KernelIdeal.Values

open Idealize.ShloMosaic
open Cert.KernelIdeal Cert.KernelIdeal.Gen Cert.KernelIdeal.Pass2 Cert.Math

/-! ## What is fetched -/

/-- A row's fetched tile: its group of eight rows of the logits, at the winning tile (or the last whole one). -/
theorem tilesOf_apply (c : Dev nD) (f1 : IVec S64 32) (hJ : ∀ r h, chkJ r (wordAt (F := Ideal) c tblJ f1 r h)) (fs : FVec Ideal S64x1000000 .f32)
    (r : Fin 64) (j : ℕ) (hj : j < 2 ^ 31) (hw : wordAt (F := Ideal) c tblJ f1 r.val r.isLt = BitVec.ofNat 32 j) (k : Fin 8) (l : Fin 1024) :
    tilesOf (F := Ideal) c tblJ f1 hJ fs (ValueIdx.ix3 (n0 := 64) (n1 := 8) (n2 := 1024) r k l)
      = fs (ValueIdx.ix2 (n0 := 64) (n1 := 1000000) ⟨8 * (r.val / 8) + k.val, by omega⟩ ⟨min j 959 * 1024 + l.val, by omega⟩) := by
  have e := offJ_eq r.val hj
  rw [← hw] at e
  unfold tilesOf
  show fs _ = fs _
  refine congrArg fs (funext fun a => Fin.ext ?_)
  fin_cases a
  · show offJ r.val (wordAt (F := Ideal) c tblJ f1 r.val r.isLt) 0 + 1 * k.val = 8 * (r.val / 8) + k.val
    rw [e]
    show 8 * (r.val / 8) + 1 * k.val = _
    omega
  · show offJ r.val (wordAt (F := Ideal) c tblJ f1 r.val r.isLt) 1 + 1 * l.val = min j 959 * 1024 + l.val
    rw [e]
    show min j 959 * 1024 + 1 * l.val = _
    omega

/-- A row's fetched lanes: its group of eight rows of the logits, at the 128 lanes holding the action (or the last such). -/
theorem nearOf_apply (c : Dev nD) (f1 : IVec S64 32) (hA : ∀ r h, inA r (wordAt (F := Ideal) c tblA f1 r h)) (fs : FVec Ideal S64x1000000 .f32)
    (r : Fin 64) (v : ℕ) (hv : v < 1000000) (hw : wordAt (F := Ideal) c tblA f1 r.val r.isLt = BitVec.ofNat 32 v) (k : Fin 8) (l : Fin 128) :
    nearOf (F := Ideal) c tblA f1 hA fs (ValueIdx.ix3 (n0 := 64) (n1 := 8) (n2 := 128) r k l)
      = fs (ValueIdx.ix2 (n0 := 64) (n1 := 1000000) ⟨8 * (r.val / 8) + k.val, by omega⟩ ⟨min (v / 128 * 128) 982912 + l.val, by omega⟩) := by
  have e := offA_eq r.val hv
  rw [← hw] at e
  unfold nearOf
  show fs _ = fs _
  refine congrArg fs (funext fun a => Fin.ext ?_)
  fin_cases a
  · show offA r.val (wordAt (F := Ideal) c tblA f1 r.val r.isLt) 0 + 1 * k.val = 8 * (r.val / 8) + k.val
    rw [e]
    show 8 * (r.val / 8) + 1 * k.val = _
    omega
  · show offA r.val (wordAt (F := Ideal) c tblA f1 r.val r.isLt) 1 + 1 * l.val = min (v / 128 * 128) 982912 + l.val
    rw [e]
    show min (v / 128 * 128) 982912 + 1 * l.val = _
    omega

/-! ## A row out of eight -/

/-- The remainder by eight, as the program takes it: from the remainder of the signed division, made nonnegative. -/
def rem8 (u : BitVec 32) : BitVec 32 :=
  Scalar.select (IntOp.andi (IntOp.xori (IntOp.cmpi .slt (IntOp.remsi .vector u 8#32) 0#32) (IntOp.cmpi .slt 8#32 0#32)) (IntOp.cmpi .ne (IntOp.remsi .vector u 8#32) 0#32))
    (IntOp.addi (IntOp.remsi .vector u 8#32) 8#32) (IntOp.remsi .vector u 8#32)

theorem rem8_ofNat (n : ℕ) (hn : n < 64) : rem8 (BitVec.ofNat 32 n) = BitVec.ofNat 32 (n % 8) := by
  unfold rem8
  rw [show IntOp.remsi .vector (BitVec.ofNat 32 n) 8#32 = BitVec.ofNat 32 (n % 8) from Routing.remsi_word .vector (by omega) (by omega) (by omega)]
  have h : n % 8 < 8 := Nat.mod_lt _ (by omega)
  generalize n % 8 = q at h
  revert h
  revert q
  decide

/-- A maximum over places all but one of which hold minus infinity. -/
theorem top_single {n : ℕ} (f : Fin n → EReal) (p : Fin n) (h : ∀ k, k ≠ p → f k = ⊥) : top f = f p :=
  le_antisymm (top_le f _ fun k => by
    by_cases e : k = p
    · rw [e]
    · rw [h k e]; exact bot_le) (le_top f p)

/-- The winning tile's row, out of the eight. -/
def rowJ (x : FVec Ideal S64x8x1024 .f32) : FVec Ideal S64x1024 .f32 :=
  multiReduction .maximumf [1] S64x1024
    (select (cmpi .eq (iota .tc S64x8x1024 32 [1] iota_S64x8x1024_d1_w32) (fun i => rem8 (iota .tc S64x8x1024 32 [0] iota_S64x8x1024_d0_w32 i))) x
      (broadcast S64x8x1024 (Scalar.ofBits .f32 0xFF800000#32 : Ideal .f32)))
    0xFF800000#32 reduces_S64x8x1024_S64x1024 (.inl rfl) rfl

theorem lift8 (r : Fin 64) (l : Fin 1024) (k : Fin 8) : (reduces_S64x8x1024_S64x1024.lift (ValueIdx.ix2 (n0 := 64) (n1 := 1024) r l) k : S64x8x1024.Idx)
    = ValueIdx.ix3 (n0 := 64) (n1 := 8) (n2 := 1024) r k l := by
  funext a; fin_cases a <;> rfl

theorem rowJ_apply (x : FVec Ideal S64x8x1024 .f32) (r : Fin 64) (l : Fin 1024) :
    rowJ x (ValueIdx.ix2 (n0 := 64) (n1 := 1024) r l) = x (ValueIdx.ix3 (n0 := 64) (n1 := 8) (n2 := 1024) r ⟨r.val % 8, Nat.mod_lt _ (by omega)⟩ l) := by
  have hr := r.isLt
  unfold rowJ
  refine (Ideal.multiReduction_maximumf_single _ _ _ _ _ _).trans ?_
  rw [show (FloatOps.ofBits .f32 0xFF800000#32 : Ideal .f32) = (⊥ : EReal) from bot_bits]
  have hk : ∀ k : Fin 8, select (cmpi .eq (iota .tc S64x8x1024 32 [1] iota_S64x8x1024_d1_w32) (fun i => rem8 (iota .tc S64x8x1024 32 [0] iota_S64x8x1024_d0_w32 i))) x
      (broadcast S64x8x1024 (Scalar.ofBits .f32 0xFF800000#32 : Ideal .f32)) (reduces_S64x8x1024_S64x1024.lift (ValueIdx.ix2 (n0 := 64) (n1 := 1024) r l) k)
      = if k.val = r.val % 8 then x (ValueIdx.ix3 (n0 := 64) (n1 := 8) (n2 := 1024) r k l) else (⊥ : EReal) := fun k => by
    have := k.isLt
    rw [lift8]
    show Scalar.select (IntOp.cmpi .eq (iota .tc S64x8x1024 32 [1] iota_S64x8x1024_d1_w32 _) (rem8 (iota .tc S64x8x1024 32 [0] iota_S64x8x1024_d0_w32 _))) (x _) (Scalar.ofBits .f32 0xFF800000#32 : Ideal .f32) = _
    rw [WordCmp.iota_at, WordCmp.iota_at]
    simp only [List.foldl_cons, List.foldl_nil, Nat.zero_mul, Nat.zero_add]
    show Scalar.select (IntOp.cmpi .eq (BitVec.ofNat 32 k.val) (rem8 (BitVec.ofNat 32 r.val))) _ _ = _
    rw [rem8_ofNat _ hr, WordCmp.cmpi_eq_ofNat (by omega) (by omega), WordCmp.select_decide, bot_bits]
  refine (Finset.fold_congr fun k _ => hk k).trans ?_
  refine (top_single (n := 8) (fun k => if k.val = r.val % 8 then x (ValueIdx.ix3 (n0 := 64) (n1 := 8) (n2 := 1024) r k l) else (⊥ : EReal))
    ⟨r.val % 8, Nat.mod_lt _ (by omega)⟩ fun k hk => if_neg fun he => hk (Fin.ext he)).trans ?_
  exact if_pos rfl

/-- The first lane of a row of 1024 attaining its maximum, as the program finds it. -/
def laneOf (y : FVec Ideal S64x1024 .f32) : IVec S64x1 32 :=
  shapeCast S64x1 (multiReductionI .minsi [1] S64
    (select (cmpf .oeq y (broadcastTo S64x1024 (shapeCast S64x1 (multiReduction .maximumf [1] S64 y 0xFF800000#32 reduces_S64x1024_S64 (.inl rfl) rfl) shapeCasts_S64_S64x1) broadcasts_S64x1_S64x1024))
      (iota .tc S64x1024 32 [1] iota_S64x1024_d1_w32) (broadcast S64x1024 1024#32)) 2147483647#32 reduces_S64x1024_S64 rfl) shapeCasts_S64_S64x1

/-- The payload, with the row named. -/
theorem pay2_eq (x : FVec Ideal S64x8x1024 .f32) : k1_pay2 (F := Ideal) x = laneOf (rowJ x) := rfl

theorem lift1024 (r : Fin 64) (l : Fin 1024) : (reduces_S64x1024_S64.lift (ValueIdx.ix1 (n := 64) r) l : S64x1024.Idx) = ValueIdx.ix2 (n0 := 64) (n1 := 1024) r l := by
  funext a; fin_cases a <;> rfl

/-- The first lane attaining the maximum, where the row is known. -/
theorem laneOf_apply (x : FVec Ideal S64x1024 .f32) (r : Fin 64) (f : ℕ → EReal) (hx : ∀ l : Fin 1024, x (ValueIdx.ix2 (n0 := 64) (n1 := 1024) r l) = f l)
    (v : EReal) (k : ℕ) (h : First f 0 1024 v k) : laneOf x (at0 r) = BitVec.ofNat 32 k := by
  unfold laneOf
  rw [column]
  refine (minsi_single _ _ _ _).trans ?_
  refine (firstLane f 0 1024 h (by have := h.2.1; omega) (by omega) (by omega) _ fun l => ?_).trans (by rw [Nat.zero_add])
  show select _ _ _ (reduces_S64x1024_S64.lift (ValueIdx.ix1 (n := 64) r) l) = _
  rw [lift1024]
  refine (select_oeq _ _ _ _).trans ?_
  have hs : broadcastTo S64x1024 (shapeCast S64x1 (multiReduction .maximumf [1] S64 x 0xFF800000#32 reduces_S64x1024_S64 (.inl rfl) rfl) shapeCasts_S64_S64x1) broadcasts_S64x1_S64x1024
      (ValueIdx.ix2 (n0 := 64) (n1 := 1024) r l) = v := by
    refine (broadcastTo_apply _ _ _ (at0 r) fun a => by fin_cases a <;> rfl).trans ?_
    rw [column]
    refine (Ideal.multiReduction_maximumf_single _ _ _ _ _ _).trans ?_
    rw [show (FloatOps.ofBits .f32 0xFF800000#32 : Ideal .f32) = (⊥ : EReal) from bot_bits, h.eq_top]
    refine Finset.fold_congr fun l _ => ?_
    exact (congrArg x (lift1024 r l)).trans (hx l)
  rw [hs, hx l, WordCmp.iota_at]
  simp only [List.foldl_cons, List.foldl_nil, Nat.zero_mul, Nat.zero_add]
  rfl

/-- The mode: in a whole block the winning tile's first lane, in the tail the tail's. -/
theorem modeOf_apply (x : FVec Ideal S64x8x1024 .f32) (j t : IVec S64x1 32) (r : Fin 64) (n : ℕ) (hn : n < 2 ^ 20) (hj : j (at0 r) = BitVec.ofNat 32 n) :
    modeOf (F := Ideal) x j t (at0 r) = if 960 ≤ n then t (at0 r) else IntOp.addi (IntOp.muli (BitVec.ofNat 32 n) (BitVec.ofNat 32 1024)) (laneOf (rowJ x) (at0 r)) := by
  unfold modeOf
  rw [pay2_eq]
  generalize laneOf (rowJ x) = y
  unfold k1_pay4 k1_pay3
  simp only [shapeCast_self]
  show Scalar.select (IntOp.cmpi .sge (j (at0 r)) (BitVec.ofNat 32 960)) (t (at0 r)) (IntOp.addi (IntOp.muli (j (at0 r)) (BitVec.ofNat 32 1024)) (y (at0 r))) = _
  rw [hj, WordCmp.cmpi_sge_ofNat (by omega) (by omega), WordCmp.select_decide]

/-! ## The logit at the action -/

/-- Where the fetched 128 lanes start, as the program computes it from the action. -/
def start (u : BitVec 32) : BitVec 32 :=
  IntOp.minsi (IntOp.muli (Scalar.select
    (IntOp.andi
      (IntOp.cmpi .ne (IntOp.subi ((IntOp.cmpi .sgt u 0#32).setWidth 32) ((IntOp.cmpi .slt u 0#32).setWidth 32))
        (Scalar.subi (Scalar.extui (Scalar.cmpi .sgt 128#32 0#32)) (Scalar.extui (Scalar.cmpi .slt 128#32 0#32))))
      (IntOp.cmpi .ne (IntOp.remsi .vector u 128#32) 0#32))
    (IntOp.subi (IntOp.divsi .vector u 128#32) 1#32) (IntOp.divsi .vector u 128#32)) 128#32) 982912#32

/-- The mask: the row out of eight, the lane out of 128. -/
theorem maskA_apply (b : IVec S64x1 32) (r : Fin 64) (k : Fin 8) (l : Fin 128) :
    maskA (F := Ideal) b (ValueIdx.ix3 (n0 := 64) (n1 := 8) (n2 := 128) r k l)
      = IntOp.andi (IntOp.cmpi .eq (BitVec.ofNat 32 k.val) (rem8 (BitVec.ofNat 32 r.val))) (IntOp.cmpi .eq (BitVec.ofNat 32 l.val) (IntOp.subi (b (at0 r)) (start (b (at0 r))))) := by
  unfold maskA k1_pay8 k1_pay5 k1_pay6 k1_pay7
  show IntOp.andi (IntOp.cmpi .eq (iota .tc S64x8x128 32 [1] iota_S64x8x128_d1_w32 _) (rem8 (iota .tc S64x8x128 32 [0] iota_S64x8x128_d0_w32 _)))
    (IntOp.cmpi .eq (iota .tc S64x8x128 32 [2] iota_S64x8x128_d2_w32 _)
      (broadcastTo S64x8x128 (shapeCast S64x1x1 (fun i => IntOp.subi (b i) (start (b i))) shapeCasts_S64x1_S64x1x1) broadcasts_S64x1x1_S64x8x128 _)) = _
  rw [WordCmp.iota_at, WordCmp.iota_at, WordCmp.iota_at]
  simp only [List.foldl_cons, List.foldl_nil, Nat.zero_mul, Nat.zero_add]
  have hs : broadcastTo S64x8x128 (shapeCast S64x1x1 (fun i => IntOp.subi (b i) (start (b i))) shapeCasts_S64x1_S64x1x1) broadcasts_S64x1x1_S64x8x128
      (ValueIdx.ix3 (n0 := 64) (n1 := 8) (n2 := 128) r k l) = IntOp.subi (b (at0 r)) (start (b (at0 r))) := by
    refine (broadcastTo_apply _ _ _ (ValueIdx.ix3 (n0 := 64) (n1 := 1) (n2 := 1) r 0 0) fun a => by fin_cases a <;> rfl).trans ?_
    exact shapeCast_apply _ _ _ (at0 r) (by simp [Shape.rowMajor_val_two, Shape.rowMajor_val_three, at0])
  rw [hs]

theorem start_ofNat (v : ℕ) (hv : v < 1000000) : start (BitVec.ofNat 32 v) = BitVec.ofNat 32 (min (v / 128 * 128) 982912) := by
  unfold start
  have hd : IntOp.divsi .vector (BitVec.ofNat 32 v) 128#32 = BitVec.ofNat 32 (v / 128) := Routing.divsi_word .vector (by omega) (by omega) (by omega)
  have hm : IntOp.remsi .vector (BitVec.ofNat 32 v) 128#32 = BitVec.ofNat 32 (v % 128) := Routing.remsi_word .vector (by omega) (by omega) (by omega)
  have hz : IntOp.andi (IntOp.cmpi .ne (IntOp.subi ((IntOp.cmpi .sgt (BitVec.ofNat 32 v) 0#32).setWidth 32) ((IntOp.cmpi .slt (BitVec.ofNat 32 v) 0#32).setWidth 32))
        (Scalar.subi (Scalar.extui (Scalar.cmpi .sgt 128#32 0#32)) (Scalar.extui (Scalar.cmpi .slt 128#32 0#32))))
      (IntOp.cmpi .ne (BitVec.ofNat 32 (v % 128)) 0#32) = 0#1 := by
    rcases Nat.eq_zero_or_pos v with h | h
    · subst h; rfl
    · have e1 : IntOp.cmpi .sgt (BitVec.ofNat 32 v) 0#32 = 1#1 := (WordCmp.cmpi_sgt_ofNat_eq_one_iff (w := 32) (a := v) (b := 0) (by omega) (by omega)).mpr h
      have e2 : IntOp.cmpi .slt (BitVec.ofNat 32 v) 0#32 = 0#1 := (WordCmp.cmpi_slt_ofNat_eq_zero_iff (w := 32) (a := v) (b := 0) (by omega) (by omega)).mpr (by omega)
      rw [e1, e2]
      show IntOp.andi 0#1 _ = 0#1
      unfold IntOp.andi
      simp
  rw [hd, hm, hz, WordCmp.select_zero, show IntOp.muli (BitVec.ofNat 32 (v / 128)) 128#32 = BitVec.ofNat 32 (v / 128 * 128) from WordCmp.muli_ofNat (v / 128) 128]
  exact minsi_word (by omega) (by omega)

/-- The mask at an action of the whole blocks: true at one place. -/
theorem maskA_ofNat (b : IVec S64x1 32) (r : Fin 64) (v : ℕ) (hv : v < 983040) (hb : b (at0 r) = BitVec.ofNat 32 v) (k : Fin 8) (l : Fin 128) :
    maskA (F := Ideal) b (ValueIdx.ix3 (n0 := 64) (n1 := 8) (n2 := 128) r k l) = BitVec.ofBool (decide (k.val = r.val % 8 ∧ l.val = v % 128)) := by
  have hr := r.isLt
  have hk := k.isLt
  have hl := l.isLt
  rw [maskA_apply, hb, start_ofNat v (by omega), rem8_ofNat _ hr, WordCmp.cmpi_eq_ofNat (by omega) (by omega)]
  have hm : min (v / 128 * 128) 982912 = v / 128 * 128 := by omega
  have hs : IntOp.subi (BitVec.ofNat 32 v) (BitVec.ofNat 32 (v / 128 * 128)) = BitVec.ofNat 32 (v % 128) := by
    apply BitVec.eq_of_toNat_eq
    show (BitVec.ofNat 32 v - BitVec.ofNat 32 (v / 128 * 128)).toNat = _
    rw [BitVec.toNat_sub, WordCmp.toNat_ofNat_of_lt (by omega), WordCmp.toNat_ofNat_of_lt (by omega), WordCmp.toNat_ofNat_of_lt (by omega)]
    omega
  rw [hm, hs, WordCmp.cmpi_eq_ofNat (by omega) (by omega)]
  by_cases h1 : k.val = r.val % 8 <;> by_cases h2 : l.val = v % 128 <;> simp [h1, h2, IntOp.andi]

theorem lift128 (r : Fin 64) (k : Fin 8) (l : Fin 128) : (reduces_S64x8x128_S64x8.lift (ValueIdx.ix2 (n0 := 64) (n1 := 8) r k) l : S64x8x128.Idx)
    = ValueIdx.ix3 (n0 := 64) (n1 := 8) (n2 := 128) r k l := by
  funext a; fin_cases a <;> rfl

theorem lift8' (r : Fin 64) (k : Fin 8) : (reduces_S64x8_S64.lift (ValueIdx.ix1 (n := 64) r) k : S64x8.Idx) = ValueIdx.ix2 (n0 := 64) (n1 := 8) r k := by
  funext a; fin_cases a <;> rfl

/-- The fetched lanes under a mask, added up. -/
def picked (w : IVec S64x8x128 1) (x : FVec Ideal S64x8x128 .f32) : FVec Ideal S64x1 .f32 :=
  shapeCast S64x1 (multiReduction .add [1] S64 (multiReduction .add [2] S64x8 (select w x (broadcast S64x8x128 (Scalar.ofBits .f32 0x00000000#32 : Ideal .f32))) 0x00000000#32 reduces_S64x8x128_S64x8 (.inl rfl) rfl)
    0x00000000#32 reduces_S64x8_S64 (.inl rfl) rfl) shapeCasts_S64_S64x1

/-- Under a mask true at one place, that place's entry. -/
theorem picked_apply (w : IVec S64x8x128 1) (x : FVec Ideal S64x8x128 .f32) (r : Fin 64) (k : Fin 8) (l : Fin 128)
    (hw : ∀ (k' : Fin 8) (l' : Fin 128), w (ValueIdx.ix3 (n0 := 64) (n1 := 8) (n2 := 128) r k' l') = BitVec.ofBool (decide (k'.val = k.val ∧ l'.val = l.val))) :
    picked w x (at0 r) = x (ValueIdx.ix3 (n0 := 64) (n1 := 8) (n2 := 128) r k l) := by
  unfold picked
  rw [column]
  refine (Ideal.multiReduction_add_single _ _ _ _ _ _).trans ?_
  have hk : ∀ k' : Fin 8, multiReduction .add [2] S64x8 (select w x (broadcast S64x8x128 (Scalar.ofBits .f32 0x00000000#32 : Ideal .f32))) 0x00000000#32 reduces_S64x8x128_S64x8 (.inl rfl) rfl
      (reduces_S64x8_S64.lift (ValueIdx.ix1 (n := 64) r) k') = if k' = k then x (ValueIdx.ix3 (n0 := 64) (n1 := 8) (n2 := 128) r k l) else (0 : EReal) := fun k' => by
    rw [lift8']
    refine (Ideal.multiReduction_add_single _ _ _ _ _ _).trans ?_
    have hl : ∀ l' : Fin 128, select w x (broadcast S64x8x128 (Scalar.ofBits .f32 0x00000000#32 : Ideal .f32)) (reduces_S64x8x128_S64x8.lift (ValueIdx.ix2 (n0 := 64) (n1 := 8) r k') l')
        = if k'.val = k.val ∧ l'.val = l.val then x (ValueIdx.ix3 (n0 := 64) (n1 := 8) (n2 := 128) r k' l') else (0 : EReal) := fun l' => by
      rw [lift128]
      show Scalar.select (w _) (x _) (Scalar.ofBits .f32 0x00000000#32 : Ideal .f32) = _
      rw [hw, WordCmp.select_decide, zero_bits]
    refine (Finset.sum_congr rfl fun l' _ => hl l').trans ?_
    show (∑ l' : Fin 128, if k'.val = k.val ∧ l'.val = l.val then x (ValueIdx.ix3 (n0 := 64) (n1 := 8) (n2 := 128) r k' l') else (0 : EReal)) = _
    by_cases e : k' = k
    · subst e
      rw [if_pos rfl, Finset.sum_eq_single l (fun b _ hb => if_neg fun he => hb (Fin.ext he.2)) (fun h => absurd (Finset.mem_univ _) h), if_pos ⟨rfl, rfl⟩]
    · rw [if_neg e]
      exact Finset.sum_eq_zero fun b _ => if_neg fun he => e (Fin.ext he.1)
  refine (Finset.sum_congr rfl fun k' _ => hk k').trans ?_
  show (∑ k' : Fin 8, if k' = k then x (ValueIdx.ix3 (n0 := 64) (n1 := 8) (n2 := 128) r k l) else (0 : EReal)) = _
  rw [Finset.sum_eq_single k (fun b _ hb => if_neg hb) (fun h => absurd (Finset.mem_univ _) h), if_pos rfl]

/-- The log-probability: the tail's pick or the fetched one, less the logarithm of the sum. -/
theorem lpOf_apply (b : IVec S64x1 32) (x : FVec Ideal S64x8x128 .f32) (p z : FVec Ideal S64x1 .f32) (r : Fin 64) (v : ℕ) (hv : v < 1000000) (hb : b (at0 r) = BitVec.ofNat 32 v) :
    lpOf (F := Ideal) b x p z (at0 r) = (if 983040 ≤ v then p (at0 r)
      else x (ValueIdx.ix3 (n0 := 64) (n1 := 8) (n2 := 128) r ⟨r.val % 8, Nat.mod_lt _ (by omega)⟩ ⟨v % 128, Nat.mod_lt _ (by omega)⟩)) - z (at0 r) := by
  have e : lpOf (F := Ideal) b x p z (at0 r) = Scalar.select (IntOp.cmpi .sge (b (at0 r)) (BitVec.ofNat 32 983040)) (p (at0 r)) (picked (maskA (F := Ideal) b) x (at0 r)) - z (at0 r) := by
    unfold lpOf
    generalize maskA (F := Ideal) b = w
    unfold k1_pay1
    simp only [shapeCast_self]
    rfl
  rw [e, hb, WordCmp.cmpi_sge_ofNat (by omega) (by omega), WordCmp.select_decide]
  refine congrArg (fun y : EReal => y - z (at0 r)) ?_
  split
  · rfl
  · exact picked_apply _ x r ⟨r.val % 8, Nat.mod_lt _ (by omega)⟩ ⟨v % 128, Nat.mod_lt _ (by omega)⟩ fun k l => maskA_ofNat b r v (by omega) hb k l

end Cert.KernelIdeal.Values

end
-- ==== Proof.Math.Row.lean ====
/- A row of a million extended reals as a function of all natural numbers: minus infinity past its end. -/
module

public import proofs.«01_k».proof.Proof.Math.First

@[expose] public section

noncomputable section

namespace Cert.Math

/-- A row, minus infinity past its end. -/
def row (f : Fin 1000000 → EReal) (n : ℕ) : EReal := if h : n < 1000000 then f ⟨n, h⟩ else ⊥

theorem row_of (f : Fin 1000000 → EReal) {n : ℕ} (h : n < 1000000) : row f n = f ⟨n, h⟩ := dif_pos h

theorem row_pad (f : Fin 1000000 → EReal) (n : ℕ) (h : 1000000 ≤ n) : row f n = ⊥ := dif_neg (by omega)

end Cert.Math

end
-- ==== Proof.Ideal.Values.lean ====
/- The kernel's two results on the extended reals: the logit at the action less the logarithm of the row's sum of exponentials,
   and the first lane attaining the row's maximum. -/
module

public import proofs.«01_k».proof.Proof.Ideal.Pick
public import proofs.«01_k».proof.Proof.Math.Row

@[expose] public section

set_option maxRecDepth 16384

noncomputable section

namespace Cert.KernelIdeal.Values

open Idealize.ShloMosaic Idealize.ShloMosaic.TcCoe Idealize.SL.Sem
open Cert.KernelIdeal Cert.KernelIdeal.Gen Cert.KernelIdeal.Run Cert.Math

variable (m : (ℓ : Loc nD τ sig) → Buf (Elt Ideal) ℓ)

attribute [local irreducible] Pass1.blocks Pass1.acts Pass1.stEnd Pass1.tailOf Pass1.tailIdx Pass1.tailPick Pass2.tilesOf Pass2.nearOf Pass2.modeOf Pass2.lpOf

/-- A row of the logits. -/
def lane (c : Dev nD) (r : Fin 64) : ℕ → EReal :=
  row fun l => (m (c, Proc.devRef .tc main_arg0) : FVec Ideal S64x1000000 .f32) (ValueIdx.ix2 (n0 := 64) (n1 := 1000000) r l)

theorem blocks_lane (c : Dev nD) (r : Fin 64) (n : ℕ) (hn : n < 30) (l : Fin 32768) :
    Pass1.blocks (arrs0 m) c n (ValueIdx.ix2 (n0 := 64) (n1 := 32768) r l) = lane m c r (32768 * n + l) := by
  have := l.isLt
  rw [blocks_apply m c n (by omega) r l (by omega)]
  unfold lane
  rw [row_of _ (show 32768 * n + l.val < 1000000 by omega)]

theorem tail_lane (c : Dev nD) (r : Fin 64) (l : Fin 17408) :
    Pass1.tailOf (Pass1.blocks (arrs0 m) c) (ValueIdx.ix2 (n0 := 64) (n1 := 17408) r l) = lane m c r (983040 + l) := by
  rw [tail_apply m c r l]
  unfold lane row
  split
  · rfl
  · exact bot_bits

theorem W2_col (c : Dev nD) : (W2 m c (Proc.devRef .tc main_v0_1) : IVec S64x1 32) = (Pass1.stEnd (Pass1.blocks (arrs0 m) c)).2.2 :=
  (W2_of m c main_v0_1 (by decide)).trans (W1_jstar m c)

/-- The mode is the first lane attaining the row's maximum. -/
theorem mode_first (hJ : Pass2.GoodJ (adm1 m)) (c : Dev nD) (r : Fin 64) :
    ∃ v k, First (lane m c r) 0 1000000 v k ∧ Pass2.outMode (adm1 m) (W2 m) hJ c (at0 r) = BitVec.ofNat 32 k := by
  obtain rfl : c = 0 := Subsingleton.elim _ _
  obtain ⟨k, hk, hF⟩ := stEnd_first (Pass1.blocks (arrs0 m) 0) r (lane m 0 r) (fun n hn l => blocks_lane m 0 r n hn l) (tail_lane m 0 r)
  have hk977 := hF.2.1
  have e0 : (Pass2.inp (adm1 m) (W2 m) 0 0 : IVec S64x1 32) (at0 r) = BitVec.ofNat 32 k :=
    (congrFun ((inp0 (adm1 m) (W2 m) 0).trans (W2_col m 0)) (at0 r)).trans hk
  have e1 : (Pass2.inp (adm1 m) (W2 m) 0 1 : IVec S64x1 32) = Pass1.tailIdx (F := Ideal) (Pass1.tailOf (Pass1.blocks (arrs0 m) 0)) :=
    (inp1 (adm1 m) (W2 m) 0).trans ((W2_of m 0 main_v0_2 (by decide)).trans (W1_tail m 0))
  have hmode : Pass2.outMode (adm1 m) (W2 m) hJ 0 (at0 r) = _ := modeOf_apply _ _ _ r k (by omega) e0
  by_cases h : 960 ≤ k
  · obtain ⟨l, hl⟩ := First.exists (fun i => lane m 0 r (983040 + i)) 17408 (by omega)
    have hl' := (hl.trim (n := 16960) (by omega) (by omega) fun i hi => row_pad _ _ (by omega)).2.1
    exact ⟨_, 983040 + l, (hF.tail (t := 960) h hl).trim (by omega) (by omega) (row_pad _),
      hmode.trans ((if_pos h).trans ((congrFun e1 (at0 r)).trans (tailIdx_apply _ r _ (tail_lane m 0 r) _ l hl hl')))⟩
  · obtain ⟨l, hl⟩ := First.exists (fun i => lane m 0 r (1024 * k + i)) 1024 (by omega)
    refine ⟨_, 1024 * k + l, (hF.lane hl).trim (by omega) (by omega) (row_pad _), hmode.trans ((if_neg h).trans ?_)⟩
    rw [laneOf_apply _ r (fun i => lane m 0 r (1024 * k + i)) (fun i => ?_) _ l hl, WordCmp.muli_ofNat, WordCmp.addi_ofNat, Nat.mul_comm]
    rw [rowJ_apply]
    have hi := i.isLt
    refine (tilesOf_apply 0 _ (hJ 0) _ r k (by omega) ((wordJ m 0 r.val r.isLt).trans hk) _ i).trans ?_
    refine Eq.trans ?_ (row_of _ (show 1024 * k + i.val < 1000000 by omega)).symm
    have e3 : Pass2.logitsAt (W2 m) 0 = m (0, Proc.devRef .tc main_arg0) := (W2_of m 0 main_arg0 (by decide)).trans (W1_arg0 m 0)
    rw [e3]
    refine congrArg (m (0, Proc.devRef .tc main_arg0) : FVec Ideal S64x1000000 .f32) (funext fun a => Fin.ext ?_)
    fin_cases a
    · show 8 * (r.val / 8) + r.val % 8 = r.val; omega
    · show min k 959 * 1024 + i.val = 1024 * k + i.val; omega

/-- The lanes past the row's end add nothing to its sum. -/
theorem expSum_pad (f : Fin 1000000 → EReal) : expSum (row f) 1000448 = ∑ i : Fin 1000000, Ideal.exp (f i) := by
  rw [show 1000448 = 1000000 + 448 from rfl, expSum_add]
  rw [Finset.sum_eq_zero fun l _ => by rw [row_pad _ _ (by omega)]; exact Ideal.exp_bot, add_zero]
  unfold expSum
  rw [Finset.sum_range]
  exact Finset.sum_congr rfl fun i _ => by rw [row_of f i.isLt]

/-- The log-probability: the logit at the action less the logarithm of the row's sum of exponentials. -/
theorem lp_value (hA : Pass2.GoodA (adm1 m)) (c : Dev nD) (r : Fin 64) (v : ℕ) (hv : v < 1000000)
    (ha : (m (c, Proc.devRef .tc main_arg1) : IVec S64x1 32) (at0 r) = BitVec.ofNat 32 v) :
    Pass2.outLp (adm1 m) (W2 m) hA c (at0 r)
      = lane m c r v - Ideal.log (∑ i : Fin 1000000, Ideal.exp ((m (c, Proc.devRef .tc main_arg0) : FVec Ideal S64x1000000 .f32) (ValueIdx.ix2 (n0 := 64) (n1 := 1000000) r i))) := by
  obtain rfl : c = 0 := Subsingleton.elim _ _
  have e4 : (Pass2.inp (adm1 m) (W2 m) 0 4 : IVec S64x1 32) (at0 r) = BitVec.ofNat 32 v :=
    (congrFun ((inp4 (adm1 m) (W2 m) 0).trans ((W2_of m 0 main_arg1 (by decide)).trans (W1_arg1 m 0))) (at0 r)).trans ha
  have e2 : (Pass2.inp (adm1 m) (W2 m) 0 2 : FVec Ideal S64x1 .f32) = Pass1.tailPick (F := Ideal) (Pass1.tailOf (Pass1.blocks (arrs0 m) 0)) (Pass1.acts (arrs0 m) 0 30) :=
    (inp2 (adm1 m) (W2 m) 0).trans ((W2_of m 0 main_v0_3 (by decide)).trans (W1_pick m 0))
  have e3 : (Pass2.inp (adm1 m) (W2 m) 0 3 : FVec Ideal S64x1 .f32) (at0 r) = Ideal.log ((Pass1.stEnd (Pass1.blocks (arrs0 m) 0)).2.1 (at0 r)) :=
    congrFun ((inp3 (adm1 m) (W2 m) 0).trans ((W2_of m 0 main_v0_0 (by decide)).trans (W1_logz m 0))) (at0 r)
  have hlp : Pass2.outLp (adm1 m) (W2 m) hA 0 (at0 r) = _ := lpOf_apply _ _ _ _ r v hv e4
  have hs : (Pass1.stEnd (Pass1.blocks (arrs0 m) 0)).2.1 (at0 r) = _ := stEnd_sum (Pass1.blocks (arrs0 m) 0) r (lane m 0 r) (fun n hn l => blocks_lane m 0 r n hn l) (tail_lane m 0 r)
  refine hlp.trans (congrArg₂ (fun a b : EReal => a - b) ?_ (e3.trans (congrArg Ideal.log (hs.trans (expSum_pad _)))))
  by_cases h : 983040 ≤ v
  · refine (if_pos h).trans ((congrFun e2 (at0 r)).trans ?_)
    rw [tailPick_apply _ _ r (fun i => lane m 0 r (983040 + i)) (tail_lane m 0 r) v h (by omega) ((congrFun (acts_eq m 0 30 (by omega)) (at0 r)).trans ha)]
    show lane m 0 r (983040 + (v - 983040)) = _
    rw [show 983040 + (v - 983040) = v by omega]
  · refine (if_neg h).trans ?_
    refine (nearOf_apply 0 _ (hA 0) _ r v hv ((wordA m 0 r.val r.isLt).trans ha) _ _).trans ?_
    refine Eq.trans ?_ (row_of _ hv).symm
    have e5 : Pass2.logitsAt (W2 m) 0 = m (0, Proc.devRef .tc main_arg0) := (W2_of m 0 main_arg0 (by decide)).trans (W1_arg0 m 0)
    rw [e5]
    refine congrArg (m (0, Proc.devRef .tc main_arg0) : FVec Ideal S64x1000000 .f32) (funext fun a => Fin.ext ?_)
    fin_cases a
    · show 8 * (r.val / 8) + r.val % 8 = r.val; omega
    · show min (v / 128 * 128) 982912 + v % 128 = v; omega

/-- The program runs; its results are the second call's, and its arguments end as they began. -/
theorem value_main (h : InRange m) (ρ : Dev nD → PrngReg) :
    θ_run defs (onTc (τ := τ) (main (F := Ideal))) ⟨m, fun _ => 0, ρ⟩ (fun r => ∀ c : Dev nD,
      r.2.mem ((c.tc : Thread nD τ).loc main_v3_0) = Pass2.outLp (adm1 m) (W2 m) (goodA m h) c
      ∧ r.2.mem ((c.tc : Thread nD τ).loc main_v3_1) = Pass2.outMode (adm1 m) (W2 m) (goodJ m) c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  θ_run_mono (run m (goodJ m) (goodA m h) ρ) fun r hr c =>
    ⟨(hr.1 c main_v3_0 rfl).trans (W3_lp m _ _ c), (hr.1 c main_v3_1 rfl).trans (W3_mode m _ _ c),
      (hr.1 c main_arg0 rfl).trans (W3_arg0 m _ _ c), (hr.1 c main_arg1 rfl).trans (W3_arg1 m _ _ c)⟩

end Cert.KernelIdeal.Values

end
-- ==== Proof.Ref.Value.lean ====
/- The reference's results as the operations the program applies to its arguments. -/
module

public import proofs.«01_k».proof.Proof.Ref.Run

@[expose] public section

set_option maxRecDepth 16384

noncomputable section

namespace Cert.ReferenceIdeal.Values

open Idealize.ShloMosaic Idealize.ShloMosaic.TcCoe Idealize.SL.Sem
open Cert.ReferenceIdeal Cert.ReferenceIdeal.Gen

variable {F : FTy → Type} [FloatOps F]

/-- The rows' maxima. -/
def maxima (x : FVec F S64x1000000 .f32) : FVec F S64 .f32 :=
  maximumf (broadcastInDim S64 ![] bcast_S_S64 (constant S_ .f32 0xFF800000#32))
    (Host.reduce FloatOps.maximumf x (constant S_ .f32 0xFF800000#32) reducesTo_S64x1000000_S64_d1 h_S_)

/-- A column of one entry per row, along each row. -/
def along (v : FVec F S64x1 .f32) : FVec F S64x1000000 .f32 := broadcastInDim S64x1000000 ![0, 1] bcast_S64x1_S64x1000000_0_1 v

/-- The logits less their rows' maxima. -/
def shifted (x : FVec F S64x1000000 .f32) : FVec F S64x1000000 .f32 := subf x (along (broadcastInDim S64x1 ![0] bcast_S64_S64x1_0 (maxima x)))

/-- The rows' sums of exponentials. -/
def sums (y : FVec F S64x1000000 .f32) : FVec F S64 .f32 :=
  Host.reduceAdd (Host.exp y) (constant S_ .f32 0x00000000#32) reducesTo_S64x1000000_S64_d1 h_S_

/-- The logarithms of the probabilities. -/
def logp (x : FVec F S64x1000000 .f32) : FVec F S64x1000000 .f32 :=
  subf (shifted x) (along (Host.log (broadcastInDim S64x1 ![0] bcast_S64_S64x1_0 (sums (shifted x)))))

/-- The actions as indices: a negative one counts from the row's end. -/
def wrapped (a : IVec S64x1 32) : IVec S64x1x1 32 :=
  shapeCast S64x1x1 (select (cmpi .slt a (broadcastInDim S64x1 ![] bcast_S_S64x1 (constantI S_ 32 0#32))) (addi a (broadcastInDim S64x1 ![] bcast_S_S64x1 (constantI S_ 32 1000000#32))) a) shapeCasts_S64x1_S64x1x1

/-- Whether an index lies in its row. -/
def inside (i : IVec S64x1x1 32) : IVec S64x1 1 :=
  Host.reduce IntOp.andi
    (andi (cmpi .sge i (broadcastInDim S64x1x1 ![] bcast_S_S64x1x1 (constantI S_ 32 0#32)))
      (cmpi .sle i (broadcastInDim S64x1x1 ![0, 1, 2] bcast_S1x1x1_S64x1x1_0_1_2 (broadcastInDim S1x1x1 ![2] bcast_S1_S1x1x1_2 (constantI S1 32 999999#32)))))
    (constantI S_ 1 1#1) reducesTo_S64x1x1_S64x1_d2 h_S_

/-- The entries at the actions. -/
def taken (y : FVec F S64x1000000 .f32) (a : IVec S64x1 32) : FVec F S64x1 .f32 :=
  select (inside (wrapped a)) (Host.gather gather_S64x1000000_S64x1x1_S64x1_n_1_0_0_1_2_11 y (wrapped a)) (broadcastInDim S64x1 ![] bcast_S_S64x1 (constant S_ .f32 0x7FC00000#32))

/-- The first result. -/
def logProbs (x : FVec F S64x1000000 .f32) (a : IVec S64x1 32) : FVec F S64x1 .f32 :=
  broadcastInDim S64x1 ![0] bcast_S64_S64x1_0 (Host.reduceAdd (taken (logp x) a) (constant S_ .f32 0x00000000#32) reducesTo_S64x1_S64_d1 h_S_)

/-- The second result. -/
def mode (x : FVec F S64x1000000 .f32) : IVec S64x1 32 :=
  broadcastInDim S64x1 ![0] bcast_S64_S64x1_0 (fun j =>
    (Host.argReduce reducer_argmax_f32_i32 x (iotaInDim S64x1000000 32 1) (constant S_ .f32 0xFF800000#32) (constantI S_ 32 0#32) reducesTo_S64x1000000_S64_d1 h_S_ j).2)

/-- The reference runs; its results are these, and its arguments end as they began. -/
theorem value_main (m : (ℓ : Loc nD τ sig) → Buf (Elt F) ℓ) (g : Dev nD → PrngReg) :
    θ_run (defs (F := F)) (onTc (τ := τ) (main (F := F))) ⟨m, fun _ => 0, g⟩ (fun r => ∀ c : Dev nD,
      r.2.mem ((c.tc : Thread nD τ).loc main_v3) = logProbs (m ((c.tc : Thread nD τ).loc main_arg0)) (m ((c.tc : Thread nD τ).loc main_arg1))
      ∧ r.2.mem ((c.tc : Thread nD τ).loc main_v5) = mode (F := F) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  hlo_run
  · simp only [StableHlo.TRef.ofBuf_toBuf]
    unfold logProbs taken inside wrapped logp sums shifted along maxima
    exact rfl
  · simp only [StableHlo.TRef.ofBuf_toBuf]
    unfold mode
    exact rfl

end Cert.ReferenceIdeal.Values

end
-- ==== Proof.Math.ArgMax.lean ====
/- A left fold of the step "keep the greater value, of equals the smaller number" over a list of numbered extended reals. -/
module

public import proofs.«01_k».proof.Proof.Math.Row

@[expose] public section

noncomputable section

namespace Cert.Math

/-- Of two numbered values the greater, of two equal ones the one numbered smaller. -/
def better (a b : EReal × ℕ) : EReal × ℕ := by
  classical exact if b.1 < a.1 ∨ (a.1 = b.1 ∧ a.2 < b.2) then a else b

/-- Whether a value is at least another's, and of equals numbered no later. -/
def Beats (r p : EReal × ℕ) : Prop := p.1 ≤ r.1 ∧ (p.1 = r.1 → r.2 ≤ p.2)

theorem Beats.refl (r : EReal × ℕ) : Beats r r := ⟨le_refl _, fun _ => le_refl _⟩

theorem Beats.trans {r p q : EReal × ℕ} (h : Beats r p) (h' : Beats p q) : Beats r q :=
  ⟨h'.1.trans h.1, fun e => by
    have e1 : q.1 = p.1 := _root_.le_antisymm h'.1 (e ▸ h.1)
    exact (h.2 (e1.symm.trans e)).trans (h'.2 e1)⟩

theorem better_mem (a b : EReal × ℕ) : better a b = a ∨ better a b = b := by
  unfold better
  split
  · exact .inl rfl
  · exact .inr rfl

theorem better_beats (a b : EReal × ℕ) : Beats (better a b) a ∧ Beats (better a b) b := by
  unfold better
  split
  next h =>
    refine ⟨.refl a, ?_⟩
    rcases h with h | ⟨h, h'⟩
    · exact ⟨h.le, fun e => absurd e h.ne⟩
    · exact ⟨h.ge, fun _ => h'.le⟩
  next h =>
    rw [not_or, not_lt, not_and, not_lt] at h
    exact ⟨⟨h.1, h.2⟩, .refl b⟩

/-- The fold's result is one of the list or the value it started from, and beats them all. -/
theorem foldl_better (l : List (EReal × ℕ)) : ∀ a, (l.foldl better a = a ∨ l.foldl better a ∈ l) ∧ Beats (l.foldl better a) a ∧ ∀ p ∈ l, Beats (l.foldl better a) p := by
  induction l with
  | nil => exact fun a => ⟨.inl rfl, .refl a, fun p hp => absurd hp List.not_mem_nil⟩
  | cons b l ih =>
    intro a
    obtain ⟨h1, h2, h3⟩ := ih (better a b)
    obtain ⟨ha, hb⟩ := better_beats a b
    refine ⟨?_, h2.trans ha, fun p hp => ?_⟩
    · rcases h1 with h | h
      · rcases better_mem a b with e | e
        · exact .inl (h.trans e)
        · exact .inr (List.mem_cons.mpr (.inl (h.trans e)))
      · exact .inr (List.mem_cons.mpr (.inr h))
    · rcases List.mem_cons.mp hp with e | e
      · rw [e]; exact h2.trans hb
      · exact h3 p e

/-- Over a list holding exactly a row's lanes, from minus infinity numbered zero, the fold finds the row's first maximum. -/
theorem foldl_first (f : Fin 1000000 → EReal) (l : List (EReal × ℕ)) (h : ∀ i : Fin 1000000, (f i, i.val) ∈ l) (h' : ∀ p ∈ l, ∃ i : Fin 1000000, p = (f i, i.val)) :
    First (row f) 0 1000000 (l.foldl better (⊥, 0)).1 (l.foldl better (⊥, 0)).2 := by
  obtain ⟨h1, -, h3⟩ := foldl_better l (⊥, 0)
  generalize l.foldl better (⊥, 0) = r at *
  have hr : r.2 < 1000000 ∧ r.1 = row f r.2 := by
    rcases h1 with e | e
    · have h0 := (h3 _ (h ⟨0, by omega⟩)).1
      rw [e] at h0 ⊢
      exact ⟨by norm_num, ((row_of f (show 0 < 1000000 by omega)).trans (le_bot_iff.mp h0)).symm⟩
    · obtain ⟨i, e⟩ := h' r e
      rw [e]
      exact ⟨i.isLt, (row_of f i.isLt).symm⟩
  refine ⟨Nat.zero_le _, hr.1, hr.2, fun i _ hi => ?_, fun i _ hi => ?_⟩
  · rw [row_of f hi]; exact (h3 _ (h ⟨i, hi⟩)).1
  · have hi' : i < 1000000 := by have := hr.1; omega
    rw [row_of f hi']
    refine lt_of_le_of_ne (h3 _ (h ⟨i, hi'⟩)).1 fun e => ?_
    have : r.2 ≤ i := (h3 _ (h ⟨i, hi'⟩)).2 e
    omega

end Cert.Math

end
-- ==== Proof.Ref.Mode.lean ====
/- The reference's arg-max on the extended reals: the first lane attaining the row's maximum. -/
module

public import proofs.«01_k».proof.Proof.Ref.Value
public import proofs.«01_k».proof.Proof.Math.ArgMax
public import Idealize.ShloMosaic.PureOps.Ideal
public import Idealize.ShloMosaic.PureOps.Ideal.Laws
public import Idealize.ShloMosaic.Lib.Pipeline.Value
public import Idealize.ShloMosaic.Lib.ValueIdx
public import Idealize.ShloMosaic.Lib.WordCmp

@[expose] public section

set_option maxRecDepth 16384

noncomputable section

namespace Cert.ReferenceIdeal.Values

open Idealize.ShloMosaic
open Cert.ReferenceIdeal Cert.ReferenceIdeal.Gen Cert.Math

/-- A numbered value with its number as a word. -/
def word (p : EReal × ℕ) : Ideal .f32 × BitVec 32 := (p.1, BitVec.ofNat 32 p.2)

/-- The program's step is the step on numbered values. -/
theorem reducer_word (a b : EReal × ℕ) (ha : a.2 < 2 ^ 31) (hb : b.2 < 2 ^ 31) : reducer_argmax_f32_i32 (F := Ideal) (word a) (word b) = word (better a b) := by
  have e1 : FloatOps.cmpf (F := Ideal) (φ := .f32) .ogt a.1 b.1 = BitVec.ofBool (decide (b.1 < a.1)) := rfl
  have e2 : FloatOps.cmpf (F := Ideal) (φ := .f32) .une a.1 a.1 = 0#1 := by simp [Ideal.cmpf_def, Ideal.cmp]
  have e3 : FloatOps.cmpf (F := Ideal) (φ := .f32) .oeq a.1 b.1 = BitVec.ofBool (decide (a.1 = b.1)) := rfl
  have e4 : IntOp.cmpi .slt (BitVec.ofNat 32 a.2) (BitVec.ofNat 32 b.2) = BitVec.ofBool (decide (a.2 < b.2)) := WordCmp.cmpi_slt_ofNat (by omega) (by omega)
  show (Scalar.select (IntOp.ori (FloatOps.cmpf (F := Ideal) (φ := .f32) .ogt a.1 b.1) (FloatOps.cmpf (F := Ideal) (φ := .f32) .une a.1 a.1)) a.1 b.1,
    Scalar.select (IntOp.ori (IntOp.ori (FloatOps.cmpf (F := Ideal) (φ := .f32) .ogt a.1 b.1) (FloatOps.cmpf (F := Ideal) (φ := .f32) .une a.1 a.1))
      (IntOp.andi (FloatOps.cmpf (F := Ideal) (φ := .f32) .oeq a.1 b.1) (IntOp.cmpi .slt (BitVec.ofNat 32 a.2) (BitVec.ofNat 32 b.2)))) (BitVec.ofNat 32 a.2) (BitVec.ofNat 32 b.2)) = _
  rw [e1, e2, e3, e4]
  unfold better word
  by_cases h1 : b.1 < a.1
  · rw [if_pos (.inl h1), decide_eq_true h1]
    generalize decide (a.1 = b.1) = p
    generalize decide (a.2 < b.2) = q
    cases p <;> cases q <;> rfl
  · by_cases h2 : a.1 = b.1 ∧ a.2 < b.2
    · rw [if_pos (.inr h2)]
      simp [h2.1, h2.2, IntOp.ori, IntOp.andi, Scalar.select]
    · rw [if_neg (by rw [not_or]; exact ⟨h1, h2⟩)]
      rw [not_and] at h2
      by_cases h3 : a.1 = b.1
      · have h4 := h2 h3
        simp [h1, h3, h4, IntOp.ori, IntOp.andi, Scalar.select]
      · simp [h1, h3, IntOp.ori, IntOp.andi, Scalar.select]

/-- The program's fold is the fold on numbered values. -/
theorem foldl_word (l : List (EReal × ℕ)) : ∀ a : EReal × ℕ, a.2 < 2 ^ 31 → (∀ p ∈ l, p.2 < 2 ^ 31) →
    (l.map word).foldl (reducer_argmax_f32_i32 (F := Ideal)) (word a) = word (l.foldl better a) := by
  induction l with
  | nil => exact fun a _ _ => rfl
  | cons b l ih =>
    intro a ha hl
    rw [List.map_cons, List.foldl_cons, List.foldl_cons, reducer_word a b ha (hl b (List.mem_cons.mpr (.inl rfl)))]
    refine ih _ ?_ fun p hp => hl p (List.mem_cons.mpr (.inr hp))
    rcases better_mem a b with e | e
    · rw [e]; exact ha
    · rw [e]; exact hl b (List.mem_cons.mpr (.inl rfl))

theorem reduces_row : S64x1000000.Reduces [1] S64 := by decide

theorem lift_row (r : Fin 64) (l : Fin 1000000) : (reduces_row.lift (ValueIdx.ix1 (n := 64) r) l : S64x1000000.Idx) = ValueIdx.ix2 (n0 := 64) (n1 := 1000000) r l := by
  funext a; fin_cases a <;> rfl

theorem bot_bits : (Scalar.ofBits .f32 0xFF800000#32 : Ideal .f32) = (⊥ : EReal) := by
  show Ideal.ofBits .f32 0xFF800000#32 = ⊥
  simp [Ideal.ofBits, Ideal.ieee]

/-- The pairs reduced into one place are those along the dropped axis. -/
theorem mem_fiber {α β : Type} {s t : Shape} {a : Fin s.rank} (h' : s.ReducesTo [a] t) (h : s.Reduces [a] t) (x : s.Idx → α) (y : s.Idx → β) (j : t.Idx) (p : α × β) :
    p ∈ Host.argReduceFiber x y h' j ↔ ∃ k, p = (x (h.lift j k), y (h.lift j k)) := by
  unfold Host.argReduceFiber
  rw [Shape.ReducesTo.drop_eq_drop h' h]
  constructor
  · intro hp
    obtain ⟨n, hn, e⟩ := List.mem_map.mp hp
    have hd := of_decide_eq_true (List.mem_filter.mp hn).2
    have hi := h.lift_drop (s.rowMajor.symm n)
    rw [hd] at hi
    exact ⟨s.rowMajor.symm n a, by rw [hi]; exact e.symm⟩
  · rintro ⟨k, e⟩
    refine List.mem_map.mpr ⟨s.rowMajor (h.lift j k), List.mem_filter.mpr ⟨List.mem_finRange _, decide_eq_true ?_⟩, ?_⟩
    · rw [Equiv.symm_apply_apply]; exact h.drop_lift j k
    · rw [Equiv.symm_apply_apply]; exact e.symm

/-- The same with the numbers as words. -/
theorem fiber_word {s t : Shape} {axes : List (Fin s.rank)} (h : s.ReducesTo axes t) (x : s.Idx → EReal) (y : s.Idx → ℕ) (j : t.Idx) :
    Host.argReduceFiber (α := Ideal .f32) x (fun i => BitVec.ofNat 32 (y i)) h j = (Host.argReduceFiber x y h j).map word := by
  unfold Host.argReduceFiber
  rw [List.map_map]
  rfl

/-- An arg-reduction along one axis by the program's step, from minus infinity numbered zero: the fold over numbered values. -/
theorem argReduce_word {s t u : Shape} {axes : List (Fin s.rank)} (h : s.ReducesTo axes t) (hu : 0 < u.numel) (x : FVec Ideal s .f32) (y : s.Idx → ℕ) (hy : ∀ i, y i < 2 ^ 31)
    (ix : FVec Ideal u .f32) (iy : IVec u 32) (hix : ix (Shape.Idx.first hu) = (⊥ : EReal)) (hiy : iy (Shape.Idx.first hu) = 0#32) (j : t.Idx) :
    Host.argReduce (reducer_argmax_f32_i32 (F := Ideal)) x (fun i => BitVec.ofNat 32 (y i)) ix iy h hu j = word ((Host.argReduceFiber (α := EReal) x y h j).foldl better (⊥, 0)) := by
  rw [Ideal.argReduce_eq_reduce2, Host.reduce2_eq_foldl_fiber, fiber_word, hix, hiy]
  refine foldl_word _ (⊥, 0) (by norm_num) fun p hp => ?_
  unfold Host.argReduceFiber at hp
  obtain ⟨n, -, e⟩ := List.mem_map.mp hp
  rw [← e]
  exact hy _

theorem word_snd (p : EReal × ℕ) : (word p).2 = BitVec.ofNat 32 p.2 := rfl

theorem number_lt (i : S64x1000000.Idx) : (i 1).val < 2 ^ 31 := by
  have : (i 1).val < 1000000 := (i 1).isLt
  omega

/-- The mode at a row: the fold over its lanes. -/
theorem mode_apply (x : FVec Ideal S64x1000000 .f32) (r : Fin 64) :
    mode (F := Ideal) x (ValueIdx.ix2 (n0 := 64) (n1 := 1) r 0)
      = BitVec.ofNat 32 ((Host.argReduceFiber (α := EReal) x (fun i => (i 1).val) reducesTo_S64x1000000_S64_d1 (ValueIdx.ix1 (n := 64) r)).foldl better (⊥, 0)).2 := by
  unfold mode
  refine (broadcastInDim_apply _ _ _ _ (ValueIdx.ix1 (n := 64) r) fun a => by fin_cases a; rfl).trans ?_
  exact (congrArg Prod.snd (argReduce_word reducesTo_S64x1000000_S64_d1 h_S_ x (fun i => (i 1).val) number_lt
    (constant S_ .f32 0xFF800000#32) (constantI S_ 32 0#32) bot_bits rfl (ValueIdx.ix1 (n := 64) r))).trans (word_snd _)

/-- The mode is the first lane attaining the row's maximum. -/
theorem mode_first (x : FVec Ideal S64x1000000 .f32) (r : Fin 64) :
    ∃ v k, First (row fun l => x (ValueIdx.ix2 (n0 := 64) (n1 := 1000000) r l)) 0 1000000 v k
      ∧ mode (F := Ideal) x (ValueIdx.ix2 (n0 := 64) (n1 := 1) r 0) = BitVec.ofNat 32 k := by
  have hmem := mem_fiber (α := EReal) reducesTo_S64x1000000_S64_d1 reduces_row x (fun i => (i 1).val) (ValueIdx.ix1 (n := 64) r)
  have hmode := mode_apply x r
  generalize Host.argReduceFiber (α := EReal) x (fun i => (i 1).val) reducesTo_S64x1000000_S64_d1 (ValueIdx.ix1 (n := 64) r) = l at hmem hmode
  refine ⟨_, _, foldl_first _ l (fun i => (hmem _).mpr ⟨i, ?_⟩) (fun p hp => ?_), hmode⟩
  · exact congrArg (fun i : S64x1000000.Idx => ((x i : EReal), (i 1).val)) (lift_row r i).symm
  · obtain ⟨k, e⟩ := (hmem p).mp hp
    exact ⟨k, e.trans (congrArg (fun i : S64x1000000.Idx => ((x i : EReal), (i 1).val)) (lift_row r k))⟩

end Cert.ReferenceIdeal.Values

end
-- ==== Proof.Ref.LogProb.lean ====
/- The reference's log-probability on the extended reals: the logit at the action less the logarithm of the row's sum of exponentials. -/
module

public import proofs.«01_k».proof.Proof.Ref.Mode
public import proofs.«01_k».proof.Proof.Math.LogSum

@[expose] public section

set_option maxRecDepth 16384

noncomputable section

namespace Cert.ReferenceIdeal.Values

open Idealize.ShloMosaic
open Cert.ReferenceIdeal Cert.ReferenceIdeal.Gen Cert.Math

theorem zero_bits : (Scalar.ofBits .f32 0x00000000#32 : Ideal .f32) = (0 : EReal) := Ideal.ofBits_zero_f32

theorem maximumf_at {s : Shape} (a b : FVec Ideal s .f32) (i : s.Idx) : maximumf a b i = (max (a i) (b i) : EReal) := rfl
theorem subf_at {s : Shape} (a b : FVec Ideal s .f32) (i : s.Idx) : subf a b i = (a i - b i : EReal) := rfl
theorem log_at {s : Shape} (a : FVec Ideal s .f32) (i : s.Idx) : Host.log a i = Ideal.log (a i) := rfl

/-! ## The logarithms of the probabilities -/

theorem maxima_apply (x : FVec Ideal S64x1000000 .f32) (r : Fin 64) :
    maxima x (ValueIdx.ix1 (n := 64) r) = top fun l : Fin 1000000 => x (ValueIdx.ix2 (n0 := 64) (n1 := 1000000) r l) := by
  have e : Host.reduce (FloatOps.maximumf (F := Ideal) (φ := .f32)) x (constant S_ .f32 0xFF800000#32) reducesTo_S64x1000000_S64_d1 h_S_ (ValueIdx.ix1 (n := 64) r)
      = top fun l : Fin 1000000 => x (ValueIdx.ix2 (n0 := 64) (n1 := 1000000) r l) := by
    refine (Host.reduce_eq_fold_single _ x _ reducesTo_S64x1000000_S64_d1 reduces_row h_S_ (ValueIdx.ix1 (n := 64) r)).trans ?_
    rw [show (constant S_ .f32 0xFF800000#32 : FVec Ideal S_ .f32) (Shape.Idx.first h_S_) = (⊥ : EReal) from bot_bits]
    exact Finset.fold_congr fun l _ => congrArg x (lift_row r l)
  have e3 : (broadcastInDim S64 ![] bcast_S_S64 (constant S_ .f32 0xFF800000#32 : FVec Ideal S_ .f32) (ValueIdx.ix1 (n := 64) r) : EReal) = ⊥ := bot_bits
  unfold maxima
  rw [maximumf_at, e3, e]
  exact max_eq_right bot_le

theorem col_apply {α : Type} (v : S64.Idx → α) (r : Fin 64) (z : Fin 1) : broadcastInDim S64x1 ![0] bcast_S64_S64x1_0 v (ValueIdx.ix2 (n0 := 64) (n1 := 1) r z) = v (ValueIdx.ix1 (n := 64) r) :=
  broadcastInDim_apply _ _ _ _ (ValueIdx.ix1 (n := 64) r) fun a => by fin_cases a; rfl

theorem along_apply (v : FVec Ideal S64x1 .f32) (r : Fin 64) (l : Fin 1000000) :
    along v (ValueIdx.ix2 (n0 := 64) (n1 := 1000000) r l) = v (ValueIdx.ix2 (n0 := 64) (n1 := 1) r 0) :=
  broadcastInDim_apply _ _ _ _ (ValueIdx.ix2 (n0 := 64) (n1 := 1) r 0) fun a => by fin_cases a <;> rfl

theorem shifted_apply (x : FVec Ideal S64x1000000 .f32) (r : Fin 64) (l : Fin 1000000) :
    shifted x (ValueIdx.ix2 (n0 := 64) (n1 := 1000000) r l)
      = (x (ValueIdx.ix2 (n0 := 64) (n1 := 1000000) r l) - top fun l : Fin 1000000 => x (ValueIdx.ix2 (n0 := 64) (n1 := 1000000) r l) : EReal) := by
  unfold shifted
  rw [subf_at, along_apply, col_apply, maxima_apply]

theorem sums_apply (y : FVec Ideal S64x1000000 .f32) (r : Fin 64) :
    sums y (ValueIdx.ix1 (n := 64) r) = ∑ l : Fin 1000000, Ideal.exp (y (ValueIdx.ix2 (n0 := 64) (n1 := 1000000) r l)) := by
  unfold sums
  refine (Ideal.hostReduceAdd_single reducesTo_S64x1000000_S64_d1 reduces_row _ _ _).trans ?_
  rw [show (constant S_ .f32 0x00000000#32 : FVec Ideal S_ .f32) (Shape.Idx.first h_S_) = (0 : EReal) from zero_bits, zero_add]
  exact Finset.sum_congr rfl fun l _ => congrArg (fun i => Ideal.exp (y i)) (lift_row r l)

/-- The logarithm of a lane's probability. -/
theorem logp_apply (x : FVec Ideal S64x1000000 .f32) (r : Fin 64) (l : Fin 1000000) :
    logp x (ValueIdx.ix2 (n0 := 64) (n1 := 1000000) r l)
      = (x (ValueIdx.ix2 (n0 := 64) (n1 := 1000000) r l) - Ideal.log (∑ i : Fin 1000000, Ideal.exp (x (ValueIdx.ix2 (n0 := 64) (n1 := 1000000) r i))) : EReal) := by
  unfold logp
  rw [subf_at, along_apply, log_at, col_apply, sums_apply, shifted_apply]
  have hs : (∑ i : Fin 1000000, Ideal.exp (shifted x (ValueIdx.ix2 (n0 := 64) (n1 := 1000000) r i)))
      = ∑ i : Fin 1000000, Ideal.exp (x (ValueIdx.ix2 (n0 := 64) (n1 := 1000000) r i) - top fun l : Fin 1000000 => (x (ValueIdx.ix2 (n0 := 64) (n1 := 1000000) r l) : EReal)) :=
    Finset.sum_congr rfl fun i _ => congrArg Ideal.exp (shifted_apply x r i)
  rw [hs]
  exact log_softmax (fun l : Fin 1000000 => (x (ValueIdx.ix2 (n0 := 64) (n1 := 1000000) r l) : EReal)) (top fun l : Fin 1000000 => (x (ValueIdx.ix2 (n0 := 64) (n1 := 1000000) r l) : EReal))
    (fun i => Cert.Math.le_top (fun l : Fin 1000000 => (x (ValueIdx.ix2 (n0 := 64) (n1 := 1000000) r l) : EReal)) i)
    (top_mem (fun l : Fin 1000000 => (x (ValueIdx.ix2 (n0 := 64) (n1 := 1000000) r l) : EReal)) (by omega)) l

/-! ## The entry at the action -/

/-- The start index of a result's place. -/
theorem wrapped_apply (a : IVec S64x1 32) (r : Fin 64) (v : ℕ) (hv : v < 1000000) (ha : a (ValueIdx.ix2 (n0 := 64) (n1 := 1) r 0) = BitVec.ofNat 32 v) :
    wrapped a (ValueIdx.ix3 (n0 := 64) (n1 := 1) (n2 := 1) r 0 0) = BitVec.ofNat 32 v := by
  unfold wrapped
  refine (shapeCast_apply _ _ _ (ValueIdx.ix2 (n0 := 64) (n1 := 1) r 0) (by simp [Shape.rowMajor_val_two, Shape.rowMajor_val_three])).trans ?_
  show Scalar.select (IntOp.cmpi .slt (a _) (BitVec.ofNat 32 0)) (IntOp.addi (a _) 1000000#32) (a _) = _
  rw [ha, WordCmp.cmpi_slt_ofNat (by omega) (by omega), WordCmp.select_decide, if_neg (by omega)]

theorem reduces_one : S64x1x1.Reduces [2] S64x1 := by decide

theorem lift_one (r : Fin 64) (k : Fin 1) : (reduces_one.lift (ValueIdx.ix2 (n0 := 64) (n1 := 1) r 0) k : S64x1x1.Idx) = ValueIdx.ix3 (n0 := 64) (n1 := 1) (n2 := 1) r 0 k := by
  funext a; fin_cases a <;> rfl

/-- An index below the row's length lies in it. -/
theorem inside_apply (i : IVec S64x1x1 32) (r : Fin 64) (v : ℕ) (hv : v < 1000000) (hi : i (ValueIdx.ix3 (n0 := 64) (n1 := 1) (n2 := 1) r 0 0) = BitVec.ofNat 32 v) :
    inside i (ValueIdx.ix2 (n0 := 64) (n1 := 1) r 0) = 1#1 := by
  unfold inside
  refine (Host.reduce_eq_fold_single _ _ _ reducesTo_S64x1x1_S64x1_d2 reduces_one h_S_ _).trans ?_
  have h : ∀ k : Fin 1, andi (cmpi .sge i (broadcastInDim S64x1x1 ![] bcast_S_S64x1x1 (constantI S_ 32 0#32)))
      (cmpi .sle i (broadcastInDim S64x1x1 ![0, 1, 2] bcast_S1x1x1_S64x1x1_0_1_2 (broadcastInDim S1x1x1 ![2] bcast_S1_S1x1x1_2 (constantI S1 32 999999#32))))
      (reduces_one.lift (ValueIdx.ix2 (n0 := 64) (n1 := 1) r 0) k) = 1#1 := fun k => by
    obtain rfl : k = 0 := Subsingleton.elim _ _
    rw [lift_one]
    show IntOp.andi (IntOp.cmpi .sge (i _) (BitVec.ofNat 32 0)) (IntOp.cmpi .sle (i _) (BitVec.ofNat 32 999999)) = 1#1
    rw [hi, WordCmp.cmpi_sge_ofNat (by omega) (by omega), WordCmp.cmpi_sle_ofNat (by omega) (by omega), decide_eq_true (by omega), decide_eq_true (by omega)]
    rfl
  refine (Finset.fold_congr fun k _ => h k).trans ?_
  rfl

/-- The gather read at a row: the entry at the start index, where that lies in the row. -/
theorem gather_apply (y : FVec Ideal S64x1000000 .f32) (i : IVec S64x1x1 32) (r : Fin 64) (v : ℕ) (hv : v < 1000000)
    (hi : i (ValueIdx.ix3 (n0 := 64) (n1 := 1) (n2 := 1) r 0 0) = BitVec.ofNat 32 v) :
    Host.gather gather_S64x1000000_S64x1x1_S64x1_n_1_0_0_1_2_11 y i (ValueIdx.ix2 (n0 := 64) (n1 := 1) r 0) = y (ValueIdx.ix2 (n0 := 64) (n1 := 1000000) r ⟨v, hv⟩) := by
  unfold Host.gather
  refine congrArg y (funext fun a => Fin.ext ?_)
  generalize hd : gather_S64x1000000_S64x1x1_S64x1_n_1_0_0_1_2_11 = d
  show d.start (ValueIdx.ix2 (n0 := 64) (n1 := 1) r 0) i a + d.batchCoord (ValueIdx.ix2 (n0 := 64) (n1 := 1) r 0) a + d.offCoord (ValueIdx.ix2 (n0 := 64) (n1 := 1) r 0) a = _
  have h0 : (0 : Fin 2) ∈ d.operandBatchingDims := by rw [← hd]; exact List.mem_singleton.mpr rfl
  have h1 : (1 : Fin 2) ∈ d.collapsedSliceDims := by rw [← hd]; exact List.mem_singleton.mpr rfl
  have h1' : (1 : Fin 2) ∉ d.operandBatchingDims := by rw [← hd]; show (1 : Fin 2) ∉ [(0 : Fin 2)]; decide
  have h1s : (1 : Fin 2) ∈ d.startIndexMap := by rw [← hd]; exact List.mem_singleton.mpr rfl
  fin_cases a
  · show d.start _ i 0 + d.batchCoord _ 0 + d.offCoord _ 0 = r.val
    rw [GatherDims.start_batching _ _ _ _ h0, GatherDims.offCoord_eq_zero _ _ _ (fun h => ((GatherDims.mem_sKept _ _).mp h).2 h0)]
    unfold GatherDims.batchCoord
    rw [dif_pos h0]
    subst hd
    simp only [Nat.zero_add, Nat.add_zero]
    rfl
  · show d.start _ i 1 + d.batchCoord _ 1 + d.offCoord _ 1 = v
    rw [GatherDims.batchCoord_eq_zero _ _ _ h1', GatherDims.offCoord_eq_zero _ _ _ (fun h => ((GatherDims.mem_sKept _ _).mp h).1 h1)]
    unfold GatherDims.start
    rw [dif_pos h1s]
    have hs : d.siIdx (ValueIdx.ix2 (n0 := 64) (n1 := 1) r 0) ⟨List.idxOf (1 : Fin 2) d.startIndexMap, List.idxOf_lt_length_iff.2 h1s⟩ = ValueIdx.ix3 (n0 := 64) (n1 := 1) (n2 := 1) r 0 0 := by
      subst hd
      funext b
      fin_cases b <;> rfl
    rw [hs, hi]
    subst hd
    show min (BitVec.ofNat 32 v).toInt.toNat 999999 + 0 + 0 = v
    rw [WordCmp.toInt_ofNat_of_lt (by omega)]
    omega

theorem taken_apply (y : FVec Ideal S64x1000000 .f32) (a : IVec S64x1 32) (r : Fin 64) (v : ℕ) (hv : v < 1000000) (ha : a (ValueIdx.ix2 (n0 := 64) (n1 := 1) r 0) = BitVec.ofNat 32 v) :
    taken y a (ValueIdx.ix2 (n0 := 64) (n1 := 1) r 0) = y (ValueIdx.ix2 (n0 := 64) (n1 := 1000000) r ⟨v, hv⟩) := by
  have hw := wrapped_apply a r v hv ha
  unfold taken
  generalize wrapped a = i at hw
  show Scalar.select (inside i _) (Host.gather gather_S64x1000000_S64x1x1_S64x1_n_1_0_0_1_2_11 y i _) _ = _
  rw [inside_apply i r v hv hw, WordCmp.select_one, gather_apply y i r v hv hw]

theorem reduces_last : S64x1.Reduces [1] S64 := by decide

theorem lift_last (r : Fin 64) (k : Fin 1) : (reduces_last.lift (ValueIdx.ix1 (n := 64) r) k : S64x1.Idx) = ValueIdx.ix2 (n0 := 64) (n1 := 1) r k := by
  funext a; fin_cases a <;> rfl

/-- The log-probability of the action. -/
theorem logProbs_apply (x : FVec Ideal S64x1000000 .f32) (a : IVec S64x1 32) (r : Fin 64) (v : ℕ) (hv : v < 1000000) (ha : a (ValueIdx.ix2 (n0 := 64) (n1 := 1) r 0) = BitVec.ofNat 32 v) :
    logProbs x a (ValueIdx.ix2 (n0 := 64) (n1 := 1) r 0)
      = (x (ValueIdx.ix2 (n0 := 64) (n1 := 1000000) r ⟨v, hv⟩) - Ideal.log (∑ i : Fin 1000000, Ideal.exp (x (ValueIdx.ix2 (n0 := 64) (n1 := 1000000) r i))) : EReal) := by
  have ht := taken_apply (logp x) a r v hv ha
  rw [logp_apply] at ht
  unfold logProbs
  rw [col_apply]
  generalize taken (logp x) a = t at ht
  refine (Ideal.hostReduceAdd_single reducesTo_S64x1_S64_d1 reduces_last _ _ _).trans ?_
  rw [show (constant S_ .f32 0x00000000#32 : FVec Ideal S_ .f32) (Shape.Idx.first h_S_) = (0 : EReal) from zero_bits, zero_add]
  refine (Finset.sum_congr rfl fun k _ => congrArg t (lift_last r k)).trans ?_
  show (∑ k : Fin 1, t (ValueIdx.ix2 (n0 := 64) (n1 := 1) r k) : EReal) = _
  rw [Fin.sum_univ_one]
  exact ht

end Cert.ReferenceIdeal.Values

end
-- ==== Proof.Agree.lean ====
/- The kernel's results and the reference's are the same extended reals and the same words. -/
module

public import proofs.«01_k».proof.Proof.Ideal.Values
public import proofs.«01_k».proof.Proof.Ref.LogProb

@[expose] public section

set_option maxRecDepth 16384

noncomputable section

namespace Cert.Agree

open Idealize.ShloMosaic Idealize.ShloMosaic.TcCoe Idealize.SL.Sem
open Cert.KernelIdeal Cert.KernelIdeal.Gen Cert.KernelIdeal.Run Cert.KernelIdeal.Values Cert.Math

attribute [local irreducible] Pass2.outLp Pass2.outMode ReferenceIdeal.Values.logProbs ReferenceIdeal.Values.mode

variable (m : (ℓ : Loc nD τ sig) → Buf (Elt Ideal) ℓ)

/-- A place of a result is a row's. -/
theorem idx_row (i : S64x1.Idx) : ∃ r : Fin 64, i = at0 r := ⟨i 0, by
  funext a
  fin_cases a
  · rfl
  · exact Subsingleton.elim (α := Fin 1) _ _⟩

/-- The log-probabilities agree. -/
theorem lp_agree (h : InRange m) (c : Dev nD) :
    ReferenceIdeal.Values.logProbs (F := Ideal) (m (c, Proc.devRef .tc main_arg0) : FVec Ideal S64x1000000 .f32) (m (c, Proc.devRef .tc main_arg1) : IVec S64x1 32)
      = Pass2.outLp (adm1 m) (W2 m) (goodA m h) c := by
  funext i
  obtain ⟨r, rfl⟩ := idx_row i
  obtain ⟨v, hv, ha⟩ := h c r
  refine (ReferenceIdeal.Values.logProbs_apply _ _ r v hv ha).trans ((lp_value m (goodA m h) c r v hv ha).trans ?_).symm
  unfold lane
  rw [row_of _ hv]

/-- The modes agree: a row has one first maximum. -/
theorem mode_agree (c : Dev nD) :
    ReferenceIdeal.Values.mode (F := Ideal) (m (c, Proc.devRef .tc main_arg0) : FVec Ideal S64x1000000 .f32) = Pass2.outMode (adm1 m) (W2 m) (goodJ m) c := by
  funext i
  obtain ⟨r, rfl⟩ := idx_row i
  obtain ⟨v, k, hk, e⟩ := Cert.KernelIdeal.Values.mode_first m (goodJ m) c r
  obtain ⟨v', k', hk', e'⟩ := ReferenceIdeal.Values.mode_first (m (c, Proc.devRef .tc main_arg0) : FVec Ideal S64x1000000 .f32) r
  have hu : k' = k := (First.unique hk' hk).2
  refine e'.trans (Eq.trans ?_ e.symm)
  rw [hu]

end Cert.Agree

end
-- ==== Proof.lean ====
/- The certificate's claim, put together: the two programs' frames, the reference's, that nothing was rewritten, and that the
   kernel's results are the reference's. -/
module

public import proofs.«01_k».proof.Defs
public import proofs.«01_k».proof.Proof.Gen.Pre_actions_in_range
public import proofs.«01_k».proof.Proof.InRange
public import proofs.«01_k».proof.Proof.Ideal.Ends
public import proofs.«01_k».proof.Proof.Bits.Ends
public import proofs.«01_k».proof.Proof.Ref.Run
public import proofs.«01_k».proof.Proof.Agree

@[expose] public section

noncomputable section

namespace Cert.Proof

open Idealize.ShloMosaic Idealize.SL.Sem

/-- The kernel at the device's own values runs and leaves its arguments alone. -/
theorem frame_kernel : quiescent_Kernel (hKernel := Cert.Kernel.Gen.facts) (hPre_actions_in_range := Cert.Pre_actions_in_range.Gen.facts) :=
  fun m g hpre => Cert.Kernel.Run.frame_main m (fun c r => Cert.Pre_actions_in_range.lane_of _ _ (hpre c) _) g

/-- The kernel at the extended reals likewise. -/
theorem frame_kernelIdeal : quiescent_KernelIdeal (hKernelIdeal := Cert.KernelIdeal.Gen.facts) (hPre_actions_in_range := Cert.Pre_actions_in_range.Gen.facts) :=
  fun m g hpre => Cert.KernelIdeal.Run.frame_main m (fun c r => Cert.Pre_actions_in_range.lane_of _ _ (hpre c) _) g

/-- The reference at the extended reals runs and leaves its arguments alone, whatever the actions. -/
theorem frame_reference : quiescent_ReferenceIdeal (hReferenceIdeal := Cert.ReferenceIdeal.Gen.facts) :=
  fun m g _ => Cert.ReferenceIdeal.Run.frame_main m g

/-- In particular where the precondition holds. -/
theorem frame_reference_pre : quiescent_ReferenceIdeal_pre_actions_in_range (hReferenceIdeal := Cert.ReferenceIdeal.Gen.facts) (hPre_actions_in_range := Cert.Pre_actions_in_range.Gen.facts) :=
  fun m g _ => Cert.ReferenceIdeal.Run.frame_main m g

/-- From the same logits and actions in range the kernel and the reference end with equal results. -/
theorem algebraic : algebraic_KernelIdeal_ReferenceIdeal (hKernelIdeal := Cert.KernelIdeal.Gen.facts) (hReferenceIdeal := Cert.ReferenceIdeal.Gen.facts)
    (hPre_actions_in_range := Cert.Pre_actions_in_range.Gen.facts) := fun m g m' g' hpre hagree => by
  have h : Cert.KernelIdeal.Run.InRange m := fun c r => Cert.Pre_actions_in_range.lane_of _ _ (hpre c) _
  refine ⟨fun c => Cert.KernelIdeal.Pass2.outLp (Cert.KernelIdeal.Run.adm1 m) (Cert.KernelIdeal.Run.W2 m) (Cert.KernelIdeal.Run.goodA m h) c,
    fun c => Cert.KernelIdeal.Pass2.outMode (Cert.KernelIdeal.Run.adm1 m) (Cert.KernelIdeal.Run.W2 m) (Cert.KernelIdeal.Run.goodJ m) c,
    Cert.KernelIdeal.Values.value_main m h g, θ_run_mono (Cert.ReferenceIdeal.Values.value_main (F := Ideal) m' g') fun r hr c => ?_⟩
  obtain ⟨h0, h1, h2, h3⟩ := hr c
  obtain ⟨a0, a1⟩ := hagree c
  rw [a0, a1] at h0
  rw [a0] at h1
  exact ⟨h0.trans (Cert.Agree.lp_agree m h c), h1.trans (Cert.Agree.mode_agree m c), h2, h3⟩

/-- Everything the certificate claims. -/
theorem claim : Cert.Claim :=
  ⟨Cert.Kernel.Gen.facts, Cert.KernelIdeal.Gen.facts, Cert.ReferenceIdeal.Gen.facts, Cert.Pre_actions_in_range.Gen.facts,
    frame_kernel, frame_kernelIdeal, frame_reference, frame_reference_pre, trivial, algebraic⟩

end Cert.Proof

end
